-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gate_args_finite [hPre_gate_args_finite : Cert.Pre_gate_args_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gate_args_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gate_args_finite [hPre_gate_args_finite : Cert.Pre_gate_args_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gate_args_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_masked_before_first [hPre_masked_before_first : Cert.Pre_masked_before_first.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_masked_before_first.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_masked_before_first [hPre_masked_before_first : Cert.Pre_masked_before_first.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_masked_before_first.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_attention_args_finite [hPre_attention_args_finite : Cert.Pre_attention_args_finite.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_attention_args_finite.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_attention_args_finite [hPre_attention_args_finite : Cert.Pre_attention_args_finite.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_attention_args_finite.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_gate_args_finite [hKernel2Ideal : Cert.Kernel2Ideal.Facts] [hPre_gate_args_finite : Cert.Pre_gate_args_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gate_args_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_gate_args_finite [hReference2Ideal : Cert.Reference2Ideal.Facts] [hPre_gate_args_finite : Cert.Pre_gate_args_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gate_args_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Kernel18Ideal_pre_masked_before_first [hKernel18Ideal : Cert.Kernel18Ideal.Facts] [hPre_masked_before_first : Cert.Pre_masked_before_first.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_masked_before_first m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Reference18Ideal_pre_masked_before_first [hReference18Ideal : Cert.Reference18Ideal.Facts] [hPre_masked_before_first : Cert.Pre_masked_before_first.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_masked_before_first m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Kernel20Ideal_pre_attention_args_finite [hKernel20Ideal : Cert.Kernel20Ideal.Facts] [hPre_attention_args_finite : Cert.Pre_attention_args_finite.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_attention_args_finite m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Reference20Ideal_pre_attention_args_finite [hReference20Ideal : Cert.Reference20Ideal.Facts] [hPre_attention_args_finite : Cert.Pre_attention_args_finite.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_attention_args_finite m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v411) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_gate_args_finite [hKernel2Ideal : Cert.Kernel2Ideal.Facts] [hReference2Ideal : Cert.Reference2Ideal.Facts] [hPre_gate_args_finite : Cert.Pre_gate_args_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gate_args_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v43) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v35) = v0 c
          ∧ r.2.mem ((c.tc : Thread Cert.Reference8Ideal.nD Cert.Reference8Ideal.τ).loc Cert.Reference8Ideal.main_v36) = v1 c
          ∧ r.2.mem ((c.tc : Thread Cert.Reference8Ideal.nD Cert.Reference8Ideal.τ).loc Cert.Reference8Ideal.main_v40) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_v10) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_v17) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v15) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v19) = v0 c
          ∧ r.2.mem ((c.tc : Thread Cert.Reference16Ideal.nD Cert.Reference16Ideal.τ).loc Cert.Reference16Ideal.main_v20) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v2_0)) (v1 : (c : Dev Cert.Kernel17Ideal.nD) → Buf (Elt Ideal) ((c.tc : Thread Cert.Kernel17Ideal.nD Cert.Kernel17Ideal.τ).loc Cert.Kernel17Ideal.main_v2_1)) (v2 : (c : Dev Cert.Kernel17Ideal.nD) → Buf (Elt Ideal) ((c.tc : Thread Cert.Kernel17Ideal.nD Cert.Kernel17Ideal.τ).loc Cert.Kernel17Ideal.main_v2_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2_0) = v0 c
          ∧ r.2.mem ((c.tc : Thread Cert.Kernel17Ideal.nD Cert.Kernel17Ideal.τ).loc Cert.Kernel17Ideal.main_v2_1) = v1 c
          ∧ r.2.mem ((c.tc : Thread Cert.Kernel17Ideal.nD Cert.Kernel17Ideal.τ).loc Cert.Kernel17Ideal.main_v2_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v25) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal_pre_masked_before_first [hKernel18Ideal : Cert.Kernel18Ideal.Facts] [hReference18Ideal : Cert.Reference18Ideal.Facts] [hPre_masked_before_first : Cert.Pre_masked_before_first.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_masked_before_first m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v113) = v0 c
          ∧ r.2.mem ((c.tc : Thread Cert.Reference18Ideal.nD Cert.Reference18Ideal.τ).loc Cert.Reference18Ideal.main_v114) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v12) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal_pre_attention_args_finite [hKernel20Ideal : Cert.Kernel20Ideal.Facts] [hReference20Ideal : Cert.Reference20Ideal.Facts] [hPre_attention_args_finite : Cert.Pre_attention_args_finite.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_attention_args_finite m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v9_0)) (v1 : (c : Dev Cert.Kernel20Ideal.nD) → Buf (Elt Ideal) ((c.tc : Thread Cert.Kernel20Ideal.nD Cert.Kernel20Ideal.τ).loc Cert.Kernel20Ideal.main_v9_1)) (v2 : (c : Dev Cert.Kernel20Ideal.nD) → Buf (Elt Ideal) ((c.tc : Thread Cert.Kernel20Ideal.nD Cert.Kernel20Ideal.τ).loc Cert.Kernel20Ideal.main_v9_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v9_0) = v0 c
          ∧ r.2.mem ((c.tc : Thread Cert.Kernel20Ideal.nD Cert.Kernel20Ideal.τ).loc Cert.Kernel20Ideal.main_v9_1) = v1 c
          ∧ r.2.mem ((c.tc : Thread Cert.Kernel20Ideal.nD Cert.Kernel20Ideal.τ).loc Cert.Kernel20Ideal.main_v9_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v86) = v0 c
          ∧ r.2.mem ((c.tc : Thread Cert.Reference20Ideal.nD Cert.Reference20Ideal.τ).loc Cert.Reference20Ideal.main_v88) = v1 c
          ∧ r.2.mem ((c.tc : Thread Cert.Reference20Ideal.nD Cert.Reference20Ideal.τ).loc Cert.Reference20Ideal.main_v93) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_gate_args_finite : Cert.Pre_gate_args_finite.Facts) (hPre_masked_before_first : Cert.Pre_masked_before_first.Facts) (hPre_attention_args_finite : Cert.Pre_attention_args_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_gate_args_finite (hKernel2Ideal := hKernel2Ideal) (hPre_gate_args_finite := hPre_gate_args_finite)
    ∧ quiescent_Reference2Ideal (hReference2Ideal := hReference2Ideal)
    ∧ quiescent_Reference2Ideal_pre_gate_args_finite (hReference2Ideal := hReference2Ideal) (hPre_gate_args_finite := hPre_gate_args_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_masked_before_first (hKernel18Ideal := hKernel18Ideal) (hPre_masked_before_first := hPre_masked_before_first)
    ∧ quiescent_Reference18Ideal (hReference18Ideal := hReference18Ideal)
    ∧ quiescent_Reference18Ideal_pre_masked_before_first (hReference18Ideal := hReference18Ideal) (hPre_masked_before_first := hPre_masked_before_first)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_attention_args_finite (hKernel20Ideal := hKernel20Ideal) (hPre_attention_args_finite := hPre_attention_args_finite)
    ∧ quiescent_Reference20Ideal (hReference20Ideal := hReference20Ideal)
    ∧ quiescent_Reference20Ideal_pre_attention_args_finite (hReference20Ideal := hReference20Ideal) (hPre_attention_args_finite := hPre_attention_args_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_gate_args_finite (hKernel2Ideal := hKernel2Ideal) (hReference2Ideal := hReference2Ideal) (hPre_gate_args_finite := hPre_gate_args_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_masked_before_first (hKernel18Ideal := hKernel18Ideal) (hReference18Ideal := hReference18Ideal) (hPre_masked_before_first := hPre_masked_before_first)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_attention_args_finite (hKernel20Ideal := hKernel20Ideal) (hReference20Ideal := hReference20Ideal) (hPre_attention_args_finite := hPre_attention_args_finite)
-- ==== Pre_attention_args_finite.lean ====
abbrev S4096x5632 : Shape := ⟨2, ![4096, 5632]⟩
abbrev S1x64 : Shape := ⟨2, ![1, 64]⟩
abbrev S4x4 : Shape := ⟨2, ![4, 4]⟩
abbrev S4x512x256 : Shape := ⟨3, ![4, 512, 256]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S4x4 : S_.BroadcastsInDim S4x4 (![] : Fin 0 → Fin S4x4.rank)
  reducesTo_S4x4_S_d0_1 : S4x4.ReducesTo [0, 1] S_
  bcast_S_S4x512x256 : S_.BroadcastsInDim S4x512x256 (![] : Fin 0 → Fin S4x512x256.rank)
  reducesTo_S4x512x256_S_d0_1_2 : S4x512x256.ReducesTo [0, 1, 2] S_

variable [Facts]

def fn_part1 {F : FTy → Type} [FloatOps F] (main_arg4 : FVec F S4x512x256 .f32) (main_v4 : IVec S_ 1) (main_v8 : IVec S_ 1) (main_v12 : IVec S_ 1) (main_v15 : IVec S4x4 1) (main_c_5 : IVec S_ 1) : IVec S_ 1 :=
  let main_v16 : IVec S_ 1 := (fun x v => Host.reduce IntOp.andi x v reducesTo_S4x4_S_d0_1 h_S_) main_v15 main_c_5
  let main_v17 : FVec F S4x512x256 .f32 := Host.absf main_arg4
  let main_cst_6 : FVec F S_ .f32 := constant S_ .f32 0x7F800000#32
  let main_v18 : FVec F S4x512x256 .f32 := broadcastInDim S4x512x256 ![] bcast_S_S4x512x256 main_cst_6
  let main_v19 : IVec S4x512x256 1 := cmpf .olt main_v17 main_v18
  let main_c_7 : IVec S_ 1 := constantI S_ 1 1#1
  let main_v20 : IVec S_ 1 := (fun x v => Host.reduce IntOp.andi x v reducesTo_S4x512x256_S_d0_1_2 h_S_) main_v19 main_c_7
  let main_v21 : IVec S_ 1 := andi main_v4 main_v8
  let main_v22 : IVec S_ 1 := andi main_v21 main_v12
  let main_v23 : IVec S_ 1 := andi main_v22 main_v16
  let main_v24 : IVec S_ 1 := andi main_v23 main_v20
  main_v24

def fn {F : FTy → Type} [FloatOps F] (main_arg0 : FVec F S4096x5632 .bf16) (main_arg1 : FVec F S1x64 .f32) (main_arg2 : FVec F S1x64 .f32) (main_arg3 : FVec F S4x4 .f32) (main_arg4 : FVec F S4x512x256 .f32) : IVec S_ 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_v5 : FVec F S1x64 .f32 := Host.absf main_arg1
  let main_cst_0 : FVec F S_ .f32 := constant S_ .f32 0x7F800000#32
  let main_v6 : FVec F S1x64 .f32 := broadcastInDim S1x64 ![] bcast_S_S1x64 main_cst_0
  let main_v7 : IVec S1x64 1 := cmpf .olt main_v5 main_v6
  let main_c_1 : IVec S_ 1 := constantI S_ 1 1#1
  let main_v8 : IVec S_ 1 := (fun x v => Host.reduce IntOp.andi x v reducesTo_S1x64_S_d0_1 h_S_) main_v7 main_c_1
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : FVec F S4x4 .f32 := Host.absf main_arg3
  let main_cst_4 : FVec F S_ .f32 := constant S_ .f32 0x7F800000#32
  let main_v14 : FVec F S4x4 .f32 := broadcastInDim S4x4 ![] bcast_S_S4x4 main_cst_4
  let main_v15 : IVec S4x4 1 := cmpf .olt main_v13 main_v14
  let main_c_5 : IVec S_ 1 := constantI S_ 1 1#1
  fn_part1 (F := F) main_arg4 main_v4 main_v8 main_v12 main_v15 main_c_5
-- ==== Pre_gate_args_finite.lean ====
abbrev S4096x1024 : Shape := ⟨2, ![4096, 1024]⟩
abbrev S2816x1024 : Shape := ⟨2, ![2816, 1024]⟩
abbrev S2x4096x2816 : Shape := ⟨3, ![2, 4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bitsLt_bf16_f32 : FTy.bits .bf16 < FTy.bits .f32
  bcast_S_S2x4096x2816 : S_.BroadcastsInDim S2x4096x2816 (![] : Fin 0 → Fin S2x4096x2816.rank)
  reducesTo_S2x4096x2816_S_d0_1_2 : S2x4096x2816.ReducesTo [0, 1, 2] S_

variable [Facts]

def fn {F : FTy → Type} [FloatOps F] (main_arg0 : FVec F S4096x1024 .f32) (main_arg1 : FVec F S2816x1024 .f32) (main_arg2 : FVec F S2x4096x2816 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : FVec F S2x4096x2816 .f32 := (extf .f32 · bitsLt_bf16_f32) main_arg2
  let main_v9 : FVec F S2x4096x2816 .f32 := Host.absf main_v8
  let main_cst_2 : FVec F S_ .f32 := constant S_ .f32 0x7F800000#32
  let main_v10 : FVec F S2x4096x2816 .f32 := broadcastInDim S2x4096x2816 ![] bcast_S_S2x4096x2816 main_cst_2
  let main_v11 : IVec S2x4096x2816 1 := cmpf .olt main_v9 main_v10
  let main_c_3 : IVec S_ 1 := constantI S_ 1 1#1
  let main_v12 : IVec S_ 1 := (fun x v => Host.reduce IntOp.andi x v reducesTo_S2x4096x2816_S_d0_1_2 h_S_) main_v11 main_c_3
  let main_v13 : IVec S_ 1 := andi main_v3 main_v7
  let main_v14 : IVec S_ 1 := andi main_v13 main_v12
  main_v14
-- ==== Pre_masked_before_first.lean ====
abbrev S4096x5632 : Shape := ⟨2, ![4096, 5632]⟩
abbrev S4096x1024 : Shape := ⟨2, ![4096, 1024]⟩
abbrev S1x64 : Shape := ⟨2, ![1, 64]⟩
abbrev S32x4x512x256 : Shape := ⟨4, ![32, 4, 512, 256]⟩
abbrev S32x4x512x1 : Shape := ⟨4, ![32, 4, 512, 1]⟩
abbrev S1x4x512x128 : Shape := ⟨4, ![1, 4, 512, 128]⟩
abbrev S4x512x128 : Shape := ⟨3, ![4, 512, 128]⟩
abbrev S_ : Shape := ⟨0, ![]⟩

class Facts : Prop where
  bitsLt_bf16_f32 : FTy.bits .bf16 < FTy.bits .f32
  slices_S32x4x512x256_S1x4x512x128_0_0_0_0 : S32x4x512x256.Slices ![0, 0, 0, 0] S1x4x512x128
  shapeCasts_S1x4x512x128_S4x512x128 : S1x4x512x128.ShapeCasts S4x512x128
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel

variable [Facts]

def fn {F : FTy → Type} [FloatOps F] (main_arg0 : FVec F S4096x5632 .bf16) (main_arg1 : FVec F S4096x1024 .bf16) (main_arg2 : FVec F S1x64 .f32) (main_arg3 : FVec F S1x64 .f32) (main_arg4 : FVec F S32x4x512x256 .bf16) (main_arg5 : FVec F S32x4x512x1 .f32) : IVec S_ 1 :=
  let main_v0 : FVec F S32x4x512x256 .f32 := (extf .f32 · bitsLt_bf16_f32) main_arg4
  let main_v1 : FVec F S1x4x512x128 .f32 := (extractStridedSlice S1x4x512x128 ![0, 0, 0, 0] · slices_S32x4x512x256_S1x4x512x128_0_0_0_0) main_v0
  let main_v2 : FVec F S4x512x128 .f32 := shapeCast S4x512x128 main_v1 shapeCasts_S1x4x512x128_S4x512x128
  let main_cst : FVec F S_ .f32 := constant S_ .f32 0x00000000#32
  let main_v3 : FVec F S4x512x128 .f32 := broadcastInDim S4x512x128 ![] bcast_S_S4x512x128 main_cst
  let main_v4 : IVec S4x512x128 1 := cmpf .oeq main_v2 main_v3
  let main_c : IVec S_ 1 := constantI S_ 1 1#1
  let main_v5 : IVec S_ 1 := (fun x v => Host.reduce IntOp.andi x v reducesTo_S4x512x128_S_d0_1_2 h_S_) main_v4 main_c
  main_v5
-- ==== Kernel.lean ====
abbrev S4096x5632 : Shape := ⟨2, ![4096, 5632]⟩
abbrev S4096x1024 : Shape := ⟨2, ![4096, 1024]⟩
abbrev S31x1024 : Shape := ⟨2, ![31, 1024]⟩
abbrev S32x2x128x512 : Shape := ⟨4, ![32, 2, 128, 512]⟩
abbrev S2x4096x1024 : Shape := ⟨3, ![2, 4096, 1024]⟩
abbrev S_ : Shape := ⟨0, ![]⟩
abbrev S32x1024 : Shape := ⟨2, ![32, 1024]⟩
abbrev S256x1024 : Shape := ⟨2, ![256, 1024]⟩
abbrev S2x2x128x512 : Shape := ⟨4, ![2, 2, 128, 512]⟩
abbrev S1x1x128x512 : Shape := ⟨4, ![1, 1, 128, 512]⟩
abbrev S2x256x1024 : Shape := ⟨3, ![2, 256, 1024]⟩
abbrev S256x5632 : Shape := ⟨2, ![256, 5632]⟩
abbrev S288x1024 : Shape := ⟨2, ![288, 1024]⟩
abbrev S128x512 : Shape := ⟨2, ![128, 512]⟩
abbrev S1x256x1024 : Shape := ⟨3, ![1, 256, 1024]⟩
abbrev S1x128 : Shape := ⟨2, ![1, 128]⟩
abbrev S128x128 : Shape := ⟨2, ![128, 128]⟩
abbrev S152x128 : Shape := ⟨2, ![152, 128]⟩
abbrev S144x128 : Shape := ⟨2, ![144, 128]⟩

abbrev nBuf : Space → Nat
  | .hbm => 10
  | .vmem => 21
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .f32⟩
  | .hbm, ⟨2, _⟩ => ⟨S31x1024, .f32⟩
  | .hbm, ⟨3, _⟩ => ⟨S4096x1024, .bf16⟩
  | .hbm, ⟨4, _⟩ => ⟨S32x2x128x512, .bf16⟩
  | .hbm, ⟨5, _⟩ => ⟨S2x4096x1024, .bf16⟩
  | .hbm, ⟨6, _⟩ => ⟨S_, .i32⟩
  | .hbm, ⟨7, _⟩ => ⟨S_, .f32⟩
  | .hbm, ⟨8, _⟩ => ⟨S32x1024, .f32⟩
  | .hbm, ⟨9, _⟩ => ⟨S4096x5632, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S256x1024, .bf16⟩
  | .local _ .vmem, ⟨10, _⟩ => ⟨S256x1024, .bf16⟩
  | .local _ .vmem, ⟨11, _⟩ => ⟨S2x2x128x512, .bf16⟩
  | .local _ .vmem, ⟨12, _⟩ => ⟨S2x2x128x512, .bf16⟩
  | .local _ .vmem, ⟨13, _⟩ => ⟨S1x1x128x512, .bf16⟩
  | .local _ .vmem, ⟨14, _⟩ => ⟨S1x1x128x512, .bf16⟩
  | .local _ .vmem, ⟨15, _⟩ => ⟨S2x256x1024, .bf16⟩
  | .local _ .vmem, ⟨16, _⟩ => ⟨S2x256x1024, .bf16⟩
  | .local _ .vmem, ⟨17, _⟩ => ⟨S256x5632, .bf16⟩
  | .local _ .vmem, ⟨18, _⟩ => ⟨S256x5632, .bf16⟩
  | .local _ .vmem, ⟨19, _⟩ => ⟨S288x1024, .f32⟩
  | .local _ .vmem, ⟨20, _⟩ => ⟨S256x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x2x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4096x5632 : Shape := ⟨2, ![4096, 5632]⟩
abbrev S4096x1024 : Shape := ⟨2, ![4096, 1024]⟩
abbrev S31x1024 : Shape := ⟨2, ![31, 1024]⟩
abbrev S32x2x128x512 : Shape := ⟨4, ![32, 2, 128, 512]⟩
abbrev S2x4096x1024 : Shape := ⟨3, ![2, 4096, 1024]⟩
abbrev S32x256x512 : Shape := ⟨3, ![32, 256, 512]⟩
abbrev S32x256x256 : Shape := ⟨3, ![32, 256, 256]⟩
abbrev S1x4096x1024 : Shape := ⟨3, ![1, 4096, 1024]⟩
abbrev S4096x2048 : Shape := ⟨2, ![4096, 2048]⟩
abbrev S4096x256 : Shape := ⟨2, ![4096, 256]⟩
abbrev S_ : Shape := ⟨0, ![]⟩
abbrev S30x1024 : Shape := ⟨2, ![30, 1024]⟩
abbrev S4126x1024 : Shape := ⟨2, ![4126, 1024]⟩
abbrev S1x1024 : Shape := ⟨2, ![1, 1024]⟩
abbrev S1024 : Shape := ⟨1, ![1024]⟩
abbrev S32x128x256 : Shape := ⟨3, ![32, 128, 256]⟩
abbrev S1x128x256 : Shape := ⟨3, ![1, 128, 256]⟩
abbrev S31x128x256 : Shape := ⟨3, ![31, 128, 256]⟩

abbrev nBuf : Space → Nat
  | .hbm => 461
  | .vmem => 0
  | .smem => 0
  | _ => 0

abbrev hbmTy0_0 (i : Nat) : BufTy := match i % 128 with
  | 0 => ⟨S4096x5632, .bf16⟩
  | 1 => ⟨S4096x1024, .f32⟩
  | 2 => ⟨S31x1024, .f32⟩
  | 3 => ⟨S4096x1024, .bf16⟩
  | 4 => ⟨S32x2x128x512, .bf16⟩
  | 5 => ⟨S2x4096x1024, .bf16⟩
  | 6 => ⟨S32x2x128x512, .f32⟩
  | 7 => ⟨S32x256x512, .f32⟩
  | 8 => ⟨S4096x1024, .f32⟩
  | 9 => ⟨S32x256x256, .f32⟩
  | 10 => ⟨S32x256x256, .f32⟩
  | 11 => ⟨S1x4096x1024, .bf16⟩
  | 12 => ⟨S4096x1024, .bf16⟩
  | 13 => ⟨S4096x1024, .f32⟩
  | 14 => ⟨S1x4096x1024, .bf16⟩
  | 15 => ⟨S4096x1024, .bf16⟩
  | 16 => ⟨S4096x1024, .f32⟩
  | 17 => ⟨S4096x5632, .f32⟩
  | 18 => ⟨S4096x2048, .f32⟩
  | 19 => ⟨S4096x1024, .f32⟩
  | 20 => ⟨S4096x256, .f32⟩
  | 21 => ⟨S4096x256, .f32⟩
  | 22 => ⟨S4096x1024, .f32⟩
  | 23 => ⟨S4096x1024, .f32⟩
  | 24 => ⟨S4096x1024, .f32⟩
  | 25 => ⟨S4096x1024, .f32⟩
  | 26 => ⟨S_, .f32⟩
  | 27 => ⟨S30x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S4096x1024, .f32⟩
  | 40 => ⟨S4096x1024, .f32⟩
  | 41 => ⟨S4126x1024, .f32⟩
  | 42 => ⟨S_, .f32⟩
  | 43 => ⟨S30x1024, .f32⟩
  | 44 => ⟨S4096x1024, .f32⟩
  | 45 => ⟨S1x1024, .f32⟩
  | 46 => ⟨S1024, .f32⟩
  | 47 => ⟨S1x1024, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S4096x1024, .f32⟩
  | 54 => ⟨S1x1024, .f32⟩
  | 55 => ⟨S1024, .f32⟩
  | 56 => ⟨S1x1024, .f32⟩
  | 57 => ⟨S4096x1024, .f32⟩
  | 58 => ⟨S4096x1024, .f32⟩
  | 59 => ⟨S4096x1024, .f32⟩
  | 60 => ⟨S4096x1024, .f32⟩
  | 61 => ⟨S1x1024, .f32⟩
  | 62 => ⟨S1024, .f32⟩
  | 63 => ⟨S1x1024, .f32⟩
  | 64 => ⟨S4096x1024, .f32⟩
  | 65 => ⟨S4096x1024, .f32⟩
  | 66 => ⟨S4096x1024, .f32⟩
  | 67 => ⟨S4096x1024, .f32⟩
  | 68 => ⟨S1x1024, .f32⟩
  | 69 => ⟨S1024, .f32⟩
  | 70 => ⟨S1x1024, .f32⟩
  | 71 => ⟨S4096x1024, .f32⟩
  | 72 => ⟨S4096x1024, .f32⟩
  | 73 => ⟨S4096x1024, .f32⟩
  | 74 => ⟨S4096x1024, .f32⟩
  | 75 => ⟨S1x1024, .f32⟩
  | 76 => ⟨S1024, .f32⟩
  | 77 => ⟨S1x1024, .f32⟩
  | 78 => ⟨S4096x1024, .f32⟩
  | 79 => ⟨S4096x1024, .f32⟩
  | 80 => ⟨S4096x1024, .f32⟩
  | 81 => ⟨S4096x1024, .f32⟩
  | 82 => ⟨S1x1024, .f32⟩
  | 83 => ⟨S1024, .f32⟩
  | 84 => ⟨S1x1024, .f32⟩
  | 85 => ⟨S4096x1024, .f32⟩
  | 86 => ⟨S4096x1024, .f32⟩
  | 87 => ⟨S4096x1024, .f32⟩
  | 88 => ⟨S4096x1024, .f32⟩
  | 89 => ⟨S1x1024, .f32⟩
  | 90 => ⟨S1024, .f32⟩
  | 91 => ⟨S1x1024, .f32⟩
  | 92 => ⟨S4096x1024, .f32⟩
  | 93 => ⟨S4096x1024, .f32⟩
  | 94 => ⟨S4096x1024, .f32⟩
  | 95 => ⟨S4096x1024, .f32⟩
  | 96 => ⟨S1x1024, .f32⟩
  | 97 => ⟨S1024, .f32⟩
  | 98 => ⟨S1x1024, .f32⟩
  | 99 => ⟨S4096x1024, .f32⟩
  | 100 => ⟨S4096x1024, .f32⟩
  | 101 => ⟨S4096x1024, .f32⟩
  | 102 => ⟨S4096x1024, .f32⟩
  | 103 => ⟨S1x1024, .f32⟩
  | 104 => ⟨S1024, .f32⟩
  | 105 => ⟨S1x1024, .f32⟩
  | 106 => ⟨S4096x1024, .f32⟩
  | 107 => ⟨S4096x1024, .f32⟩
  | 108 => ⟨S4096x1024, .f32⟩
  | 109 => ⟨S4096x1024, .f32⟩
  | 110 => ⟨S1x1024, .f32⟩
  | 111 => ⟨S1024, .f32⟩
  | 112 => ⟨S1x1024, .f32⟩
  | 113 => ⟨S4096x1024, .f32⟩
  | 114 => ⟨S4096x1024, .f32⟩
  | 115 => ⟨S4096x1024, .f32⟩
  | 116 => ⟨S4096x1024, .f32⟩
  | 117 => ⟨S1x1024, .f32⟩
  | 118 => ⟨S1024, .f32⟩
  | 119 => ⟨S1x1024, .f32⟩
  | 120 => ⟨S4096x1024, .f32⟩
  | 121 => ⟨S4096x1024, .f32⟩
  | 122 => ⟨S4096x1024, .f32⟩
  | 123 => ⟨S4096x1024, .f32⟩
  | 124 => ⟨S1x1024, .f32⟩
  | 125 => ⟨S1024, .f32⟩
  | 126 => ⟨S1x1024, .f32⟩
  | 127 => ⟨S4096x1024, .f32⟩
  | _ => ⟨S4096x5632, .bf16⟩

abbrev hbmTy0_1 (i : Nat) : BufTy := match i % 128 with
  | 0 => ⟨S4096x1024, .f32⟩
  | 1 => ⟨S4096x1024, .f32⟩
  | 2 => ⟨S4096x1024, .f32⟩
  | 3 => ⟨S1x1024, .f32⟩
  | 4 => ⟨S1024, .f32⟩
  | 5 => ⟨S1x1024, .f32⟩
  | 6 => ⟨S4096x1024, .f32⟩
  | 7 => ⟨S4096x1024, .f32⟩
  | 8 => ⟨S4096x1024, .f32⟩
  | 9 => ⟨S4096x1024, .f32⟩
  | 10 => ⟨S1x1024, .f32⟩
  | 11 => ⟨S1024, .f32⟩
  | 12 => ⟨S1x1024, .f32⟩
  | 13 => ⟨S4096x1024, .f32⟩
  | 14 => ⟨S4096x1024, .f32⟩
  | 15 => ⟨S4096x1024, .f32⟩
  | 16 => ⟨S4096x1024, .f32⟩
  | 17 => ⟨S1x1024, .f32⟩
  | 18 => ⟨S1024, .f32⟩
  | 19 => ⟨S1x1024, .f32⟩
  | 20 => ⟨S4096x1024, .f32⟩
  | 21 => ⟨S4096x1024, .f32⟩
  | 22 => ⟨S4096x1024, .f32⟩
  | 23 => ⟨S4096x1024, .f32⟩
  | 24 => ⟨S1x1024, .f32⟩
  | 25 => ⟨S1024, .f32⟩
  | 26 => ⟨S1x1024, .f32⟩
  | 27 => ⟨S4096x1024, .f32⟩
  | 28 => ⟨S4096x1024, .f32⟩
  | 29 => ⟨S4096x1024, .f32⟩
  | 30 => ⟨S4096x1024, .f32⟩
  | 31 => ⟨S1x1024, .f32⟩
  | 32 => ⟨S1024, .f32⟩
  | 33 => ⟨S1x1024, .f32⟩
  | 34 => ⟨S4096x1024, .f32⟩
  | 35 => ⟨S4096x1024, .f32⟩
  | 36 => ⟨S4096x1024, .f32⟩
  | 37 => ⟨S4096x1024, .f32⟩
  | 38 => ⟨S1x1024, .f32⟩
  | 39 => ⟨S1024, .f32⟩
  | 40 => ⟨S1x1024, .f32⟩
  | 41 => ⟨S4096x1024, .f32⟩
  | 42 => ⟨S4096x1024, .f32⟩
  | 43 => ⟨S4096x1024, .f32⟩
  | 44 => ⟨S4096x1024, .f32⟩
  | 45 => ⟨S1x1024, .f32⟩
  | 46 => ⟨S1024, .f32⟩
  | 47 => ⟨S1x1024, .f32⟩
  | 48 => ⟨S4096x1024, .f32⟩
  | 49 => ⟨S4096x1024, .f32⟩
  | 50 => ⟨S4096x1024, .f32⟩
  | 51 => ⟨S4096x1024, .f32⟩
  | 52 => ⟨S1x1024, .f32⟩
  | 53 => ⟨S1024, .f32⟩
  | 54 => ⟨S1x1024, .f32⟩
  | 55 => ⟨S4096x1024, .f32⟩
  | 56 => ⟨S4096x1024, .f32⟩
  | 57 => ⟨S4096x1024, .f32⟩
  | 58 => ⟨S4096x1024, .f32⟩
  | 59 => ⟨S1x1024, .f32⟩
  | 60 => ⟨S1024, .f32⟩
  | 61 => ⟨S1x1024, .f32⟩
  | 62 => ⟨S4096x1024, .f32⟩
  | 63 => ⟨S4096x1024, .f32⟩
  | 64 => ⟨S4096x1024, .f32⟩
  | 65 => ⟨S4096x1024, .f32⟩
  | 66 => ⟨S1x1024, .f32⟩
  | 67 => ⟨S1024, .f32⟩
  | 68 => ⟨S1x1024, .f32⟩
  | 69 => ⟨S4096x1024, .f32⟩
  | 70 => ⟨S4096x1024, .f32⟩
  | 71 => ⟨S4096x1024, .f32⟩
  | 72 => ⟨S4096x1024, .f32⟩
  | 73 => ⟨S1x1024, .f32⟩
  | 74 => ⟨S1024, .f32⟩
  | 75 => ⟨S1x1024, .f32⟩
  | 76 => ⟨S4096x1024, .f32⟩
  | 77 => ⟨S4096x1024, .f32⟩
  | 78 => ⟨S4096x1024, .f32⟩
  | 79 => ⟨S4096x1024, .f32⟩
  | 80 => ⟨S1x1024, .f32⟩
  | 81 => ⟨S1024, .f32⟩
  | 82 => ⟨S1x1024, .f32⟩
  | 83 => ⟨S4096x1024, .f32⟩
  | 84 => ⟨S4096x1024, .f32⟩
  | 85 => ⟨S4096x1024, .f32⟩
  | 86 => ⟨S4096x1024, .f32⟩
  | 87 => ⟨S1x1024, .f32⟩
  | 88 => ⟨S1024, .f32⟩
  | 89 => ⟨S1x1024, .f32⟩
  | 90 => ⟨S4096x1024, .f32⟩
  | 91 => ⟨S4096x1024, .f32⟩
  | 92 => ⟨S4096x1024, .f32⟩
  | 93 => ⟨S4096x1024, .f32⟩
  | 94 => ⟨S1x1024, .f32⟩
  | 95 => ⟨S1024, .f32⟩
  | 96 => ⟨S1x1024, .f32⟩
  | 97 => ⟨S4096x1024, .f32⟩
  | 98 => ⟨S4096x1024, .f32⟩
  | 99 => ⟨S4096x1024, .f32⟩
  | 100 => ⟨S4096x1024, .f32⟩
  | 101 => ⟨S1x1024, .f32⟩
  | 102 => ⟨S1024, .f32⟩
  | 103 => ⟨S1x1024, .f32⟩
  | 104 => ⟨S4096x1024, .f32⟩
  | 105 => ⟨S4096x1024, .f32⟩
  | 106 => ⟨S4096x1024, .f32⟩
  | 107 => ⟨S4096x1024, .f32⟩
  | 108 => ⟨S1x1024, .f32⟩
  | 109 => ⟨S1024, .f32⟩
  | 110 => ⟨S1x1024, .f32⟩
  | 111 => ⟨S4096x1024, .f32⟩
  | 112 => ⟨S4096x1024, .f32⟩
  | 113 => ⟨S4096x1024, .f32⟩
  | 114 => ⟨S4096x1024, .f32⟩
  | 115 => ⟨S1x1024, .f32⟩
  | 116 => ⟨S1024, .f32⟩
  | 117 => ⟨S1x1024, .f32⟩
  | 118 => ⟨S4096x1024, .f32⟩
  | 119 => ⟨S4096x1024, .f32⟩
  | 120 => ⟨S4096x1024, .f32⟩
  | 121 => ⟨S4096x1024, .f32⟩
  | 122 => ⟨S1x1024, .f32⟩
  | 123 => ⟨S1024, .f32⟩
  | 124 => ⟨S1x1024, .f32⟩
  | 125 => ⟨S4096x1024, .f32⟩
  | 126 => ⟨S4096x1024, .f32⟩
  | 127 => ⟨S4096x1024, .f32⟩
  | _ => ⟨S4096x5632, .bf16⟩

abbrev hbmTy0_2 (i : Nat) : BufTy := match i % 128 with
  | 0 => ⟨S4096x1024, .f32⟩
  | 1 => ⟨S1x1024, .f32⟩
  | 2 => ⟨S1024, .f32⟩
  | 3 => ⟨S1x1024, .f32⟩
  | 4 => ⟨S4096x1024, .f32⟩
  | 5 => ⟨S4096x1024, .f32⟩
  | 6 => ⟨S4096x1024, .f32⟩
  | 7 => ⟨S32x128x256, .f32⟩
  | 8 => ⟨S1x128x256, .f32⟩
  | 9 => ⟨S_, .f32⟩
  | 10 => ⟨S1x128x256, .f32⟩
  | 11 => ⟨S31x128x256, .f32⟩
  | 12 => ⟨S32x128x256, .f32⟩
  | 13 => ⟨S_, .f32⟩
  | 14 => ⟨S1x128x256, .f32⟩
  | 15 => ⟨S32x256x256, .f32⟩
  | 16 => ⟨S32x128x256, .f32⟩
  | 17 => ⟨S1x128x256, .f32⟩
  | 18 => ⟨S_, .f32⟩
  | 19 => ⟨S1x128x256, .f32⟩
  | 20 => ⟨S31x128x256, .f32⟩
  | 21 => ⟨S32x128x256, .f32⟩
  | 22 => ⟨S_, .f32⟩
  | 23 => ⟨S1x128x256, .f32⟩
  | 24 => ⟨S32x256x256, .f32⟩
  | 25 => ⟨S32x128x256, .f32⟩
  | 26 => ⟨S32x128x256, .f32⟩
  | 27 => ⟨S1x128x256, .f32⟩
  | 28 => ⟨S31x128x256, .f32⟩
  | 29 => ⟨S_, .f32⟩
  | 30 => ⟨S32x128x256, .f32⟩
  | 31 => ⟨S32x128x256, .f32⟩
  | 32 => ⟨S4096x256, .f32⟩
  | 33 => ⟨S32x128x256, .f32⟩
  | 34 => ⟨S32x128x256, .f32⟩
  | 35 => ⟨S1x128x256, .f32⟩
  | 36 => ⟨S31x128x256, .f32⟩
  | 37 => ⟨S_, .f32⟩
  | 38 => ⟨S32x128x256, .f32⟩
  | 39 => ⟨S32x128x256, .f32⟩
  | 40 => ⟨S4096x256, .f32⟩
  | 41 => ⟨S4096x1024, .f32⟩
  | 42 => ⟨S4096x1024, .f32⟩
  | 43 => ⟨S4096x1024, .f32⟩
  | 44 => ⟨S4096x1024, .f32⟩
  | 45 => ⟨S_, .f32⟩
  | 46 => ⟨S4126x1024, .f32⟩
  | 47 => ⟨S4096x1024, .f32⟩
  | 48 => ⟨S4096x1024, .f32⟩
  | 49 => ⟨S_, .f32⟩
  | 50 => ⟨S4126x1024, .f32⟩
  | 51 => ⟨S4126x1024, .f32⟩
  | 52 => ⟨S4096x1024, .f32⟩
  | 53 => ⟨S4096x1024, .f32⟩
  | 54 => ⟨S_, .f32⟩
  | 55 => ⟨S4126x1024, .f32⟩
  | 56 => ⟨S4126x1024, .f32⟩
  | 57 => ⟨S4096x1024, .f32⟩
  | 58 => ⟨S4096x1024, .f32⟩
  | 59 => ⟨S_, .f32⟩
  | 60 => ⟨S4126x1024, .f32⟩
  | 61 => ⟨S4126x1024, .f32⟩
  | 62 => ⟨S4096x1024, .f32⟩
  | 63 => ⟨S4096x1024, .f32⟩
  | 64 => ⟨S_, .f32⟩
  | 65 => ⟨S4126x1024, .f32⟩
  | 66 => ⟨S4126x1024, .f32⟩
  | 67 => ⟨S4096x1024, .f32⟩
  | 68 => ⟨S4096x1024, .f32⟩
  | 69 => ⟨S_, .f32⟩
  | 70 => ⟨S4126x1024, .f32⟩
  | 71 => ⟨S4126x1024, .f32⟩
  | 72 => ⟨S4096x1024, .f32⟩
  | 73 => ⟨S4096x1024, .f32⟩
  | 74 => ⟨S_, .f32⟩
  | 75 => ⟨S4126x1024, .f32⟩
  | 76 => ⟨S4126x1024, .f32⟩
  | 77 => ⟨S4096x1024, .f32⟩
  | 78 => ⟨S4096x1024, .f32⟩
  | 79 => ⟨S_, .f32⟩
  | 80 => ⟨S4126x1024, .f32⟩
  | 81 => ⟨S4126x1024, .f32⟩
  | 82 => ⟨S4096x1024, .f32⟩
  | 83 => ⟨S4096x1024, .f32⟩
  | 84 => ⟨S_, .f32⟩
  | 85 => ⟨S4126x1024, .f32⟩
  | 86 => ⟨S4126x1024, .f32⟩
  | 87 => ⟨S4096x1024, .f32⟩
  | 88 => ⟨S4096x1024, .f32⟩
  | 89 => ⟨S_, .f32⟩
  | 90 => ⟨S4126x1024, .f32⟩
  | 91 => ⟨S4126x1024, .f32⟩
  | 92 => ⟨S4096x1024, .f32⟩
  | 93 => ⟨S4096x1024, .f32⟩
  | 94 => ⟨S_, .f32⟩
  | 95 => ⟨S4126x1024, .f32⟩
  | 96 => ⟨S4126x1024, .f32⟩
  | 97 => ⟨S4096x1024, .f32⟩
  | 98 => ⟨S4096x1024, .f32⟩
  | 99 => ⟨S_, .f32⟩
  | 100 => ⟨S4126x1024, .f32⟩
  | 101 => ⟨S4126x1024, .f32⟩
  | 102 => ⟨S4096x1024, .f32⟩
  | 103 => ⟨S4096x1024, .f32⟩
  | 104 => ⟨S_, .f32⟩
  | 105 => ⟨S4126x1024, .f32⟩
  | 106 => ⟨S4126x1024, .f32⟩
  | 107 => ⟨S4096x1024, .f32⟩
  | 108 => ⟨S4096x1024, .f32⟩
  | 109 => ⟨S_, .f32⟩
  | 110 => ⟨S4126x1024, .f32⟩
  | 111 => ⟨S4126x1024, .f32⟩
  | 112 => ⟨S4096x1024, .f32⟩
  | 113 => ⟨S4096x1024, .f32⟩
  | 114 => ⟨S_, .f32⟩
  | 115 => ⟨S4126x1024, .f32⟩
  | 116 => ⟨S4126x1024, .f32⟩
  | 117 => ⟨S4096x1024, .f32⟩
  | 118 => ⟨S4096x1024, .f32⟩
  | 119 => ⟨S_, .f32⟩
  | 120 => ⟨S4126x1024, .f32⟩
  | 121 => ⟨S4126x1024, .f32⟩
  | 122 => ⟨S4096x1024, .f32⟩
  | 123 => ⟨S4096x1024, .f32⟩
  | 124 => ⟨S_, .f32⟩
  | 125 => ⟨S4126x1024, .f32⟩
  | 126 => ⟨S4126x1024, .f32⟩
  | 127 => ⟨S4096x1024, .f32⟩
  | _ => ⟨S4096x5632, .bf16⟩

abbrev hbmTy0_3 (i : Nat) : BufTy := match i % 128 with
  | 0 => ⟨S4096x1024, .f32⟩
  | 1 => ⟨S_, .f32⟩
  | 2 => ⟨S4126x1024, .f32⟩
  | 3 => ⟨S4126x1024, .f32⟩
  | 4 => ⟨S4096x1024, .f32⟩
  | 5 => ⟨S4096x1024, .f32⟩
  | 6 => ⟨S_, .f32⟩
  | 7 => ⟨S4126x1024, .f32⟩
  | 8 => ⟨S4126x1024, .f32⟩
  | 9 => ⟨S4096x1024, .f32⟩
  | 10 => ⟨S4096x1024, .f32⟩
  | 11 => ⟨S_, .f32⟩
  | 12 => ⟨S4126x1024, .f32⟩
  | 13 => ⟨S4126x1024, .f32⟩
  | 14 => ⟨S4096x1024, .f32⟩
  | 15 => ⟨S4096x1024, .f32⟩
  | 16 => ⟨S_, .f32⟩
  | 17 => ⟨S4126x1024, .f32⟩
  | 18 => ⟨S4126x1024, .f32⟩
  | 19 => ⟨S4096x1024, .f32⟩
  | 20 => ⟨S4096x1024, .f32⟩
  | 21 => ⟨S_, .f32⟩
  | 22 => ⟨S4126x1024, .f32⟩
  | 23 => ⟨S4126x1024, .f32⟩
  | 24 => ⟨S4096x1024, .f32⟩
  | 25 => ⟨S4096x1024, .f32⟩
  | 26 => ⟨S_, .f32⟩
  | 27 => ⟨S4126x1024, .f32⟩
  | 28 => ⟨S4126x1024, .f32⟩
  | 29 => ⟨S4096x1024, .f32⟩
  | 30 => ⟨S4096x1024, .f32⟩
  | 31 => ⟨S_, .f32⟩
  | 32 => ⟨S4126x1024, .f32⟩
  | 33 => ⟨S4126x1024, .f32⟩
  | 34 => ⟨S4096x1024, .f32⟩
  | 35 => ⟨S4096x1024, .f32⟩
  | 36 => ⟨S_, .f32⟩
  | 37 => ⟨S4126x1024, .f32⟩
  | 38 => ⟨S4126x1024, .f32⟩
  | 39 => ⟨S4096x1024, .f32⟩
  | 40 => ⟨S4096x1024, .f32⟩
  | 41 => ⟨S_, .f32⟩
  | 42 => ⟨S4126x1024, .f32⟩
  | 43 => ⟨S4126x1024, .f32⟩
  | 44 => ⟨S4096x1024, .f32⟩
  | 45 => ⟨S4096x1024, .f32⟩
  | 46 => ⟨S_, .f32⟩
  | 47 => ⟨S4126x1024, .f32⟩
  | 48 => ⟨S4126x1024, .f32⟩
  | 49 => ⟨S4096x1024, .f32⟩
  | 50 => ⟨S4096x1024, .f32⟩
  | 51 => ⟨S_, .f32⟩
  | 52 => ⟨S4126x1024, .f32⟩
  | 53 => ⟨S4126x1024, .f32⟩
  | 54 => ⟨S4096x1024, .f32⟩
  | 55 => ⟨S4096x1024, .f32⟩
  | 56 => ⟨S_, .f32⟩
  | 57 => ⟨S4126x1024, .f32⟩
  | 58 => ⟨S4126x1024, .f32⟩
  | 59 => ⟨S4096x1024, .f32⟩
  | 60 => ⟨S4096x1024, .f32⟩
  | 61 => ⟨S_, .f32⟩
  | 62 => ⟨S4126x1024, .f32⟩
  | 63 => ⟨S4126x1024, .f32⟩
  | 64 => ⟨S4096x1024, .f32⟩
  | 65 => ⟨S4096x1024, .f32⟩
  | 66 => ⟨S_, .f32⟩
  | 67 => ⟨S4126x1024, .f32⟩
  | 68 => ⟨S4126x1024, .f32⟩
  | 69 => ⟨S30x1024, .f32⟩
  | 70 => ⟨S4096x1024, .f32⟩
  | 71 => ⟨S4096x1024, .f32⟩
  | 72 => ⟨S4096x1024, .f32⟩
  | 73 => ⟨S4096x1024, .f32⟩
  | 74 => ⟨S4096x2048, .f32⟩
  | 75 => ⟨S4096x5632, .f32⟩
  | 76 => ⟨S4096x5632, .bf16⟩
  | _ => ⟨S4096x5632, .bf16⟩

abbrev hbmTy (i : Nat) : BufTy := match i / 128 with
  | 0 => hbmTy0_0 i
  | 1 => hbmTy0_1 i
  | 2 => hbmTy0_2 i
  | 3 => hbmTy0_3 i
  | _ => ⟨S4096x5632, .bf16⟩

abbrev bufTy : (tb : Table) → Fin (tcTables nBuf tb) → BufTy
  | .hbm, ⟨i, _⟩ => hbmTy i
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_v248 : Ref sig .tc := ⟨.hbm, 260, rfl⟩
abbrev main_v249 : Ref sig .tc := ⟨.hbm, 261, rfl⟩
abbrev main_v250 : Ref sig .tc := ⟨.hbm, 262, rfl⟩
abbrev main_v251 : Ref sig .tc := ⟨.hbm, 263, rfl⟩
abbrev main_v252 : Ref sig .tc := ⟨.hbm, 264, rfl⟩
abbrev main_cst_5 : Ref sig .tc := ⟨.hbm, 265, rfl⟩
abbrev main_v253 : Ref sig .tc := ⟨.hbm, 266, rfl⟩
abbrev main_v254 : Ref sig .tc := ⟨.hbm, 267, rfl⟩
abbrev main_v255 : Ref sig .tc := ⟨.hbm, 268, rfl⟩
abbrev main_cst_6 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_v259 : Ref sig .tc := ⟨.hbm, 273, rfl⟩
abbrev main_cst_7 : Ref sig .tc := ⟨.hbm, 274, rfl⟩
abbrev main_v260 : Ref sig .tc := ⟨.hbm, 275, rfl⟩
abbrev main_v261 : Ref sig .tc := ⟨.hbm, 276, rfl⟩
abbrev main_v262 : Ref sig .tc := ⟨.hbm, 277, rfl⟩
abbrev main_cst_8 : Ref sig .tc := ⟨.hbm, 278, rfl⟩
abbrev main_v263 : Ref sig .tc := ⟨.hbm, 279, rfl⟩
abbrev main_v264 : Ref sig .tc := ⟨.hbm, 280, rfl⟩
abbrev main_v265 : Ref sig .tc := ⟨.hbm, 281, rfl⟩
abbrev main_v266 : Ref sig .tc := ⟨.hbm, 282, rfl⟩
abbrev main_v267 : Ref sig .tc := ⟨.hbm, 283, rfl⟩
abbrev main_v268 : Ref sig .tc := ⟨.hbm, 284, rfl⟩
abbrev main_cst_9 : Ref sig .tc := ⟨.hbm, 285, rfl⟩
abbrev main_v269 : Ref sig .tc := ⟨.hbm, 286, rfl⟩
abbrev main_v270 : Ref sig .tc := ⟨.hbm, 287, rfl⟩
abbrev main_v271 : Ref sig .tc := ⟨.hbm, 288, rfl⟩
abbrev main_v272 : Ref sig .tc := ⟨.hbm, 289, rfl⟩
abbrev main_v273 : Ref sig .tc := ⟨.hbm, 290, rfl⟩
abbrev main_v274 : Ref sig .tc := ⟨.hbm, 291, rfl⟩
abbrev main_v275 : Ref sig .tc := ⟨.hbm, 292, rfl⟩
abbrev main_cst_10 : Ref sig .tc := ⟨.hbm, 293, rfl⟩
abbrev main_v276 : Ref sig .tc := ⟨.hbm, 294, rfl⟩
abbrev main_v277 : Ref sig .tc := ⟨.hbm, 295, rfl⟩
abbrev main_v278 : Ref sig .tc := ⟨.hbm, 296, rfl⟩
abbrev main_v279 : Ref sig .tc := ⟨.hbm, 297, rfl⟩
abbrev main_v280 : Ref sig .tc := ⟨.hbm, 298, rfl⟩
abbrev main_v281 : Ref sig .tc := ⟨.hbm, 299, rfl⟩
abbrev main_v282 : Ref sig .tc := ⟨.hbm, 300, rfl⟩
abbrev main_cst_11 : Ref sig .tc := ⟨.hbm, 301, rfl⟩
abbrev main_v283 : Ref sig .tc := ⟨.hbm, 302, rfl⟩
abbrev main_v284 : Ref sig .tc := ⟨.hbm, 303, rfl⟩
abbrev main_v285 : Ref sig .tc := ⟨.hbm, 304, rfl⟩
abbrev main_cst_12 : Ref sig .tc := ⟨.hbm, 305, rfl⟩
abbrev main_v286 : Ref sig .tc := ⟨.hbm, 306, rfl⟩
abbrev main_v287 : Ref sig .tc := ⟨.hbm, 307, rfl⟩
abbrev main_v288 : Ref sig .tc := ⟨.hbm, 308, rfl⟩
abbrev main_v289 : Ref sig .tc := ⟨.hbm, 309, rfl⟩
abbrev main_cst_13 : Ref sig .tc := ⟨.hbm, 310, rfl⟩
abbrev main_v290 : Ref sig .tc := ⟨.hbm, 311, rfl⟩
abbrev main_v291 : Ref sig .tc := ⟨.hbm, 312, rfl⟩
abbrev main_v292 : Ref sig .tc := ⟨.hbm, 313, rfl⟩
abbrev main_v293 : Ref sig .tc := ⟨.hbm, 314, rfl⟩
abbrev main_cst_14 : Ref sig .tc := ⟨.hbm, 315, rfl⟩
abbrev main_v294 : Ref sig .tc := ⟨.hbm, 316, rfl⟩
abbrev main_v295 : Ref sig .tc := ⟨.hbm, 317, rfl⟩
abbrev main_v296 : Ref sig .tc := ⟨.hbm, 318, rfl⟩
abbrev main_v297 : Ref sig .tc := ⟨.hbm, 319, rfl⟩
abbrev main_cst_15 : Ref sig .tc := ⟨.hbm, 320, rfl⟩
abbrev main_v298 : Ref sig .tc := ⟨.hbm, 321, rfl⟩
abbrev main_v299 : Ref sig .tc := ⟨.hbm, 322, rfl⟩
abbrev main_v300 : Ref sig .tc := ⟨.hbm, 323, rfl⟩
abbrev main_v301 : Ref sig .tc := ⟨.hbm, 324, rfl⟩
abbrev main_cst_16 : Ref sig .tc := ⟨.hbm, 325, rfl⟩
abbrev main_v302 : Ref sig .tc := ⟨.hbm, 326, rfl⟩
abbrev main_v303 : Ref sig .tc := ⟨.hbm, 327, rfl⟩
abbrev main_v304 : Ref sig .tc := ⟨.hbm, 328, rfl⟩
abbrev main_v305 : Ref sig .tc := ⟨.hbm, 329, rfl⟩
abbrev main_cst_17 : Ref sig .tc := ⟨.hbm, 330, rfl⟩
abbrev main_v306 : Ref sig .tc := ⟨.hbm, 331, rfl⟩
abbrev main_v307 : Ref sig .tc := ⟨.hbm, 332, rfl⟩
abbrev main_v308 : Ref sig .tc := ⟨.hbm, 333, rfl⟩
abbrev main_v309 : Ref sig .tc := ⟨.hbm, 334, rfl⟩
abbrev main_cst_18 : Ref sig .tc := ⟨.hbm, 335, rfl⟩
abbrev main_v310 : Ref sig .tc := ⟨.hbm, 336, rfl⟩
abbrev main_v311 : Ref sig .tc := ⟨.hbm, 337, rfl⟩
abbrev main_v312 : Ref sig .tc := ⟨.hbm, 338, rfl⟩
abbrev main_v313 : Ref sig .tc := ⟨.hbm, 339, rfl⟩
abbrev main_cst_19 : Ref sig .tc := ⟨.hbm, 340, rfl⟩
abbrev main_v314 : Ref sig .tc := ⟨.hbm, 341, rfl⟩
abbrev main_v315 : Ref sig .tc := ⟨.hbm, 342, rfl⟩
abbrev main_v316 : Ref sig .tc := ⟨.hbm, 343, rfl⟩
abbrev main_v317 : Ref sig .tc := ⟨.hbm, 344, rfl⟩
abbrev main_cst_20 : Ref sig .tc := ⟨.hbm, 345, rfl⟩
abbrev main_v318 : Ref sig .tc := ⟨.hbm, 346, rfl⟩
abbrev main_v319 : Ref sig .tc := ⟨.hbm, 347, rfl⟩
abbrev main_v320 : Ref sig .tc := ⟨.hbm, 348, rfl⟩
abbrev main_v321 : Ref sig .tc := ⟨.hbm, 349, rfl⟩
abbrev main_cst_21 : Ref sig .tc := ⟨.hbm, 350, rfl⟩
abbrev main_v322 : Ref sig .tc := ⟨.hbm, 351, rfl⟩
abbrev main_v323 : Ref sig .tc := ⟨.hbm, 352, rfl⟩
abbrev main_v324 : Ref sig .tc := ⟨.hbm, 353, rfl⟩
abbrev main_v325 : Ref sig .tc := ⟨.hbm, 354, rfl⟩
abbrev main_cst_22 : Ref sig .tc := ⟨.hbm, 355, rfl⟩
abbrev main_v326 : Ref sig .tc := ⟨.hbm, 356, rfl⟩
abbrev main_v327 : Ref sig .tc := ⟨.hbm, 357, rfl⟩
abbrev main_v328 : Ref sig .tc := ⟨.hbm, 358, rfl⟩
abbrev main_v329 : Ref sig .tc := ⟨.hbm, 359, rfl⟩
abbrev main_cst_23 : Ref sig .tc := ⟨.hbm, 360, rfl⟩
abbrev main_v330 : Ref sig .tc := ⟨.hbm, 361, rfl⟩
abbrev main_v331 : Ref sig .tc := ⟨.hbm, 362, rfl⟩
abbrev main_v332 : Ref sig .tc := ⟨.hbm, 363, rfl⟩
abbrev main_v333 : Ref sig .tc := ⟨.hbm, 364, rfl⟩
abbrev main_cst_24 : Ref sig .tc := ⟨.hbm, 365, rfl⟩
abbrev main_v334 : Ref sig .tc := ⟨.hbm, 366, rfl⟩
abbrev main_v335 : Ref sig .tc := ⟨.hbm, 367, rfl⟩
abbrev main_v336 : Ref sig .tc := ⟨.hbm, 368, rfl⟩
abbrev main_v337 : Ref sig .tc := ⟨.hbm, 369, rfl⟩
abbrev main_cst_25 : Ref sig .tc := ⟨.hbm, 370, rfl⟩
abbrev main_v338 : Ref sig .tc := ⟨.hbm, 371, rfl⟩
abbrev main_v339 : Ref sig .tc := ⟨.hbm, 372, rfl⟩
abbrev main_v340 : Ref sig .tc := ⟨.hbm, 373, rfl⟩
abbrev main_v341 : Ref sig .tc := ⟨.hbm, 374, rfl⟩
abbrev main_cst_26 : Ref sig .tc := ⟨.hbm, 375, rfl⟩
abbrev main_v342 : Ref sig .tc := ⟨.hbm, 376, rfl⟩
abbrev main_v343 : Ref sig .tc := ⟨.hbm, 377, rfl⟩
abbrev main_v344 : Ref sig .tc := ⟨.hbm, 378, rfl⟩
abbrev main_v345 : Ref sig .tc := ⟨.hbm, 379, rfl⟩
abbrev main_cst_27 : Ref sig .tc := ⟨.hbm, 380, rfl⟩
abbrev main_v346 : Ref sig .tc := ⟨.hbm, 381, rfl⟩
abbrev main_v347 : Ref sig .tc := ⟨.hbm, 382, rfl⟩
abbrev main_v348 : Ref sig .tc := ⟨.hbm, 383, rfl⟩
abbrev main_v349 : Ref sig .tc := ⟨.hbm, 384, rfl⟩
abbrev main_cst_28 : Ref sig .tc := ⟨.hbm, 385, rfl⟩
abbrev main_v350 : Ref sig .tc := ⟨.hbm, 386, rfl⟩
abbrev main_v351 : Ref sig .tc := ⟨.hbm, 387, rfl⟩
abbrev main_v352 : Ref sig .tc := ⟨.hbm, 388, rfl⟩
abbrev main_v353 : Ref sig .tc := ⟨.hbm, 389, rfl⟩
abbrev main_cst_29 : Ref sig .tc := ⟨.hbm, 390, rfl⟩
abbrev main_v354 : Ref sig .tc := ⟨.hbm, 391, rfl⟩
abbrev main_v355 : Ref sig .tc := ⟨.hbm, 392, rfl⟩
abbrev main_v356 : Ref sig .tc := ⟨.hbm, 393, rfl⟩
abbrev main_v357 : Ref sig .tc := ⟨.hbm, 394, rfl⟩
abbrev main_cst_30 : Ref sig .tc := ⟨.hbm, 395, rfl⟩
abbrev main_v358 : Ref sig .tc := ⟨.hbm, 396, rfl⟩
abbrev main_v359 : Ref sig .tc := ⟨.hbm, 397, rfl⟩
abbrev main_v360 : Ref sig .tc := ⟨.hbm, 398, rfl⟩
abbrev main_v361 : Ref sig .tc := ⟨.hbm, 399, rfl⟩
abbrev main_cst_31 : Ref sig .tc := ⟨.hbm, 400, rfl⟩
abbrev main_v362 : Ref sig .tc := ⟨.hbm, 401, rfl⟩
abbrev main_v363 : Ref sig .tc := ⟨.hbm, 402, rfl⟩
abbrev main_v364 : Ref sig .tc := ⟨.hbm, 403, rfl⟩
abbrev main_v365 : Ref sig .tc := ⟨.hbm, 404, rfl⟩
abbrev main_cst_32 : Ref sig .tc := ⟨.hbm, 405, rfl⟩
abbrev main_v366 : Ref sig .tc := ⟨.hbm, 406, rfl⟩
abbrev main_v367 : Ref sig .tc := ⟨.hbm, 407, rfl⟩
abbrev main_v368 : Ref sig .tc := ⟨.hbm, 408, rfl⟩
abbrev main_v369 : Ref sig .tc := ⟨.hbm, 409, rfl⟩
abbrev main_cst_33 : Ref sig .tc := ⟨.hbm, 410, rfl⟩
abbrev main_v370 : Ref sig .tc := ⟨.hbm, 411, rfl⟩
abbrev main_v371 : Ref sig .tc := ⟨.hbm, 412, rfl⟩
abbrev main_v372 : Ref sig .tc := ⟨.hbm, 413, rfl⟩
abbrev main_v373 : Ref sig .tc := ⟨.hbm, 414, rfl⟩
abbrev main_cst_34 : Ref sig .tc := ⟨.hbm, 415, rfl⟩
abbrev main_v374 : Ref sig .tc := ⟨.hbm, 416, rfl⟩
abbrev main_v375 : Ref sig .tc := ⟨.hbm, 417, rfl⟩
abbrev main_v376 : Ref sig .tc := ⟨.hbm, 418, rfl⟩
abbrev main_v377 : Ref sig .tc := ⟨.hbm, 419, rfl⟩
abbrev main_cst_35 : Ref sig .tc := ⟨.hbm, 420, rfl⟩
abbrev main_v378 : Ref sig .tc := ⟨.hbm, 421, rfl⟩
abbrev main_v379 : Ref sig .tc := ⟨.hbm, 422, rfl⟩
abbrev main_v380 : Ref sig .tc := ⟨.hbm, 423, rfl⟩
abbrev main_v381 : Ref sig .tc := ⟨.hbm, 424, rfl⟩
abbrev main_cst_36 : Ref sig .tc := ⟨.hbm, 425, rfl⟩
abbrev main_v382 : Ref sig .tc := ⟨.hbm, 426, rfl⟩
abbrev main_v383 : Ref sig .tc := ⟨.hbm, 427, rfl⟩
abbrev main_v384 : Ref sig .tc := ⟨.hbm, 428, rfl⟩
abbrev main_v385 : Ref sig .tc := ⟨.hbm, 429, rfl⟩
abbrev main_cst_37 : Ref sig .tc := ⟨.hbm, 430, rfl⟩
abbrev main_v386 : Ref sig .tc := ⟨.hbm, 431, rfl⟩
abbrev main_v387 : Ref sig .tc := ⟨.hbm, 432, rfl⟩
abbrev main_v388 : Ref sig .tc := ⟨.hbm, 433, rfl⟩
abbrev main_v389 : Ref sig .tc := ⟨.hbm, 434, rfl⟩
abbrev main_cst_38 : Ref sig .tc := ⟨.hbm, 435, rfl⟩
abbrev main_v390 : Ref sig .tc := ⟨.hbm, 436, rfl⟩
abbrev main_v391 : Ref sig .tc := ⟨.hbm, 437, rfl⟩
abbrev main_v392 : Ref sig .tc := ⟨.hbm, 438, rfl⟩
abbrev main_v393 : Ref sig .tc := ⟨.hbm, 439, rfl⟩
abbrev main_cst_39 : Ref sig .tc := ⟨.hbm, 440, rfl⟩
abbrev main_v394 : Ref sig .tc := ⟨.hbm, 441, rfl⟩
abbrev main_v395 : Ref sig .tc := ⟨.hbm, 442, rfl⟩
abbrev main_v396 : Ref sig .tc := ⟨.hbm, 443, rfl⟩
abbrev main_v397 : Ref sig .tc := ⟨.hbm, 444, rfl⟩
abbrev main_cst_40 : Ref sig .tc := ⟨.hbm, 445, rfl⟩
abbrev main_v398 : Ref sig .tc := ⟨.hbm, 446, rfl⟩
abbrev main_v399 : Ref sig .tc := ⟨.hbm, 447, rfl⟩
abbrev main_v400 : Ref sig .tc := ⟨.hbm, 448, rfl⟩
abbrev main_v401 : Ref sig .tc := ⟨.hbm, 449, rfl⟩
abbrev main_cst_41 : Ref sig .tc := ⟨.hbm, 450, rfl⟩
abbrev main_v402 : Ref sig .tc := ⟨.hbm, 451, rfl⟩
abbrev main_v403 : Ref sig .tc := ⟨.hbm, 452, rfl⟩
abbrev main_v404 : Ref sig .tc := ⟨.hbm, 453, rfl⟩
abbrev main_v405 : Ref sig .tc := ⟨.hbm, 454, rfl⟩
abbrev main_v406 : Ref sig .tc := ⟨.hbm, 455, rfl⟩
abbrev main_v407 : Ref sig .tc := ⟨.hbm, 456, rfl⟩
abbrev main_v408 : Ref sig .tc := ⟨.hbm, 457, rfl⟩
abbrev main_v409 : Ref sig .tc := ⟨.hbm, 458, rfl⟩
abbrev main_v410 : Ref sig .tc := ⟨.hbm, 459, rfl⟩
abbrev main_v411 : Ref sig .tc := ⟨.hbm, 460, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S2x4096x2816 : Shape := ⟨3, ![2, 4096, 2816]⟩
abbrev S1024x1024 : Shape := ⟨2, ![1024, 1024]⟩
abbrev S1408x1024 : Shape := ⟨2, ![1408, 1024]⟩
abbrev S2x1024x1408 : Shape := ⟨3, ![2, 1024, 1408]⟩
abbrev S1024x1408 : Shape := ⟨2, ![1024, 1408]⟩
abbrev S1x1024x1408 : Shape := ⟨3, ![1, 1024, 1408]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S2x4096x2816, .bf16⟩
  | .hbm, ⟨3, _⟩ => ⟨S2816x1024, .bf16⟩
  | .hbm, ⟨4, _⟩ => ⟨S2x4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S2x1024x1408, .bf16⟩
  | .local _ .vmem, ⟨7, _⟩ => ⟨S2x1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x1024 : Shape := ⟨2, ![4096, 1024]⟩
abbrev S2816x1024 : Shape := ⟨2, ![2816, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S2x4096x2816, .bf16⟩
  | .hbm, ⟨3, _⟩ => ⟨S2x4096x2816, .f32⟩
  | .hbm, ⟨4, _⟩ => ⟨S1x4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S1x4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S1x4096x2816, .f32⟩
  | .hbm, ⟨33, _⟩ => ⟨S_, .f32⟩
  | .hbm, ⟨34, _⟩ => ⟨S2x4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S1x4096x2816, .f32⟩
  | .hbm, ⟨40, _⟩ => ⟨S_, .f32⟩
  | .hbm, ⟨41, _⟩ => ⟨S2x4096x2816, .f32⟩
  | .hbm, ⟨42, _⟩ => ⟨S2x4096x2816, .f32⟩
  | .hbm, ⟨43, _⟩ => ⟨S2x4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S1x4096x1408 : Shape := ⟨3, ![1, 4096, 1408]⟩
abbrev S1x1024x1408 : Shape := ⟨3, ![1, 1024, 1408]⟩
abbrev S4096x1408 : Shape := ⟨2, ![4096, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .bf16⟩
  | .local _ .vmem, ⟨0, _⟩ => ⟨S4096x1024, .bf16⟩
  | .local _ .vmem, ⟨1, _⟩ => ⟨S1x4096x1408, .bf16⟩
  | .local _ .vmem, ⟨2, _⟩ => ⟨S1x4096x1408, .bf16⟩
  | .local _ .vmem, ⟨3, _⟩ => ⟨S1x1024x1408, .bf16⟩
  | .local _ .vmem, ⟨4, _⟩ => ⟨S1x1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference4Ideal.lean ====
abbrev S4096x1024 : Shape := ⟨2, ![4096, 1024]⟩
abbrev S2x4096x2816 : Shape := ⟨3, ![2, 4096, 2816]⟩
abbrev S_ : Shape := ⟨0, ![]⟩
abbrev S1024x5632 : Shape := ⟨2, ![1024, 5632]⟩
abbrev S1x4096x2816 : Shape := ⟨3, ![1, 4096, 2816]⟩
abbrev S4096x2816 : Shape := ⟨2, ![4096, 2816]⟩
abbrev S4096x5632 : Shape := ⟨2, ![4096, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S_, .f32⟩
  | .hbm, ⟨3, _⟩ => ⟨S1024x5632, .f32⟩
  | .hbm, ⟨4, _⟩ => ⟨S1x4096x2816, .bf16⟩
  | .hbm, ⟨5, _⟩ => ⟨S4096x2816, .bf16⟩
  | .hbm, ⟨6, _⟩ => ⟨S4096x2816, .f32⟩
  | .hbm, ⟨7, _⟩ => ⟨S1x4096x2816, .bf16⟩
  | .hbm, ⟨8, _⟩ => ⟨S4096x2816, .bf16⟩
  | .hbm, ⟨9, _⟩ => ⟨S4096x2816, .f32⟩
  | .hbm, ⟨10, _⟩ => ⟨S4096x5632, .f32⟩
  | .hbm, ⟨11, _⟩ => ⟨S4096x1024, .f32⟩
  | .hbm, ⟨12, _⟩ => ⟨S4096x5632, .f32⟩
  | .hbm, ⟨13, _⟩ => ⟨S5632x1024, .f32⟩
  | .hbm, ⟨14, _⟩ => ⟨S1024x5632, .f32⟩
  | .hbm, ⟨15, _⟩ => ⟨S1024x4x1408, .f32⟩
  | .hbm, ⟨16, _⟩ => ⟨S4x1024x1408, .f32⟩
  | .hbm, ⟨17, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel5.lean ====
abbrev S2x4096x2816 : Shape := ⟨3, ![2, 4096, 2816]⟩
abbrev S1024x5632 : Shape := ⟨2, ![1024, 5632]⟩
abbrev S4096x1024 : Shape := ⟨2, ![4096, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S1x512x1408 : Shape := ⟨3, ![1, 512, 1408]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S4096x1024, .f32⟩
  | .hbm, ⟨9, _⟩ => ⟨S1x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S4x1024x1408, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v57 : BitVec 1 := Scalar.cmpi .eq arg0 c0_i32
  let v58 : BitVec 32 := Scalar.extui v57
  let c0_i32_37 : BitVec 32 := 0#32
  let v59 : BitVec 1 := Scalar.cmpi .ne v58 c0_i32_37
  v59

def k0_cond2 (i : grid0.Coords) : BitVec 1 :=
  let arg0 : BitVec 32 := BitVec.ofNat 32 (i 0).val
  let c0_i32_38 : BitVec 32 := 0#32
  let v60 : BitVec 1 := Scalar.cmpi .sgt arg0 c0_i32_38
  let v61 : BitVec 32 := Scalar.extui v60
  let c0_i32_39 : BitVec 32 := 0#32
  let v62 : BitVec 1 := Scalar.cmpi .ne v61 c0_i32_39
  v62

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  ![c1_i32.toNat, arg0.toNat, c1_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S2x4096x2816 : Shape := ⟨3, ![2, 4096, 2816]⟩
abbrev S1024x5632 : Shape := ⟨2, ![1024, 5632]⟩
abbrev S4096x1024 : Shape := ⟨2, ![4096, 1024]⟩
abbrev S1x1024 : Shape := ⟨2, ![1, 1024]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x4096x2816, .bf16⟩
  | .hbm, ⟨6, _⟩ => ⟨S4096x2816, .bf16⟩
  | .hbm, ⟨7, _⟩ => ⟨S4096x2816, .f32⟩
  | .hbm, ⟨8, _⟩ => ⟨S1x4096x2816, .bf16⟩
  | .hbm, ⟨9, _⟩ => ⟨S4096x2816, .bf16⟩
  | .hbm, ⟨10, _⟩ => ⟨S4096x2816, .f32⟩
  | .hbm, ⟨11, _⟩ => ⟨S4096x5632, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x5632, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Kernel6.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S512x1408 : Shape := ⟨2, ![512, 1408]⟩
abbrev S512x1024 : Shape := ⟨2, ![512, 1024]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S4096x1024, .f32⟩
  | .hbm, ⟨9, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S4x1024x1408, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_33 : BitVec 32 := 0#32
  let v55 : BitVec 1 := Scalar.cmpi .ne v54 c0_i32_33
  v55

def k0_cond2 (i : grid0.Coords) : BitVec 1 :=
  let arg0 : BitVec 32 := BitVec.ofNat 32 (i 0).val
  let c0_i32_34 : BitVec 32 := 0#32
  let v56 : BitVec 1 := Scalar.cmpi .sgt arg0 c0_i32_34
  let v57 : BitVec 32 := Scalar.extui v56
  let c0_i32_35 : BitVec 32 := 0#32
  let v58 : BitVec 1 := Scalar.cmpi .ne v57 c0_i32_35
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference6Ideal.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x5632, .f32⟩
  | .hbm, ⟨25, _⟩ => ⟨S4096x5632, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel7.lean ====
abbrev S4096x1024 : Shape := ⟨2, ![4096, 1024]⟩
abbrev S4096x5632 : Shape := ⟨2, ![4096, 5632]⟩
abbrev S4x1024x1408 : Shape := ⟨3, ![4, 1024, 1408]⟩
abbrev S4096x1408 : Shape := ⟨2, ![4096, 1408]⟩
abbrev S1x1024x1408 : Shape := ⟨3, ![1, 1024, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .bf16⟩
  | .local _ .vmem, ⟨0, _⟩ => ⟨S4096x1024, .bf16⟩
  | .local _ .vmem, ⟨1, _⟩ => ⟨S4096x1408, .bf16⟩
  | .local _ .vmem, ⟨2, _⟩ => ⟨S4096x1408, .bf16⟩
  | .local _ .vmem, ⟨3, _⟩ => ⟨S1x1024x1408, .bf16⟩
  | .local _ .vmem, ⟨4, _⟩ => ⟨S1x1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference7Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S4096x5632 : Shape := ⟨2, ![4096, 5632]⟩
abbrev S2x4096x1024 : Shape := ⟨3, ![2, 4096, 1024]⟩
abbrev S512x1024 : Shape := ⟨2, ![512, 1024]⟩
abbrev S1024x512 : Shape := ⟨2, ![1024, 512]⟩
abbrev S2x1024x512 : Shape := ⟨3, ![2, 1024, 512]⟩
abbrev S1x1024x512 : Shape := ⟨3, ![1, 1024, 512]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S4096x1024, .bf16⟩
  | .hbm, ⟨4, _⟩ => ⟨S4096x5632, .bf16⟩
  | .hbm, ⟨5, _⟩ => ⟨S1024x1024, .bf16⟩
  | .hbm, ⟨6, _⟩ => ⟨S4096x1024, .bf16⟩
  | .hbm, ⟨7, _⟩ => ⟨S4096x1024, .bf16⟩
  | .hbm, ⟨8, _⟩ => ⟨S2x4096x1024, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S2x1024x512, .bf16⟩
  | .local _ .vmem, ⟨17, _⟩ => ⟨S2x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi c9_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference8Ideal.lean ====
abbrev S4096x1024 : Shape := ⟨2, ![4096, 1024]⟩
abbrev S1024x1024 : Shape := ⟨2, ![1024, 1024]⟩
abbrev S4096x5632 : Shape := ⟨2, ![4096, 5632]⟩
abbrev S4096x2048 : Shape := ⟨2, ![4096, 2048]⟩
abbrev S_ : Shape := ⟨0, ![]⟩
abbrev S1x4096x1024 : Shape := ⟨3, ![1, 4096, 1024]⟩
abbrev S2x4096x1024 : Shape := ⟨3, ![2, 4096, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S4096x1024, .bf16⟩
  | .hbm, ⟨4, _⟩ => ⟨S4096x5632, .bf16⟩
  | .hbm, ⟨5, _⟩ => ⟨S4096x5632, .f32⟩
  | .hbm, ⟨6, _⟩ => ⟨S4096x2048, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .bf16⟩
  | .hbm, ⟨47, _⟩ => ⟨S4096x1024, .bf16⟩
  | .hbm, ⟨48, _⟩ => ⟨S1x4096x1024, .f32⟩
  | .hbm, ⟨49, _⟩ => ⟨S1x4096x1024, .f32⟩
  | .hbm, ⟨50, _⟩ => ⟨S2x4096x1024, .f32⟩
  | .hbm, ⟨51, _⟩ => ⟨S2x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference10Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference11Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x5632 : Shape := ⟨2, ![4096, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S1024x4x1408, .f32⟩
  | .hbm, ⟨3, _⟩ => ⟨S4x1024x1408, .f32⟩
  | .hbm, ⟨4, _⟩ => ⟨S4x1024x1408, .bf16⟩
  | .hbm, ⟨5, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2x4096x2816 : Shape := ⟨3, ![2, 4096, 2816]⟩
abbrev S4096x2816 : Shape := ⟨2, ![4096, 2816]⟩
abbrev S1024x1024 : Shape := ⟨2, ![1024, 1024]⟩
abbrev S1x1024x1408 : Shape := ⟨3, ![1, 1024, 1408]⟩
abbrev S2x1024x1408 : Shape := ⟨3, ![2, 1024, 1408]⟩
abbrev S1024x1408 : Shape := ⟨2, ![1024, 1408]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S1024x4x1408, .f32⟩
  | .hbm, ⟨3, _⟩ => ⟨S4x1024x1408, .f32⟩
  | .hbm, ⟨4, _⟩ => ⟨S4x1024x1408, .bf16⟩
  | .hbm, ⟨5, _⟩ => ⟨S2x4096x2816, .bf16⟩
  | .hbm, ⟨6, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2x1024x1408, .bf16⟩
  | .local _ .vmem, ⟨7, _⟩ => ⟨S2x1024x1408, .bf16⟩
  | .local _ .vmem, ⟨8, _⟩ => ⟨S1024x1408, .bf16⟩
  | .local _ .vmem, ⟨9, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference13Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S1x4096x2816, .f32⟩
  | .hbm, ⟨7, _⟩ => ⟨S1x4096x2816, .f32⟩
  | .hbm, ⟨8, _⟩ => ⟨S2x4096x2816, .f32⟩
  | .hbm, ⟨9, _⟩ => ⟨S2x4096x2816, .bf16⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel14.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x2816 : Shape := ⟨2, ![1024, 2816]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S2816x1024, .bf16⟩
  | .hbm, ⟨5, _⟩ => ⟨S4096x1024, .f32⟩
  | .hbm, ⟨6, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference14Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1024x1024, .bf16⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference15Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel16.lean ====
abbrev S4096x2816 : Shape := ⟨2, ![4096, 2816]⟩
abbrev S2816x1024 : Shape := ⟨2, ![2816, 1024]⟩
abbrev S4096x1024 : Shape := ⟨2, ![4096, 1024]⟩
abbrev S8x128 : Shape := ⟨2, ![8, 128]⟩
abbrev S1024x2816 : Shape := ⟨2, ![1024, 2816]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S2816x1024, .bf16⟩
  | .hbm, ⟨5, _⟩ => ⟨S4096x1024, .f32⟩
  | .hbm, ⟨6, _⟩ => ⟨S8x128, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S8x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v20 : BitVec 1 := Scalar.cmpi .eq arg0 c0_i32
  let v21 : BitVec 32 := Scalar.extui v20
  let c0_i32_13 : BitVec 32 := 0#32
  let v22 : BitVec 1 := Scalar.cmpi .ne v21 c0_i32_13
  v22

def k0_cond2 (i : grid0.Coords) : BitVec 1 :=
  let arg0 : BitVec 32 := BitVec.ofNat 32 (i 0).val
  let c0_i32_14 : BitVec 32 := 0#32
  let v23 : BitVec 1 := Scalar.cmpi .sgt arg0 c0_i32_14
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]
-- ==== Reference16Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 34
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S4096x1024, .f32⟩
  | .hbm, ⟨32, _⟩ => ⟨S4096x1024, .f32⟩
  | .hbm, ⟨33, _⟩ => ⟨S8x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_cst_5 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_cst_7 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]
-- ==== Kernel17.lean ====
abbrev S4096x1024 : Shape := ⟨2, ![4096, 1024]⟩
abbrev S4096x5632 : Shape := ⟨2, ![4096, 5632]⟩
abbrev S1024x1024 : Shape := ⟨2, ![1024, 1024]⟩
abbrev S1024x512 : Shape := ⟨2, ![1024, 512]⟩

abbrev nBuf : Space → Nat
  | .hbm => 10
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x5632, .bf16⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S4096x1024 : Shape := ⟨2, ![4096, 1024]⟩
abbrev S4096x5632 : Shape := ⟨2, ![4096, 5632]⟩
abbrev S1024x1024 : Shape := ⟨2, ![1024, 1024]⟩
abbrev S4096x2048 : Shape := ⟨2, ![4096, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x5632, .bf16⟩
  | .hbm, ⟨3, _⟩ => ⟨S1024x1024, .f32⟩
  | .hbm, ⟨4, _⟩ => ⟨S1024x1024, .f32⟩
  | .hbm, ⟨5, _⟩ => ⟨S4096x5632, .f32⟩
  | .hbm, ⟨6, _⟩ => ⟨S4096x2048, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S4096x1024, .bf16⟩
  | .hbm, ⟨34, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel18.lean ====
abbrev S4096x5632 : Shape := ⟨2, ![4096, 5632]⟩
abbrev S4096x1024 : Shape := ⟨2, ![4096, 1024]⟩
abbrev S1x64 : Shape := ⟨2, ![1, 64]⟩
abbrev S32x4x512x256 : Shape := ⟨4, ![32, 4, 512, 256]⟩
abbrev S32x4x512x1 : Shape := ⟨4, ![32, 4, 512, 1]⟩
abbrev S32x2x128x512 : Shape := ⟨4, ![32, 2, 128, 512]⟩
abbrev S4x512x256 : Shape := ⟨3, ![4, 512, 256]⟩
abbrev S4x4x1 : Shape := ⟨3, ![4, 4, 1]⟩
abbrev S512x1024 : Shape := ⟨2, ![512, 1024]⟩
abbrev S128x256 : Shape := ⟨2, ![128, 256]⟩
abbrev S512x256 : Shape := ⟨2, ![512, 256]⟩
abbrev S4x4x512x256 : Shape := ⟨4, ![4, 4, 512, 256]⟩
abbrev S4x4x512x1 : Shape := ⟨4, ![4, 4, 512, 1]⟩
abbrev S4x2x128x512 : Shape := ⟨4, ![4, 2, 128, 512]⟩
abbrev S256x64 : Shape := ⟨2, ![256, 64]⟩
abbrev S128x64 : Shape := ⟨2, ![128, 64]⟩
abbrev S512x64 : Shape := ⟨2, ![512, 64]⟩
abbrev S640x64 : Shape := ⟨2, ![640, 64]⟩
abbrev S640 : Shape := ⟨1, ![640]⟩
abbrev S640x1 : Shape := ⟨2, ![640, 1]⟩
abbrev S512 : Shape := ⟨1, ![512]⟩
abbrev S512x1 : Shape := ⟨2, ![512, 1]⟩
abbrev S1x1x512x256 : Shape := ⟨4, ![1, 1, 512, 256]⟩
abbrev S1x1x512x1 : Shape := ⟨4, ![1, 1, 512, 1]⟩
abbrev S64x256 : Shape := ⟨2, ![64, 256]⟩
abbrev S64 : Shape := ⟨1, ![64]⟩
abbrev S256x1 : Shape := ⟨2, ![256, 1]⟩
abbrev S256 : Shape := ⟨1, ![256]⟩
abbrev S1x512x256 : Shape := ⟨3, ![1, 512, 256]⟩
abbrev S1x4x1 : Shape := ⟨3, ![1, 4, 1]⟩
abbrev S4x1 : Shape := ⟨2, ![4, 1]⟩
abbrev S4x128x1 : Shape := ⟨3, ![4, 128, 1]⟩
abbrev S1x1x128x256 : Shape := ⟨4, ![1, 1, 128, 256]⟩

abbrev nBuf : Space → Nat
  | .hbm => 12
  | .vmem => 26
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S1x64, .f32⟩
  | .hbm, ⟨3, _⟩ => ⟨S1x64, .f32⟩
  | .hbm, ⟨4, _⟩ => ⟨S32x4x512x256, .bf16⟩
  | .hbm, ⟨5, _⟩ => ⟨S32x4x512x1, .f32⟩
  | .hbm, ⟨6, _⟩ => ⟨S4096x1024, .bf16⟩
  | .hbm, ⟨7, _⟩ => ⟨S32x2x128x512, .bf16⟩
  | .hbm, ⟨8, _⟩ => ⟨S4x512x256, .f32⟩
  | .hbm, ⟨9, _⟩ => ⟨S4x4x1, .f32⟩
  | .hbm, ⟨10, _⟩ => ⟨S1x64, .f32⟩
  | .hbm, ⟨11, _⟩ => ⟨S1x64, .f32⟩
  | .local _ .vmem, ⟨0, _⟩ => ⟨S512x1024, .bf16⟩
  | .local _ .vmem, ⟨1, _⟩ => ⟨S512x1024, .bf16⟩
  | .local _ .vmem, ⟨2, _⟩ => ⟨S128x256, .bf16⟩
  | .local _ .vmem, ⟨3, _⟩ => ⟨S128x256, .bf16⟩
  | .local _ .vmem, ⟨4, _⟩ => ⟨S512x256, .bf16⟩
  | .local _ .vmem, ⟨5, _⟩ => ⟨S512x256, .bf16⟩
  | .local _ .vmem, ⟨6, _⟩ => ⟨S128x256, .bf16⟩
  | .local _ .vmem, ⟨7, _⟩ => ⟨S128x256, .bf16⟩
  | .local _ .vmem, ⟨8, _⟩ => ⟨S512x256, .bf16⟩
  | .local _ .vmem, ⟨9, _⟩ => ⟨S512x256, .bf16⟩
  | .local _ .vmem, ⟨10, _⟩ => ⟨S512x1024, .bf16⟩
  | .local _ .vmem, ⟨11, _⟩ => ⟨S512x1024, .bf16⟩
  | .local _ .vmem, ⟨12, _⟩ => ⟨S1x64, .f32⟩
  | .local _ .vmem, ⟨13, _⟩ => ⟨S1x64, .f32⟩
  | .local _ .vmem, ⟨14, _⟩ => ⟨S4x4x512x256, .bf16⟩
  | .local _ .vmem, ⟨15, _⟩ => ⟨S4x4x512x256, .bf16⟩
  | .local _ .vmem, ⟨16, _⟩ => ⟨S4x4x512x1, .f32⟩
  | .local _ .vmem, ⟨17, _⟩ => ⟨S4x4x512x1, .f32⟩
  | .local _ .vmem, ⟨18, _⟩ => ⟨S512x1024, .bf16⟩
  | .local _ .vmem, ⟨19, _⟩ => ⟨S512x1024, .bf16⟩
  | .local _ .vmem, ⟨20, _⟩ => ⟨S4x2x128x512, .bf16⟩
  | .local _ .vmem, ⟨21, _⟩ => ⟨S4x2x128x512, .bf16⟩
  | .local _ .vmem, ⟨22, _⟩ => ⟨S4x512x256, .f32⟩
  | .local _ .vmem, ⟨23, _⟩ => ⟨S4x4x1, .f32⟩
  | .local _ .vmem, ⟨24, _⟩ => ⟨S1x64, .f32⟩
  | .local _ .vmem, ⟨25, _⟩ => ⟨S1x64, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let c0_i32_0 : BitVec 32 := 0#32
  ![v2.toNat, c12_i32.toNat]

def cc0_transform_2 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c13_i32 : BitVec 32 := 13#32
  let c0_i32_0 : BitVec 32 := 0#32
  ![v2.toNat, c13_i32.toNat]

def cc0_transform_4 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x4x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x4x512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x2x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x4x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference18Ideal.lean ====
abbrev S4096x5632 : Shape := ⟨2, ![4096, 5632]⟩
abbrev S4096x1024 : Shape := ⟨2, ![4096, 1024]⟩
abbrev S1x64 : Shape := ⟨2, ![1, 64]⟩
abbrev S32x4x512x256 : Shape := ⟨4, ![32, 4, 512, 256]⟩
abbrev S32x4x512x1 : Shape := ⟨4, ![32, 4, 512, 1]⟩
abbrev S4096x1536 : Shape := ⟨2, ![4096, 1536]⟩
abbrev S4096x256 : Shape := ⟨2, ![4096, 256]⟩
abbrev S32x4x4x128x256 : Shape := ⟨5, ![32, 4, 4, 128, 256]⟩
abbrev S32x128x4x64 : Shape := ⟨4, ![32, 128, 4, 64]⟩
abbrev S1x128x4x64 : Shape := ⟨4, ![1, 128, 4, 64]⟩
abbrev S_ : Shape := ⟨0, ![]⟩
abbrev S31x128x4x64 : Shape := ⟨4, ![31, 128, 4, 64]⟩
abbrev S32x256x4x64 : Shape := ⟨4, ![32, 256, 4, 64]⟩
abbrev S32x4x64x4x128 : Shape := ⟨5, ![32, 4, 64, 4, 128]⟩
abbrev S32x128x4x4x64 : Shape := ⟨5, ![32, 128, 4, 4, 64]⟩
abbrev S32x4x64x256 : Shape := ⟨4, ![32, 4, 64, 256]⟩
abbrev S32x4x4x128 : Shape := ⟨4, ![32, 4, 4, 128]⟩
abbrev S32x4x4x128x1 : Shape := ⟨5, ![32, 4, 4, 128, 1]⟩
abbrev S32x128x4x4 : Shape := ⟨4, ![32, 128, 4, 4]⟩
abbrev S32x128x4x4x1 : Shape := ⟨5, ![32, 128, 4, 4, 1]⟩
abbrev S1x1x1x1x64 : Shape := ⟨5, ![1, 1, 1, 1, 64]⟩
abbrev S32x256x4 : Shape := ⟨3, ![32, 256, 4]⟩
abbrev S32x256x4x1 : Shape := ⟨4, ![32, 256, 4, 1]⟩
abbrev S1x1x1x64 : Shape := ⟨4, ![1, 1, 1, 64]⟩
abbrev S32x4x256x128x4 : Shape := ⟨5, ![32, 4, 256, 128, 4]⟩
abbrev S32x4x128x4x64 : Shape := ⟨5, ![32, 4, 128, 4, 64]⟩
abbrev S32x4x256x64 : Shape := ⟨4, ![32, 4, 256, 64]⟩
abbrev S32x2x128x256 : Shape := ⟨4, ![32, 2, 128, 256]⟩
abbrev S32x2x128x512 : Shape := ⟨4, ![32, 2, 128, 512]⟩

abbrev nBuf : Space → Nat
  | .hbm => 140
  | .vmem => 0
  | .smem => 0
  | _ => 0

abbrev hbmTy0_0 (i : Nat) : BufTy := match i % 128 with
  | 0 => ⟨S4096x5632, .bf16⟩
  | 1 => ⟨S4096x1024, .bf16⟩
  | 2 => ⟨S1x64, .f32⟩
  | 3 => ⟨S1x64, .f32⟩
  | 4 => ⟨S32x4x512x256, .bf16⟩
  | 5 => ⟨S32x4x512x1, .f32⟩
  | 6 => ⟨S4096x5632, .f32⟩
  | 7 => ⟨S4096x1536, .f32⟩
  | 8 => ⟨S4096x1024, .f32⟩
  | 9 => ⟨S4096x256, .f32⟩
  | 10 => ⟨S4096x256, .f32⟩
  | 11 => ⟨S32x4x512x256, .f32⟩
  | 12 => ⟨S32x4x4x128x256, .f32⟩
  | 13 => ⟨S32x128x4x64, .f32⟩
  | 14 => ⟨S1x128x4x64, .f32⟩
  | 15 => ⟨S_, .f32⟩
  | 16 => ⟨S1x128x4x64, .f32⟩
  | 17 => ⟨S31x128x4x64, .f32⟩
  | 18 => ⟨S32x128x4x64, .f32⟩
  | 19 => ⟨S32x256x4x64, .f32⟩
  | 20 => ⟨S32x4x64x4x128, .f32⟩
  | 21 => ⟨S32x128x4x4x64, .f32⟩
  | 22 => ⟨S4096x1024, .f32⟩
  | 23 => ⟨S32x128x4x4x64, .f32⟩
  | 24 => ⟨S32x4x64x4x128, .f32⟩
  | 25 => ⟨S32x4x4x128x256, .f32⟩
  | 26 => ⟨S32x4x64x256, .f32⟩
  | 27 => ⟨S32x256x4x64, .f32⟩
  | 28 => ⟨S32x4x4x128x256, .f32⟩
  | 29 => ⟨S_, .f32⟩
  | 30 => ⟨S32x4x4x128, .f32⟩
  | 31 => ⟨S32x4x4x128x1, .f32⟩
  | 32 => ⟨S32x4x4x128x256, .f32⟩
  | 33 => ⟨S32x4x4x128x256, .f32⟩
  | 34 => ⟨S32x4x4x128x256, .f32⟩
  | 35 => ⟨S32x128x4x4x64, .f32⟩
  | 36 => ⟨S32x128x4x64, .f32⟩
  | 37 => ⟨S1x128x4x64, .f32⟩
  | 38 => ⟨S_, .f32⟩
  | 39 => ⟨S1x128x4x64, .f32⟩
  | 40 => ⟨S31x128x4x64, .f32⟩
  | 41 => ⟨S32x128x4x64, .f32⟩
  | 42 => ⟨S32x256x4x64, .f32⟩
  | 43 => ⟨S32x128x4x4x64, .f32⟩
  | 44 => ⟨S_, .f32⟩
  | 45 => ⟨S32x128x4x4, .f32⟩
  | 46 => ⟨S32x128x4x4x1, .f32⟩
  | 47 => ⟨S_, .f32⟩
  | 48 => ⟨S32x128x4x4x1, .f32⟩
  | 49 => ⟨S32x128x4x4x1, .f32⟩
  | 50 => ⟨S_, .f32⟩
  | 51 => ⟨S32x128x4x4x1, .f32⟩
  | 52 => ⟨S32x128x4x4x1, .f32⟩
  | 53 => ⟨S32x128x4x4x1, .f32⟩
  | 54 => ⟨S32x128x4x4x1, .f32⟩
  | 55 => ⟨S_, .f32⟩
  | 56 => ⟨S32x128x4x4x1, .f32⟩
  | 57 => ⟨S32x128x4x4x1, .f32⟩
  | 58 => ⟨S32x128x4x4x64, .f32⟩
  | 59 => ⟨S32x128x4x4x64, .f32⟩
  | 60 => ⟨S1x1x1x1x64, .f32⟩
  | 61 => ⟨S32x128x4x4x64, .f32⟩
  | 62 => ⟨S32x128x4x4x64, .f32⟩
  | 63 => ⟨S32x256x4x64, .f32⟩
  | 64 => ⟨S_, .f32⟩
  | 65 => ⟨S32x256x4, .f32⟩
  | 66 => ⟨S32x256x4x1, .f32⟩
  | 67 => ⟨S_, .f32⟩
  | 68 => ⟨S32x256x4x1, .f32⟩
  | 69 => ⟨S32x256x4x1, .f32⟩
  | 70 => ⟨S_, .f32⟩
  | 71 => ⟨S32x256x4x1, .f32⟩
  | 72 => ⟨S32x256x4x1, .f32⟩
  | 73 => ⟨S32x256x4x1, .f32⟩
  | 74 => ⟨S32x256x4x1, .f32⟩
  | 75 => ⟨S_, .f32⟩
  | 76 => ⟨S32x256x4x1, .f32⟩
  | 77 => ⟨S32x256x4x1, .f32⟩
  | 78 => ⟨S32x256x4x64, .f32⟩
  | 79 => ⟨S32x256x4x64, .f32⟩
  | 80 => ⟨S1x1x1x64, .f32⟩
  | 81 => ⟨S32x256x4x64, .f32⟩
  | 82 => ⟨S32x256x4x64, .f32⟩
  | 83 => ⟨S32x4x256x128x4, .f32⟩
  | 84 => ⟨S32x4x4x128x256, .f32⟩
  | 85 => ⟨S_, .f32⟩
  | 86 => ⟨S32x4x4x128x256, .f32⟩
  | 87 => ⟨S32x4x4x128x256, .f32⟩
  | 88 => ⟨S_, .f32⟩
  | 89 => ⟨S32x4x4x128x256, .f32⟩
  | 90 => ⟨S32x4x4x128x256, .f32⟩
  | 91 => ⟨S32x4x256x128x4, .f32⟩
  | 92 => ⟨S32x4x128x4x64, .f32⟩
  | 93 => ⟨S32x128x4x4x64, .f32⟩
  | 94 => ⟨S32x4x256x64, .f32⟩
  | 95 => ⟨S32x256x4x64, .f32⟩
  | 96 => ⟨S32x256x4x64, .f32⟩
  | 97 => ⟨S32x256x4x64, .f32⟩
  | 98 => ⟨S32x256x4x64, .f32⟩
  | 99 => ⟨S_, .f32⟩
  | 100 => ⟨S32x256x4, .f32⟩
  | 101 => ⟨S32x256x4x1, .f32⟩
  | 102 => ⟨S32x256x4x64, .f32⟩
  | 103 => ⟨S32x256x4x64, .f32⟩
  | 104 => ⟨S32x256x4x1, .f32⟩
  | 105 => ⟨S_, .f32⟩
  | 106 => ⟨S32x256x4x1, .f32⟩
  | 107 => ⟨S32x256x4x1, .f32⟩
  | 108 => ⟨S_, .f32⟩
  | 109 => ⟨S32x256x4, .f32⟩
  | 110 => ⟨S32x256x4x64, .f32⟩
  | 111 => ⟨S32x256x4x64, .f32⟩
  | 112 => ⟨S32x256x4x64, .f32⟩
  | 113 => ⟨S32x256x4x64, .f32⟩
  | 114 => ⟨S32x256x4x64, .f32⟩
  | 115 => ⟨S32x128x4x4x64, .f32⟩
  | 116 => ⟨S32x128x4x4x64, .f32⟩
  | 117 => ⟨S32x128x4x4x64, .f32⟩
  | 118 => ⟨S_, .f32⟩
  | 119 => ⟨S32x128x4x4, .f32⟩
  | 120 => ⟨S32x128x4x4x1, .f32⟩
  | 121 => ⟨S32x128x4x4x64, .f32⟩
  | 122 => ⟨S32x128x4x4x64, .f32⟩
  | 123 => ⟨S32x128x4x4x1, .f32⟩
  | 124 => ⟨S_, .f32⟩
  | 125 => ⟨S32x128x4x4x1, .f32⟩
  | 126 => ⟨S32x128x4x4x1, .f32⟩
  | 127 => ⟨S_, .f32⟩
  | _ => ⟨S4096x5632, .bf16⟩

abbrev hbmTy0_1 (i : Nat) : BufTy := match i % 128 with
  | 0 => ⟨S32x128x4x4, .f32⟩
  | 1 => ⟨S32x128x4x4x64, .f32⟩
  | 2 => ⟨S32x128x4x4x64, .f32⟩
  | 3 => ⟨S32x128x4x4x64, .f32⟩
  | 4 => ⟨S32x128x4x4x64, .f32⟩
  | 5 => ⟨S32x128x4x4x64, .f32⟩
  | 6 => ⟨S32x2x128x256, .f32⟩
  | 7 => ⟨S32x2x128x256, .f32⟩
  | 8 => ⟨S32x2x128x512, .f32⟩
  | 9 => ⟨S4096x1024, .f32⟩
  | 10 => ⟨S4096x1024, .bf16⟩
  | 11 => ⟨S32x2x128x512, .bf16⟩
  | _ => ⟨S4096x5632, .bf16⟩

abbrev hbmTy (i : Nat) : BufTy := match i / 128 with
  | 0 => hbmTy0_0 i
  | 1 => hbmTy0_1 i
  | _ => ⟨S4096x5632, .bf16⟩

abbrev bufTy : (tb : Table) → Fin (tcTables nBuf tb) → BufTy
  | .hbm, ⟨i, _⟩ => hbmTy i
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_10 : Ref sig .tc := ⟨.hbm, 85, rfl⟩
abbrev main_v68 : Ref sig .tc := ⟨.hbm, 86, rfl⟩
abbrev main_v69 : Ref sig .tc := ⟨.hbm, 87, rfl⟩
abbrev main_cst_11 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_12 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_13 : Ref sig .tc := ⟨.hbm, 105, rfl⟩
abbrev main_v85 : Ref sig .tc := ⟨.hbm, 106, rfl⟩
abbrev main_v86 : Ref sig .tc := ⟨.hbm, 107, rfl⟩
abbrev main_cst_14 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_15 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_16 : Ref sig .tc := ⟨.hbm, 124, rfl⟩
abbrev main_v101 : Ref sig .tc := ⟨.hbm, 125, rfl⟩
abbrev main_v102 : Ref sig .tc := ⟨.hbm, 126, rfl⟩
abbrev main_cst_17 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩

abbrev nD : Nat := 1
abbrev τ : Topo := Topo.v7x

variable {F : FTy → Type} [FloatOps F]
-- ==== Kernel19.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference19Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel20.lean ====
abbrev S4096x5632 : Shape := ⟨2, ![4096, 5632]⟩
abbrev S1x64 : Shape := ⟨2, ![1, 64]⟩
abbrev S4x4 : Shape := ⟨2, ![4, 4]⟩
abbrev S4x512x256 : Shape := ⟨3, ![4, 512, 256]⟩
abbrev S4x4x128 : Shape := ⟨3, ![4, 4, 128]⟩
abbrev S4x512 : Shape := ⟨2, ![4, 512]⟩
abbrev S4x512x1 : Shape := ⟨3, ![4, 512, 1]⟩
abbrev S1x1x1x64 : Shape := ⟨4, ![1, 1, 1, 64]⟩
abbrev S1x1x4x64 : Shape := ⟨4, ![1, 1, 4, 64]⟩
abbrev S1x256 : Shape := ⟨2, ![1, 256]⟩
abbrev S4096x1024 : Shape := ⟨2, ![4096, 1024]⟩
abbrev S32x4x512x256 : Shape := ⟨4, ![32, 4, 512, 256]⟩
abbrev S32x4x512x1 : Shape := ⟨4, ![32, 4, 512, 1]⟩
abbrev S512x1024 : Shape := ⟨2, ![512, 1024]⟩
abbrev S128x256 : Shape := ⟨2, ![128, 256]⟩
abbrev S512x256 : Shape := ⟨2, ![512, 256]⟩
abbrev S4x4x512x256 : Shape := ⟨4, ![4, 4, 512, 256]⟩
abbrev S4x4x512x1 : Shape := ⟨4, ![4, 4, 512, 1]⟩
abbrev S256x256 : Shape := ⟨2, ![256, 256]⟩
abbrev S640x256 : Shape := ⟨2, ![640, 256]⟩
abbrev S640 : Shape := ⟨1, ![640]⟩
abbrev S640x1 : Shape := ⟨2, ![640, 1]⟩
abbrev S128 : Shape := ⟨1, ![128]⟩
abbrev S128x1 : Shape := ⟨2, ![128, 1]⟩
abbrev S1x512x1 : Shape := ⟨3, ![1, 512, 1]⟩
abbrev S512x1 : Shape := ⟨2, ![512, 1]⟩
abbrev S1x512x256 : Shape := ⟨3, ![1, 512, 256]⟩
abbrev S512 : Shape := ⟨1, ![512]⟩
abbrev S1x1x512x1 : Shape := ⟨4, ![1, 1, 512, 1]⟩
abbrev S1x1x512x256 : Shape := ⟨4, ![1, 1, 512, 256]⟩

abbrev nBuf : Space → Nat
  | .hbm => 17
  | .vmem => 20
  | .smem => 0
  | _ => 0

abbrev bufTy : (tb : Table) → Fin (tcTables nBuf tb) → BufTy
  | .hbm, ⟨0, _⟩ => ⟨S4096x5632, .bf16⟩
  | .hbm, ⟨1, _⟩ => ⟨S1x64, .f32⟩
  | .hbm, ⟨2, _⟩ => ⟨S1x64, .f32⟩
  | .hbm, ⟨3, _⟩ => ⟨S4x4, .f32⟩
  | .hbm, ⟨4, _⟩ => ⟨S4x512x256, .f32⟩
  | .hbm, ⟨5, _⟩ => ⟨S4x4x128, .f32⟩
  | .hbm, ⟨6, _⟩ => ⟨S4x512, .f32⟩
  | .hbm, ⟨7, _⟩ => ⟨S4x512x1, .f32⟩
  | .hbm, ⟨8, _⟩ => ⟨S1x1x1x64, .f32⟩
  | .hbm, ⟨9, _⟩ => ⟨S1x1x4x64, .f32⟩
  | .hbm, ⟨10, _⟩ => ⟨S1x256, .f32⟩
  | .hbm, ⟨11, _⟩ => ⟨S1x1x1x64, .f32⟩
  | .hbm, ⟨12, _⟩ => ⟨S1x1x4x64, .f32⟩
  | .hbm, ⟨13, _⟩ => ⟨S1x256, .f32⟩
  | .hbm, ⟨14, _⟩ => ⟨S4096x1024, .bf16⟩
  | .hbm, ⟨15, _⟩ => ⟨S32x4x512x256, .bf16⟩
  | .hbm, ⟨16, _⟩ => ⟨S32x4x512x1, .f32⟩
  | .local _ .vmem, ⟨0, _⟩ => ⟨S512x1024, .bf16⟩
  | .local _ .vmem, ⟨1, _⟩ => ⟨S512x1024, .bf16⟩
  | .local _ .vmem, ⟨2, _⟩ => ⟨S128x256, .bf16⟩
  | .local _ .vmem, ⟨3, _⟩ => ⟨S128x256, .bf16⟩
  | .local _ .vmem, ⟨4, _⟩ => ⟨S512x256, .bf16⟩
  | .local _ .vmem, ⟨5, _⟩ => ⟨S512x256, .bf16⟩
  | .local _ .vmem, ⟨6, _⟩ => ⟨S128x256, .bf16⟩
  | .local _ .vmem, ⟨7, _⟩ => ⟨S128x256, .bf16⟩
  | .local _ .vmem, ⟨8, _⟩ => ⟨S512x256, .bf16⟩
  | .local _ .vmem, ⟨9, _⟩ => ⟨S512x256, .bf16⟩
  | .local _ .vmem, ⟨10, _⟩ => ⟨S1x256, .f32⟩
  | .local _ .vmem, ⟨11, _⟩ => ⟨S1x256, .f32⟩
  | .local _ .vmem, ⟨12, _⟩ => ⟨S4x512x1, .f32⟩
  | .local _ .vmem, ⟨13, _⟩ => ⟨S4x512x256, .f32⟩
  | .local _ .vmem, ⟨14, _⟩ => ⟨S512x1024, .bf16⟩
  | .local _ .vmem, ⟨15, _⟩ => ⟨S512x1024, .bf16⟩
  | .local _ .vmem, ⟨16, _⟩ => ⟨S4x4x512x256, .bf16⟩
  | .local _ .vmem, ⟨17, _⟩ => ⟨S4x4x512x256, .bf16⟩
  | .local _ .vmem, ⟨18, _⟩ => ⟨S4x4x512x1, .f32⟩
  | .local _ .vmem, ⟨19, _⟩ => ⟨S4x4x512x1, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let c0_i32_0 : BitVec 32 := 0#32
  ![v2.toNat, c12_i32.toNat]

def cc0_transform_2 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c13_i32 : BitVec 32 := 13#32
  let c0_i32_0 : BitVec 32 := 0#32
  ![v2.toNat, c13_i32.toNat]

def cc0_transform_4 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x4x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x4x512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference20Ideal.lean ====
abbrev S4096x5632 : Shape := ⟨2, ![4096, 5632]⟩
abbrev S1x64 : Shape := ⟨2, ![1, 64]⟩
abbrev S4x4 : Shape := ⟨2, ![4, 4]⟩
abbrev S4x512x256 : Shape := ⟨3, ![4, 512, 256]⟩
abbrev S4096x1536 : Shape := ⟨2, ![4096, 1536]⟩
abbrev S4096x1024 : Shape := ⟨2, ![4096, 1024]⟩
abbrev S4096x256 : Shape := ⟨2, ![4096, 256]⟩
abbrev S32x128x4x4x64 : Shape := ⟨5, ![32, 128, 4, 4, 64]⟩
abbrev S_ : Shape := ⟨0, ![]⟩
abbrev S32x128x4x4 : Shape := ⟨4, ![32, 128, 4, 4]⟩
abbrev S32x128x4x4x1 : Shape := ⟨5, ![32, 128, 4, 4, 1]⟩
abbrev S1x1x1x1x64 : Shape := ⟨5, ![1, 1, 1, 1, 64]⟩
abbrev S4096x4x64 : Shape := ⟨3, ![4096, 4, 64]⟩
abbrev S4096x4 : Shape := ⟨2, ![4096, 4]⟩
abbrev S4096x4x1 : Shape := ⟨3, ![4096, 4, 1]⟩
abbrev S1x1x64 : Shape := ⟨3, ![1, 1, 64]⟩
abbrev S32x128x4x64 : Shape := ⟨4, ![32, 128, 4, 64]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S4x4x128x256 : Shape := ⟨4, ![4, 4, 128, 256]⟩
abbrev S1x4x4x128x256 : Shape := ⟨5, ![1, 4, 4, 128, 256]⟩
abbrev S32 : Shape := ⟨1, ![32]⟩
abbrev S32x1 : Shape := ⟨2, ![32, 1]⟩
abbrev S256 : Shape := ⟨1, ![256]⟩
abbrev S1x256 : Shape := ⟨2, ![1, 256]⟩
abbrev S32x256 : Shape := ⟨2, ![32, 256]⟩
abbrev S32x1x1x1x256 : Shape := ⟨5, ![32, 1, 1, 1, 256]⟩
abbrev S1x4x4x1x1 : Shape := ⟨5, ![1, 4, 4, 1, 1]⟩
abbrev S32x4x4x128 : Shape := ⟨4, ![32, 4, 4, 128]⟩
abbrev S32x4x4x128x1 : Shape := ⟨5, ![32, 4, 4, 128, 1]⟩
abbrev S32x4x64x4x128 : Shape := ⟨5, ![32, 4, 64, 4, 128]⟩
abbrev S32x4x512x256 : Shape := ⟨4, ![32, 4, 512, 256]⟩
abbrev S32x4x512x1 : Shape := ⟨4, ![32, 4, 512, 1]⟩

abbrev nBuf : Space → Nat
  | .hbm => 116
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1x64, .f32⟩
  | .hbm, ⟨2, _⟩ => ⟨S1x64, .f32⟩
  | .hbm, ⟨3, _⟩ => ⟨S4x4, .f32⟩
  | .hbm, ⟨4, _⟩ => ⟨S4x512x256, .f32⟩
  | .hbm, ⟨5, _⟩ => ⟨S4096x5632, .f32⟩
  | .hbm, ⟨6, _⟩ => ⟨S4096x1536, .f32⟩
  | .hbm, ⟨7, _⟩ => ⟨S4096x1024, .f32⟩
  | .hbm, ⟨8, _⟩ => ⟨S4096x256, .f32⟩
  | .hbm, ⟨9, _⟩ => ⟨S4096x256, .f32⟩
  | .hbm, ⟨10, _⟩ => ⟨S32x128x4x4x64, .f32⟩
  | .hbm, ⟨11, _⟩ => ⟨S32x128x4x4x64, .f32⟩
  | .hbm, ⟨12, _⟩ => ⟨S_, .f32⟩
  | .hbm, ⟨13, _⟩ => ⟨S32x128x4x4, .f32⟩
  | .hbm, ⟨14, _⟩ => ⟨S32x128x4x4x1, .f32⟩
  | .hbm, ⟨15, _⟩ => ⟨S_, .f32⟩
  | .hbm, ⟨16, _⟩ => ⟨S32x128x4x4x1, .f32⟩
  | .hbm, ⟨17, _⟩ => ⟨S32x128x4x4x1, .f32⟩
  | .hbm, ⟨18, _⟩ => ⟨S_, .f32⟩
  | .hbm, ⟨19, _⟩ => ⟨S32x128x4x4x1, .f32⟩
  | .hbm, ⟨20, _⟩ => ⟨S32x128x4x4x1, .f32⟩
  | .hbm, ⟨21, _⟩ => ⟨S32x128x4x4x1, .f32⟩
  | .hbm, ⟨22, _⟩ => ⟨S32x128x4x4x64, .f32⟩
  | .hbm, ⟨23, _⟩ => ⟨S32x128x4x4x64, .f32⟩
  | .hbm, ⟨24, _⟩ => ⟨S1x1x1x1x64, .f32⟩
  | .hbm, ⟨25, _⟩ => ⟨S32x128x4x4x64, .f32⟩
  | .hbm, ⟨26, _⟩ => ⟨S32x128x4x4x64, .f32⟩
  | .hbm, ⟨27, _⟩ => ⟨S4096x4x64, .f32⟩
  | .hbm, ⟨28, _⟩ => ⟨S4096x4x64, .f32⟩
  | .hbm, ⟨29, _⟩ => ⟨S_, .f32⟩
  | .hbm, ⟨30, _⟩ => ⟨S4096x4, .f32⟩
  | .hbm, ⟨31, _⟩ => ⟨S4096x4x1, .f32⟩
  | .hbm, ⟨32, _⟩ => ⟨S_, .f32⟩
  | .hbm, ⟨33, _⟩ => ⟨S4096x4x1, .f32⟩
  | .hbm, ⟨34, _⟩ => ⟨S4096x4x1, .f32⟩
  | .hbm, ⟨35, _⟩ => ⟨S_, .f32⟩
  | .hbm, ⟨36, _⟩ => ⟨S4096x4x1, .f32⟩
  | .hbm, ⟨37, _⟩ => ⟨S4096x4x1, .f32⟩
  | .hbm, ⟨38, _⟩ => ⟨S4096x4x1, .f32⟩
  | .hbm, ⟨39, _⟩ => ⟨S4096x4x64, .f32⟩
  | .hbm, ⟨40, _⟩ => ⟨S4096x4x64, .f32⟩
  | .hbm, ⟨41, _⟩ => ⟨S1x1x64, .f32⟩
  | .hbm, ⟨42, _⟩ => ⟨S4096x4x64, .f32⟩
  | .hbm, ⟨43, _⟩ => ⟨S4096x4x64, .f32⟩
  | .hbm, ⟨44, _⟩ => ⟨S4096x256, .f32⟩
  | .hbm, ⟨45, _⟩ => ⟨S32x128x4x64, .f32⟩
  | .hbm, ⟨46, _⟩ => ⟨S1x128x4x64, .f32⟩
  | .hbm, ⟨47, _⟩ => ⟨S_, .f32⟩
  | .hbm, ⟨48, _⟩ => ⟨S1x128x4x64, .f32⟩
  | .hbm, ⟨49, _⟩ => ⟨S31x128x4x64, .f32⟩
  | .hbm, ⟨50, _⟩ => ⟨S32x128x4x64, .f32⟩
  | .hbm, ⟨51, _⟩ => ⟨S32x256x4x64, .f32⟩
  | .hbm, ⟨52, _⟩ => ⟨S32x4x256x128x4, .f32⟩
  | .hbm, ⟨53, _⟩ => ⟨S32x4x4x128x256, .f32⟩
  | .hbm, ⟨54, _⟩ => ⟨S_, .f32⟩
  | .hbm, ⟨55, _⟩ => ⟨S32x4x4x128x256, .f32⟩
  | .hbm, ⟨56, _⟩ => ⟨S32x4x4x128x256, .f32⟩
  | .hbm, ⟨57, _⟩ => ⟨S4x4x128x256, .f32⟩
  | .hbm, ⟨58, _⟩ => ⟨S1x4x4x128x256, .f32⟩
  | .hbm, ⟨59, _⟩ => ⟨S32x4x4x128x256, .f32⟩
  | .hbm, ⟨60, _⟩ => ⟨S32x4x4x128x256, .f32⟩
  | .hbm, ⟨61, _⟩ => ⟨S32, .i32⟩
  | .hbm, ⟨62, _⟩ => ⟨S32x1, .i32⟩
  | .hbm, ⟨63, _⟩ => ⟨S_, .i32⟩
  | .hbm, ⟨64, _⟩ => ⟨S32x1, .i32⟩
  | .hbm, ⟨65, _⟩ => ⟨S32x1, .i1⟩
  | .hbm, ⟨66, _⟩ => ⟨S256, .i32⟩
  | .hbm, ⟨67, _⟩ => ⟨S1x256, .i32⟩
  | .hbm, ⟨68, _⟩ => ⟨S_, .i32⟩
  | .hbm, ⟨69, _⟩ => ⟨S1x256, .i32⟩
  | .hbm, ⟨70, _⟩ => ⟨S1x256, .i1⟩
  | .hbm, ⟨71, _⟩ => ⟨S32x256, .i1⟩
  | .hbm, ⟨72, _⟩ => ⟨S32x256, .i1⟩
  | .hbm, ⟨73, _⟩ => ⟨S32x256, .i1⟩
  | .hbm, ⟨74, _⟩ => ⟨S32x1x1x1x256, .i1⟩
  | .hbm, ⟨75, _⟩ => ⟨S_, .f32⟩
  | .hbm, ⟨76, _⟩ => ⟨S_, .f32⟩
  | .hbm, ⟨77, _⟩ => ⟨S32x4x4x128x256, .i1⟩
  | .hbm, ⟨78, _⟩ => ⟨S32x4x4x128x256, .f32⟩
  | .hbm, ⟨79, _⟩ => ⟨S32x4x4x128x256, .f32⟩
  | .hbm, ⟨80, _⟩ => ⟨S1x4x4x1x1, .f32⟩
  | .hbm, ⟨81, _⟩ => ⟨S_, .f32⟩
  | .hbm, ⟨82, _⟩ => ⟨S32x4x4x128, .f32⟩
  | .hbm, ⟨83, _⟩ => ⟨S32x4x4x128x1, .f32⟩
  | .hbm, ⟨84, _⟩ => ⟨S32x4x4x128x1, .f32⟩
  | .hbm, ⟨85, _⟩ => ⟨S32x4x4x128x1, .f32⟩
  | .hbm, ⟨86, _⟩ => ⟨S32x4x4x128x256, .f32⟩
  | .hbm, ⟨87, _⟩ => ⟨S32x4x4x128x256, .f32⟩
  | .hbm, ⟨88, _⟩ => ⟨S32x4x4x128x256, .f32⟩
  | .hbm, ⟨89, _⟩ => ⟨S_, .f32⟩
  | .hbm, ⟨90, _⟩ => ⟨S32x4x4x128, .f32⟩
  | .hbm, ⟨91, _⟩ => ⟨S32x4x4x128x1, .f32⟩
  | .hbm, ⟨92, _⟩ => ⟨S32x4x4x128x1, .f32⟩
  | .hbm, ⟨93, _⟩ => ⟨S32x4x4x128x1, .f32⟩
  | .hbm, ⟨94, _⟩ => ⟨S32x4x4x128x1, .f32⟩
  | .hbm, ⟨95, _⟩ => ⟨S32x4x4x128x1, .f32⟩
  | .hbm, ⟨96, _⟩ => ⟨S32x4x4x128x256, .f32⟩
  | .hbm, ⟨97, _⟩ => ⟨S32x4x4x128x256, .f32⟩
  | .hbm, ⟨98, _⟩ => ⟨S32x128x4x64, .f32⟩
  | .hbm, ⟨99, _⟩ => ⟨S1x128x4x64, .f32⟩
  | .hbm, ⟨100, _⟩ => ⟨S_, .f32⟩
  | .hbm, ⟨101, _⟩ => ⟨S1x128x4x64, .f32⟩
  | .hbm, ⟨102, _⟩ => ⟨S31x128x4x64, .f32⟩
  | .hbm, ⟨103, _⟩ => ⟨S32x128x4x64, .f32⟩
  | .hbm, ⟨104, _⟩ => ⟨S32x256x4x64, .f32⟩
  | .hbm, ⟨105, _⟩ => ⟨S32x4x64x4x128, .f32⟩
  | .hbm, ⟨106, _⟩ => ⟨S32x128x4x4x64, .f32⟩
  | .hbm, ⟨107, _⟩ => ⟨S4096x1024, .f32⟩
  | .hbm, ⟨108, _⟩ => ⟨S4096x1024, .bf16⟩
  | .hbm, ⟨109, _⟩ => ⟨S32x4x512x256, .f32⟩
  | .hbm, ⟨110, _⟩ => ⟨S32x4x512x256, .bf16⟩
  | .hbm, ⟨111, _⟩ => ⟨S32x4x4x128x1, .f32⟩
  | .hbm, ⟨112, _⟩ => ⟨S32x4x4x128x1, .f32⟩
  | .hbm, ⟨113, _⟩ => ⟨S32x4x4x128x1, .f32⟩
  | .hbm, ⟨114, _⟩ => ⟨S32x4x4x128x1, .f32⟩
  | .hbm, ⟨115, _⟩ => ⟨S32x4x512x1, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_8 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_v60 : Ref sig .tc := ⟨.hbm, 79, rfl⟩
abbrev main_v61 : Ref sig .tc := ⟨.hbm, 80, rfl⟩
abbrev main_cst_9 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_10 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_11 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩

abbrev nD : Nat := 1
abbrev τ : Topo := Topo.v7x

variable {F : FTy → Type} [FloatOps F]
-- ==== Proof.Shared.Coords.lean ====
/-
  Indices of matrices and of stacks of matrices from their coordinates, and a matrix read at natural numbers.
-/
module

public import Idealize.ShloMosaic.Lib.Pointwise

@[expose] public section

noncomputable section

open Idealize.ShloMosaic

namespace Cert.Coords

/-- The index of a matrix with the given row and column. -/
theorem eq_of_coords2 {a b : ℕ} (i : (⟨2, ![a, b]⟩ : Shape).Idx) (x : Fin a) (y : Fin b)
    (h0 : (i 0).val = x.val) (h1 : (i 1).val = y.val) : i = ix2 x y := by
  funext d
  apply Fin.ext
  match d with
  | ⟨0, _⟩ => exact h0
  | ⟨1, _⟩ => exact h1

/-- The index of a stack of matrices with the given coordinates. -/
theorem eq_of_coords {a b c : ℕ} (i : (⟨3, ![a, b, c]⟩ : Shape).Idx) (x : Fin a) (y : Fin b) (z : Fin c)
    (h0 : (i 0).val = x.val) (h1 : (i 1).val = y.val) (h2 : (i 2).val = z.val) : i = ix3 x y z := by
  funext d
  apply Fin.ext
  match d with
  | ⟨0, _⟩ => exact h0
  | ⟨1, _⟩ => exact h1
  | ⟨2, _⟩ => exact h2

/-- The index of a stack of stacks of matrices with the given coordinates. -/
theorem eq_of_coords4 {a b c d : ℕ} (i : (⟨4, ![a, b, c, d]⟩ : Shape).Idx) (x : Fin a) (y : Fin b) (z : Fin c) (w : Fin d)
    (h0 : (i 0).val = x.val) (h1 : (i 1).val = y.val) (h2 : (i 2).val = z.val) (h3 : (i 3).val = w.val) : i = ix4 x y z w := by
  funext e
  apply Fin.ext
  match e with
  | ⟨0, _⟩ => exact h0
  | ⟨1, _⟩ => exact h1
  | ⟨2, _⟩ => exact h2
  | ⟨3, _⟩ => exact h3

/-- A matrix read at a row and a column given as natural numbers, zero outside. -/
def at2 {a b : ℕ} (X : (⟨2, ![a, b]⟩ : Shape).Idx → EReal) (i j : ℕ) : EReal :=
  if h : i < a ∧ j < b then X (ix2 ⟨i, h.1⟩ ⟨j, h.2⟩) else 0

theorem at2_of_coords {a b : ℕ} (X : (⟨2, ![a, b]⟩ : Shape).Idx → EReal) (i j : ℕ) (x : (⟨2, ![a, b]⟩ : Shape).Idx)
    (h0 : (x 0).val = i) (h1 : (x 1).val = j) : at2 X i j = X x := by
  have hi : i < a := h0 ▸ (x 0).isLt
  have hj : j < b := h1 ▸ (x 1).isLt
  rw [at2, dif_pos ⟨hi, hj⟩]
  exact congrArg X (eq_of_coords2 x ⟨i, hi⟩ ⟨j, hj⟩ h0 h1).symm

theorem at2_eq {a b : ℕ} (X : (⟨2, ![a, b]⟩ : Shape).Idx → EReal) (x : Fin a) (y : Fin b) : at2 X x.val y.val = X (ix2 x y) :=
  at2_of_coords X _ _ _ rfl rfl

theorem at2_out {a b : ℕ} (X : (⟨2, ![a, b]⟩ : Shape).Idx → EReal) (i j : ℕ) (h : a ≤ i) : at2 X i j = 0 :=
  dif_neg fun hh => absurd hh.1 (Nat.not_lt.mpr h)

end Cert.Coords
-- ==== Proof.Conv.Taps.lean ====
/-
  The 31 weighted rows that the kernel adds up for a square of 128 rows and 128 lanes. The taps are grouped by the
  remainder of their shift modulo 8: the groups of remainder 6 to 0 hold four taps each, that of remainder 7 three. Read
  at an entry, the square is the sum of the taps in order.
-/
module

public import proofs.«01_k».proof.Defs
public import proofs.«01_k».proof.Proof.Gen.KernelIdeal.Value
public import proofs.«01_k».proof.Proof.Shared.Coords
public import Idealize.ShloMosaic.Lib.Pointwise
public import Idealize.ShloMosaic.Lib.Pipeline.ValueKit

@[expose] public section

set_option maxRecDepth 16384

noncomputable section

open Idealize.ShloMosaic Idealize.ShloMosaic.Tactic
open Cert.Coords

namespace Cert.Conv.Taps

open Cert.KernelIdeal Cert.KernelIdeal.Gen

/-- One more tap: the accumulator plus a weight, spread over the rows, times 128 rows of a window from row `k`. -/
def tap {n : ℕ} (k : ℕ) (w : FVec Ideal S1x128 .f32) (win : FVec Ideal ⟨2, ![n, 128]⟩ .f32) (acc : FVec Ideal S128x128 .f32)
    (h : (⟨2, ![n, 128]⟩ : Shape).Slices ![k, 0] S128x128) : FVec Ideal S128x128 .f32 :=
  addf acc (mulf (broadcastTo S128x128 w broadcasts_S1x128_S128x128) (extractStridedSlice S128x128 ![k, 0] win h))

theorem tap_entry {n : ℕ} (k : ℕ) (w : FVec Ideal S1x128 .f32) (win : FVec Ideal ⟨2, ![n, 128]⟩ .f32) (acc : FVec Ideal S128x128 .f32)
    (h : (⟨2, ![n, 128]⟩ : Shape).Slices ![k, 0] S128x128) (r l : Fin 128) :
    tap k w win acc h (ix2 r l) = acc (ix2 r l) + w (ix2 0 l) * at2 win (k + r.val) l.val := by
  pointwise [tap]
  refine congrArg (fun z => acc (ix2 r l) + w (ix2 0 l) * z) ?_
  refine (at2_of_coords win _ _ _ ?_ ?_).symm
  · rfl
  · exact Nat.zero_add _

section Square

variable (dw : Vec Ideal S32x1024 .f32) (Z : Vec Ideal S288x1024 .f32) (r0 o : ℕ) (hr : r0 ≤ 128) (ho : o ≤ 896)

/-- Window of `n` rows from row `p` and of the lanes from lane `o`. -/
def rows (n p : ℕ) (hp : p + n ≤ 288) : FVec Ideal ⟨2, ![n, 128]⟩ .f32 :=
  View.ld (Val := Elt Ideal) (e' := .f32) Z (Rect.unit (s := S288x1024) ![p, o] ![n, 128] fun a => by
    match a with
    | ⟨0, _⟩ => exact hp
    | ⟨1, _⟩ => exact (Nat.add_le_add_right ho 128 : o + 128 ≤ 896 + 128))

theorem rows_entry (n p : ℕ) (hp : p + n ≤ 288) (i l : ℕ) (hi : i < n) (hl : l < 128) :
    at2 (rows Z o ho n p hp) i l = at2 Z (p + i) (o + l) := by
  rw [at2, dif_pos ⟨hi, hl⟩]
  refine (View.ld_unit_apply_of Z _ _ _ _ (ix2 ⟨p + i, by omega⟩ ⟨o + l, by omega⟩) fun a => ?_).trans
    (at2_of_coords Z _ _ _ rfl rfl).symm
  match a with
  | ⟨0, _⟩ => rfl
  | ⟨1, _⟩ => rfl

/-- The weights of tap `j` in the lanes from lane `o`. -/
def weight (j : ℕ) (hj : j < 32) : FVec Ideal S1x128 .f32 :=
  shapeCast S1x128 (View.ld (Val := Elt Ideal) (e' := .f32) dw (Rect.unit (s := S32x1024) ![j, o] S1x128.size fun a => by
    match a with
    | ⟨0, _⟩ => exact hj
    | ⟨1, _⟩ => exact (Nat.add_le_add_right ho 128 : o + 128 ≤ 896 + 128))) shapeCasts_S1x128_S1x128

theorem weight_entry (j : ℕ) (hj : j < 32) (l : Fin 128) : weight dw o ho j hj (ix2 0 l) = at2 dw j (o + l.val) := by
  pointwise [weight]
  exact (at2_of_coords dw _ _ _ rfl rfl).symm

/-- The four taps of remainder `q`, deepest first. -/
def deep (q : ℕ) (hq : q ≤ 6) (acc : FVec Ideal S128x128 .f32) : FVec Ideal S128x128 .f32 :=
  tap 0 (weight dw o ho (30 - q) (by omega)) (rows Z o ho 152 (r0 + q) (by omega))
    (tap 8 (weight dw o ho (22 - q) (by omega)) (rows Z o ho 152 (r0 + q) (by omega))
      (tap 16 (weight dw o ho (14 - q) (by omega)) (rows Z o ho 152 (r0 + q) (by omega))
        (tap 24 (weight dw o ho (6 - q) (by omega)) (rows Z o ho 152 (r0 + q) (by omega)) acc slices_S152x128_o24_0_S128x128)
        slices_S152x128_o16_0_S128x128) slices_S152x128_o8_0_S128x128) slices_S152x128_o0_0_S128x128

/-- The three taps of remainder 7. -/
def shallow (acc : FVec Ideal S128x128 .f32) : FVec Ideal S128x128 .f32 :=
  tap 0 (weight dw o ho 23 (by omega)) (rows Z o ho 144 (r0 + 7) (by omega))
    (tap 8 (weight dw o ho 15 (by omega)) (rows Z o ho 144 (r0 + 7) (by omega))
      (tap 16 (weight dw o ho 7 (by omega)) (rows Z o ho 144 (r0 + 7) (by omega)) acc slices_S144x128_o16_0_S128x128)
      slices_S144x128_o8_0_S128x128) slices_S144x128_o0_0_S128x128

/-- The whole square. -/
def square : FVec Ideal S128x128 .f32 :=
  shapeCast S128x128 (shallow dw Z r0 o hr ho (deep dw Z r0 o hr ho 0 (by omega) (deep dw Z r0 o hr ho 1 (by omega) (deep dw Z r0 o hr ho 2 (by omega)
    (deep dw Z r0 o hr ho 3 (by omega) (deep dw Z r0 o hr ho 4 (by omega) (deep dw Z r0 o hr ho 5 (by omega)
      (deep dw Z r0 o hr ho 6 (by omega) (broadcast S128x128 (Scalar.ofBits (F := Ideal) .f32 0x00000000#32))))))))))
    shapeCasts_S128x128_S128x128

/-- Tap `j` at row `r` of the square and lane `l`: the weight times the row that lies `30 - j` below. -/
def term (r l : ℕ) (j : ℕ) : EReal := at2 dw j (o + l) * at2 Z (r0 + r + (30 - j)) (o + l)

theorem deep_entry (q : ℕ) (hq : q ≤ 6) (acc : FVec Ideal S128x128 .f32) (r l : Fin 128) :
    deep dw Z r0 o hr ho q hq acc (ix2 r l) = acc (ix2 r l) + term dw Z r0 o r l (6 - q) + term dw Z r0 o r l (14 - q)
      + term dw Z r0 o r l (22 - q) + term dw Z r0 o r l (30 - q) := by
  have hl := l.isLt
  have hr' := r.isLt
  unfold deep term
  simp only [tap_entry, weight_entry]
  rw [rows_entry _ _ _ _ _ _ _ _ (by omega) hl, rows_entry _ _ _ _ _ _ _ _ (by omega) hl, rows_entry _ _ _ _ _ _ _ _ (by omega) hl,
    rows_entry _ _ _ _ _ _ _ _ (by omega) hl, show r0 + q + (24 + r.val) = r0 + r.val + (30 - (6 - q)) by omega,
    show r0 + q + (16 + r.val) = r0 + r.val + (30 - (14 - q)) by omega, show r0 + q + (8 + r.val) = r0 + r.val + (30 - (22 - q)) by omega,
    show r0 + q + (0 + r.val) = r0 + r.val + (30 - (30 - q)) by omega]

theorem shallow_entry (acc : FVec Ideal S128x128 .f32) (r l : Fin 128) :
    shallow dw Z r0 o hr ho acc (ix2 r l) = acc (ix2 r l) + term dw Z r0 o r l 7 + term dw Z r0 o r l 15 + term dw Z r0 o r l 23 := by
  have hl := l.isLt
  have hr' := r.isLt
  unfold shallow term
  simp only [tap_entry, weight_entry]
  rw [rows_entry _ _ _ _ _ _ _ _ (by omega) hl, rows_entry _ _ _ _ _ _ _ _ (by omega) hl, rows_entry _ _ _ _ _ _ _ _ (by omega) hl,
    show r0 + 7 + (16 + r.val) = r0 + r.val + (30 - 7) by omega,
    show r0 + 7 + (8 + r.val) = r0 + r.val + (30 - 15) by omega, show r0 + 7 + (0 + r.val) = r0 + r.val + (30 - 23) by omega]

/-- The square at an entry is the sum of all 31 taps. -/
theorem square_entry (r l : Fin 128) :
    square dw Z r0 o hr ho (ix2 r l) = ∑ j : Fin 31, term dw Z r0 o r l j.val := by
  pointwise [square]
  simp only [shallow_entry, deep_entry]
  simp only [show ∀ z : EReal, broadcast S128x128 z (ix2 r l) = z from fun _ => rfl]
  generalize term dw Z r0 o r l = f
  simp only [Fin.sum_univ_succ, Fin.sum_univ_zero]
  simp
  abel

/-- A square's value at an entry of the whole block, at the row and the lane that the square's place gives. -/
theorem square_at (P : FVec Ideal S128x128 .f32) (hP : P = square dw Z r0 o hr ho) (x : S128x128.Idx) (r : Fin 256) (l : Fin 1024)
    (h0 : r.val = r0 + (x 0).val) (h1 : l.val = o + (x 1).val) :
    P x = ∑ j : Fin 31, at2 dw j.val l.val * at2 Z (r.val + (30 - j.val)) l.val := by
  rw [hP, eq_of_coords2 x (x 0) (x 1) rfl rfl, h0, h1]
  exact square_entry dw Z r0 o hr ho (x 0) (x 1)

end Square
end Cert.Conv.Taps
-- ==== Proof.Conv.Tile.lean ====
/-
  One tile of the mixer's gradient: what the kernel stores at an index of its output block, from the tile's own input
  blocks. The taps read a scratch of the tile's rows and the first rows below; the gate's two halves read their sums.
-/
module

public import proofs.«01_k».proof.Defs
public import proofs.«01_k».proof.Proof.Gen.KernelIdeal.Value
public import proofs.«01_k».proof.Proof.Gen.ReferenceIdeal.Run
public import proofs.«01_k».proof.Proof.Conv.Taps
public import Idealize.ShloMosaic.Lib.Pipeline.Value
public import Idealize.ShloMosaic.Lib.Pointwise
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem Idealize.ShloMosaic.Tactic
open Idealize.ShloMosaic.Pipeline (Dat Window)

open Cert.Coords

namespace Cert.Conv.Tile

section Kernel

open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- A load of a scratch that the stores before it fill, as a load of what they leave. -/
theorem readCov_eq_ld {sig : RefSig} {κ : Kind} {sp : Space} {S : Shape} {e : EltTy} (v : View sig κ sp S e)
    (L : List (View.Piece (Elt Ideal) S e)) (r : Rect S) : v.readCov L r.toLoadRect = View.ld (View.canon L) r :=
  View.readCov_eq_canon' v L r.toLoadRect

/-- The gate's sigmoid. -/
def sigm (z : EReal) : EReal := Ideal.div 1 (1 + Ideal.exp (0 - z))

/-- The choice between the rows below and zeros, by whether the tile is the last. -/
theorem pick {α : Type} (n : ℕ) (hn : n < 16) (a b : α) :
    Scalar.select (Scalar.cmpi .slt (BitVec.ofNat 32 n) 15#32) a b = if n < 15 then a else b := by
  interval_cases n <;> rfl

/-- The rows that the taps read: the tile's own, then the first 32 rows of the tile below, zeros below the last tile. -/
def halo (n : ℕ) (x2 : Vec Ideal S256x1024 .f32) (x3 : Vec Ideal S32x1024 .f32) (k l : ℕ) : EReal :=
  if k < 256 then at2 x2 k l else if n < 15 then at2 x3 (k - 256) l else 0

/-- The two stores into the first scratch leave those rows. -/
theorem halo_eq (i : grid0.Coords) (x2 : Vec Ideal S256x1024 .f32) (x3 : Vec Ideal S32x1024 .f32) (k l : ℕ) (hk : k < 288) (hl : l < 1024) :
    at2 (View.canon (Val := Elt Ideal) (e := .f32) (s := S288x1024)
      [⟨Rect.unit ![256, 0] S32x1024.size inb_S288x1024_S32x1024_256_0, k0_pay9 (BitVec.ofNat 32 (i 0).val) x3⟩,
        ⟨Rect.unit ![0, 0] S256x1024.size inb_S288x1024_S256x1024_0_0, k0_pay8 x2⟩]) k l = halo (i 0).val x2 x3 k l := by
  have hi : (i 0).val < 16 := (i 0).isLt
  rw [at2, dif_pos ⟨hk, hl⟩]
  have cov := View.cover_of_tiledBy (Val := Elt Ideal) (e := .f32) (s := S288x1024)
    [⟨Rect.unit ![256, 0] S32x1024.size inb_S288x1024_S32x1024_256_0, k0_pay9 (BitVec.ofNat 32 (i 0).val) x3⟩,
      ⟨Rect.unit ![0, 0] S256x1024.size inb_S288x1024_S256x1024_0_0, k0_pay8 x2⟩] ![32, 1024] (by sl_kernel_rfl)
    (ix2 (⟨k, hk⟩ : Fin 288) (⟨l, hl⟩ : Fin 1024))
  canon_tiles x h using cov
  · replace h0 : k = 256 + (x 0).val := h0
    replace h1 : l = (x 1).val := h1
    rw [halo, if_neg (by omega), h0, h1, Nat.add_sub_cancel_left, at2_of_coords x3 _ _ x rfl rfl,
      eq_of_coords2 x (x 0) (x 1) rfl rfl]
    pointwise [k0_pay9]
    rw [pick _ hi]
  · replace h0 : k = (x 0).val := h0
    replace h1 : l = (x 1).val := h1
    rw [halo, if_pos (by omega), h0, h1, at2_of_coords x2 _ _ x rfl rfl, eq_of_coords2 x (x 0) (x 1) rfl rfl]
    pointwise [k0_pay8]

/-- The gradient before the convolution in a tile, read at a row and a lane. -/
def inner (n : ℕ) (x2 : Vec Ideal S256x1024 .f32) (x3 x4 : Vec Ideal S32x1024 .f32) (r l : ℕ) : EReal :=
  ∑ j : Fin 31, at2 x4 j.val l * halo n x2 x3 (r + (30 - j.val)) l

set_option maxHeartbeats 400000 in
theorem tile_entry (c : Dev nD) (i : grid0.Coords) (a1 w1 a2 w2 a3 w3 a4 w4 a5 w5 a6 w6 a7 w7 a8 w8 a9 w9 a10 w10 a11 w11 a12 w12)
    (x0 : Vec Ideal S256x1024 .bf16) (x1 : Vec Ideal S256x1024 .bf16) (x2 : Vec Ideal S256x1024 .f32) (x3 : Vec Ideal S32x1024 .f32) (x4 : Vec Ideal S32x1024 .f32) (x5 : Vec Ideal S256x1024 .bf16) (x6 : Vec Ideal S2x2x128x512 .bf16) (x7 : Vec Ideal S1x1x128x512 .bf16) (x8 : Vec Ideal S2x256x1024 .bf16)
    (y : S256x5632.Idx) (v : EReal)
    (hv0 : ∀ (r : Fin 256) (l : Fin 1024), (y 0).val = r.val → (y 1).val = l.val →
      inner (i 0).val x2 x3 x4 r.val l.val * sigm (x1 (ix2 r l)) = v)
    (hv1 : ∀ (r : Fin 256) (l : Fin 1024), (y 0).val = r.val → (y 1).val = 1024 + l.val →
      inner (i 0).val x2 x3 x4 r.val l.val * x0 (ix2 r l) * sigm (x1 (ix2 r l)) * (1 - sigm (x1 (ix2 r l))) = v)
    (hv2 : ∀ (r : Fin 256) (l : Fin 1024), (y 0).val = r.val → (y 1).val = 2048 + l.val → x5 (ix2 r l) = v)
    (hv3 : ∀ (r : Fin 128) (l : Fin 512), (y 0).val = r.val → (y 1).val = 3072 + l.val →
      x6 (ix4 (0 : Fin 2) (1 : Fin 2) r l) + x6 (ix4 (1 : Fin 2) (0 : Fin 2) r l) = v)
    (hv4 : ∀ (r : Fin 128) (l : Fin 512), (y 0).val = 128 + r.val → (y 1).val = 3072 + l.val →
      x6 (ix4 (1 : Fin 2) (1 : Fin 2) r l) + (if (i 0).val < 15 then x7 (ix4 (0 : Fin 1) (0 : Fin 1) r l) else 0) = v)
    (hv5 : ∀ (r : Fin 256) (l : Fin 1024), (y 0).val = r.val → (y 1).val = 3584 + l.val → x8 (ix3 (0 : Fin 2) r l) = v)
    (hv6 : ∀ (r : Fin 256) (l : Fin 1024), (y 0).val = r.val → (y 1).val = 4608 + l.val → x8 (ix3 (1 : Fin 2) r l) = v) :
    out0_A_9 c i a1 w1 a2 w2 a3 w3 a4 w4 a5 w5 a6 w6 a7 w7 a8 w8 a9 w9 a10 w10 a11 w11 a12 w12 x0 x1 x2 x3 x4 x5 x6 x7 x8 y = v := by
  unfold out0_A_9
  rw [View.read_writes_eq_canon _ _ _ (cover0_A_9 c i a1 w1 a2 w2 a3 w3 a4 w4 a5 w5 a6 w6 a7 w7 a8 w8 a9 w9 a10 w10 a11 w11 a12 w12 x0 x1 x2 x3 x4 x5 x6 x7 x8)]
  have hc := cover0_A_9 c i a1 w1 a2 w2 a3 w3 a4 w4 a5 w5 a6 w6 a7 w7 a8 w8 a9 w9 a10 w10 a11 w11 a12 w12 x0 x1 x2 x3 x4 x5 x6 x7 x8 y
  revert hc
  unfold kernelRun0_A
  dsimp only
  sl_unfold_words
  simp only [readCov_eq_ld, View.readAt_eq_ld, w1.read_unread, w2.read_unread, w3.read_unread, w4.read_unread, w5.read_unread,
    w6.read_unread, w7.read_unread, w8.read_unread, w9.read_unread, View.ld_unit_zero (S := S256x1024) hz, View.ld_unit_zero (S := S32x1024) hz]
  generalize hZ : View.canon (Val := Elt Ideal) (e := .f32) (s := S288x1024) [_, _] = Z
  generalize hZ0 : View.canon (Val := Elt Ideal) (e := .f32) (s := S256x1024) (_ :: _) = Z0
  intro hc
  have key : ∀ (r : Fin 256) (l : Fin 1024), Z0 (ix2 r l) = inner (i 0).val x2 x3 x4 r.val l.val := by
    intro r l
    have hin : inner (i 0).val x2 x3 x4 r.val l.val = ∑ j : Fin 31, at2 x4 j.val l.val * at2 Z (r.val + (30 - j.val)) l.val := by
      refine Finset.sum_congr rfl fun j _ => ?_
      rw [← hZ]
      exact congrArg (at2 x4 j.val l.val * ·) (halo_eq i x2 x3 _ _ (by omega) l.isLt).symm
    rw [hin]
    subst hZ0
    canon_tiles x h
    all_goals
      clear hc
      exact Taps.square_at x4 Z _ _ (by decide) (by decide) _ rfl x r l (by first | exact h0 | exact h0.trans (Nat.zero_add _).symm)
        (by first | exact h1 | exact h1.trans (Nat.zero_add _).symm)
  clear hZ0 hZ
  canon_tiles x h using hc
  all_goals
    clear hc
    rw [eq_of_coords2 x (x 0) (x 1) rfl rfl]
  · refine Eq.trans ?_ (hv1 (x 0) (x 1) h0 h1)
    rw [← key (x 0) (x 1)]
    pointwise [k0_pay3, k0_pay1, k0_pay352, k0_pay353, sigm]
  · refine Eq.trans ?_ (hv0 (x 0) (x 1) h0 h1)
    rw [← key (x 0) (x 1)]
    pointwise [k0_pay2, k0_pay1, k0_pay353, sigm]
  · refine Eq.trans ?_ (hv6 (x 0) (x 1) h0 h1)
    pointwise [k0_pay7]
  · refine Eq.trans ?_ (hv5 (x 0) (x 1) h0 h1)
    pointwise [k0_pay6]
  · refine Eq.trans ?_ (hv4 (x 0) (x 1) h0 h1)
    pointwise [k0_pay5]
    rw [pick _ (i 0).isLt]
  · refine Eq.trans ?_ (hv3 (x 0) (x 1) h0 h1)
    pointwise [k0_pay4]
  · refine Eq.trans ?_ (hv2 (x 0) (x 1) h0 h1)
    pointwise []

end Kernel
end Cert.Conv.Tile
-- ==== Proof.Conv.Glu.lean ====
/-
  The gradient of the mixer's input projection, as the kernel writes it: the gate's two halves through the reversed
  convolution, then the gradients of the queries, of the keys and values, and of the two blocks of gates, side by side.
-/
module

public import proofs.«01_k».proof.Proof.Conv.Tile

@[expose] public section

set_option maxRecDepth 16384

noncomputable section

open Idealize.ShloMosaic Idealize.ShloMosaic.TcCoe Idealize.SL.Sem Idealize.ShloMosaic.Tactic
open Idealize.ShloMosaic.Pipeline (Dat Window)

open Cert.Coords Cert.Conv.Tile

namespace Cert.Conv.Glu

section Kernel

open Cert.KernelIdeal Cert.KernelIdeal.Gen

variable (m : (ℓ : Loc nD τ sig) → Buf (Elt Ideal) ℓ)

/-- The projection, the gradient after the convolution, the taps, and the gradients of the queries, keys and values, gates. -/
abbrev proj (c : Dev nD) : FVec Ideal S4096x5632 .bf16 := m ((c : Thread nD τ).loc main_arg0)
abbrev grad (c : Dev nD) : FVec Ideal S4096x1024 .f32 := m ((c : Thread nD τ).loc main_arg1)
abbrev taps (c : Dev nD) : FVec Ideal S31x1024 .f32 := m ((c : Thread nD τ).loc main_arg2)
abbrev queries (c : Dev nD) : FVec Ideal S4096x1024 .bf16 := m ((c : Thread nD τ).loc main_arg3)
abbrev parts (c : Dev nD) : FVec Ideal S32x2x128x512 .bf16 := m ((c : Thread nD τ).loc main_arg4)
abbrev gates (c : Dev nD) : FVec Ideal S2x4096x1024 .bf16 := m ((c : Thread nD τ).loc main_arg5)

theorem where0 : ∀ t : Fin cfg0.N, win0_0.index t 0 = t.val ∧ win0_0.index t 1 = 0 :=
  (by decide +kernel : ∀ t : Fin grid0.N, win0_0.index t 0 = t.val ∧ win0_0.index t 1 = 0)
theorem where1 : ∀ t : Fin cfg0.N, win0_1.index t 0 = t.val ∧ win0_1.index t 1 = 1 :=
  (by decide +kernel : ∀ t : Fin grid0.N, win0_1.index t 0 = t.val ∧ win0_1.index t 1 = 1)
theorem where2 : ∀ t : Fin cfg0.N, win0_2.index t 0 = t.val ∧ win0_2.index t 1 = 0 :=
  (by decide +kernel : ∀ t : Fin grid0.N, win0_2.index t 0 = t.val ∧ win0_2.index t 1 = 0)
theorem where3 : ∀ t : Fin cfg0.N, t.val < 15 → win0_3.index t 0 = (t.val + 1) * 8 ∧ win0_3.index t 1 = 0 :=
  (by decide +kernel : ∀ t : Fin grid0.N, t.val < 15 → win0_3.index t 0 = (t.val + 1) * 8 ∧ win0_3.index t 1 = 0)
theorem where4 : ∀ t : Fin cfg0.N, win0_4.index t 0 = 0 ∧ win0_4.index t 1 = 0 :=
  (by decide +kernel : ∀ t : Fin grid0.N, win0_4.index t 0 = 0 ∧ win0_4.index t 1 = 0)
theorem where5 : ∀ t : Fin cfg0.N, win0_5.index t 0 = t.val ∧ win0_5.index t 1 = 0 :=
  (by decide +kernel : ∀ t : Fin grid0.N, win0_5.index t 0 = t.val ∧ win0_5.index t 1 = 0)
theorem where6 : ∀ t : Fin cfg0.N, win0_6.index t 0 = t.val ∧ win0_6.index t 1 = 0 ∧ win0_6.index t 2 = 0 ∧ win0_6.index t 3 = 0 :=
  (by decide +kernel : ∀ t : Fin grid0.N, win0_6.index t 0 = t.val ∧ win0_6.index t 1 = 0 ∧ win0_6.index t 2 = 0 ∧ win0_6.index t 3 = 0)
theorem where7 : ∀ t : Fin cfg0.N, t.val < 15 → win0_7.index t 0 = 2 * (t.val + 1) ∧ win0_7.index t 1 = 0 ∧ win0_7.index t 2 = 0 ∧ win0_7.index t 3 = 0 :=
  (by decide +kernel : ∀ t : Fin grid0.N, t.val < 15 → win0_7.index t 0 = 2 * (t.val + 1) ∧ win0_7.index t 1 = 0 ∧ win0_7.index t 2 = 0 ∧ win0_7.index t 3 = 0)
theorem where8 : ∀ t : Fin cfg0.N, win0_8.index t 0 = 0 ∧ win0_8.index t 1 = t.val ∧ win0_8.index t 2 = 0 :=
  (by decide +kernel : ∀ t : Fin grid0.N, win0_8.index t 0 = 0 ∧ win0_8.index t 1 = t.val ∧ win0_8.index t 2 = 0)
theorem where9 : ∀ t : Fin cfg0.N, win0_9.index t 0 = t.val ∧ win0_9.index t 1 = 0 :=
  (by decide +kernel : ∀ t : Fin grid0.N, win0_9.index t 0 = t.val ∧ win0_9.index t 1 = 0)
theorem point : ∀ t : Fin cfg0.N, (grid0.coords t 0).val = t.val :=
  (by decide +kernel : ∀ t : Fin grid0.N, (grid0.coords t 0).val = t.val)

section Blocks

variable (c : Dev nD) (t : Fin cfg0.N)

theorem proj_block0 (r : Fin 256) (l : Fin 1024) (r' : Fin 4096) (l' : Fin 5632) (hr : r'.val = t.val * 256 + r.val) (hl : l'.val = l.val) :
    X0_0 m c t (ix2 r l) = proj m c (ix2 r' l') := by
  unfold X0_0 Window.fill
  rw [dif_pos (moved0_0 t _)]
  show V m c main_arg0 ((win0_0.rect t).emb _) = _
  rw [V_main_arg0]
  obtain ⟨h0, h1⟩ := where0 t
  refine congrArg (proj m c) (eq_of_coords2 _ _ _ ((win0_0.rect_emb_val t _ 0).trans ?_) ((win0_0.rect_emb_val t _ 1).trans ?_))
  · rw [h0]; exact hr.symm
  · rw [h1]; exact (Nat.zero_add _).trans hl.symm
theorem proj_block1 (r : Fin 256) (l : Fin 1024) (r' : Fin 4096) (l' : Fin 5632) (hr : r'.val = t.val * 256 + r.val) (hl : l'.val = 1024 + l.val) :
    X0_1 m c t (ix2 r l) = proj m c (ix2 r' l') := by
  unfold X0_1 Window.fill
  rw [dif_pos (moved0_1 t _)]
  show V m c main_arg0 ((win0_1.rect t).emb _) = _
  rw [V_main_arg0]
  obtain ⟨h0, h1⟩ := where1 t
  refine congrArg (proj m c) (eq_of_coords2 _ _ _ ((win0_1.rect_emb_val t _ 0).trans ?_) ((win0_1.rect_emb_val t _ 1).trans ?_))
  · rw [h0]; exact hr.symm
  · rw [h1]; exact hl.symm
theorem grad_block (r : Fin 256) (l : Fin 1024) (r' : Fin 4096) (hr : r'.val = t.val * 256 + r.val) :
    iblk m c 2 t (ix2 r l) = grad m c (ix2 r' l) := by
  show V m c main_arg1 ((win0_2.rect t).emb (ix2 r l)) = _
  rw [V_main_arg1]
  obtain ⟨h0, h1⟩ := where2 t
  refine congrArg (grad m c) (eq_of_coords2 _ _ _ ((win0_2.rect_emb_val t _ 0).trans ?_) (win0_2.rect_emb_val_of_index_zero t 1 h1 _))
  rw [h0]; exact hr.symm
theorem halo_block (ht : t.val < 15) (r : Fin 32) (l : Fin 1024) (r' : Fin 4096) (hr : r'.val = t.val * 256 + 256 + r.val) :
    iblk m c 3 t (ix2 r l) = grad m c (ix2 r' l) := by
  show V m c main_arg1 ((win0_3.rect t).emb (ix2 r l)) = _
  rw [V_main_arg1]
  obtain ⟨h0, h1⟩ := where3 t ht
  refine congrArg (grad m c) (eq_of_coords2 _ _ _ ((win0_3.rect_emb_val t _ 0).trans ?_) (win0_3.rect_emb_val_of_index_zero t 1 h1 _))
  rw [h0, hr]
  show (t.val + 1) * 8 * 32 + r.val = _
  omega
theorem staged_taps (j : Fin 31) (l : Fin 1024) : V m c main_v0 (ix2 (⟨j.val, by omega⟩ : Fin 32) l) = taps m c (ix2 j l) := by
  show StableHlo.after (hostOps0 ++ hostOps0_1) (fun b => m (c, b)) main_v0 _ = _
  simp only [hostOps0, hostOps0_1, List.cons_append, List.nil_append]
  after_results
  show pad S32x1024 ![0, 0] ![1, 0] ![0, 0] (taps m c) (sitofp .f32 (constantI S_ 32 0#32)) pads_S31x1024_S32x1024_010_000 h_S_
    (ix2 (⟨j.val, by omega⟩ : Fin 32) l) = _
  pointwise []
theorem taps_block (j : Fin 31) (l : Fin 1024) :
    iblk m c 4 t (ix2 (⟨j.val, by omega⟩ : Fin 32) l) = taps m c (ix2 j l) := by
  refine Eq.trans ?_ (staged_taps m c j l)
  show V m c main_v0 ((win0_4.rect t).emb (ix2 (⟨j.val, by omega⟩ : Fin 32) l)) = _
  obtain ⟨h0, h1⟩ := where4 t
  exact congrArg (V m c main_v0) (eq_of_coords2 _ _ _ (win0_4.rect_emb_val_of_index_zero t 0 h0 _)
    (win0_4.rect_emb_val_of_index_zero t 1 h1 _))
theorem queries_block (r : Fin 256) (l : Fin 1024) (r' : Fin 4096) (hr : r'.val = t.val * 256 + r.val) :
    iblk m c 5 t (ix2 r l) = queries m c (ix2 r' l) := by
  show V m c main_arg3 ((win0_5.rect t).emb (ix2 r l)) = _
  rw [V_main_arg3]
  obtain ⟨h0, h1⟩ := where5 t
  refine congrArg (queries m c) (eq_of_coords2 _ _ _ ((win0_5.rect_emb_val t _ 0).trans ?_) (win0_5.rect_emb_val_of_index_zero t 1 h1 _))
  rw [h0]; exact hr.symm
theorem parts_block (a b : Fin 2) (r : Fin 128) (l : Fin 512) (a' : Fin 32) (ha : a'.val = t.val * 2 + a.val) :
    iblk m c 6 t (ix4 a b r l) = parts m c (ix4 a' b r l) := by
  show V m c main_arg4 ((win0_6.rect t).emb (ix4 a b r l)) = _
  rw [V_main_arg4]
  obtain ⟨h0, h1, h2, h3⟩ := where6 t
  refine congrArg (parts m c) (eq_of_coords4 _ _ _ _ _ ((win0_6.rect_emb_val t _ 0).trans ?_) (win0_6.rect_emb_val_of_index_zero t 1 h1 _)
    (win0_6.rect_emb_val_of_index_zero t 2 h2 _) (win0_6.rect_emb_val_of_index_zero t 3 h3 _))
  rw [h0]; exact ha.symm
theorem next_block (ht : t.val < 15) (r : Fin 128) (l : Fin 512) (a' : Fin 32) (ha : a'.val = t.val * 2 + 2) :
    iblk m c 7 t (ix4 (0 : Fin 1) (0 : Fin 1) r l) = parts m c (ix4 a' (0 : Fin 2) r l) := by
  show V m c main_arg4 ((win0_7.rect t).emb (ix4 (0 : Fin 1) (0 : Fin 1) r l)) = _
  rw [V_main_arg4]
  obtain ⟨h0, h1, h2, h3⟩ := where7 t ht
  refine congrArg (parts m c) (eq_of_coords4 _ _ _ _ _ ((win0_7.rect_emb_val t _ 0).trans ?_) ((win0_7.rect_emb_val t _ 1).trans ?_)
    (win0_7.rect_emb_val_of_index_zero t 2 h2 _) (win0_7.rect_emb_val_of_index_zero t 3 h3 _))
  · rw [h0, ha]
    show 2 * (t.val + 1) * 1 + 0 = _
    omega
  · rw [h1]; rfl
theorem gates_block (a : Fin 2) (r : Fin 256) (l : Fin 1024) (r' : Fin 4096) (hr : r'.val = t.val * 256 + r.val) :
    iblk m c 8 t (ix3 a r l) = gates m c (ix3 a r' l) := by
  show V m c main_arg5 ((win0_8.rect t).emb (ix3 a r l)) = _
  rw [V_main_arg5]
  obtain ⟨h0, h1, h2⟩ := where8 t
  refine congrArg (gates m c) (eq_of_coords _ _ _ _ (win0_8.rect_emb_val_of_index_zero t 0 h0 _) ((win0_8.rect_emb_val t _ 1).trans ?_)
    (win0_8.rect_emb_val_of_index_zero t 2 h2 _))
  rw [h1]; exact hr.symm

/-- The rows the taps read, in the whole array. -/
theorem halo_rows (k l : ℕ) (hk : k < 288) (hl : l < 1024) :
    halo (grid0.coords t 0).val (iblk m c 2 t) (iblk m c 3 t) k l = at2 (grad m c) (t.val * 256 + k) l := by
  have hN : cfg0.N = 16 := N_0
  have ht := t.isLt
  rw [point, halo]
  split_ifs with h h'
  · exact (at2_eq _ (⟨k, h⟩ : Fin 256) (⟨l, hl⟩ : Fin 1024)).trans ((grad_block m c t ⟨k, h⟩ ⟨l, hl⟩ ⟨t.val * 256 + k, by omega⟩ rfl).trans
      (at2_eq (grad m c) (⟨t.val * 256 + k, by omega⟩ : Fin 4096) (⟨l, hl⟩ : Fin 1024)).symm)
  · exact (at2_eq _ (⟨k - 256, by omega⟩ : Fin 32) (⟨l, hl⟩ : Fin 1024)).trans ((halo_block m c t h' ⟨k - 256, by omega⟩ ⟨l, hl⟩ ⟨t.val * 256 + k, by omega⟩
      (show t.val * 256 + k = t.val * 256 + 256 + (k - 256) by omega)).trans (at2_eq (grad m c) (⟨t.val * 256 + k, by omega⟩ : Fin 4096) (⟨l, hl⟩ : Fin 1024)).symm)
  · exact (at2_out (grad m c) _ l (by omega)).symm

/-- The gradient before the convolution. -/
def before (w : FVec Ideal S31x1024 .f32) (d : FVec Ideal S4096x1024 .f32) (T l : ℕ) : EReal :=
  ∑ j : Fin 31, at2 w j.val l * at2 d (T + (30 - j.val)) l

theorem inner_rows (r l : ℕ) (hr : r < 256) (hl : l < 1024) :
    inner (grid0.coords t 0).val (iblk m c 2 t) (iblk m c 3 t) (iblk m c 4 t) r l = before (taps m c) (grad m c) (t.val * 256 + r) l := by
  refine Finset.sum_congr rfl fun j _ => ?_
  rw [halo_rows m c t _ l (by omega) hl, Nat.add_assoc]
  refine congrArg (· * _) ?_
  exact (at2_eq _ (⟨j.val, by omega⟩ : Fin 32) (⟨l, hl⟩ : Fin 1024)).trans ((taps_block m c t j ⟨l, hl⟩).trans (at2_eq (taps m c) j (⟨l, hl⟩ : Fin 1024)).symm)

end Blocks

/-- The array the kernel leaves, column class by column class. -/
theorem final (c : Dev nD) (T : Fin 4096) (C : Fin 5632) (v : EReal)
    (hv0 : ∀ l : Fin 1024, C.val = l.val →
      before (taps m c) (grad m c) T.val l.val * sigm (proj m c (ix2 T (⟨1024 + l.val, by omega⟩ : Fin 5632))) = v)
    (hv1 : ∀ l : Fin 1024, C.val = 1024 + l.val →
      before (taps m c) (grad m c) T.val l.val * proj m c (ix2 T (⟨l.val, by omega⟩ : Fin 5632))
        * sigm (proj m c (ix2 T (⟨1024 + l.val, by omega⟩ : Fin 5632)))
        * (1 - sigm (proj m c (ix2 T (⟨1024 + l.val, by omega⟩ : Fin 5632)))) = v)
    (hv2 : ∀ l : Fin 1024, C.val = 2048 + l.val → queries m c (ix2 T l) = v)
    (hv3 : ∀ (b : Fin 32) (r : Fin 128) (l : Fin 512), T.val = b.val * 128 + r.val → C.val = 3072 + l.val →
      parts m c (ix4 b (1 : Fin 2) r l)
        + (if h : b.val < 31 then parts m c (ix4 (⟨b.val + 1, by omega⟩ : Fin 32) (0 : Fin 2) r l) else 0) = v)
    (hv4 : ∀ (a : Fin 2) (l : Fin 1024), C.val = 3584 + a.val * 1024 + l.val → gates m c (ix3 a T l) = v) :
    (dats m 0 c).arrAt 9 cfg0.N (ix2 T C) = v := by
  have hN : cfg0.N = 16 := N_0
  have hT := T.isLt
  obtain ⟨t, ht⟩ : ∃ t : Fin cfg0.N, t.val = T.val / 256 := ⟨⟨T.val / 256, by omega⟩, rfl⟩
  obtain ⟨h0, h1⟩ := where9 t
  have e : (win0_9.blk t).view.emb (ix2 (⟨T.val % 256, by omega⟩ : Fin 256) C) = ix2 T C :=
    eq_of_coords2 _ _ _ ((win0_9.rect_emb_val t _ 0).trans (by
      rw [h0, ht]
      show T.val / 256 * 256 + T.val % 256 = T.val
      omega)) (win0_9.rect_emb_val_of_index_zero t 1 h1 _)
  rw [← e]
  refine ((dats m 0 c).arrAt_emb_eq_flushed 9 Value.disjoint9 t (flush0_9 t) _).trans ?_
  show (dats m 0 c).flushed 9 t _ = _
  rw [Value.flushed9_A]
  have row : ∀ r : Fin 256, T.val % 256 = r.val → T.val = t.val * 256 + r.val := fun r h => by omega
  refine tile_entry c (grid0.coords t) _ _ _ _ _ _ _ _ _ _ _ _ _ _ _ _ _ _ _ _ _ _ _ _ _ _ _ _ _ _ _ _ _ _ v ?_ ?_ ?_ ?_ ?_ ?_ ?_
  · intro r l hr hl
    have hR := row r hr
    rw [inner_rows m c t r.val l.val r.isLt l.isLt, ← hR, proj_block1 m c t r l T ⟨1024 + l.val, by omega⟩ hR rfl]
    exact hv0 l hl
  · intro r l hr hl
    have hR := row r hr
    rw [inner_rows m c t r.val l.val r.isLt l.isLt, ← hR, proj_block1 m c t r l T ⟨1024 + l.val, by omega⟩ hR rfl, proj_block0 m c t r l T ⟨l.val, by omega⟩ hR rfl]
    exact hv1 l hl
  · intro r l hr hl
    rw [queries_block m c t r l T (row r hr)]
    exact hv2 l hl
  · intro r l hr hl
    replace hr : T.val % 256 = r.val := hr
    have q := hv3 ⟨t.val * 2, by omega⟩ r l (show T.val = t.val * 2 * 128 + r.val by omega) hl
    rw [dif_pos (show t.val * 2 < 31 by omega)] at q
    rw [← q, parts_block m c t 0 1 r l ⟨t.val * 2, by omega⟩ rfl, parts_block m c t 1 0 r l ⟨t.val * 2 + 1, by omega⟩ rfl]
  · intro r l hr hl
    replace hr : T.val % 256 = 128 + r.val := hr
    have q := hv3 ⟨t.val * 2 + 1, by omega⟩ r l (show T.val = (t.val * 2 + 1) * 128 + r.val by omega) hl
    rw [← q, parts_block m c t 1 1 r l ⟨t.val * 2 + 1, by omega⟩ rfl]
    refine congrArg (_ + ·) ?_
    rw [point]
    by_cases h : t.val < 15
    · rw [if_pos h, dif_pos (show t.val * 2 + 1 < 31 by omega)]
      exact next_block m c t h r l ⟨t.val * 2 + 2, by omega⟩ rfl
    · rw [if_neg h, dif_neg (show ¬t.val * 2 + 1 < 31 by omega)]
  · intro r l hr hl
    rw [gates_block m c t 0 r l T (row r hr)]
    exact hv4 0 l hl
  · intro r l hr hl
    rw [gates_block m c t 1 r l T (row r hr)]
    exact hv4 1 l hl

end Kernel

end Cert.Conv.Glu
-- ==== Proof.Conv.Ref.lean ====
/-
  The gradient before the reversed convolution as the plain computation writes it: thirty-one products of the incoming
  gradient with a tap each, every one moved down by its own number of rows, added up, and the first thirty rows dropped.
-/
module

public import proofs.«01_k».proof.Proof.Conv.Glu

@[expose] public section

set_option maxRecDepth 16384

noncomputable section

open Idealize.ShloMosaic Idealize.ShloMosaic.TcCoe Idealize.SL.Sem Idealize.ShloMosaic.Tactic

open Cert.Coords Cert.Conv.Tile Cert.Conv.Glu

namespace Cert.Conv.Ref

open Cert.ReferenceIdeal Cert.ReferenceIdeal.Gen Cert.ReferenceIdeal.Value

/-- One of the moved products, at a row of the result. -/
theorem moved (w : FVec Ideal S31x1024 .f32) (d : FVec Ideal S4096x1024 .f32) (lo hi : ℕ) (h : lo + hi = 30) (hs hc hb hb' hp hz hd)
    (T : Fin 4096) (l : Fin 1024) (k : Fin 4126) (hk : k.val = 30 + T.val) :
    pad S4126x1024 ![lo, 0] ![hi, 0] ![0, 0] (mulf (shapeCast S4096x1024 d hd) (broadcastInDim S4096x1024 ![0, 1] hb
        (broadcastInDim S1x1024 ![1] hb' (shapeCast S1024 (extractStridedSlice S1x1024 ![lo, 0] w hs) hc))))
      (constant S_ .f32 0x00000000#32) hp hz (ix2 k l)
      = at2 w lo l.val * at2 d (T.val + (30 - lo)) l.val := by
  pointwise []
  have hlo : lo < 31 := by omega
  split_ifs with hk'
  · rw [mul_comm]
    exact congrArg₂ (· * ·) (at2_eq w ⟨lo, hlo⟩ l).symm (at2_of_coords d _ _ _ (show k.val - lo = T.val + (30 - lo) by omega) rfl).symm
  · rw [at2_out d _ l.val (by omega), mul_zero]

/-- The sum of all of them, the first thirty rows dropped. -/
theorem before_entry (V0 : Valuation τ sig (Elt Ideal)) (T : Fin 4096) (l : Fin 1024) :
    res_main_v405 V0 (ix2 T l) = before (V0 (Proc.devRef .tc main_arg2)) (V0 (Proc.devRef .tc main_arg1)) T.val l.val := by
  have hm := fun lo hi (h : lo + hi = 30) hs hc hb hb' hp hz hd =>
    moved (V0 (Proc.devRef .tc main_arg2)) (V0 (Proc.devRef .tc main_arg1)) lo hi h hs hc hb hb' hp hz hd T l
      (⟨30 + T.val, by omega⟩ : Fin 4126) rfl
  have e : res_main_v405 V0 (ix2 T l) = res_main_v403 V0 (ix2 (⟨30 + T.val, by omega⟩ : Fin 4126) l) := by
    unfold res_main_v405
    pointwise []
  have s : before (V0 (Proc.devRef .tc main_arg2)) (V0 (Proc.devRef .tc main_arg1)) T.val l.val
      = ∑ j ∈ Finset.range 31, at2 (V0 (Proc.devRef .tc main_arg2)) (30 - j) l.val
        * at2 (V0 (Proc.devRef .tc main_arg1)) (T.val + (30 - (30 - j))) l.val :=
    (Fin.sum_univ_eq_sum_range (fun j => at2 (V0 (Proc.devRef .tc main_arg2)) j l.val
      * at2 (V0 (Proc.devRef .tc main_arg1)) (T.val + (30 - j)) l.val) 31).trans (Finset.sum_range_reflect _ 31).symm
  rw [e, s]
  simp only [Finset.sum_range_succ, Finset.sum_range_zero, zero_add]
  unfold res_main_v403 res_main_v347
  simp only [Idealize.ShloMosaic.addf_apply, res_main_v279, res_main_v36, res_main_v44, res_main_v51, res_main_v58, res_main_v65, res_main_v72, res_main_v79, res_main_v86,
      res_main_v93, res_main_v100, res_main_v107, res_main_v114, res_main_v121, res_main_v128, res_main_v135, res_main_v142,
      res_main_v149, res_main_v156, res_main_v163, res_main_v170, res_main_v177, res_main_v184, res_main_v191, res_main_v198,
      res_main_v205, res_main_v212, res_main_v219, res_main_v226, res_main_v233, res_main_v240, res_main_v247]
  iterate 30 refine congrArg₂ (· + ·) ?_ (hm _ _ rfl _ _ _ _ _ _ _)
  exact hm _ _ rfl _ _ _ _ _ _ _

/-- The gate's sigmoid, the gated half, and the two halves of the keys' and values' gradients, each at an index. -/
theorem sigm_entry (V0 : Valuation τ sig (Elt Ideal)) (T : Fin 4096) (l : Fin 1024) :
    res_main_v26 V0 (ix2 T l) = sigm (V0 (Proc.devRef .tc main_arg0) (ix2 T (⟨1024 + l.val, by omega⟩ : Fin 5632))) := by
  unfold res_main_v26 sigm
  pointwise [res_main_v12, res_main_v11]
  rw [zero_sub]
theorem half_entry (V0 : Valuation τ sig (Elt Ideal)) (T : Fin 4096) (l : Fin 1024) :
    res_main_v18 V0 (ix2 T l) = V0 (Proc.devRef .tc main_arg0) (ix2 T (⟨l.val, by omega⟩ : Fin 5632)) := by
  pointwise [res_main_v18, res_main_v12, res_main_v11]
theorem keys_own (V0 : Valuation τ sig (Elt Ideal)) (b : Fin 32) (r : Fin 128) (l : Fin 256) (k : Fin 512) (hk : k.val = l.val) :
    res_main_v3 V0 (ix3 b (⟨128 + r.val, by omega⟩ : Fin 256) l)
      = V0 (Proc.devRef .tc main_arg4) (ix4 b (1 : Fin 2) r k) := by
  rw [show k = ⟨l.val, by omega⟩ from Fin.ext hk]
  pointwise [res_main_v3, res_main_v1]
  exact congrArg (fun q => V0 (Proc.devRef .tc main_arg4) (ix4 b q r _)) (Fin.ext (by dsimp only; omega))
theorem values_own (V0 : Valuation τ sig (Elt Ideal)) (b : Fin 32) (r : Fin 128) (l : Fin 256) (k : Fin 512) (hk : k.val = 256 + l.val) :
    res_main_v4 V0 (ix3 b (⟨128 + r.val, by omega⟩ : Fin 256) l)
      = V0 (Proc.devRef .tc main_arg4) (ix4 b (1 : Fin 2) r k) := by
  rw [show k = ⟨256 + l.val, by omega⟩ from Fin.ext hk]
  pointwise [res_main_v4, res_main_v1]
  exact congrArg (fun q => V0 (Proc.devRef .tc main_arg4) (ix4 b q r _)) (Fin.ext (by dsimp only; omega))
theorem keys_next (V0 : Valuation τ sig (Elt Ideal)) (b : Fin 32) (r : Fin 128) (l : Fin 256) (k : Fin 512) (hk : k.val = l.val) :
    res_main_v272 V0 (ix3 b r l) = V0 (Proc.devRef .tc main_arg4) (ix4 b (0 : Fin 2) r k) := by
  rw [show k = ⟨l.val, by omega⟩ from Fin.ext hk]
  pointwise [res_main_v272, res_main_v3, res_main_v1]
  exact congrArg₂ (fun q k => V0 (Proc.devRef .tc main_arg4) (ix4 b q k _)) (Fin.ext (by dsimp only; omega)) (Fin.ext (by dsimp only; omega))
theorem values_next (V0 : Valuation τ sig (Elt Ideal)) (b : Fin 32) (r : Fin 128) (l : Fin 256) (k : Fin 512) (hk : k.val = 256 + l.val) :
    res_main_v265 V0 (ix3 b r l) = V0 (Proc.devRef .tc main_arg4) (ix4 b (0 : Fin 2) r k) := by
  rw [show k = ⟨256 + l.val, by omega⟩ from Fin.ext hk]
  pointwise [res_main_v265, res_main_v4, res_main_v1]
  exact congrArg₂ (fun q k => V0 (Proc.devRef .tc main_arg4) (ix4 b q k _)) (Fin.ext (by dsimp only; omega)) (Fin.ext (by dsimp only; omega))

/-- The plain computation's result. -/
def whole (V0 : Valuation τ sig (Elt Ideal)) : FVec Ideal S4096x5632 .bf16 := val8 V0 (Proc.devRef .tc main_v411)

/-- A product, a sum and one less a value, of two extended reals. -/
abbrev prod (x y : EReal) : EReal := x * y
abbrev plus (x y : EReal) : EReal := x + y
abbrev less (x : EReal) : EReal := 1 - x

theorem whole_gate (V0 : Valuation τ sig (Elt Ideal)) (T : Fin 4096) (l : Fin 1024) :
    whole V0 (ix2 T (⟨l.val, by omega⟩ : Fin 5632)) = prod (res_main_v405 V0 (ix2 T l)) (res_main_v26 V0 (ix2 T l)) := by
  unfold whole
  rw [val8_main_v411]
  pointwise []
  rw [dif_pos (by omega)]
theorem whole_slope (V0 : Valuation τ sig (Elt Ideal)) (T : Fin 4096) (l : Fin 1024) :
    whole V0 (ix2 T (⟨1024 + l.val, by omega⟩ : Fin 5632))
      = prod (prod (res_main_v18 V0 (ix2 T l)) (res_main_v405 V0 (ix2 T l)))
        (prod (res_main_v26 V0 (ix2 T l)) (less (res_main_v26 V0 (ix2 T l)))) := by
  unfold whole
  rw [val8_main_v411]
  pointwise []
  rw [dif_pos (by omega)]
theorem whole_queries (V0 : Valuation τ sig (Elt Ideal)) (T : Fin 4096) (l : Fin 1024) :
    whole V0 (ix2 T (⟨2048 + l.val, by omega⟩ : Fin 5632)) = V0 (Proc.devRef .tc main_arg3) (ix2 T l) := by
  unfold whole
  rw [val8_main_v411]
  pointwise []
theorem whole_keys (V0 : Valuation τ sig (Elt Ideal)) (T : Fin 4096) (b : Fin 32) (r : Fin 128) (l : Fin 512) (hT : T.val = b.val * 128 + r.val) :
    whole V0 (ix2 T (⟨3072 + l.val, by omega⟩ : Fin 5632)) = plus (V0 (Proc.devRef .tc main_arg4) (ix4 b (1 : Fin 2) r l))
      (if h : b.val < 31 then V0 (Proc.devRef .tc main_arg4) (ix4 (⟨b.val + 1, by omega⟩ : Fin 32) (0 : Fin 2) r l) else (0 : EReal)) := by
  rw [show T = ⟨b.val * 128 + r.val, by omega⟩ from Fin.ext hT]
  unfold whole
  rw [val8_main_v411]
  pointwise []
  rw [dif_neg (by omega), dif_neg (by omega)]
  by_cases h : l.val < 256
  · rw [dif_pos (by omega)]
    refine congrArg₂ plus (keys_own V0 b r ⟨3072 + l.val - 2048 - 1024, by omega⟩ l (by dsimp only; omega)) ?_
    by_cases hb : b.val < 31
    · refine (dif_pos (show b.val < 31 ∧ 3072 + l.val - 2048 - 1024 < 256 from ⟨hb, by omega⟩)).trans (Eq.trans ?_ (dif_pos hb).symm)
      exact (keys_next V0 ⟨1 + b.val, by omega⟩ r ⟨3072 + l.val - 2048 - 1024, by omega⟩ l (by dsimp only; omega)).trans
        (congrArg (fun q => V0 (Proc.devRef .tc main_arg4) (ix4 q (0 : Fin 2) r l)) (Fin.ext (Nat.add_comm 1 b.val)))
    · refine (dif_neg fun hh => hb hh.1).trans (Eq.symm ?_)
      rw [dif_neg hb]
  · rw [dif_neg (by omega), dif_pos (by omega)]
    refine congrArg₂ plus (values_own V0 b r ⟨3072 + l.val - 2048 - 1024 - 256, by omega⟩ l (by dsimp only; omega)) ?_
    by_cases hb : b.val < 31
    · refine (dif_pos (show b.val < 31 ∧ 3072 + l.val - 2048 - 1024 - 256 < 256 from ⟨hb, by omega⟩)).trans (Eq.trans ?_ (dif_pos hb).symm)
      exact (values_next V0 ⟨1 + b.val, by omega⟩ r ⟨3072 + l.val - 2048 - 1024 - 256, by omega⟩ l (by dsimp only; omega)).trans
        (congrArg (fun q => V0 (Proc.devRef .tc main_arg4) (ix4 q (0 : Fin 2) r l)) (Fin.ext (Nat.add_comm 1 b.val)))
    · refine (dif_neg fun hh => hb hh.1).trans (Eq.symm ?_)
      rw [dif_neg hb]
theorem whole_gates (V0 : Valuation τ sig (Elt Ideal)) (T : Fin 4096) (a : Fin 2) (l : Fin 1024) :
    whole V0 (ix2 T (⟨3584 + a.val * 1024 + l.val, by omega⟩ : Fin 5632)) = V0 (Proc.devRef .tc main_arg5) (ix3 a T l) := by
  unfold whole
  rw [val8_main_v411]
  pointwise []
  rw [dif_neg (by omega), dif_neg (by omega), dif_neg (by omega), dif_neg (by omega)]
  obtain ⟨a, ha⟩ := a
  match a, ha with
  | 0, _ =>
    rw [dif_pos (by dsimp only; omega)]
    exact congrArg (fun k => V0 (Proc.devRef .tc main_arg5) (ix3 (0 : Fin 2) T k)) (Fin.ext (by dsimp only; omega))
  | 1, _ =>
    rw [dif_neg (by dsimp only; omega)]
    exact congrArg (fun k => V0 (Proc.devRef .tc main_arg5) (ix3 (1 : Fin 2) T k)) (Fin.ext (by dsimp only; omega))

open Idealize.ShloMosaic.StableHlo (launchContents)

/-- From equal arguments the kernel's array and the plain result agree at every index. -/
theorem same (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (e0 : V0 (Proc.devRef .tc Cert.ReferenceIdeal.main_arg0) = proj m c) (e1 : V0 (Proc.devRef .tc Cert.ReferenceIdeal.main_arg1) = grad m c)
    (e2 : V0 (Proc.devRef .tc Cert.ReferenceIdeal.main_arg2) = taps m c) (e3 : V0 (Proc.devRef .tc Cert.ReferenceIdeal.main_arg3) = queries m c)
    (e4 : V0 (Proc.devRef .tc Cert.ReferenceIdeal.main_arg4) = parts m c) (e5 : V0 (Proc.devRef .tc Cert.ReferenceIdeal.main_arg5) = gates m c)
    (T : Fin 4096) (C : Fin 5632) :
    (Cert.KernelIdeal.Gen.dats m 0 c).arrAt 9 Cert.KernelIdeal.cfg0.N (ix2 T C) = whole V0 (ix2 T C) := by
  refine final m c T C _ ?_ ?_ ?_ ?_ ?_
  · intro l hl
    rw [show C = ⟨l.val, by omega⟩ from Fin.ext hl, whole_gate, before_entry, sigm_entry, e0, e1, e2]
  · intro l hl
    rw [show C = ⟨1024 + l.val, by omega⟩ from Fin.ext hl, whole_slope, before_entry, sigm_entry, half_entry, e0, e1, e2,
      mul_assoc, mul_comm (before _ _ _ _)]
  · intro l hl
    rw [show C = ⟨2048 + l.val, by omega⟩ from Fin.ext hl, whole_queries, e3]
  · intro b r l hT hl
    rw [show C = ⟨3072 + l.val, by omega⟩ from Fin.ext hl, whole_keys V0 T b r l hT, e4]
  · intro a l hl
    rw [show C = ⟨3584 + a.val * 1024 + l.val, by omega⟩ from Fin.ext hl, whole_gates, e5]

/-- The kernel leaves what the plain computation leaves. -/
theorem algebraic : Cert.algebraic_KernelIdeal_ReferenceIdeal := by
  intro m ρ m' ρ' _ hagree
  refine ⟨fun c => (Cert.KernelIdeal.Gen.dats m 0 c).arrAt 9 Cert.KernelIdeal.cfg0.N, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  clear h
  obtain ⟨e0, e1, e2, e3, e4, e5⟩ := hagree c
  rw [← Cert.ReferenceIdeal.Value.val8_main_v411]
  generalize hV : launchContents m' c = V0
  have f0 : V0 (Proc.devRef .tc Cert.ReferenceIdeal.main_arg0) = proj m c := hV ▸ e0
  have f1 : V0 (Proc.devRef .tc Cert.ReferenceIdeal.main_arg1) = grad m c := hV ▸ e1
  have f2 : V0 (Proc.devRef .tc Cert.ReferenceIdeal.main_arg2) = taps m c := hV ▸ e2
  have f3 : V0 (Proc.devRef .tc Cert.ReferenceIdeal.main_arg3) = queries m c := hV ▸ e3
  have f4 : V0 (Proc.devRef .tc Cert.ReferenceIdeal.main_arg4) = parts m c := hV ▸ e4
  have f5 : V0 (Proc.devRef .tc Cert.ReferenceIdeal.main_arg5) = gates m c := hV ▸ e5
  clear hV
  funext i
  rw [eq_ix2 i]
  exact (same m c V0 f0 f1 f2 f3 f4 f5 (i 0) (i 1)).symm

end Cert.Conv.Ref

end
-- ==== Proof.Ffn.Finite.lean ====
/-
  Extended reals that are real numbers: what the printed finiteness predicates say of an element, and that finite sums
  and products of such elements are real again.
-/
module

public import Idealize.ShloMosaic.Lib.Pointwise
public import Idealize.ShloMosaic.Lib.ReduceAll

@[expose] public section

noncomputable section

open Idealize.ShloMosaic

namespace Cert.Ffn

/-- The extended real is a real number. -/
def IsReal (x : EReal) : Prop := ∃ r : ℝ, x = (r : EReal)

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.zero : IsReal 0 := ⟨0, rfl⟩

/-- A finite sum of real numbers is one. -/
theorem IsReal.sum {ι : Type} (s : Finset ι) (f : ι → EReal) (h : ∀ i ∈ s, IsReal (f i)) : IsReal (∑ i ∈ s, f i) := by
  classical
  induction s using Finset.induction with
  | empty => exact IsReal.zero
  | insert a s ha ih =>
    rw [Finset.sum_insert ha]
    exact (h a (Finset.mem_insert_self a s)).add (ih fun i hi => h i (Finset.mem_insert_of_mem hi))

theorem infinity : Ideal.ofBits .f32 0x7F800000#32 = ⊤ := by
  simp [Ideal.ofBits, Ideal.ieee]

/-- The literals one half, one thousand and twenty-four, and two, as real numbers. -/
theorem ofBits_half : Ideal.ofBits .f32 0x3F000000#32 = ((1 / 2 : ℝ) : EReal) := by
  simp [Ideal.ofBits, Ideal.ieee, -EReal.coe_mul]
  norm_num
theorem ofBits_1024 : Ideal.ofBits .f32 0x44800000#32 = ((1024 : ℝ) : EReal) := by
  simp [Ideal.ofBits, Ideal.ieee, -EReal.coe_mul]
  norm_num
theorem ofBits_two : Ideal.ofBits .f32 0x40000000#32 = ((2 : ℝ) : EReal) := by
  simp [Ideal.ofBits, Ideal.ieee, -EReal.coe_mul]
  norm_num

/-- An extended real whose absolute value is below infinity is a real number. -/
theorem real_of_abs_lt {x : EReal} (h : Ideal.cmp .olt (max x (-x)) (Ideal.ofBits .f32 0x7F800000#32) = 1#1) : IsReal x := by
  rw [infinity] at h
  induction x with
  | bot => simp [Ideal.cmp] at h
  | top => simp [Ideal.cmp] at h
  | coe r => exact ⟨r, rfl⟩

/-- The one index of a shape without axes. -/
instance : Subsingleton (⟨0, ![]⟩ : Shape).Idx := ⟨fun _ _ => funext fun a => a.elim0⟩

/-- Every element of an array whose elements' absolute values all compare below infinity is a real number. -/
theorem real_of_all {s u : Shape} {axes : List (Fin s.rank)} (x : FVec Ideal s .f32)
    (hb : (⟨0, ![]⟩ : Shape).BroadcastsInDim s ![]) (init : u.Idx → BitVec 1) (h : s.ReducesTo axes ⟨0, ![]⟩)
    (hu : 0 < u.numel) (j : (⟨0, ![]⟩ : Shape).Idx)
    (e : Host.reduce IntOp.andi (cmpf .olt (Host.absf x) (broadcastInDim s ![] hb (constant ⟨0, ![]⟩ .f32 0x7F800000#32))) init h hu j = 1#1)
    (i : s.Idx) : IsReal (x i) :=
  real_of_abs_lt (Host.reduce_andi_all _ init h hu j e i)

end Cert.Ffn

end
-- ==== Proof.Ffn.Gate.lean ====
/-
  The gradient of the gated product: half the incoming gradient times the transposed output weights gives the gradient
  of `silu(a) · b`; the kernel's two stores are its gradients in `a` and in `b`. The reference differentiates `a · σ(a)`
  by the product rule and adds the two terms; they combine to the kernel's one factor `σ(a) (1 + a (1 - σ(a)))` by
  distributivity, which on real numbers holds: hence the claim's condition that the arguments are finite.
-/
module

public import proofs.«01_k».proof.Defs
public import proofs.«01_k».proof.Proof.Gen.Kernel2Ideal.Value
public import proofs.«01_k».proof.Proof.Gen.Reference2Ideal.Run
public import proofs.«01_k».proof.Proof.Gen.Pre_gate_args_finite
public import proofs.«01_k».proof.Proof.Ffn.Finite
public import Idealize.ShloMosaic.Lib.Pipeline.Value
public import Idealize.ShloMosaic.Lib.Pointwise
public import Idealize.ShloMosaic.Lib.IdealHost
public import Idealize.ShloMosaic.Lib.Quiescent

@[expose] public section

set_option maxRecDepth 16384

noncomputable section

open Idealize.ShloMosaic Idealize.ShloMosaic.TcCoe Idealize.SL.Sem
open Idealize.ShloMosaic.Pipeline (Dat Window)

namespace Cert.Ffn.Gate

/-- One half, as the extended real its literal denotes. -/
abbrev half : EReal := Ideal.ofBits .f32 0x3F000000#32

/-- The logistic function as both programs write it. -/
def sigma (a : EReal) : EReal := Ideal.div 1 (1 + Ideal.exp (-a))

theorem sigma_coe (a : ℝ) : sigma a = (((1 + Real.exp (-a))⁻¹ : ℝ) : EReal) := by
  have h : 1 + Real.exp (-a) ≠ 0 := by positivity
  unfold sigma
  rw [← EReal.coe_neg, Ideal.exp_coe, ← EReal.coe_one, ← EReal.coe_add, Ideal.div_coe h, ← EReal.coe_mul, one_mul, one_div]

/-- The gradient in the gate, and in the gated factor. -/
def inGate (g a b : EReal) : EReal := g * b * (sigma a * (1 + a * (1 - sigma a)))
def inFactor (g a : EReal) : EReal := g * (a * sigma a)

/-- The product rule's two terms, of real numbers, are the one factor. -/
theorem product_rule {g a b : EReal} (hg : IsReal g) (ha : IsReal a) (hb : IsReal b) :
    g * b * sigma a + a * (g * b) * (sigma a * (1 - sigma a)) = inGate g a b := by
  obtain ⟨g, rfl⟩ := hg
  obtain ⟨a, rfl⟩ := ha
  obtain ⟨b, rfl⟩ := hb
  unfold inGate
  rw [sigma_coe]
  generalize (1 + Real.exp (-a))⁻¹ = σ
  norm_cast
  ring

section Kernel

open Cert.Kernel2Ideal Cert.Kernel2Ideal.Gen

variable (m : (ℓ : Loc nD τ sig) → Buf (Elt Ideal) ℓ)

/-- The incoming gradient, the output weights, the gate and its factor. -/
abbrev grad (c : Dev nD) : FVec Ideal S4096x1024 .f32 := m ((c : Thread nD τ).loc main_arg0)
abbrev weights (c : Dev nD) : FVec Ideal S2816x1024 .f32 := m ((c : Thread nD τ).loc main_arg1)
abbrev gates (c : Dev nD) : FVec Ideal S2x4096x2816 .bf16 := m ((c : Thread nD τ).loc main_arg2)

/-- The gradient of the gated product in row `r` and column `l`. -/
def product (g : FVec Ideal S4096x1024 .f32) (w : FVec Ideal S2816x1024 .f32) (r : Fin 4096) (l : Fin 2816) : EReal :=
  ∑ k : Fin 1024, (half * g (ix2 r k)) * w (ix2 l k)

theorem where_grad : ∀ t : Fin cfg0.N, win0_0.index t 0 = t.val % 4 ∧ win0_0.index t 1 = 0 :=
  (by decide +kernel : ∀ t : Fin grid0.N, win0_0.index t 0 = t.val % 4 ∧ win0_0.index t 1 = 0)
theorem where_weights : ∀ t : Fin cfg0.N, win0_1.index t 0 = t.val / 4 ∧ win0_1.index t 1 = 0 :=
  (by decide +kernel : ∀ t : Fin grid0.N, win0_1.index t 0 = t.val / 4 ∧ win0_1.index t 1 = 0)
theorem where_gates : ∀ t : Fin cfg0.N, win0_2.index t 0 = 0 ∧ win0_2.index t 1 = t.val % 4 ∧ win0_2.index t 2 = t.val / 4 :=
  (by decide +kernel : ∀ t : Fin grid0.N, win0_2.index t 0 = 0 ∧ win0_2.index t 1 = t.val % 4 ∧ win0_2.index t 2 = t.val / 4)
theorem where_out : ∀ t : Fin cfg0.N, win0_3.index t 0 = 0 ∧ win0_3.index t 1 = t.val % 4 ∧ win0_3.index t 2 = t.val / 4 :=
  (by decide +kernel : ∀ t : Fin grid0.N, win0_3.index t 0 = 0 ∧ win0_3.index t 1 = t.val % 4 ∧ win0_3.index t 2 = t.val / 4)

theorem staged_weights (c : Dev nD) (j : S2816x1024.Idx) : V m c main_v0 j = weights m c j := by
  have e : V m c main_v0 = truncf .bf16 (weights m c) bitsLt_bf16_f32 := by
    show StableHlo.after hostOps0 (fun b => m (c, b)) main_v0 = _
    after_results
  rw [e]
  rfl

variable (c : Dev nD) (t : Fin cfg0.N)

theorem grad_block (r : Fin 1024) (k : Fin 1024) (r' : Fin 4096) (hr : r'.val = t.val % 4 * 1024 + r.val) :
    iblk m c 0 t (ix2 r k) = grad m c (ix2 r' k) := by
  show V m c main_arg0 ((win0_0.rect t).emb (ix2 r k)) = _
  rw [V_main_arg0]
  congr 1
  funext d
  apply Fin.ext
  obtain ⟨h0, h1⟩ := where_grad t
  match d with
  | ⟨0, _⟩ => refine (win0_0.rect_emb_val t _ 0).trans ?_
              rw [h0]
              exact hr.symm
  | ⟨1, _⟩ => exact win0_0.rect_emb_val_of_index_zero t 1 h1 _

theorem weights_block (l : Fin 1408) (k : Fin 1024) (l' : Fin 2816) (hl : l'.val = t.val / 4 * 1408 + l.val) :
    iblk m c 1 t (ix2 l k) = weights m c (ix2 l' k) := by
  show V m c main_v0 ((win0_1.rect t).emb (ix2 l k)) = _
  rw [staged_weights]
  congr 1
  funext d
  apply Fin.ext
  obtain ⟨h0, h1⟩ := where_weights t
  match d with
  | ⟨0, _⟩ => refine (win0_1.rect_emb_val t _ 0).trans ?_
              rw [h0]
              exact hl.symm
  | ⟨1, _⟩ => exact win0_1.rect_emb_val_of_index_zero t 1 h1 _

theorem gates_block (q : Fin 2) (r : Fin 1024) (l : Fin 1408) (r' : Fin 4096) (l' : Fin 2816)
    (hr : r'.val = t.val % 4 * 1024 + r.val) (hl : l'.val = t.val / 4 * 1408 + l.val) :
    iblk m c 2 t (ix3 q r l) = gates m c (ix3 q r' l') := by
  show V m c main_arg2 ((win0_2.rect t).emb (ix3 q r l)) = _
  rw [V_main_arg2]
  congr 1
  funext d
  apply Fin.ext
  obtain ⟨h0, h1, h2⟩ := where_gates t
  match d with
  | ⟨0, _⟩ => exact win0_2.rect_emb_val_of_index_zero t 0 h0 _
  | ⟨1, _⟩ => refine (win0_2.rect_emb_val t _ 1).trans ?_
              rw [h1]
              exact hr.symm
  | ⟨2, _⟩ => refine (win0_2.rect_emb_val t _ 2).trans ?_
              rw [h2]
              exact hl.symm

/-- The two halves of a gate block, as the body loads them. -/
theorem load_gate (x : Vec Ideal S2x1024x1408 .bf16) (r : Fin 1024) (l : Fin 1408) :
    View.ld x r0_2 (ix3 (0 : Fin 1) r l) = x (ix3 (0 : Fin 2) r l) := by
  show x (r0_2.emb (ix3 (0 : Fin 1) r l)) = _
  congr 1
  funext d
  apply Fin.ext
  match d with
  | ⟨0, _⟩ => rfl
  | ⟨1, _⟩ => show 0 + 1 * r.val = r.val; omega
  | ⟨2, _⟩ => show 0 + 1 * l.val = l.val; omega
theorem place_factor (r : Fin 1024) (l : Fin 1408) : r0_3.emb (ix3 (0 : Fin 1) r l) = ix3 (1 : Fin 2) r l := by
  funext d
  apply Fin.ext
  match d with
  | ⟨0, _⟩ => rfl
  | ⟨1, _⟩ => show 0 + 1 * r.val = r.val; omega
  | ⟨2, _⟩ => show 0 + 1 * l.val = l.val; omega
theorem place_gate (r : Fin 1024) (l : Fin 1408) : r0_2.emb (ix3 (0 : Fin 1) r l) = ix3 (0 : Fin 2) r l := by
  funext d
  apply Fin.ext
  match d with
  | ⟨0, _⟩ => rfl
  | ⟨1, _⟩ => show 0 + 1 * r.val = r.val; omega
  | ⟨2, _⟩ => show 0 + 1 * l.val = l.val; omega
theorem load_factor (x : Vec Ideal S2x1024x1408 .bf16) (r : Fin 1024) (l : Fin 1408) :
    View.ld x r0_3 (ix3 (0 : Fin 1) r l) = x (ix3 (1 : Fin 2) r l) := by
  show x (r0_3.emb (ix3 (0 : Fin 1) r l)) = _
  rw [place_factor]

/-- The two stored halves, read at an entry. -/
theorem gate_entry (x : Vec Ideal S1024x1024 .f32) (w : Vec Ideal S1408x1024 .bf16) (u v : Vec Ideal S1x1024x1408 .bf16)
    (r : Fin 1024) (l : Fin 1408) :
    k0_pay5 x w u v (ix3 (0 : Fin 1) r l)
      = inGate (∑ k : Fin 1024, (half * x (ix2 r k)) * w (ix2 l k)) (u (ix3 (0 : Fin 1) r l)) (v (ix3 (0 : Fin 1) r l)) := by
  pointwise [k0_pay5, k0_pay4, k0_pay3, k0_pay2]
  simp only [Ideal.ofBits_one_f32, zero_sub]
  rfl
theorem factor_entry (x : Vec Ideal S1024x1024 .f32) (w : Vec Ideal S1408x1024 .bf16) (u : Vec Ideal S1x1024x1408 .bf16)
    (r : Fin 1024) (l : Fin 1408) :
    k0_pay1 (k0_pay6 x w u) (ix3 (0 : Fin 1) r l)
      = inFactor (∑ k : Fin 1024, (half * x (ix2 r k)) * w (ix2 l k)) (u (ix3 (0 : Fin 1) r l)) := by
  pointwise [k0_pay1, k0_pay6, k0_pay4, k0_pay3, k0_pay2]
  simp only [Ideal.ofBits_one_f32, zero_sub]
  rfl

theorem hz : (![0, 0] : Fin 2 → Nat) = fun _ => 0 := funext fun a => by fin_cases a <;> rfl

/-- What a point leaves in its block: the gate's gradient in the first half, the factor's in the second. -/
theorem block_gate (x : Vec Ideal S1024x1024 .f32) (w : Vec Ideal S1408x1024 .bf16) (u : Vec Ideal S2x1024x1408 .bf16)
    (r : Fin 1024) (l : Fin 1408) :
    out0_3 x w u (ix3 (0 : Fin 2) r l)
      = inGate (∑ k : Fin 1024, (half * x (ix2 r k)) * w (ix2 l k)) (u (ix3 (0 : Fin 2) r l)) (u (ix3 (1 : Fin 2) r l)) := by
  unfold out0_3
  rw [View.canon_cons_of_not_mem, ← place_gate, View.canon_cons_emb, View.ld_unit_zero hz, View.ld_unit_zero hz, gate_entry,
    load_gate, load_factor, place_gate]
  rw [Rect.mem_set_unit]
  intro h
  exact absurd (show 1 ≤ 0 from (h 0).1) (by decide)
theorem block_factor (x : Vec Ideal S1024x1024 .f32) (w : Vec Ideal S1408x1024 .bf16) (u : Vec Ideal S2x1024x1408 .bf16)
    (r : Fin 1024) (l : Fin 1408) :
    out0_3 x w u (ix3 (1 : Fin 2) r l)
      = inFactor (∑ k : Fin 1024, (half * x (ix2 r k)) * w (ix2 l k)) (u (ix3 (0 : Fin 2) r l)) := by
  unfold out0_3
  rw [← place_factor, View.canon_cons_emb, View.ld_unit_zero hz, View.ld_unit_zero hz, factor_entry, load_gate]

/-- The entry of the gradient in half `q`, row `r` and column `l`. -/
def entry (g : FVec Ideal S4096x1024 .f32) (w : FVec Ideal S2816x1024 .f32) (u : FVec Ideal S2x4096x2816 .bf16)
    (q : Fin 2) (r : Fin 4096) (l : Fin 2816) : EReal :=
  if q = 0 then inGate (product g w r l) (u (ix3 (0 : Fin 2) r l)) (u (ix3 (1 : Fin 2) r l))
  else inFactor (product g w r l) (u (ix3 (0 : Fin 2) r l))

/-- The result array after the run, read at an entry. -/
theorem final (q : Fin 2) (r : Fin 4096) (l : Fin 2816) :
    (dats m 0 c).arrAt 3 cfg0.N (ix3 q r l) = entry (grad m c) (weights m c) (gates m c) q r l := by
  have hN : cfg0.N = 8 := N_0
  let t : Fin cfg0.N := ⟨l.val / 1408 * 4 + r.val / 1024, by omega⟩
  have ht : t.val = l.val / 1408 * 4 + r.val / 1024 := rfl
  let r₀ : Fin 1024 := ⟨r.val % 1024, by omega⟩
  let l₀ : Fin 1408 := ⟨l.val % 1408, by omega⟩
  have hr : r.val = t.val % 4 * 1024 + r₀.val := by show _ = _ + r.val % 1024; omega
  have hl : l.val = t.val / 4 * 1408 + l₀.val := by show _ = _ + l.val % 1408; omega
  have e : (win0_3.blk t).view.emb (ix3 q r₀ l₀) = ix3 q r l := by
    show (win0_3.rect t).emb (ix3 q r₀ l₀) = _
    obtain ⟨h0, h1, h2⟩ := where_out t
    funext d
    apply Fin.ext
    match d with
    | ⟨0, _⟩ => exact win0_3.rect_emb_val_of_index_zero t 0 h0 _
    | ⟨1, _⟩ => refine (win0_3.rect_emb_val t _ 1).trans ?_
                rw [h1]
                exact hr.symm
    | ⟨2, _⟩ => refine (win0_3.rect_emb_val t _ 2).trans ?_
                rw [h2]
                exact hl.symm
  rw [← e]
  refine ((dats m 0 c).arrAt_emb_eq_flushed 3 Value.disjoint3 t (flush0_3 t) (ix3 q r₀ l₀)).trans ?_
  show (dats m 0 c).flushed 3 t (ix3 q r₀ l₀) = _
  rw [Value.flushed3]
  show out0_3 (iblk m c 0 t) (iblk m c 1 t) (iblk m c 2 t) (ix3 q r₀ l₀) = _
  have hp : (∑ k : Fin 1024, (half * iblk m c 0 t (ix2 r₀ k)) * iblk m c 1 t (ix2 l₀ k)) = product (grad m c) (weights m c) r l :=
    Finset.sum_congr rfl fun k _ => by rw [grad_block m c t r₀ k r hr, weights_block m c t l₀ k l hl]
  unfold entry
  match q with
  | 0 => rw [if_pos rfl, block_gate, hp, gates_block m c t 0 r₀ l₀ r l hr hl, gates_block m c t 1 r₀ l₀ r l hr hl]
  | 1 => rw [if_neg (by decide), block_factor, hp, gates_block m c t 0 r₀ l₀ r l hr hl]

end Kernel

theorem half_real : IsReal half := ⟨1 / 2, ofBits_half⟩

/-- Arguments meeting the condition are real numbers throughout. -/
theorem real_args (m) (hpre : Cert.Pre_Kernel2Ideal_gate_args_finite m) (c) :
    (∀ i, IsReal (grad m c i)) ∧ (∀ i, IsReal (weights m c i)) ∧ (∀ i, IsReal (gates m c i)) := by
  have h := congrFun (hpre c) (fun a => a.elim0)
  unfold Cert.Pre_gate_args_finite.fn at h
  obtain ⟨h, hu⟩ := IntOp.andi_eq_one.1 h
  obtain ⟨hg, hw⟩ := IntOp.andi_eq_one.1 h
  exact ⟨real_of_all _ _ _ _ _ _ hg, real_of_all _ _ _ _ _ _ hw, real_of_all _ _ _ _ _ _ hu⟩

/-- The gradient is the reference's, of finite arguments. -/
theorem algebraic : Cert.algebraic_Kernel2Ideal_Reference2Ideal_pre_gate_args_finite := by
  intro m ρ m' ρ' hpre hagree
  refine ⟨fun c => (Cert.Kernel2Ideal.Gen.dats m 0 c).arrAt 3 Cert.Kernel2Ideal.cfg0.N, Cert.Kernel2Ideal.Value.run_blocks m ρ, ?_⟩
  refine (θ_run Cert.Reference2Ideal.defs _ _).mono (fun _ h c => ⟨(h c).1.trans ?_, (h c).2⟩)
    (Cert.Reference2Ideal.Value.run (F := Ideal) m' ρ')
  rw [(hagree c).1, (hagree c).2.1, (hagree c).2.2]
  clear h
  funext j
  rw [eq_ix3 j]
  refine Eq.trans ?_ (final m c (j 0) (j 1) (j 2)).symm
  generalize j 0 = q
  generalize j 1 = r
  generalize j 2 = l
  have hq : q.val < 2 := q.isLt
  pointwise []
  obtain ⟨hg, hw, hu⟩ := real_args m hpre c
  have hp : IsReal (product (grad m c) (weights m c) r l) :=
    IsReal.sum _ _ fun k _ => (half_real.mul (hg _)).mul (hw _)
  by_cases h : q.val < 1
  · have e : q = (0 : Fin 2) := Fin.ext (show q.val = 0 by omega)
    rw [dif_neg (by omega), dif_pos h, zero_add, e]
    exact product_rule hp (hu _) (hu _)
  · have e : q = (1 : Fin 2) := Fin.ext (show q.val = 1 by omega)
    rw [dif_pos (by omega), dif_neg h, add_zero, e]
    exact mul_comm _ _

end Cert.Ffn.Gate

end
-- ==== Proof.Ffn.DwOut.lean ====
/-
  The gradient of the feed-forward output weights: for each half of the hidden columns the kernel adds, over the two
  halves of the rows, the product of the hidden activations with half the incoming gradient, in a carried scratch that
  the first row half clears and the second writes out. The two partial sums are the sum over all rows.
-/
module

public import proofs.«01_k».proof.Defs
public import proofs.«01_k».proof.Proof.Gen.Kernel3Ideal.Value
public import proofs.«01_k».proof.Proof.Gen.Reference3Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem Idealize.ShloMosaic.Tactic
open Idealize.ShloMosaic.Pipeline (Dat Window)

namespace Cert.Ffn.DwOut

/-- One half, as the extended real its literal denotes. -/
abbrev half : EReal := Ideal.ofBits .f32 0x3F000000#32

section Kernel

open Cert.Kernel3Ideal Cert.Kernel3Ideal.Gen

variable (m : (ℓ : Loc nD τ sig) → Buf (Elt Ideal) ℓ)

/-- The hidden activations. -/
abbrev hidden (c : Dev nD) : FVec Ideal S4096x2816 .bf16 := m ((c : Thread nD τ).loc main_arg0)
/-- The incoming gradient. -/
abbrev grad (c : Dev nD) : FVec Ideal S4096x1024 .f32 := m ((c : Thread nD τ).loc main_arg1)

theorem hz : (![0, 0] : Fin 2 → Nat) = fun _ => 0 := funext fun a => by fin_cases a <;> rfl

/-- A row half's first point leaves the cleared scratch with its product added. -/
theorem scratch_first (c : Dev nD) (i : grid0.Coords) (a3 h3 a4 h4 a5 h5 a6 h6) (hc0 : cond0_0 i) (hc1 : ¬cond0_1 i)
    (x : Vec Ideal S2048x1408 .bf16) (y : Vec Ideal S2048x1024 .f32) :
    sout0_A_0 c i a3 h3 a4 h4 a5 h5 a6 h6 hc0 hc1 x y = k0_pay2 x y (k0_pay1 (F := Ideal)) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1408x1024) hz, View.readCov_unit_zero (S := S1408x1024) _ hz]
  simp only [View.readAt_eq_ld, h3.read_unread, h4.read_unread, View.ld_unit_zero (S := S2048x1408) hz, View.ld_unit_zero (S := S2048x1024) hz]

/-- The second point writes out the scratch it found with its own product added. -/
theorem out_second (c : Dev nD) (i : grid0.Coords) (a3 h3 a4 h4 a5 h5 a6 h6) (hc0 : ¬cond0_0 i) (hc1 : cond0_1 i)
    (x : Vec Ideal S2048x1408 .bf16) (y : Vec Ideal S2048x1024 .f32) (s : Vec Ideal S1408x1024 .f32) :
    out0_B_2 c i a3 h3 a4 h4 a5 h5 a6 h6 hc0 hc1 x y s = k0_pay3 (k0_pay2 x y s) := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero hz, View.readCov_unit_zero (S := S1408x1024) _ hz]
  simp only [View.readAt_eq_ld, h3.read_unread, h4.read_unread, h6.read_unread, View.ld_unit_zero (S := S2048x1408) hz,
    View.ld_unit_zero (S := S2048x1024) hz, View.ld_unit_zero (S := S1408x1024) hz]

/-- The scratch after one more product, read at an entry. -/
theorem step_entry (x : Vec Ideal S2048x1408 .bf16) (y : Vec Ideal S2048x1024 .f32) (s : Vec Ideal S1408x1024 .f32)
    (a : Fin 1408) (b : Fin 1024) :
    k0_pay2 x y s (ix2 a b) = s (ix2 a b) + ∑ k : Fin 2048, x (ix2 k a) * (half * y (ix2 k b)) := by
  pointwise [k0_pay2]
theorem clear_entry (a : Fin 1408) (b : Fin 1024) : k0_pay1 (F := Ideal) (ix2 a b) = 0 := by
  pointwise [k0_pay1]

theorem where_hidden : ∀ t : Fin cfg0.N, win0_0.index t 0 = t.val % 2 ∧ win0_0.index t 1 = t.val / 2 :=
  (by decide +kernel : ∀ t : Fin grid0.N, win0_0.index t 0 = t.val % 2 ∧ win0_0.index t 1 = t.val / 2)
theorem where_grad : ∀ t : Fin cfg0.N, win0_1.index t 0 = t.val % 2 ∧ win0_1.index t 1 = 0 :=
  (by decide +kernel : ∀ t : Fin grid0.N, win0_1.index t 0 = t.val % 2 ∧ win0_1.index t 1 = 0)
theorem where_out : ∀ t : Fin cfg0.N, win0_2.index t 0 = t.val / 2 ∧ win0_2.index t 1 = 0 :=
  (by decide +kernel : ∀ t : Fin grid0.N, win0_2.index t 0 = t.val / 2 ∧ win0_2.index t 1 = 0)

theorem hidden_block (c : Dev nD) (t : Fin cfg0.N) (k : Fin 2048) (a : Fin 1408) (k' : Fin 4096) (a' : Fin 2816)
    (hk : k'.val = t.val % 2 * 2048 + k.val) (ha : a'.val = t.val / 2 * 1408 + a.val) :
    iblk m c 0 t (ix2 k a) = hidden m c (ix2 k' a') := by
  show hidden m c ((win0_0.rect t).emb (ix2 k a)) = _
  congr 1
  funext d
  apply Fin.ext
  obtain ⟨h0, h1⟩ := where_hidden t
  match d with
  | ⟨0, _⟩ => refine (win0_0.rect_emb_val t _ 0).trans ?_
              rw [h0]
              exact hk.symm
  | ⟨1, _⟩ => refine (win0_0.rect_emb_val t _ 1).trans ?_
              rw [h1]
              exact ha.symm

theorem grad_block (c : Dev nD) (t : Fin cfg0.N) (k : Fin 2048) (b : Fin 1024) (k' : Fin 4096)
    (hk : k'.val = t.val % 2 * 2048 + k.val) :
    iblk m c 1 t (ix2 k b) = grad m c (ix2 k' b) := by
  show grad m c ((win0_1.rect t).emb (ix2 k b)) = _
  congr 1
  funext d
  apply Fin.ext
  obtain ⟨h0, h1⟩ := where_grad t
  match d with
  | ⟨0, _⟩ => refine (win0_1.rect_emb_val t _ 0).trans ?_
              rw [h0]
              exact hk.symm
  | ⟨1, _⟩ => exact win0_1.rect_emb_val_of_index_zero t 1 h1 _

/-- The entry of the weights' gradient in row `a` and column `b`. -/
def entry (h : FVec Ideal S4096x2816 .bf16) (g : FVec Ideal S4096x1024 .f32) (a : Fin 2816) (b : Fin 1024) : EReal :=
  ∑ k : Fin 4096, h (ix2 k a) * (half * g (ix2 k b))

/-- What a second point writes out, read at an entry. -/
theorem block_entry (c : Dev nD) (t : Fin cfg0.N) (ht : t.val % 2 = 1) (a : Fin 1408) (b : Fin 1024) (a' : Fin 2816)
    (ha : a'.val = t.val / 2 * 1408 + a.val) :
    (outsAt0 m c t.val t.isLt).1 (ix2 a b) = entry (hidden m c) (grad m c) a' b := by
  rw [outsAt0_B m c t (by omega) ht]
  dsimp only
  rw [out_second]
  have hp : t.val - 1 < cfg0.N := Nat.lt_of_le_of_lt (Nat.sub_le _ _) t.isLt
  rw [show outsAt0 m c (t.val - 1) _ = _ from outsAt0_A m c ⟨t.val - 1, hp⟩ (by dsimp only; omega) (by dsimp only; omega)]
  dsimp only
  rw [scratch_first]
  pointwise [k0_pay3]
  rw [step_entry, step_entry, clear_entry, zero_add]
  unfold entry
  refine Eq.trans ?_ (Fin.sum_univ_add (a := 2048) (b := 2048) fun k => hidden m c (ix2 k a') * (half * grad m c (ix2 k b))).symm
  congr 1
  · refine Finset.sum_congr rfl fun k _ => ?_
    rw [hidden_block m c ⟨t.val - 1, hp⟩ k a (Fin.castAdd 2048 k) a' (by dsimp only [Fin.val_castAdd]; omega) (by dsimp only; omega),
      grad_block m c ⟨t.val - 1, hp⟩ k b (Fin.castAdd 2048 k) (by dsimp only [Fin.val_castAdd]; omega)]
  · refine Finset.sum_congr rfl fun k _ => ?_
    rw [hidden_block m c t k a (Fin.natAdd 2048 k) a' (by dsimp only [Fin.val_natAdd]; omega) ha,
      grad_block m c t k b (Fin.natAdd 2048 k) (by dsimp only [Fin.val_natAdd]; omega)]

/-- The blocks written out share no entry. -/
theorem apart : ∀ t t' : Fin cfg0.N, (cfg0.win 2).flush t = true → (cfg0.win 2).flush t' = true → t ≠ t' →
    Disjoint ((cfg0.win 2).blk t).view.set ((cfg0.win 2).blk t').view.set := by
  intro t t' hf hf' hne
  refine (cfg0.win 2).disjoint_blk fun h => hne (Fin.ext ?_)
  have e : win0_2.index t 0 = win0_2.index t' 0 := congrFun h 0
  rw [(where_out t).1, (where_out t').1] at e
  have := (flush0_2 t).mp hf
  have := (flush0_2 t').mp hf'
  omega

/-- The result array after the run, read at an entry. -/
theorem final (c : Dev nD) (a : Fin 2816) (b : Fin 1024) :
    (dats m 0 c).arrAt 2 cfg0.N (ix2 a b) = entry (hidden m c) (grad m c) a b := by
  have hN : cfg0.N = 4 := N_0
  let t : Fin cfg0.N := ⟨2 * (a.val / 1408) + 1, by omega⟩
  have ht : t.val = 2 * (a.val / 1408) + 1 := rfl
  let a₀ : Fin 1408 := ⟨a.val % 1408, by omega⟩
  have e : (win0_2.blk t).view.emb (ix2 a₀ b) = ix2 a b := by
    show (win0_2.rect t).emb (ix2 a₀ b) = _
    obtain ⟨h0, h1⟩ := where_out t
    funext d
    apply Fin.ext
    match d with
    | ⟨0, _⟩ => refine (win0_2.rect_emb_val t _ 0).trans ?_
                rw [h0]
                show t.val / 2 * 1408 + a.val % 1408 = a.val
                omega
    | ⟨1, _⟩ => exact win0_2.rect_emb_val_of_index_zero t 1 h1 _
  rw [← e]
  refine ((dats m 0 c).arrAt_emb_eq_flushed 2 apart t ((flush0_2 t).mpr (by omega)) (ix2 a₀ b)).trans ?_
  show (dats m 0 c).flushed 2 t (ix2 a₀ b) = _
  rw [Value.flushed2]
  exact block_entry m c t (by omega) a₀ b a (by show a.val = t.val / 2 * 1408 + a.val % 1408; omega)

end Kernel

/-- The gradient is the reference's. -/
theorem algebraic : Cert.algebraic_Kernel3Ideal_Reference3Ideal := by
  intro m ρ m' ρ' _ hagree
  refine ⟨fun c => (Cert.Kernel3Ideal.Gen.dats m 0 c).arrAt 2 Cert.Kernel3Ideal.cfg0.N, Cert.Kernel3Ideal.Value.run_blocks m ρ, ?_⟩
  refine (θ_run Cert.Reference3Ideal.defs _ _).mono (fun _ h c => ⟨(h c).1.trans ?_, (h c).2⟩)
    (Cert.Reference3Ideal.Value.run (F := Ideal) m' ρ')
  rw [(hagree c).1, (hagree c).2]
  funext j
  rw [eq_ix2 j]
  refine Eq.trans ?_ (final m c (j 0) (j 1)).symm
  generalize j 0 = a
  generalize j 1 = b
  pointwise []
  unfold entry
  exact Finset.sum_congr rfl fun k _ => mul_comm _ _

end Cert.Ffn.DwOut

end
-- ==== Proof.Ffn.DwIn.lean ====
/-
  The gradient of the feed-forward input weights: each grid point multiplies the whole transposed normed rows with one
  column block of the gate gradients. The four blocks are the four column quarters of one product, and the reference's
  one product over the two gate gradients set side by side, cut in quarters, has the same entries.
-/
module

public import proofs.«01_k».proof.Defs
public import proofs.«01_k».proof.Proof.Gen.Kernel4Ideal.Value
public import proofs.«01_k».proof.Proof.Gen.Reference4Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat Window)

namespace Cert.Ffn.DwIn

section Kernel

open Cert.Kernel4Ideal Cert.Kernel4Ideal.Gen

variable (m : (ℓ : Loc nD τ sig) → Buf (Elt Ideal) ℓ)

/-- The normed rows. -/
abbrev rows (c : Dev nD) : FVec Ideal S4096x1024 .bf16 := m ((c : Thread nD τ).loc main_arg0)
/-- The two gate gradients. -/
abbrev gates (c : Dev nD) : FVec Ideal S2x4096x2816 .bf16 := m ((c : Thread nD τ).loc main_arg1)

/-- The entry of the weights' gradient in row `a` and column `b` of quarter `q`. -/
def entry (n : FVec Ideal S4096x1024 .bf16) (du : FVec Ideal S2x4096x2816 .bf16) (q : Fin 4) (a : Fin 1024) (b : Fin 1408) : EReal :=
  ∑ k : Fin 4096, n (ix2 k a) * du (ix3 (⟨q.val / 2, by omega⟩ : Fin 2) k (⟨q.val % 2 * 1408 + b.val, by omega⟩ : Fin 2816))

theorem where_rows : ∀ t : Fin cfg0.N, win0_0.index t 0 = 0 ∧ win0_0.index t 1 = 0 :=
  (by decide +kernel : ∀ t : Fin grid0.N, win0_0.index t 0 = 0 ∧ win0_0.index t 1 = 0)
theorem where_gates : ∀ t : Fin cfg0.N, win0_1.index t 0 = t.val / 2 ∧ win0_1.index t 1 = 0 ∧ win0_1.index t 2 = t.val % 2 :=
  (by decide +kernel : ∀ t : Fin grid0.N, win0_1.index t 0 = t.val / 2 ∧ win0_1.index t 1 = 0 ∧ win0_1.index t 2 = t.val % 2)
theorem where_out : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

theorem rows_block (c : Dev nD) (t : Fin cfg0.N) (k : Fin 4096) (a : Fin 1024) :
    iblk m c 0 t (ix2 k a) = rows m c (ix2 k a) := by
  show rows m c ((win0_0.rect t).emb (ix2 k a)) = _
  congr 1
  funext d
  apply Fin.ext
  obtain ⟨h0, h1⟩ := where_rows t
  match d with
  | ⟨0, _⟩ => exact win0_0.rect_emb_val_of_index_zero t 0 h0 _
  | ⟨1, _⟩ => exact win0_0.rect_emb_val_of_index_zero t 1 h1 _

theorem gates_block (c : Dev nD) (t : Fin cfg0.N) (q : Fin 4) (hq : q.val = t.val) (k : Fin 4096) (b : Fin 1408) :
    iblk m c 1 t (ix3 (0 : Fin 1) k b)
      = gates m c (ix3 (⟨q.val / 2, by omega⟩ : Fin 2) k (⟨q.val % 2 * 1408 + b.val, by omega⟩ : Fin 2816)) := by
  show gates m c ((win0_1.rect t).emb (ix3 (0 : Fin 1) k b)) = _
  congr 1
  funext d
  apply Fin.ext
  obtain ⟨h0, h1, h2⟩ := where_gates t
  match d with
  | ⟨0, _⟩ => refine (win0_1.rect_emb_val t _ 0).trans ?_
              rw [h0]
              show t.val / 2 * 1 + 0 = q.val / 2
              omega
  | ⟨1, _⟩ => exact win0_1.rect_emb_val_of_index_zero t 1 h1 _
  | ⟨2, _⟩ => refine (win0_1.rect_emb_val t _ 2).trans ?_
              rw [h2]
              show t.val % 2 * 1408 + b.val = q.val % 2 * 1408 + b.val
              rw [hq]

/-- The stored block, read at an entry: one sum over the rows. -/
theorem block_entry (x : Vec Ideal S4096x1024 .bf16) (y : Vec Ideal S1x4096x1408 .bf16) (a : Fin 1024) (b : Fin 1408) :
    k0_pay1 x y (ix3 (0 : Fin 1) a b) = ∑ k : Fin 4096, x (ix2 k a) * y (ix3 (0 : Fin 1) k b) := by
  pointwise [k0_pay1]

/-- The result array after the run, read at an entry. -/
theorem final (c : Dev nD) (q : Fin 4) (a : Fin 1024) (b : Fin 1408) :
    (dats m 0 c).arrAt 2 cfg0.N (ix3 q a b) = entry (rows m c) (gates m c) q a b := by
  let t : Fin cfg0.N := ⟨q.val, q.isLt⟩
  have e : (win0_2.blk t).view.emb (ix3 (0 : Fin 1) a b) = ix3 q a b := by
    show (win0_2.rect t).emb (ix3 (0 : Fin 1) a b) = _
    obtain ⟨h0, h1, h2⟩ := where_out t
    funext d
    apply Fin.ext
    match d with
    | ⟨0, _⟩ => refine (win0_2.rect_emb_val t _ 0).trans ?_
                rw [h0]
                show q.val * 1 + 0 = q.val
                omega
    | ⟨1, _⟩ => exact win0_2.rect_emb_val_of_index_zero t 1 h1 _
    | ⟨2, _⟩ => exact win0_2.rect_emb_val_of_index_zero t 2 h2 _
  rw [← e]
  refine ((dats m 0 c).arrAt_emb_eq_flushed 2 Value.disjoint2 t (flush0_2 t) (ix3 (0 : Fin 1) a b)).trans ?_
  show (dats m 0 c).flushed 2 t (ix3 (0 : Fin 1) a b) = _
  rw [Value.flushed2]
  show out0_2 (iblk m c 0 t) (iblk m c 1 t) (ix3 (0 : Fin 1) a b) = _
  have hz : (![0, 0, 0] : Fin 3 → Nat) = fun _ => 0 := funext fun a => by fin_cases a <;> rfl
  have hz2 : (![0, 0] : Fin 2 → Nat) = fun _ => 0 := funext fun a => by fin_cases a <;> rfl
  unfold out0_2
  rw [View.canon_unit_zero hz, View.ld_unit_zero hz2, View.ld_unit_zero hz, block_entry]
  unfold entry
  refine Finset.sum_congr rfl fun k _ => ?_
  rw [rows_block, gates_block m c t q rfl]

end Kernel

/-- The gradient is the reference's. -/
theorem algebraic : Cert.algebraic_Kernel4Ideal_Reference4Ideal := by
  intro m ρ m' ρ' _ hagree
  refine ⟨fun c => (Cert.Kernel4Ideal.Gen.dats m 0 c).arrAt 2 Cert.Kernel4Ideal.cfg0.N, Cert.Kernel4Ideal.Value.run_blocks m ρ, ?_⟩
  refine (θ_run Cert.Reference4Ideal.defs _ _).mono (fun _ h c => ⟨(h c).1.trans ?_, (h c).2⟩)
    (Cert.Reference4Ideal.Value.run (F := Ideal) m' ρ')
  rw [(hagree c).1, (hagree c).2]
  funext j
  rw [eq_ix3 j]
  refine Eq.trans ?_ (final m c (j 0) (j 1) (j 2)).symm
  generalize j 0 = q
  generalize j 1 = a
  generalize j 2 = b
  pointwise []
  have hq : q.val < 4 := q.isLt
  have hb : b.val < 1408 := b.isLt
  unfold entry
  refine Finset.sum_congr rfl fun k _ => ?_
  rw [mul_comm]
  congr 1
  split
  · congr 1
    exact congrArg₂ (fun u v => ix3 u k v) (Fin.ext (show 0 = q.val / 2 by omega)) (Fin.ext (show q.val * 1408 + b.val = q.val % 2 * 1408 + b.val by omega))
  · congr 1
    exact congrArg₂ (fun u v => ix3 u k v) (Fin.ext (show 1 = q.val / 2 by omega)) (Fin.ext (show q.val * 1408 + b.val - 2816 = q.val % 2 * 1408 + b.val by omega))

end Cert.Ffn.DwIn

end
-- ==== Proof.Ffn.Norm.lean ====
/-
  The gradient of a root-mean-square normalisation, row by row on the extended reals: the derivative of the reciprocal
  square root, as the reference forms it, is the cube of the reciprocal square root, as the kernel forms it. A row of
  real numbers has a positive mean square plus epsilon; a row with an infinity has factor zero, and both forms vanish.
-/
module

public import proofs.«01_k».proof.Proof.Ffn.Finite

@[expose] public section

noncomputable section

open Idealize.ShloMosaic

namespace Cert.Ffn

/-- The row length, epsilon and minus one half, as the extended reals their literals denote. -/
abbrev width : EReal := Ideal.ofBits .f32 0x44800000#32
abbrev epsilon : EReal := Ideal.ofBits .f32 0x358637BD#32
abbrev minusHalf : EReal := Ideal.ofBits .f32 0xBF000000#32

theorem minusHalf_coe : minusHalf = ((-(1 / 2) : ℝ) : EReal) := by
  simp [Ideal.ofBits, Ideal.ieee, -EReal.coe_mul]
  norm_num
theorem width_coe : width = ((1024 : ℝ) : EReal) := ofBits_1024
theorem epsilon_coe : ∃ e : ℝ, 0 < e ∧ epsilon = (e : EReal) := by
  refine ⟨8796093 * (2 : ℝ) ^ (-43 : ℤ), by positivity, ?_⟩
  simp [Ideal.ofBits, Ideal.ieee, -EReal.coe_mul]

/-- The mean square plus epsilon of a row, and its reciprocal square root. -/
def meanSquare {n : ℕ} (x : Fin n → EReal) : EReal := Ideal.div (∑ k, x k * x k) width + epsilon
def rms {n : ℕ} (x : Fin n → EReal) : EReal := Ideal.rsqrt (meanSquare x)

theorem square_nonneg (x : EReal) : 0 ≤ x * x := by
  induction x with
  | bot => simp
  | top => simp
  | coe r =>
    rw [← EReal.coe_mul]
    exact_mod_cast mul_self_nonneg r

theorem square_of_not_real {x : EReal} (h : ¬IsReal x) : x * x = ⊤ := by
  induction x with
  | bot => simp
  | top => simp
  | coe r => exact absurd ⟨r, rfl⟩ h

/-- A row with an infinity has factor zero. -/
theorem meanSquare_top {n : ℕ} {x : Fin n → EReal} {k : Fin n} (h : ¬IsReal (x k)) : meanSquare x = ⊤ := by
  have e : ∑ k, x k * x k = ⊤ := by
    refine top_le_iff.1 ?_
    rw [← square_of_not_real h]
    exact Finset.single_le_sum (f := fun k => x k * x k) (fun i _ => square_nonneg (x i)) (Finset.mem_univ k)
  obtain ⟨ε, -, hε⟩ := epsilon_coe
  unfold meanSquare
  rw [e, width_coe, hε, Ideal.div_coe (by norm_num), EReal.top_mul_coe_of_pos (by norm_num)]
  exact EReal.top_add_coe ε

/-- A row of real numbers has a positive real mean square plus epsilon. -/
theorem meanSquare_pos {n : ℕ} {x : Fin n → EReal} (h : ∀ k, IsReal (x k)) :
    ∃ v : ℝ, 0 < v ∧ meanSquare x = (v : EReal) := by
  obtain ⟨s, hs⟩ := IsReal.sum Finset.univ (fun k => x k * x k) fun k _ => (h k).mul (h k)
  have h0 : (0 : ℝ) ≤ s := by
    have := Finset.sum_nonneg (s := Finset.univ) (f := fun k => x k * x k) fun k _ => square_nonneg (x k)
    rw [hs] at this
    exact_mod_cast this
  obtain ⟨ε, hp, hε⟩ := epsilon_coe
  refine ⟨s * (1 / 1024) + ε, by positivity, ?_⟩
  unfold meanSquare
  rw [hs, width_coe, hε, Ideal.div_coe (by norm_num), ← EReal.coe_mul, ← EReal.coe_add]

/-- Twice an extended real times a real number. -/
theorem twice (s : EReal) (r : ℝ) : s * (r : EReal) + s * (r : EReal) = s * ((2 * r : ℝ) : EReal) := by
  induction s with
  | coe s =>
    norm_cast
    ring
  | top =>
    rcases lt_trichotomy r 0 with h | h | h
    · rw [EReal.top_mul_coe_of_neg h, EReal.top_mul_coe_of_neg (by linarith)]
      rfl
    · simp [h]
    · rw [EReal.top_mul_coe_of_pos h, EReal.top_mul_coe_of_pos (by linarith)]
      rfl
  | bot =>
    rcases lt_trichotomy r 0 with h | h | h
    · rw [EReal.bot_mul_coe_of_neg h, EReal.bot_mul_coe_of_neg (by linarith)]
      rfl
    · simp [h]
    · rw [EReal.bot_mul_coe_of_pos h, EReal.bot_mul_coe_of_pos (by linarith)]
      rfl

/-- An entry of the gradient as the kernel forms it: from the residual's gradient `d`, the entry `a` of the row and `w`
    of the normalised row's gradient, the row's factor `r` and the row's inner product `s`. -/
def normGrad (d a w r s : EReal) : EReal := d + (r * w - a * (r * r * r) * Ideal.div s width)

/-- The reference's form of it. -/
theorem normGrad_eq {n : ℕ} (x : Fin n → EReal) (k : Fin n) (d w s : EReal) :
    d + w * rms x + x k * Ideal.div (s * (minusHalf * Ideal.div (rms x) (meanSquare x))) width
        + x k * Ideal.div (s * (minusHalf * Ideal.div (rms x) (meanSquare x))) width
      = normGrad d (x k) w (rms x) s := by
  unfold normGrad rms
  rw [width_coe, Ideal.div_coe (by norm_num), Ideal.div_coe (by norm_num), add_assoc, add_assoc]
  by_cases h : ∀ k, IsReal (x k)
  · obtain ⟨v, hv, e⟩ := meanSquare_pos h
    obtain ⟨a, ha⟩ := h k
    have hq : (Real.sqrt v)⁻¹ * (Real.sqrt v)⁻¹ = 1 / v := by
      rw [← mul_inv, Real.mul_self_sqrt hv.le, one_div]
    rw [e, ha, Ideal.rsqrt_coe, if_neg hv.not_gt, if_neg hv.ne', Ideal.div_coe hv.ne', minusHalf_coe]
    generalize (Real.sqrt v)⁻¹ = r at hq
    have l : (a : EReal) * (s * (((-(1 / 2) : ℝ) : EReal) * ((r : EReal) * ((1 / v : ℝ) : EReal))) * ((1 / 1024 : ℝ) : EReal))
        = s * ((a * (-(1 / 2) * (r * (1 / v))) * (1 / 1024) : ℝ) : EReal) := by
      simp only [EReal.coe_mul]
      ac_rfl
    have g : (a : EReal) * ((r : EReal) * r * r) * (s * ((1 / 1024 : ℝ) : EReal))
        = s * ((a * (r * r * r) * (1 / 1024) : ℝ) : EReal) := by
      simp only [EReal.coe_mul]
      ac_rfl
    rw [l, g, twice, sub_eq_add_neg, ← mul_neg, ← EReal.coe_neg, mul_comm w]
    congr 3
    norm_cast
    rw [hq]
    ring
  · obtain ⟨k', hk⟩ := not_forall.1 h
    rw [meanSquare_top hk]
    simp [Ideal.div]

end Cert.Ffn

end
-- ==== Proof.Ffn.Dn.lean ====
/-
  The gradient of the residual branch in its input and its gain: each of eight row tiles multiplies the incoming gradient
  by the transposed input weights, taken as four column shards, and forms the gradient of the normalisation row by row;
  the gain's gradient is accumulated over the tiles. No condition on the arguments: the two forms of the gradient of the
  normalisation agree on all extended reals (`Norm`).
-/
module

public import proofs.«01_k».proof.Defs
public import proofs.«01_k».proof.Proof.Gen.Kernel5Ideal.Value
public import proofs.«01_k».proof.Proof.Gen.Reference5Ideal.Run
public import proofs.«01_k».proof.Proof.Ffn.Norm
public import Idealize.ShloMosaic.Lib.Pipeline.Value
public import Idealize.ShloMosaic.Lib.Pointwise
public import Idealize.ShloMosaic.Lib.IdealHost
public import Idealize.ShloMosaic.Lib.Quiescent

@[expose] public section

set_option maxRecDepth 16384

noncomputable section

open Idealize.ShloMosaic Idealize.ShloMosaic.TcCoe Idealize.SL.Sem Idealize.ShloMosaic.Tactic
open Idealize.ShloMosaic.Pipeline (Dat Window)

namespace Cert.Ffn.Dn

section Kernel

open Cert.Kernel5Ideal Cert.Kernel5Ideal.Gen

variable (m : (ℓ : Loc nD τ sig) → Buf (Elt Ideal) ℓ)

/-- The incoming gradient of the two gate halves, the input weights, the rows, the gain and the residual's gradient. -/
abbrev grad (c : Dev nD) : FVec Ideal S2x4096x2816 .bf16 := m ((c : Thread nD τ).loc main_arg0)
abbrev weights (c : Dev nD) : FVec Ideal S1024x5632 .f32 := m ((c : Thread nD τ).loc main_arg1)
abbrev rows (c : Dev nD) : FVec Ideal S4096x1024 .f32 := m ((c : Thread nD τ).loc main_arg2)
abbrev gain (c : Dev nD) : FVec Ideal S1x1024 .f32 := m ((c : Thread nD τ).loc main_arg3)
abbrev residual (c : Dev nD) : FVec Ideal S4096x1024 .f32 := m ((c : Thread nD τ).loc main_arg4)

theorem hz : (![0, 0] : Fin 2 → Nat) = fun _ => 0 := funext fun a => by fin_cases a <;> rfl
theorem hz3 : (![0, 0, 0] : Fin 3 → Nat) = fun _ => 0 := funext fun a => by fin_cases a <;> rfl

/-- A tile's gradient of the normalised rows, from the four column shards. -/
def normed (x0 x1 x2 x3 : Vec Ideal S1x512x1408 .bf16) (w : Vec Ideal S4x1024x1408 .bf16) : FVec Ideal S512x1024 .f32 :=
  k0_pay5 x0 (View.ld w (Rect.unit ![0, 0, 0] S1x1024x1408.size inb_S4x1024x1408_S1x1024x1408_0_0_0))
    x1 (View.ld w (Rect.unit ![1, 0, 0] S1x1024x1408.size inb_S4x1024x1408_S1x1024x1408_1_0_0))
    x2 (View.ld w (Rect.unit ![2, 0, 0] S1x1024x1408.size inb_S4x1024x1408_S1x1024x1408_2_0_0))
    x3 (View.ld w (Rect.unit ![3, 0, 0] S1x1024x1408.size inb_S4x1024x1408_S1x1024x1408_3_0_0))

section Cases

variable (c : Dev nD) (i : grid0.Coords) (a1 : Memref sig .tc .vmem S1x512x1408 .bf16) (h1 : a1.IsWhole)
  (a2 : Memref sig .tc .vmem S1x512x1408 .bf16) (h2 : a2.IsWhole)
  (a3 : Memref sig .tc .vmem S1x512x1408 .bf16) (h3 : a3.IsWhole)
  (a4 : Memref sig .tc .vmem S1x512x1408 .bf16) (h4 : a4.IsWhole)
  (a5 : Memref sig .tc .vmem S4x1024x1408 .bf16) (h5 : a5.IsWhole)
  (a6 : Memref sig .tc .vmem S512x1024 .f32) (h6 : a6.IsWhole)
  (a7 : Memref sig .tc .vmem S1x1024 .f32) (h7 : a7.IsWhole)
  (a8 : Memref sig .tc .vmem S512x1024 .f32) (h8 : a8.IsWhole)
  (a9 : Memref sig .tc .vmem S512x1024 .f32) (h9 : a9.IsWhole)
  (a10 : Memref sig .tc .vmem S1x1024 .f32) (h10 : a10.IsWhole)
  (x0 x1 x2 x3 : Vec Ideal S1x512x1408 .bf16) (x4 : Vec Ideal S4x1024x1408 .bf16) (x5 : Vec Ideal S512x1024 .f32)
  (x6 : Vec Ideal S1x1024 .f32) (x7 : Vec Ideal S512x1024 .f32) (s : Vec Ideal S1x1024 .f32)

/-- The first tile's rows, and its gain gradient, which it stores. -/
theorem first_rows (hc0 : cond0_0 i) (hc1 : ¬cond0_1 i) :
    out0_A_8 c i a1 h1 a2 h2 a3 h3 a4 h4 a5 h5 a6 h6 a7 h7 a8 h8 a9 h9 a10 h10 hc0 hc1 x0 x1 x2 x3 x4 x5 x6 x7
      = k0_pay2 (normed x0 x1 x2 x3 x4) x5 (k0_pay6 x5) width x6 x7 := by
  unfold out0_A_8
  rw [View.read_writes_eq_canon _ _ _
    (cover0_A_8 c i a1 h1 a2 h2 a3 h3 a4 h4 a5 h5 a6 h6 a7 h7 a8 h8 a9 h9 a10 h10 hc0 hc1 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread,
    h6.read_unread, h7.read_unread, h8.read_unread, View.ld_unit_zero (S := S512x1024) hz, View.ld_unit_zero (S := S1x1024) hz,
    View.ld_unit_zero (S := S1x512x1408) hz3]
  rfl
theorem first_gain (hc0 : cond0_0 i) (hc1 : ¬cond0_1 i) :
    out0_A_9 c i a1 h1 a2 h2 a3 h3 a4 h4 a5 h5 a6 h6 a7 h7 a8 h8 a9 h9 a10 h10 hc0 hc1 x0 x1 x2 x3 x4 x5 x6 x7
      = k0_pay3 (normed x0 x1 x2 x3 x4) x5 (k0_pay6 x5) width := by
  unfold out0_A_9
  rw [View.read_writes_eq_canon _ _ _
    (cover0_A_9 c i a1 h1 a2 h2 a3 h3 a4 h4 a5 h5 a6 h6 a7 h7 a8 h8 a9 h9 a10 h10 hc0 hc1 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread,
    h6.read_unread, View.ld_unit_zero (S := S512x1024) hz, View.ld_unit_zero (S := S1x512x1408) hz3]
  rfl
/-- A later tile's rows, and the gain gradient with its own added. -/
theorem later_rows (hc0 : ¬cond0_0 i) (hc1 : cond0_1 i) :
    out0_B_8 c i a1 h1 a2 h2 a3 h3 a4 h4 a5 h5 a6 h6 a7 h7 a8 h8 a9 h9 a10 h10 hc0 hc1 x0 x1 x2 x3 x4 x5 x6 x7 s
      = k0_pay2 (normed x0 x1 x2 x3 x4) x5 (k0_pay6 x5) width x6 x7 := by
  unfold out0_B_8
  rw [View.read_writes_eq_canon _ _ _
    (cover0_B_8 c i a1 h1 a2 h2 a3 h3 a4 h4 a5 h5 a6 h6 a7 h7 a8 h8 a9 h9 a10 h10 hc0 hc1 x0 x1 x2 x3 x4 x5 x6 x7 s)]
  unfold kernelRun0_B
  dsimp only
  sl_unfold_words
  rw [View.canon_unit_zero hz]
  simp only [View.readAt_eq_ld, h1.read_unread, h2.read_unread, h3.read_unread, h4.read_unread, h5.read_unread,
    h6.read_unread, h7.read_unread, h8.read_unread, View.ld_unit_zero (S := S512x1024) hz, View.ld_unit_zero (S := S1x1024) hz,
    View.ld_unit_zero (S := S1x512x1408) hz3]
  rfl
theorem later_gain (hc0 : ¬cond0_0 i) (hc1 : cond0_1 i) :
    out0_B_9 c i a1 h1 a2 h2 a3 h3 a4 h4 a5 h5 a6 h6 a7 h7 a8 h8 a9 h9 a10 h10 hc0 hc1 x0 x1 x2 x3 x4 x5 x6 x7 s
      = k0_pay4 (normed x0 x1 x2 x3 x4) x5 (k0_pay6 x5) width s := by
  unfold out0_B_9
  rw [View.read_writes_eq_canon _ _ _
    (cover0_B_9 c i a1 h1 a2 h2 a3 h3 a4 h4 a5 h5 a6 h6 a7 h7 a8 h8 a9 h9 a10 h10 hc0 hc1 x0 x1 x2 x3 x4 x5 x6 x7 s)]
  unfold kernelRun0_B
  dsimp only
  sl_unfold_words
  rw [View.canon_unit_zero hz]
  simp only [View.readAt_eq_ld, h1.read_unread, h2.read_unread, h3.read_unread, h4.read_unread, h5.read_unread,
    h6.read_unread, h10.read_unread, View.ld_unit_zero (S := S512x1024) hz, View.ld_unit_zero (S := S1x1024) hz,
    View.ld_unit_zero (S := S1x512x1408) hz3]
  rfl

end Cases

/-- The product with one shard. -/
def shard (x : Vec Ideal S1x512x1408 .bf16) (w : Vec Ideal S4x1024x1408 .bf16) (q : Fin 4) (r : Fin 512) (j : Fin 1024) : EReal :=
  ∑ k : Fin 1408, x (ix3 (0 : Fin 1) r k) * w (ix3 q j k)

theorem normed_entry (x0 x1 x2 x3 : Vec Ideal S1x512x1408 .bf16) (w : Vec Ideal S4x1024x1408 .bf16) (r : Fin 512) (j : Fin 1024) :
    normed x0 x1 x2 x3 w (ix2 r j) = shard x0 w 0 r j + shard x1 w 1 r j + shard x2 w 2 r j + shard x3 w 3 r j := by
  unfold normed
  pointwise [k0_pay5]
  rfl

theorem rows_entry (d x y : Vec Ideal S512x1024 .f32) (g : Vec Ideal S1x1024 .f32) (r : Fin 512) (j : Fin 1024) :
    k0_pay2 d x (k0_pay6 x) width g y (ix2 r j)
      = normGrad (y (ix2 r j)) (x (ix2 r j)) (d (ix2 r j) * g (ix2 (0 : Fin 1) j)) (rms fun k => x (ix2 r k))
        (∑ k : Fin 1024, x (ix2 r k) * (d (ix2 r k) * g (ix2 (0 : Fin 1) k))) := by
  pointwise [k0_pay2, k0_pay1, k0_pay6]
  rfl

theorem gain_entry (d x : Vec Ideal S512x1024 .f32) (j : Fin 1024) :
    k0_pay3 d x (k0_pay6 x) width (ix2 (0 : Fin 1) j)
      = ∑ r : Fin 512, d (ix2 r j) * (x (ix2 r j) * rms fun k => x (ix2 r k)) := by
  pointwise [k0_pay3, k0_pay1, k0_pay6]
  rfl

theorem gain_step (d x : Vec Ideal S512x1024 .f32) (s : Vec Ideal S1x1024 .f32) (j : Fin 1024) :
    k0_pay4 d x (k0_pay6 x) width s (ix2 (0 : Fin 1) j)
      = s (ix2 (0 : Fin 1) j) + k0_pay3 d x (k0_pay6 x) width (ix2 (0 : Fin 1) j) := by
  unfold k0_pay4
  pointwise []

theorem staged_weights (c : Dev nD) (q : Fin 4) (j : Fin 1024) (k : Fin 1408) (k' : Fin 5632) (hk : k'.val = q.val * 1408 + k.val) :
    V m c main_v2 (ix3 q j k) = weights m c (ix2 j k') := by
  show StableHlo.after hostOps0 (fun b => m (c, b)) main_v2 _ = _
  after_results
  pointwise []
  exact congrArg (fun l => weights m c (ix2 j l)) (Fin.ext hk.symm)

/-- An index of a three-axis array from its coordinates. -/
theorem eq_of_coords {a b c : ℕ} (i : (⟨3, ![a, b, c]⟩ : Shape).Idx) (x : Fin a) (y : Fin b) (z : Fin c)
    (h0 : (i 0).val = x.val) (h1 : (i 1).val = y.val) (h2 : (i 2).val = z.val) : i = ix3 x y z := by
  funext d
  apply Fin.ext
  match d with
  | ⟨0, _⟩ => exact h0
  | ⟨1, _⟩ => exact h1
  | ⟨2, _⟩ => exact h2
theorem eq_of_coords2 {a b : ℕ} (i : (⟨2, ![a, b]⟩ : Shape).Idx) (x : Fin a) (y : Fin b)
    (h0 : (i 0).val = x.val) (h1 : (i 1).val = y.val) : i = ix2 x y := by
  funext d
  apply Fin.ext
  match d with
  | ⟨0, _⟩ => exact h0
  | ⟨1, _⟩ => exact h1

theorem where_grad0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem where_grad1 : ∀ t : Fin cfg0.N, win0_1.index t 0 = 0 ∧ win0_1.index t 1 = t.val ∧ win0_1.index t 2 = 1 :=
  (by decide +kernel : ∀ t : Fin grid0.N, win0_1.index t 0 = 0 ∧ win0_1.index t 1 = t.val ∧ win0_1.index t 2 = 1)
theorem where_grad2 : ∀ t : Fin cfg0.N, win0_2.index t 0 = 1 ∧ win0_2.index t 1 = t.val ∧ win0_2.index t 2 = 0 :=
  (by decide +kernel : ∀ t : Fin grid0.N, win0_2.index t 0 = 1 ∧ win0_2.index t 1 = t.val ∧ win0_2.index t 2 = 0)
theorem where_grad3 : ∀ t : Fin cfg0.N, win0_3.index t 0 = 1 ∧ win0_3.index t 1 = t.val ∧ win0_3.index t 2 = 1 :=
  (by decide +kernel : ∀ t : Fin grid0.N, win0_3.index t 0 = 1 ∧ win0_3.index t 1 = t.val ∧ win0_3.index t 2 = 1)
theorem where_weights : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
theorem where_rows : ∀ t : Fin cfg0.N, win0_5.index t 0 = t.val ∧ win0_5.index t 1 = 0 :=
  (by decide +kernel : ∀ t : Fin grid0.N, win0_5.index t 0 = t.val ∧ win0_5.index t 1 = 0)
theorem where_gain : ∀ t : Fin cfg0.N, win0_6.index t 0 = 0 ∧ win0_6.index t 1 = 0 :=
  (by decide +kernel : ∀ t : Fin grid0.N, win0_6.index t 0 = 0 ∧ win0_6.index t 1 = 0)
theorem where_residual : ∀ t : Fin cfg0.N, win0_7.index t 0 = t.val ∧ win0_7.index t 1 = 0 :=
  (by decide +kernel : ∀ t : Fin grid0.N, win0_7.index t 0 = t.val ∧ win0_7.index t 1 = 0)
theorem where_out : ∀ t : Fin cfg0.N, win0_8.index t 0 = t.val ∧ win0_8.index t 1 = 0 :=
  (by decide +kernel : ∀ t : Fin grid0.N, win0_8.index t 0 = t.val ∧ win0_8.index t 1 = 0)
theorem where_gain_out : ∀ t : Fin cfg0.N, win0_9.index t 0 = 0 ∧ win0_9.index t 1 = 0 :=
  (by decide +kernel : ∀ t : Fin grid0.N, win0_9.index t 0 = 0 ∧ win0_9.index t 1 = 0)

section Blocks

variable (c : Dev nD) (t : Fin cfg0.N)

theorem grad_block0 (r : Fin 512) (k : Fin 1408) (r' : Fin 4096) (k' : Fin 2816) (hr : r'.val = t.val * 512 + r.val) (hk : k'.val = k.val) :
    iblk m c 0 t (ix3 (0 : Fin 1) r k) = grad m c (ix3 (0 : Fin 2) r' k') := by
  show V m c main_arg0 ((win0_0.rect t).emb (ix3 (0 : Fin 1) r k)) = _
  rw [V_main_arg0]
  obtain ⟨h0, h1, h2⟩ := where_grad0 t
  refine congrArg (grad m c) (eq_of_coords _ _ _ _ ((win0_0.rect_emb_val t _ 0).trans ?_) ((win0_0.rect_emb_val t _ 1).trans ?_)
    ((win0_0.rect_emb_val t _ 2).trans ?_))
  · rw [h0]; rfl
  · rw [h1]; exact hr.symm
  · rw [h2]; exact (Nat.zero_add _).trans hk.symm
theorem grad_block1 (r : Fin 512) (k : Fin 1408) (r' : Fin 4096) (k' : Fin 2816) (hr : r'.val = t.val * 512 + r.val) (hk : k'.val = 1408 + k.val) :
    iblk m c 1 t (ix3 (0 : Fin 1) r k) = grad m c (ix3 (0 : Fin 2) r' k') := by
  show V m c main_arg0 ((win0_1.rect t).emb (ix3 (0 : Fin 1) r k)) = _
  rw [V_main_arg0]
  obtain ⟨h0, h1, h2⟩ := where_grad1 t
  refine congrArg (grad m c) (eq_of_coords _ _ _ _ ((win0_1.rect_emb_val t _ 0).trans ?_) ((win0_1.rect_emb_val t _ 1).trans ?_)
    ((win0_1.rect_emb_val t _ 2).trans ?_))
  · rw [h0]; rfl
  · rw [h1]; exact hr.symm
  · rw [h2]; exact hk.symm
theorem grad_block2 (r : Fin 512) (k : Fin 1408) (r' : Fin 4096) (k' : Fin 2816) (hr : r'.val = t.val * 512 + r.val) (hk : k'.val = k.val) :
    iblk m c 2 t (ix3 (0 : Fin 1) r k) = grad m c (ix3 (1 : Fin 2) r' k') := by
  show V m c main_arg0 ((win0_2.rect t).emb (ix3 (0 : Fin 1) r k)) = _
  rw [V_main_arg0]
  obtain ⟨h0, h1, h2⟩ := where_grad2 t
  refine congrArg (grad m c) (eq_of_coords _ _ _ _ ((win0_2.rect_emb_val t _ 0).trans ?_) ((win0_2.rect_emb_val t _ 1).trans ?_)
    ((win0_2.rect_emb_val t _ 2).trans ?_))
  · rw [h0]; rfl
  · rw [h1]; exact hr.symm
  · rw [h2]; exact (Nat.zero_add _).trans hk.symm
theorem grad_block3 (r : Fin 512) (k : Fin 1408) (r' : Fin 4096) (k' : Fin 2816) (hr : r'.val = t.val * 512 + r.val) (hk : k'.val = 1408 + k.val) :
    iblk m c 3 t (ix3 (0 : Fin 1) r k) = grad m c (ix3 (1 : Fin 2) r' k') := by
  show V m c main_arg0 ((win0_3.rect t).emb (ix3 (0 : Fin 1) r k)) = _
  rw [V_main_arg0]
  obtain ⟨h0, h1, h2⟩ := where_grad3 t
  refine congrArg (grad m c) (eq_of_coords _ _ _ _ ((win0_3.rect_emb_val t _ 0).trans ?_) ((win0_3.rect_emb_val t _ 1).trans ?_)
    ((win0_3.rect_emb_val t _ 2).trans ?_))
  · rw [h0]; rfl
  · rw [h1]; exact hr.symm
  · rw [h2]; exact hk.symm
theorem weights_block (q : Fin 4) (j : Fin 1024) (k : Fin 1408) (k' : Fin 5632) (hk : k'.val = q.val * 1408 + k.val) :
    iblk m c 4 t (ix3 q j k) = weights m c (ix2 j k') := by
  refine Eq.trans ?_ (staged_weights m c q j k k' hk)
  show V m c main_v2 ((win0_4.rect t).emb (ix3 q j k)) = _
  obtain ⟨h0, h1, h2⟩ := where_weights t
  exact congrArg (V m c main_v2) (eq_of_coords _ _ _ _ (win0_4.rect_emb_val_of_index_zero t 0 h0 _)
    (win0_4.rect_emb_val_of_index_zero t 1 h1 _) (win0_4.rect_emb_val_of_index_zero t 2 h2 _))
theorem rows_block (r : Fin 512) (k : Fin 1024) (r' : Fin 4096) (hr : r'.val = t.val * 512 + r.val) :
    iblk m c 5 t (ix2 r k) = rows m c (ix2 r' k) := by
  show V m c main_arg2 ((win0_5.rect t).emb (ix2 r k)) = _
  rw [V_main_arg2]
  obtain ⟨h0, h1⟩ := where_rows t
  refine congrArg (rows m c) (eq_of_coords2 _ _ _ ((win0_5.rect_emb_val t _ 0).trans ?_) (win0_5.rect_emb_val_of_index_zero t 1 h1 _))
  rw [h0]
  exact hr.symm
theorem gain_block (k : Fin 1024) : iblk m c 6 t (ix2 (0 : Fin 1) k) = gain m c (ix2 (0 : Fin 1) k) := by
  show V m c main_arg3 ((win0_6.rect t).emb (ix2 (0 : Fin 1) k)) = _
  rw [V_main_arg3]
  obtain ⟨h0, h1⟩ := where_gain t
  exact congrArg (gain m c) (eq_of_coords2 _ _ _ (win0_6.rect_emb_val_of_index_zero t 0 h0 _) (win0_6.rect_emb_val_of_index_zero t 1 h1 _))
theorem residual_block (r : Fin 512) (k : Fin 1024) (r' : Fin 4096) (hr : r'.val = t.val * 512 + r.val) :
    iblk m c 7 t (ix2 r k) = residual m c (ix2 r' k) := by
  show V m c main_arg4 ((win0_7.rect t).emb (ix2 r k)) = _
  rw [V_main_arg4]
  obtain ⟨h0, h1⟩ := where_residual t
  refine congrArg (residual m c) (eq_of_coords2 _ _ _ ((win0_7.rect_emb_val t _ 0).trans ?_) (win0_7.rect_emb_val_of_index_zero t 1 h1 _))
  rw [h0]
  exact hr.symm

end Blocks

/-- The gradient of the normalised rows: the two halves' products with the transposed weights, added. -/
def product (u : FVec Ideal S2x4096x2816 .bf16) (w : FVec Ideal S1024x5632 .f32) (r : Fin 4096) (j : Fin 1024) : EReal :=
  ∑ k : Fin 2816, u (ix3 (0 : Fin 2) r k) * w (ix2 j (⟨k.val, by omega⟩ : Fin 5632))
    + ∑ k : Fin 2816, u (ix3 (1 : Fin 2) r k) * w (ix2 j (⟨2816 + k.val, by omega⟩ : Fin 5632))

/-- A tile's gradient of the normalised rows, read at an entry: the four shards' sums are the two halves'. -/
theorem tile_product (c : Dev nD) (t : Fin cfg0.N) (r : Fin 512) (j : Fin 1024) (r' : Fin 4096) (hr : r'.val = t.val * 512 + r.val) :
    normed (iblk m c 0 t) (iblk m c 1 t) (iblk m c 2 t) (iblk m c 3 t) (iblk m c 4 t) (ix2 r j)
      = product (grad m c) (weights m c) r' j := by
  rw [normed_entry, add_assoc]
  unfold product shard
  refine congrArg₂ (· + ·) (Eq.trans ?_ (Fin.sum_univ_add (a := 1408) (b := 1408) _).symm)
    (Eq.trans ?_ (Fin.sum_univ_add (a := 1408) (b := 1408) _).symm)
  · refine congrArg₂ (· + ·) (Finset.sum_congr rfl fun k _ => ?_) (Finset.sum_congr rfl fun k _ => ?_)
    · rw [grad_block0 m c t r k r' (Fin.castAdd 1408 k) hr rfl, weights_block m c t 0 j k ⟨k.val, by omega⟩ (by simp)]
      rfl
    · rw [grad_block1 m c t r k r' (Fin.natAdd 1408 k) hr rfl, weights_block m c t 1 j k ⟨1408 + k.val, by omega⟩ (by simp)]
      rfl
  · refine congrArg₂ (· + ·) (Finset.sum_congr rfl fun k _ => ?_) (Finset.sum_congr rfl fun k _ => ?_)
    · rw [grad_block2 m c t r k r' (Fin.castAdd 1408 k) hr rfl, weights_block m c t 2 j k ⟨2816 + k.val, by omega⟩ (by simp)]
      rfl
    · rw [grad_block3 m c t r k r' (Fin.natAdd 1408 k) hr rfl,
        weights_block m c t 3 j k ⟨2816 + (1408 + k.val), by omega⟩ (by show 2816 + (1408 + k.val) = 3 * 1408 + k.val; omega)]
      rfl

/-- The gradient in the rows, at an entry, and one row's term of the gain's gradient. -/
def rowEntry (u : FVec Ideal S2x4096x2816 .bf16) (w : FVec Ideal S1024x5632 .f32) (x : FVec Ideal S4096x1024 .f32)
    (g : FVec Ideal S1x1024 .f32) (d : FVec Ideal S4096x1024 .f32) (r : Fin 4096) (j : Fin 1024) : EReal :=
  normGrad (d (ix2 r j)) (x (ix2 r j)) (product u w r j * g (ix2 (0 : Fin 1) j)) (rms fun k : Fin 1024 => x (ix2 r k))
    (∑ k : Fin 1024, x (ix2 r k) * (product u w r k * g (ix2 (0 : Fin 1) k)))
def gainTerm (u : FVec Ideal S2x4096x2816 .bf16) (w : FVec Ideal S1024x5632 .f32) (x : FVec Ideal S4096x1024 .f32)
    (r : Fin 4096) (j : Fin 1024) : EReal :=
  product u w r j * (x (ix2 r j) * rms fun k : Fin 1024 => x (ix2 r k))

theorem tile_rows (c : Dev nD) (t : Fin cfg0.N) (r : Fin 512) (j : Fin 1024) (r' : Fin 4096) (hr : r'.val = t.val * 512 + r.val) :
    (outsAt0 m c t.val t.isLt).1 (ix2 r j)
      = rowEntry (grad m c) (weights m c) (rows m c) (gain m c) (residual m c) r' j := by
  have e : (outsAt0 m c t.val t.isLt).1
      = k0_pay2 (normed (iblk m c 0 t) (iblk m c 1 t) (iblk m c 2 t) (iblk m c 3 t) (iblk m c 4 t)) (iblk m c 5 t)
          (k0_pay6 (iblk m c 5 t)) width (iblk m c 6 t) (iblk m c 7 t) := by
    have hN : cfg0.N = 8 := N_0
    by_cases h : t.val = 0
    · rw [outsAt0_A m c t (by omega) (by omega)]
      dsimp only
      rw [first_rows]
    · rw [outsAt0_B m c t (by omega) (by omega)]
      dsimp only
      rw [later_rows]
  rw [e, rows_entry]
  unfold rowEntry
  simp only [tile_product m c t r _ r' hr, rows_block m c t r _ r' hr, gain_block m c t, residual_block m c t r _ r' hr]

/-- One tile's gain gradient. -/
theorem tile_gain (c : Dev nD) (t : Fin cfg0.N) (j : Fin 1024) :
    k0_pay3 (normed (iblk m c 0 t) (iblk m c 1 t) (iblk m c 2 t) (iblk m c 3 t) (iblk m c 4 t)) (iblk m c 5 t)
        (k0_pay6 (iblk m c 5 t)) width (ix2 (0 : Fin 1) j)
      = ∑ r : Fin 512, gainTerm (grad m c) (weights m c) (rows m c)
          ⟨t.val * 512 + r.val, by have hN : cfg0.N = 8 := N_0; omega⟩ j := by
  rw [gain_entry]
  refine Finset.sum_congr rfl fun r _ => ?_
  have hN : cfg0.N = 8 := N_0
  unfold gainTerm
  rw [tile_product m c t r j ⟨t.val * 512 + r.val, by omega⟩ rfl]
  simp only [rows_block m c t r _ ⟨t.val * 512 + r.val, by omega⟩ rfl]

theorem gain_first (c : Dev nD) (t : Fin cfg0.N) (h : t.val = 0) (j : Fin 1024) :
    (outsAt0 m c t.val t.isLt).2 (ix2 (0 : Fin 1) j)
      = ∑ r : Fin 512, gainTerm (grad m c) (weights m c) (rows m c)
          ⟨t.val * 512 + r.val, by have hN : cfg0.N = 8 := N_0; omega⟩ j := by
  rw [outsAt0_A m c t (by omega) (by omega)]
  dsimp only
  rw [first_gain, tile_gain m c t j]
theorem gain_later (c : Dev nD) (t : Fin cfg0.N) (h : t.val ≠ 0) (j : Fin 1024) :
    (outsAt0 m c t.val t.isLt).2 (ix2 (0 : Fin 1) j)
      = (outsAt0 m c (t.val - 1) (Nat.lt_of_le_of_lt (Nat.sub_le _ _) t.isLt)).2 (ix2 (0 : Fin 1) j)
        + ∑ r : Fin 512, gainTerm (grad m c) (weights m c) (rows m c)
          ⟨t.val * 512 + r.val, by have hN : cfg0.N = 8 := N_0; omega⟩ j := by
  have hN : cfg0.N = 8 := N_0
  rw [outsAt0_B m c t (by omega) (by omega)]
  dsimp only
  rw [later_gain, gain_step, tile_gain m c t j]

/-- The gain's gradient over the first tiles. -/
theorem gain_partial (c : Dev nD) (j : Fin 1024) : ∀ (n : ℕ) (hn : n < cfg0.N),
    (outsAt0 m c n hn).2 (ix2 (0 : Fin 1) j)
      = ∑ r : Fin (n * 512 + 512), gainTerm (grad m c) (weights m c) (rows m c)
          ⟨r.val, by have hN : cfg0.N = 8 := N_0; have := r.isLt; omega⟩ j := by
  intro n
  have hN : cfg0.N = 8 := N_0
  induction n with
  | zero =>
    intro hn
    refine (gain_first m c ⟨0, hn⟩ rfl j).trans (Fintype.sum_equiv (finCongr (by omega)) _ _ fun r => ?_)
    exact congrArg (fun l => gainTerm (grad m c) (weights m c) (rows m c) l j) (Fin.ext (by simp))
  | succ n ih =>
    intro hn
    refine (gain_later m c ⟨n + 1, hn⟩ (Nat.succ_ne_zero n) j).trans ?_
    rw [Fin.sum_univ_add]
    refine congrArg₂ (· + ·) ((ih (by omega)).trans (Fintype.sum_equiv (finCongr (by omega)) _ _ fun r => rfl)) rfl

/-- The rows' gradient after the run, read at an entry. -/
theorem final_rows (c : Dev nD) (r : Fin 4096) (j : Fin 1024) :
    (dats m 0 c).arrAt 8 cfg0.N (ix2 r j)
      = rowEntry (grad m c) (weights m c) (rows m c) (gain m c) (residual m c) r j := by
  have hN : cfg0.N = 8 := N_0
  let t : Fin cfg0.N := ⟨r.val / 512, by omega⟩
  let r₀ : Fin 512 := ⟨r.val % 512, by omega⟩
  have hr : r.val = t.val * 512 + r₀.val := by show _ = r.val / 512 * 512 + r.val % 512; omega
  have e : (win0_8.blk t).view.emb (ix2 r₀ j) = ix2 r j := by
    show (win0_8.rect t).emb (ix2 r₀ j) = _
    obtain ⟨h0, h1⟩ := where_out t
    refine eq_of_coords2 _ _ _ ((win0_8.rect_emb_val t _ 0).trans ?_) (win0_8.rect_emb_val_of_index_zero t 1 h1 _)
    rw [h0]
    exact hr.symm
  rw [← e]
  refine ((dats m 0 c).arrAt_emb_eq_flushed 8 Value.disjoint8 t (flush0_8 t) (ix2 r₀ j)).trans ?_
  show (dats m 0 c).flushed 8 t (ix2 r₀ j) = _
  rw [Value.flushed8]
  exact tile_rows m c t r₀ j r hr

/-- Only the last tile writes the gain's gradient out. -/
theorem apart : ∀ t t' : Fin cfg0.N, (cfg0.win 9).flush t = true → (cfg0.win 9).flush t' = true → t ≠ t' →
    Disjoint ((cfg0.win 9).blk t).view.set ((cfg0.win 9).blk t').view.set := by
  intro t t' hf hf' hne
  have hN : cfg0.N = 8 := N_0
  have := (flush0_9 t).mp hf
  have := (flush0_9 t').mp hf'
  exact absurd (Fin.ext (by omega)) hne

/-- The gain's gradient after the run, read at an entry. -/
theorem final_gain (c : Dev nD) (j : Fin 1024) :
    (dats m 0 c).arrAt 9 cfg0.N (ix2 (0 : Fin 1) j)
      = ∑ r : Fin 4096, gainTerm (grad m c) (weights m c) (rows m c) r j := by
  have hN : cfg0.N = 8 := N_0
  let t : Fin cfg0.N := ⟨7, by omega⟩
  have e : (win0_9.blk t).view.emb (ix2 (0 : Fin 1) j) = ix2 (0 : Fin 1) j := by
    show (win0_9.rect t).emb (ix2 (0 : Fin 1) j) = _
    obtain ⟨h0, h1⟩ := where_gain_out t
    exact eq_of_coords2 _ _ _ (win0_9.rect_emb_val_of_index_zero t 0 h0 _) (win0_9.rect_emb_val_of_index_zero t 1 h1 _)
  rw [← e]
  refine ((dats m 0 c).arrAt_emb_eq_flushed 9 apart t ((flush0_9 t).mpr rfl) (ix2 (0 : Fin 1) j)).trans ?_
  show (dats m 0 c).flushed 9 t (ix2 (0 : Fin 1) j) = _
  rw [Value.flushed9]
  exact gain_partial m c j 7 (by omega)

end Kernel

/-- The gradients are the reference's. -/
theorem algebraic : Cert.algebraic_Kernel5Ideal_Reference5Ideal := by
  intro m ρ m' ρ' _ hagree
  refine ⟨fun c => (Cert.Kernel5Ideal.Gen.dats m 0 c).arrAt 8 Cert.Kernel5Ideal.cfg0.N,
    fun c => (Cert.Kernel5Ideal.Gen.dats m 0 c).arrAt 9 Cert.Kernel5Ideal.cfg0.N, Cert.Kernel5Ideal.Value.run_blocks m ρ, ?_⟩
  refine (θ_run Cert.Reference5Ideal.defs _ _).mono
    (fun _ h c => ⟨(h c).1.trans ?_, (h c).2.1.trans ?_, (h c).2.2⟩) (Cert.Reference5Ideal.Value.run (F := Ideal) m' ρ')
  · clear h
    unfold Cert.Reference5Ideal.Value.res_main_v43
    rw [(hagree c).1, (hagree c).2.1, (hagree c).2.2.1, (hagree c).2.2.2.1, (hagree c).2.2.2.2]
    funext i
    rw [eq_ix2 i]
    refine Eq.trans ?_ (final_rows m c (i 0) (i 1)).symm
    generalize i 0 = r
    generalize i 1 = j
    pointwise []
    simp only [Finset.sum_const, Finset.card_univ, Fintype.card_fin, one_nsmul]
    refine Eq.trans (congrArg₂ (· + ·) rfl (mul_comm _ _)) ?_
    exact normGrad_eq (fun k : Fin 1024 => rows m c (ix2 r k)) j _ _ _
  · clear h
    rw [(hagree c).1, (hagree c).2.1, (hagree c).2.2.1]
    funext i
    rw [eq_ix2 i]
    have e : i 0 = (0 : Fin 1) := Fin.ext (by have : (i 0).val < 1 := (i 0).isLt; show (i 0).val = 0; omega)
    rw [e]
    refine Eq.trans ?_ (final_gain m c (i 1)).symm
    generalize i 1 = j
    pointwise []
    exact Finset.sum_congr rfl fun r _ => mul_comm _ _

end Cert.Ffn.Dn

end
-- ==== Proof.Mix.Dn.lean ====
/-
  The gradient of the mix in the residual stream and in its gain: each of eight row tiles multiplies the incoming gradient
  of the combined projection by the transposed input weights, in four column shards, and forms the gradient of the
  normalisation row by row; the gain's gradient is accumulated over the tiles. No condition on the arguments (`Ffn.Norm`).
-/
module

public import proofs.«01_k».proof.Defs
public import proofs.«01_k».proof.Proof.Gen.Kernel6Ideal.Value
public import proofs.«01_k».proof.Proof.Gen.Reference6Ideal.Run
public import proofs.«01_k».proof.Proof.Ffn.Norm
public import proofs.«01_k».proof.Proof.Shared.Coords
public import Idealize.ShloMosaic.Lib.Pipeline.Value
public import Idealize.ShloMosaic.Lib.Pointwise
public import Idealize.ShloMosaic.Lib.IdealHost
public import Idealize.ShloMosaic.Lib.Quiescent

@[expose] public section

set_option maxRecDepth 16384

noncomputable section

open Idealize.ShloMosaic Idealize.ShloMosaic.TcCoe Idealize.SL.Sem Idealize.ShloMosaic.Tactic
open Idealize.ShloMosaic.Pipeline (Dat Window)

namespace Cert.Mix.Dn

section Kernel

open Cert.Kernel6Ideal Cert.Kernel6Ideal.Gen Cert.Ffn Cert.Coords

variable (m : (ℓ : Loc nD τ sig) → Buf (Elt Ideal) ℓ)

/-- The incoming gradient of the combined projection, the input weights, the rows, the gain and the residual's gradient. -/
abbrev grad (c : Dev nD) : FVec Ideal S4096x5632 .bf16 := m ((c : Thread nD τ).loc main_arg0)
abbrev weights (c : Dev nD) : FVec Ideal S1024x5632 .f32 := m ((c : Thread nD τ).loc main_arg1)
abbrev rows (c : Dev nD) : FVec Ideal S4096x1024 .f32 := m ((c : Thread nD τ).loc main_arg2)
abbrev gain (c : Dev nD) : FVec Ideal S1x1024 .f32 := m ((c : Thread nD τ).loc main_arg3)
abbrev residual (c : Dev nD) : FVec Ideal S4096x1024 .f32 := m ((c : Thread nD τ).loc main_arg4)

theorem hz : (![0, 0] : Fin 2 → Nat) = fun _ => 0 := funext fun a => by fin_cases a <;> rfl

/-- A tile's gradient of the normalised rows, from the four column shards. -/
def normed (x0 x1 x2 x3 : Vec Ideal S512x1408 .bf16) (w : Vec Ideal S4x1024x1408 .bf16) : FVec Ideal S512x1024 .f32 :=
  k0_pay4 x0 (View.ld w (Rect.unit ![0, 0, 0] S1x1024x1408.size inb_S4x1024x1408_S1x1024x1408_0_0_0))
    x1 (View.ld w (Rect.unit ![1, 0, 0] S1x1024x1408.size inb_S4x1024x1408_S1x1024x1408_1_0_0))
    x2 (View.ld w (Rect.unit ![2, 0, 0] S1x1024x1408.size inb_S4x1024x1408_S1x1024x1408_2_0_0))
    x3 (View.ld w (Rect.unit ![3, 0, 0] S1x1024x1408.size inb_S4x1024x1408_S1x1024x1408_3_0_0))

section Cases

variable (c : Dev nD) (i : grid0.Coords) (a1 : Memref sig .tc .vmem S512x1408 .bf16) (h1 : a1.IsWhole)
  (a2 : Memref sig .tc .vmem S512x1408 .bf16) (h2 : a2.IsWhole)
  (a3 : Memref sig .tc .vmem S512x1408 .bf16) (h3 : a3.IsWhole)
  (a4 : Memref sig .tc .vmem S512x1408 .bf16) (h4 : a4.IsWhole)
  (a5 : Memref sig .tc .vmem S4x1024x1408 .bf16) (h5 : a5.IsWhole)
  (a6 : Memref sig .tc .vmem S512x1024 .f32) (h6 : a6.IsWhole)
  (a7 : Memref sig .tc .vmem S1x1024 .f32) (h7 : a7.IsWhole)
  (a8 : Memref sig .tc .vmem S512x1024 .f32) (h8 : a8.IsWhole)
  (a9 : Memref sig .tc .vmem S512x1024 .f32) (h9 : a9.IsWhole)
  (a10 : Memref sig .tc .vmem S1x1024 .f32) (h10 : a10.IsWhole)
  (x0 x1 x2 x3 : Vec Ideal S512x1408 .bf16) (x4 : Vec Ideal S4x1024x1408 .bf16) (x5 : Vec Ideal S512x1024 .f32)
  (x6 : Vec Ideal S1x1024 .f32) (x7 : Vec Ideal S512x1024 .f32) (s : Vec Ideal S1x1024 .f32)

/-- The first tile's rows, and its gain gradient, which it stores. -/
theorem first_rows (hc0 : cond0_0 i) (hc1 : ¬cond0_1 i) :
    out0_A_8 c i a1 h1 a2 h2 a3 h3 a4 h4 a5 h5 a6 h6 a7 h7 a8 h8 a9 h9 a10 h10 hc0 hc1 x0 x1 x2 x3 x4 x5 x6 x7
      = k0_pay1 (normed x0 x1 x2 x3 x4) x5 (k0_pay5 x5) x6 x7 := by
  unfold out0_A_8
  rw [View.read_writes_eq_canon _ _ _
    (cover0_A_8 c i a1 h1 a2 h2 a3 h3 a4 h4 a5 h5 a6 h6 a7 h7 a8 h8 a9 h9 a10 h10 hc0 hc1 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread,
    h6.read_unread, h7.read_unread, h8.read_unread, View.ld_unit_zero (S := S512x1024) hz, View.ld_unit_zero (S := S1x1024) hz,
    View.ld_unit_zero (S := S512x1408) hz]
  rfl
theorem first_gain (hc0 : cond0_0 i) (hc1 : ¬cond0_1 i) :
    out0_A_9 c i a1 h1 a2 h2 a3 h3 a4 h4 a5 h5 a6 h6 a7 h7 a8 h8 a9 h9 a10 h10 hc0 hc1 x0 x1 x2 x3 x4 x5 x6 x7
      = k0_pay2 (normed x0 x1 x2 x3 x4) x5 (k0_pay5 x5) := by
  unfold out0_A_9
  rw [View.read_writes_eq_canon _ _ _
    (cover0_A_9 c i a1 h1 a2 h2 a3 h3 a4 h4 a5 h5 a6 h6 a7 h7 a8 h8 a9 h9 a10 h10 hc0 hc1 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread,
    h6.read_unread, View.ld_unit_zero (S := S512x1024) hz, View.ld_unit_zero (S := S512x1408) hz]
  rfl
/-- A later tile's rows, and the gain gradient with its own added. -/
theorem later_rows (hc0 : ¬cond0_0 i) (hc1 : cond0_1 i) :
    out0_B_8 c i a1 h1 a2 h2 a3 h3 a4 h4 a5 h5 a6 h6 a7 h7 a8 h8 a9 h9 a10 h10 hc0 hc1 x0 x1 x2 x3 x4 x5 x6 x7 s
      = k0_pay1 (normed x0 x1 x2 x3 x4) x5 (k0_pay5 x5) x6 x7 := by
  unfold out0_B_8
  rw [View.read_writes_eq_canon _ _ _
    (cover0_B_8 c i a1 h1 a2 h2 a3 h3 a4 h4 a5 h5 a6 h6 a7 h7 a8 h8 a9 h9 a10 h10 hc0 hc1 x0 x1 x2 x3 x4 x5 x6 x7 s)]
  unfold kernelRun0_B
  dsimp only
  sl_unfold_words
  rw [View.canon_unit_zero hz]
  simp only [View.readAt_eq_ld, h1.read_unread, h2.read_unread, h3.read_unread, h4.read_unread, h5.read_unread,
    h6.read_unread, h7.read_unread, h8.read_unread, View.ld_unit_zero (S := S512x1024) hz, View.ld_unit_zero (S := S1x1024) hz,
    View.ld_unit_zero (S := S512x1408) hz]
  rfl
theorem later_gain (hc0 : ¬cond0_0 i) (hc1 : cond0_1 i) :
    out0_B_9 c i a1 h1 a2 h2 a3 h3 a4 h4 a5 h5 a6 h6 a7 h7 a8 h8 a9 h9 a10 h10 hc0 hc1 x0 x1 x2 x3 x4 x5 x6 x7 s
      = k0_pay3 (normed x0 x1 x2 x3 x4) x5 (k0_pay5 x5) s := by
  unfold out0_B_9
  rw [View.read_writes_eq_canon _ _ _
    (cover0_B_9 c i a1 h1 a2 h2 a3 h3 a4 h4 a5 h5 a6 h6 a7 h7 a8 h8 a9 h9 a10 h10 hc0 hc1 x0 x1 x2 x3 x4 x5 x6 x7 s)]
  unfold kernelRun0_B
  dsimp only
  sl_unfold_words
  rw [View.canon_unit_zero hz]
  simp only [View.readAt_eq_ld, h1.read_unread, h2.read_unread, h3.read_unread, h4.read_unread, h5.read_unread,
    h6.read_unread, h10.read_unread, View.ld_unit_zero (S := S512x1024) hz, View.ld_unit_zero (S := S1x1024) hz,
    View.ld_unit_zero (S := S512x1408) hz]
  rfl

end Cases

/-- A product of two extended reals. -/
abbrev prod (x y : EReal) : EReal := x * y

/-- The product with one shard. -/
def shard (x : Vec Ideal S512x1408 .bf16) (w : Vec Ideal S4x1024x1408 .bf16) (q : Fin 4) (r : Fin 512) (j : Fin 1024) : EReal :=
  ∑ k : Fin 1408, x (ix2 r k) * w (ix3 q j k)

theorem normed_entry (x0 x1 x2 x3 : Vec Ideal S512x1408 .bf16) (w : Vec Ideal S4x1024x1408 .bf16) (r : Fin 512) (j : Fin 1024) :
    normed x0 x1 x2 x3 w (ix2 r j) = shard x0 w 0 r j + shard x1 w 1 r j + shard x2 w 2 r j + shard x3 w 3 r j := by
  unfold normed
  pointwise [k0_pay4]
  rfl

theorem rows_entry (d x y : Vec Ideal S512x1024 .f32) (g : Vec Ideal S1x1024 .f32) (r : Fin 512) (j : Fin 1024) :
    k0_pay1 d x (k0_pay5 x) g y (ix2 r j)
      = normGrad (y (ix2 r j)) (x (ix2 r j)) (d (ix2 r j) * g (ix2 (0 : Fin 1) j)) (rms fun k => x (ix2 r k))
        (∑ k : Fin 1024, x (ix2 r k) * (d (ix2 r k) * g (ix2 (0 : Fin 1) k))) := by
  pointwise [k0_pay1, k0_pay5]
  rfl

theorem gain_entry (d x : Vec Ideal S512x1024 .f32) (j : Fin 1024) :
    k0_pay2 d x (k0_pay5 x) (ix2 (0 : Fin 1) j)
      = ∑ r : Fin 512, d (ix2 r j) * (x (ix2 r j) * rms fun k => x (ix2 r k)) := by
  pointwise [k0_pay2, k0_pay5]
  rfl

theorem gain_step (d x : Vec Ideal S512x1024 .f32) (s : Vec Ideal S1x1024 .f32) (j : Fin 1024) :
    k0_pay3 d x (k0_pay5 x) s (ix2 (0 : Fin 1) j)
      = s (ix2 (0 : Fin 1) j) + k0_pay2 d x (k0_pay5 x) (ix2 (0 : Fin 1) j) := by
  unfold k0_pay3
  pointwise []

theorem staged_weights (c : Dev nD) (q : Fin 4) (j : Fin 1024) (k : Fin 1408) (k' : Fin 5632) (hk : k'.val = q.val * 1408 + k.val) :
    V m c main_v2 (ix3 q j k) = weights m c (ix2 j k') := by
  show StableHlo.after hostOps0 (fun b => m (c, b)) main_v2 _ = _
  after_results
  pointwise []
  exact congrArg (fun l => weights m c (ix2 j l)) (Fin.ext hk.symm)

theorem where_grad0 : ∀ t : Fin cfg0.N, win0_0.index t 0 = t.val ∧ win0_0.index t 1 = 0 :=
  (by decide +kernel : ∀ t : Fin grid0.N, win0_0.index t 0 = t.val ∧ win0_0.index t 1 = 0)
theorem where_grad1 : ∀ t : Fin cfg0.N, win0_1.index t 0 = t.val ∧ win0_1.index t 1 = 1 :=
  (by decide +kernel : ∀ t : Fin grid0.N, win0_1.index t 0 = t.val ∧ win0_1.index t 1 = 1)
theorem where_grad2 : ∀ t : Fin cfg0.N, win0_2.index t 0 = t.val ∧ win0_2.index t 1 = 2 :=
  (by decide +kernel : ∀ t : Fin grid0.N, win0_2.index t 0 = t.val ∧ win0_2.index t 1 = 2)
theorem where_grad3 : ∀ t : Fin cfg0.N, win0_3.index t 0 = t.val ∧ win0_3.index t 1 = 3 :=
  (by decide +kernel : ∀ t : Fin grid0.N, win0_3.index t 0 = t.val ∧ win0_3.index t 1 = 3)
theorem where_weights : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
theorem where_rows : ∀ t : Fin cfg0.N, win0_5.index t 0 = t.val ∧ win0_5.index t 1 = 0 :=
  (by decide +kernel : ∀ t : Fin grid0.N, win0_5.index t 0 = t.val ∧ win0_5.index t 1 = 0)
theorem where_gain : ∀ t : Fin cfg0.N, win0_6.index t 0 = 0 ∧ win0_6.index t 1 = 0 :=
  (by decide +kernel : ∀ t : Fin grid0.N, win0_6.index t 0 = 0 ∧ win0_6.index t 1 = 0)
theorem where_residual : ∀ t : Fin cfg0.N, win0_7.index t 0 = t.val ∧ win0_7.index t 1 = 0 :=
  (by decide +kernel : ∀ t : Fin grid0.N, win0_7.index t 0 = t.val ∧ win0_7.index t 1 = 0)
theorem where_out : ∀ t : Fin cfg0.N, win0_8.index t 0 = t.val ∧ win0_8.index t 1 = 0 :=
  (by decide +kernel : ∀ t : Fin grid0.N, win0_8.index t 0 = t.val ∧ win0_8.index t 1 = 0)
theorem where_gain_out : ∀ t : Fin cfg0.N, win0_9.index t 0 = 0 ∧ win0_9.index t 1 = 0 :=
  (by decide +kernel : ∀ t : Fin grid0.N, win0_9.index t 0 = 0 ∧ win0_9.index t 1 = 0)

section Blocks

variable (c : Dev nD) (t : Fin cfg0.N)

theorem grad_block0 (r : Fin 512) (k : Fin 1408) (r' : Fin 4096) (k' : Fin 5632) (hr : r'.val = t.val * 512 + r.val)
    (hk : k'.val = 0 * 1408 + k.val) : iblk m c 0 t (ix2 r k) = grad m c (ix2 r' k') := by
  show V m c main_arg0 ((win0_0.rect t).emb (ix2 r k)) = _
  rw [V_main_arg0]
  obtain ⟨h0, h1⟩ := where_grad0 t
  refine congrArg (grad m c) (eq_of_coords2 _ _ _ ((win0_0.rect_emb_val t _ 0).trans ?_) ((win0_0.rect_emb_val t _ 1).trans ?_))
  · rw [h0]; exact hr.symm
  · rw [h1]; exact hk.symm
theorem grad_block1 (r : Fin 512) (k : Fin 1408) (r' : Fin 4096) (k' : Fin 5632) (hr : r'.val = t.val * 512 + r.val)
    (hk : k'.val = 1 * 1408 + k.val) : iblk m c 1 t (ix2 r k) = grad m c (ix2 r' k') := by
  show V m c main_arg0 ((win0_1.rect t).emb (ix2 r k)) = _
  rw [V_main_arg0]
  obtain ⟨h0, h1⟩ := where_grad1 t
  refine congrArg (grad m c) (eq_of_coords2 _ _ _ ((win0_1.rect_emb_val t _ 0).trans ?_) ((win0_1.rect_emb_val t _ 1).trans ?_))
  · rw [h0]; exact hr.symm
  · rw [h1]; exact hk.symm
theorem grad_block2 (r : Fin 512) (k : Fin 1408) (r' : Fin 4096) (k' : Fin 5632) (hr : r'.val = t.val * 512 + r.val)
    (hk : k'.val = 2 * 1408 + k.val) : iblk m c 2 t (ix2 r k) = grad m c (ix2 r' k') := by
  show V m c main_arg0 ((win0_2.rect t).emb (ix2 r k)) = _
  rw [V_main_arg0]
  obtain ⟨h0, h1⟩ := where_grad2 t
  refine congrArg (grad m c) (eq_of_coords2 _ _ _ ((win0_2.rect_emb_val t _ 0).trans ?_) ((win0_2.rect_emb_val t _ 1).trans ?_))
  · rw [h0]; exact hr.symm
  · rw [h1]; exact hk.symm
theorem grad_block3 (r : Fin 512) (k : Fin 1408) (r' : Fin 4096) (k' : Fin 5632) (hr : r'.val = t.val * 512 + r.val)
    (hk : k'.val = 3 * 1408 + k.val) : iblk m c 3 t (ix2 r k) = grad m c (ix2 r' k') := by
  show V m c main_arg0 ((win0_3.rect t).emb (ix2 r k)) = _
  rw [V_main_arg0]
  obtain ⟨h0, h1⟩ := where_grad3 t
  refine congrArg (grad m c) (eq_of_coords2 _ _ _ ((win0_3.rect_emb_val t _ 0).trans ?_) ((win0_3.rect_emb_val t _ 1).trans ?_))
  · rw [h0]; exact hr.symm
  · rw [h1]; exact hk.symm
theorem weights_block (q : Fin 4) (j : Fin 1024) (k : Fin 1408) (k' : Fin 5632) (hk : k'.val = q.val * 1408 + k.val) :
    iblk m c 4 t (ix3 q j k) = weights m c (ix2 j k') := by
  refine Eq.trans ?_ (staged_weights m c q j k k' hk)
  show V m c main_v2 ((win0_4.rect t).emb (ix3 q j k)) = _
  obtain ⟨h0, h1, h2⟩ := where_weights t
  exact congrArg (V m c main_v2) (eq_of_coords _ _ _ _ (win0_4.rect_emb_val_of_index_zero t 0 h0 _)
    (win0_4.rect_emb_val_of_index_zero t 1 h1 _) (win0_4.rect_emb_val_of_index_zero t 2 h2 _))
theorem rows_block (r : Fin 512) (k : Fin 1024) (r' : Fin 4096) (hr : r'.val = t.val * 512 + r.val) :
    iblk m c 5 t (ix2 r k) = rows m c (ix2 r' k) := by
  show V m c main_arg2 ((win0_5.rect t).emb (ix2 r k)) = _
  rw [V_main_arg2]
  obtain ⟨h0, h1⟩ := where_rows t
  refine congrArg (rows m c) (eq_of_coords2 _ _ _ ((win0_5.rect_emb_val t _ 0).trans ?_) (win0_5.rect_emb_val_of_index_zero t 1 h1 _))
  rw [h0]
  exact hr.symm
theorem gain_block (k : Fin 1024) : iblk m c 6 t (ix2 (0 : Fin 1) k) = gain m c (ix2 (0 : Fin 1) k) := by
  show V m c main_arg3 ((win0_6.rect t).emb (ix2 (0 : Fin 1) k)) = _
  rw [V_main_arg3]
  obtain ⟨h0, h1⟩ := where_gain t
  exact congrArg (gain m c) (eq_of_coords2 _ _ _ (win0_6.rect_emb_val_of_index_zero t 0 h0 _) (win0_6.rect_emb_val_of_index_zero t 1 h1 _))
theorem residual_block (r : Fin 512) (k : Fin 1024) (r' : Fin 4096) (hr : r'.val = t.val * 512 + r.val) :
    iblk m c 7 t (ix2 r k) = residual m c (ix2 r' k) := by
  show V m c main_arg4 ((win0_7.rect t).emb (ix2 r k)) = _
  rw [V_main_arg4]
  obtain ⟨h0, h1⟩ := where_residual t
  refine congrArg (residual m c) (eq_of_coords2 _ _ _ ((win0_7.rect_emb_val t _ 0).trans ?_) (win0_7.rect_emb_val_of_index_zero t 1 h1 _))
  rw [h0]
  exact hr.symm

end Blocks

/-- The gradient of the normalised rows: the product with the transposed weights. -/
def product (u : FVec Ideal S4096x5632 .bf16) (w : FVec Ideal S1024x5632 .f32) (r : Fin 4096) (j : Fin 1024) : EReal :=
  ∑ k : Fin 5632, u (ix2 r k) * w (ix2 j k)

/-- A tile's gradient of the normalised rows, read at an entry: the four shards' sums make the one sum. -/
theorem tile_product (c : Dev nD) (t : Fin cfg0.N) (r : Fin 512) (j : Fin 1024) (r' : Fin 4096) (hr : r'.val = t.val * 512 + r.val) :
    normed (iblk m c 0 t) (iblk m c 1 t) (iblk m c 2 t) (iblk m c 3 t) (iblk m c 4 t) (ix2 r j)
      = product (grad m c) (weights m c) r' j := by
  rw [normed_entry]
  unfold product shard
  refine Eq.trans ?_ (Fin.sum_univ_add (a := 4224) (b := 1408) _).symm
  refine congrArg₂ (· + ·) (Eq.trans ?_ (Fin.sum_univ_add (a := 2816) (b := 1408) _).symm) (Finset.sum_congr rfl fun k _ => ?_)
  · refine congrArg₂ (· + ·) (Eq.trans ?_ (Fin.sum_univ_add (a := 1408) (b := 1408) _).symm) (Finset.sum_congr rfl fun k _ => ?_)
    · refine congrArg₂ (· + ·) (Finset.sum_congr rfl fun k _ => ?_) (Finset.sum_congr rfl fun k _ => ?_)
      · exact congrArg₂ prod (grad_block0 m c t r k r' _ hr (Nat.zero_add _).symm) (weights_block m c t 0 j k _ (Nat.zero_add _).symm)
      · exact congrArg₂ prod (grad_block1 m c t r k r' _ hr rfl) (weights_block m c t 1 j k _ rfl)
    · exact congrArg₂ prod (grad_block2 m c t r k r' _ hr rfl) (weights_block m c t 2 j k _ rfl)
  · exact congrArg₂ prod (grad_block3 m c t r k r' _ hr rfl) (weights_block m c t 3 j k _ rfl)

/-- The gradient in the rows, at an entry, and one row's term of the gain's gradient. -/
def rowEntry (u : FVec Ideal S4096x5632 .bf16) (w : FVec Ideal S1024x5632 .f32) (x : FVec Ideal S4096x1024 .f32)
    (g : FVec Ideal S1x1024 .f32) (d : FVec Ideal S4096x1024 .f32) (r : Fin 4096) (j : Fin 1024) : EReal :=
  normGrad (d (ix2 r j)) (x (ix2 r j)) (product u w r j * g (ix2 (0 : Fin 1) j)) (rms fun k : Fin 1024 => x (ix2 r k))
    (∑ k : Fin 1024, x (ix2 r k) * (product u w r k * g (ix2 (0 : Fin 1) k)))
def gainTerm (u : FVec Ideal S4096x5632 .bf16) (w : FVec Ideal S1024x5632 .f32) (x : FVec Ideal S4096x1024 .f32)
    (r : Fin 4096) (j : Fin 1024) : EReal :=
  product u w r j * (x (ix2 r j) * rms fun k : Fin 1024 => x (ix2 r k))

theorem tile_rows (c : Dev nD) (t : Fin cfg0.N) (r : Fin 512) (j : Fin 1024) (r' : Fin 4096) (hr : r'.val = t.val * 512 + r.val) :
    (outsAt0 m c t.val t.isLt).1 (ix2 r j)
      = rowEntry (grad m c) (weights m c) (rows m c) (gain m c) (residual m c) r' j := by
  have e : (outsAt0 m c t.val t.isLt).1
      = k0_pay1 (normed (iblk m c 0 t) (iblk m c 1 t) (iblk m c 2 t) (iblk m c 3 t) (iblk m c 4 t)) (iblk m c 5 t)
          (k0_pay5 (iblk m c 5 t)) (iblk m c 6 t) (iblk m c 7 t) := by
    have hN : cfg0.N = 8 := N_0
    by_cases h : t.val = 0
    · rw [outsAt0_A m c t (by omega) (by omega)]
      dsimp only
      rw [first_rows]
    · rw [outsAt0_B m c t (by omega) (by omega)]
      dsimp only
      rw [later_rows]
  rw [e, rows_entry]
  unfold rowEntry
  simp only [tile_product m c t r _ r' hr, rows_block m c t r _ r' hr, gain_block m c t, residual_block m c t r _ r' hr]

/-- One tile's gain gradient. -/
theorem tile_gain (c : Dev nD) (t : Fin cfg0.N) (j : Fin 1024) :
    k0_pay2 (normed (iblk m c 0 t) (iblk m c 1 t) (iblk m c 2 t) (iblk m c 3 t) (iblk m c 4 t)) (iblk m c 5 t)
        (k0_pay5 (iblk m c 5 t)) (ix2 (0 : Fin 1) j)
      = ∑ r : Fin 512, gainTerm (grad m c) (weights m c) (rows m c)
          ⟨t.val * 512 + r.val, by have hN : cfg0.N = 8 := N_0; omega⟩ j := by
  rw [gain_entry]
  refine Finset.sum_congr rfl fun r _ => ?_
  have hN : cfg0.N = 8 := N_0
  unfold gainTerm
  rw [tile_product m c t r j ⟨t.val * 512 + r.val, by omega⟩ rfl]
  simp only [rows_block m c t r _ ⟨t.val * 512 + r.val, by omega⟩ rfl]

theorem gain_first (c : Dev nD) (t : Fin cfg0.N) (h : t.val = 0) (j : Fin 1024) :
    (outsAt0 m c t.val t.isLt).2 (ix2 (0 : Fin 1) j)
      = ∑ r : Fin 512, gainTerm (grad m c) (weights m c) (rows m c)
          ⟨t.val * 512 + r.val, by have hN : cfg0.N = 8 := N_0; omega⟩ j := by
  rw [outsAt0_A m c t (by omega) (by omega)]
  dsimp only
  rw [first_gain, tile_gain m c t j]
theorem gain_later (c : Dev nD) (t : Fin cfg0.N) (h : t.val ≠ 0) (j : Fin 1024) :
    (outsAt0 m c t.val t.isLt).2 (ix2 (0 : Fin 1) j)
      = (outsAt0 m c (t.val - 1) (Nat.lt_of_le_of_lt (Nat.sub_le _ _) t.isLt)).2 (ix2 (0 : Fin 1) j)
        + ∑ r : Fin 512, gainTerm (grad m c) (weights m c) (rows m c)
          ⟨t.val * 512 + r.val, by have hN : cfg0.N = 8 := N_0; omega⟩ j := by
  have hN : cfg0.N = 8 := N_0
  rw [outsAt0_B m c t (by omega) (by omega)]
  dsimp only
  rw [later_gain, gain_step, tile_gain m c t j]

/-- The gain's gradient over the first tiles. -/
theorem gain_partial (c : Dev nD) (j : Fin 1024) : ∀ (n : ℕ) (hn : n < cfg0.N),
    (outsAt0 m c n hn).2 (ix2 (0 : Fin 1) j)
      = ∑ r : Fin (n * 512 + 512), gainTerm (grad m c) (weights m c) (rows m c)
          ⟨r.val, by have hN : cfg0.N = 8 := N_0; have := r.isLt; omega⟩ j := by
  intro n
  have hN : cfg0.N = 8 := N_0
  induction n with
  | zero =>
    intro hn
    refine (gain_first m c ⟨0, hn⟩ rfl j).trans (Fintype.sum_equiv (finCongr (by omega)) _ _ fun r => ?_)
    exact congrArg (fun l => gainTerm (grad m c) (weights m c) (rows m c) l j) (Fin.ext (by simp))
  | succ n ih =>
    intro hn
    refine (gain_later m c ⟨n + 1, hn⟩ (Nat.succ_ne_zero n) j).trans ?_
    rw [Fin.sum_univ_add]
    refine congrArg₂ (· + ·) ((ih (by omega)).trans (Fintype.sum_equiv (finCongr (by omega)) _ _ fun r => rfl)) rfl

/-- The rows' gradient after the run, read at an entry. -/
theorem final_rows (c : Dev nD) (r : Fin 4096) (j : Fin 1024) :
    (dats m 0 c).arrAt 8 cfg0.N (ix2 r j)
      = rowEntry (grad m c) (weights m c) (rows m c) (gain m c) (residual m c) r j := by
  have hN : cfg0.N = 8 := N_0
  let t : Fin cfg0.N := ⟨r.val / 512, by omega⟩
  let r₀ : Fin 512 := ⟨r.val % 512, by omega⟩
  have hr : r.val = t.val * 512 + r₀.val := by show _ = r.val / 512 * 512 + r.val % 512; omega
  have e : (win0_8.blk t).view.emb (ix2 r₀ j) = ix2 r j := by
    show (win0_8.rect t).emb (ix2 r₀ j) = _
    obtain ⟨h0, h1⟩ := where_out t
    refine eq_of_coords2 _ _ _ ((win0_8.rect_emb_val t _ 0).trans ?_) (win0_8.rect_emb_val_of_index_zero t 1 h1 _)
    rw [h0]
    exact hr.symm
  rw [← e]
  refine ((dats m 0 c).arrAt_emb_eq_flushed 8 Value.disjoint8 t (flush0_8 t) (ix2 r₀ j)).trans ?_
  show (dats m 0 c).flushed 8 t (ix2 r₀ j) = _
  rw [Value.flushed8]
  exact tile_rows m c t r₀ j r hr

/-- Only the last tile writes the gain's gradient out. -/
theorem apart : ∀ t t' : Fin cfg0.N, (cfg0.win 9).flush t = true → (cfg0.win 9).flush t' = true → t ≠ t' →
    Disjoint ((cfg0.win 9).blk t).view.set ((cfg0.win 9).blk t').view.set := by
  intro t t' hf hf' hne
  have hN : cfg0.N = 8 := N_0
  have := (flush0_9 t).mp hf
  have := (flush0_9 t').mp hf'
  exact absurd (Fin.ext (by omega)) hne

/-- The gain's gradient after the run, read at an entry. -/
theorem final_gain (c : Dev nD) (j : Fin 1024) :
    (dats m 0 c).arrAt 9 cfg0.N (ix2 (0 : Fin 1) j)
      = ∑ r : Fin 4096, gainTerm (grad m c) (weights m c) (rows m c) r j := by
  have hN : cfg0.N = 8 := N_0
  let t : Fin cfg0.N := ⟨7, by omega⟩
  have e : (win0_9.blk t).view.emb (ix2 (0 : Fin 1) j) = ix2 (0 : Fin 1) j := by
    show (win0_9.rect t).emb (ix2 (0 : Fin 1) j) = _
    obtain ⟨h0, h1⟩ := where_gain_out t
    exact eq_of_coords2 _ _ _ (win0_9.rect_emb_val_of_index_zero t 0 h0 _) (win0_9.rect_emb_val_of_index_zero t 1 h1 _)
  rw [← e]
  refine ((dats m 0 c).arrAt_emb_eq_flushed 9 apart t ((flush0_9 t).mpr rfl) (ix2 (0 : Fin 1) j)).trans ?_
  show (dats m 0 c).flushed 9 t (ix2 (0 : Fin 1) j) = _
  rw [Value.flushed9]
  exact gain_partial m c j 7 (by omega)

end Kernel

/-- The gradients are the reference's. -/
theorem algebraic : Cert.algebraic_Kernel6Ideal_Reference6Ideal := by
  intro m ρ m' ρ' _ hagree
  refine ⟨fun c => (Cert.Kernel6Ideal.Gen.dats m 0 c).arrAt 8 Cert.Kernel6Ideal.cfg0.N,
    fun c => (Cert.Kernel6Ideal.Gen.dats m 0 c).arrAt 9 Cert.Kernel6Ideal.cfg0.N, Cert.Kernel6Ideal.Value.run_blocks m ρ, ?_⟩
  refine (θ_run Cert.Reference6Ideal.defs _ _).mono
    (fun _ h c => ⟨(h c).1.trans ?_, (h c).2.1.trans ?_, (h c).2.2⟩) (Cert.Reference6Ideal.Value.run (F := Ideal) m' ρ')
  · clear h
    unfold Cert.Reference6Ideal.Value.res_main_v37
    rw [(hagree c).1, (hagree c).2.1, (hagree c).2.2.1, (hagree c).2.2.2.1, (hagree c).2.2.2.2]
    funext i
    rw [eq_ix2 i]
    refine Eq.trans ?_ (final_rows m c (i 0) (i 1)).symm
    generalize i 0 = r
    generalize i 1 = j
    pointwise []
    simp only [Finset.sum_const, Finset.card_univ, Fintype.card_fin, one_nsmul]
    refine Eq.trans (congrArg₂ (· + ·) rfl (mul_comm _ _)) ?_
    exact Cert.Ffn.normGrad_eq (fun k : Fin 1024 => rows m c (ix2 r k)) j _ _ _
  · clear h
    rw [(hagree c).1, (hagree c).2.1, (hagree c).2.2.1]
    funext i
    rw [eq_ix2 i]
    have e : i 0 = (0 : Fin 1) := Fin.ext (by have : (i 0).val < 1 := (i 0).isLt; show (i 0).val = 0; omega)
    rw [e]
    refine Eq.trans ?_ (final_gain m c (i 1)).symm
    generalize i 1 = j
    pointwise []
    exact Finset.sum_congr rfl fun r _ => mul_comm _ _

end Cert.Mix.Dn

end
-- ==== Proof.Mix.DwIn.lean ====
/-
  The gradient of the mix's input weights: each grid point multiplies the whole transposed normed rows with one column
  quarter of the projection's gradient; the four blocks are the four column quarters of the reference's one product.
-/
module

public import proofs.«01_k».proof.Defs
public import proofs.«01_k».proof.Proof.Gen.Kernel7Ideal.Value
public import proofs.«01_k».proof.Proof.Gen.Reference7Ideal.Run
public import proofs.«01_k».proof.Proof.Shared.Coords
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem Idealize.ShloMosaic.Tactic
open Idealize.ShloMosaic.Pipeline (Dat Window)

namespace Cert.Mix.DwIn

section Kernel

open Cert.Kernel7Ideal Cert.Kernel7Ideal.Gen Cert.Coords

variable (m : (ℓ : Loc nD τ sig) → Buf (Elt Ideal) ℓ)

/-- The normed rows, and the projection's gradient. -/
abbrev rows (c : Dev nD) : FVec Ideal S4096x1024 .bf16 := m ((c : Thread nD τ).loc main_arg0)
abbrev grad (c : Dev nD) : FVec Ideal S4096x5632 .bf16 := m ((c : Thread nD τ).loc main_arg1)

theorem where_rows : ∀ t : Fin cfg0.N, win0_0.index t 0 = 0 ∧ win0_0.index t 1 = 0 :=
  (by decide +kernel : ∀ t : Fin grid0.N, win0_0.index t 0 = 0 ∧ win0_0.index t 1 = 0)
theorem where_grad : ∀ t : Fin cfg0.N, win0_1.index t 0 = 0 ∧ win0_1.index t 1 = t.val :=
  (by decide +kernel : ∀ t : Fin grid0.N, win0_1.index t 0 = 0 ∧ win0_1.index t 1 = t.val)
theorem where_out : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

theorem rows_block (c : Dev nD) (t : Fin cfg0.N) (k : Fin 4096) (a : Fin 1024) :
    iblk m c 0 t (ix2 k a) = rows m c (ix2 k a) := by
  show rows m c ((win0_0.rect t).emb (ix2 k a)) = _
  obtain ⟨h0, h1⟩ := where_rows t
  exact congrArg (rows m c) (eq_of_coords2 _ _ _ (win0_0.rect_emb_val_of_index_zero t 0 h0 _) (win0_0.rect_emb_val_of_index_zero t 1 h1 _))

theorem grad_block (c : Dev nD) (t : Fin cfg0.N) (k : Fin 4096) (b : Fin 1408) (l : Fin 5632) (hl : l.val = t.val * 1408 + b.val) :
    iblk m c 1 t (ix2 k b) = grad m c (ix2 k l) := by
  show grad m c ((win0_1.rect t).emb (ix2 k b)) = _
  obtain ⟨h0, h1⟩ := where_grad t
  refine congrArg (grad m c) (eq_of_coords2 _ _ _ (win0_1.rect_emb_val_of_index_zero t 0 h0 _) ((win0_1.rect_emb_val t _ 1).trans ?_))
  rw [h1]
  exact hl.symm

/-- The stored block, read at an entry: one sum over the rows. -/
theorem block_entry (x : Vec Ideal S4096x1024 .bf16) (y : Vec Ideal S4096x1408 .bf16) (a : Fin 1024) (b : Fin 1408) :
    k0_pay1 x y (ix3 (0 : Fin 1) a b) = ∑ k : Fin 4096, x (ix2 k a) * y (ix2 k b) := by
  pointwise [k0_pay1]

/-- The result array after the run, read at an entry. -/
theorem final (c : Dev nD) (q : Fin 4) (a : Fin 1024) (b : Fin 1408) :
    (dats m 0 c).arrAt 2 cfg0.N (ix3 q a b)
      = ∑ k : Fin 4096, rows m c (ix2 k a) * grad m c (ix2 k (⟨q.val * 1408 + b.val, by omega⟩ : Fin 5632)) := by
  let t : Fin cfg0.N := ⟨q.val, q.isLt⟩
  have e : (win0_2.blk t).view.emb (ix3 (0 : Fin 1) a b) = ix3 q a b := by
    show (win0_2.rect t).emb (ix3 (0 : Fin 1) a b) = _
    obtain ⟨h0, h1, h2⟩ := where_out t
    refine eq_of_coords _ _ _ _ ((win0_2.rect_emb_val t _ 0).trans ?_) (win0_2.rect_emb_val_of_index_zero t 1 h1 _)
      (win0_2.rect_emb_val_of_index_zero t 2 h2 _)
    rw [h0]
    show q.val * 1 + 0 = q.val
    omega
  rw [← e]
  refine ((dats m 0 c).arrAt_emb_eq_flushed 2 Value.disjoint2 t (flush0_2 t) (ix3 (0 : Fin 1) a b)).trans ?_
  show (dats m 0 c).flushed 2 t (ix3 (0 : Fin 1) a b) = _
  rw [Value.flushed2]
  show out0_2 (iblk m c 0 t) (iblk m c 1 t) (ix3 (0 : Fin 1) a b) = _
  have hz : (![0, 0, 0] : Fin 3 → Nat) = fun _ => 0 := funext fun a => by fin_cases a <;> rfl
  have hz2 : (![0, 0] : Fin 2 → Nat) = fun _ => 0 := funext fun a => by fin_cases a <;> rfl
  unfold out0_2
  rw [View.canon_unit_zero hz, View.ld_unit_zero hz2, View.ld_unit_zero hz2, block_entry]
  refine Finset.sum_congr rfl fun k _ => ?_
  rw [rows_block, grad_block m c t k b ⟨q.val * 1408 + b.val, by omega⟩ rfl]

end Kernel

/-- The gradient is the reference's. -/
theorem algebraic : Cert.algebraic_Kernel7Ideal_Reference7Ideal := by
  intro m ρ m' ρ' _ hagree
  refine ⟨fun c => (Cert.Kernel7Ideal.Gen.dats m 0 c).arrAt 2 Cert.Kernel7Ideal.cfg0.N, Cert.Kernel7Ideal.Value.run_blocks m ρ, ?_⟩
  refine (θ_run Cert.Reference7Ideal.defs _ _).mono (fun _ h c => ⟨(h c).1.trans ?_, (h c).2⟩)
    (Cert.Reference7Ideal.Value.run (F := Ideal) m' ρ')
  rw [(hagree c).1, (hagree c).2]
  funext j
  rw [eq_ix3 j]
  refine Eq.trans ?_ (final m c (j 0) (j 1) (j 2)).symm
  generalize j 0 = q
  generalize j 1 = a
  generalize j 2 = b
  pointwise []
  exact Finset.sum_congr rfl fun k _ => mul_comm _ _

end Cert.Mix.DwIn

end
-- ==== Proof.Mix.MergeBwd.lean ====
/-
  The gradient of the gated merge of the two branches: the incoming gradient times the transposed output weights is
  the gradient of the merged rows; each branch's gradient is that times its gate, and each gate's is that times the
  branch times the logistic function's derivative.
-/
module

public import proofs.«01_k».proof.Defs
public import proofs.«01_k».proof.Proof.Gen.Kernel8Ideal.Value
public import proofs.«01_k».proof.Proof.Gen.Reference8Ideal.Run
public import proofs.«01_k».proof.Proof.Shared.Coords
public import proofs.«01_k».proof.Proof.Ffn.Gate
public import Idealize.ShloMosaic.Lib.Pipeline.Value
public import Idealize.ShloMosaic.Lib.Pointwise
public import Idealize.ShloMosaic.Lib.IdealHost
public import Idealize.ShloMosaic.Lib.Quiescent

@[expose] public section

set_option maxRecDepth 16384

noncomputable section

open Idealize.ShloMosaic Idealize.ShloMosaic.TcCoe Idealize.SL.Sem Idealize.ShloMosaic.Tactic
open Idealize.ShloMosaic.Pipeline (Dat Window)

namespace Cert.Mix.MergeBwd

section Kernel

open Cert.Kernel8Ideal Cert.Kernel8Ideal.Gen Cert.Coords Cert.Ffn.Gate

variable (m : (ℓ : Loc nD τ sig) → Buf (Elt Ideal) ℓ)

/-- The incoming gradient, the output weights, the two branches, and the projection that holds their gates. -/
abbrev grad (c : Dev nD) : FVec Ideal S4096x1024 .f32 := m ((c : Thread nD τ).loc main_arg0)
abbrev weights (c : Dev nD) : FVec Ideal S1024x1024 .f32 := m ((c : Thread nD τ).loc main_arg1)
abbrev first (c : Dev nD) : FVec Ideal S4096x1024 .bf16 := m ((c : Thread nD τ).loc main_arg2)
abbrev second (c : Dev nD) : FVec Ideal S4096x1024 .bf16 := m ((c : Thread nD τ).loc main_arg3)
abbrev proj (c : Dev nD) : FVec Ideal S4096x5632 .bf16 := m ((c : Thread nD τ).loc main_arg4)

/-- The merged rows' gradient in row `r` and column `l`. -/
def product (g : FVec Ideal S4096x1024 .f32) (w : FVec Ideal S1024x1024 .f32) (r : Fin 4096) (l : Fin 1024) : EReal :=
  ∑ k : Fin 1024, g (ix2 r k) * w (ix2 l k)

/-- The same of one grid point's blocks. -/
def tile (x : Vec Ideal S1024x1024 .f32) (w : Vec Ideal S512x1024 .bf16) (r : Fin 1024) (l : Fin 512) : EReal :=
  ∑ k : Fin 1024, x (ix2 r k) * w (ix2 l k)

/-- A branch's gradient, and its gate's, of the merged rows' gradient, the branch and the gate. -/
def inBranch (d p : EReal) : EReal := d * sigma p
def inGate (d a p : EReal) : EReal := d * a * sigma p * (1 - sigma p)

theorem where_grad : ∀ t : Fin cfg0.N, win0_0.index t 0 = t.val / 2 ∧ win0_0.index t 1 = 0 :=
  (by decide +kernel : ∀ t : Fin grid0.N, win0_0.index t 0 = t.val / 2 ∧ win0_0.index t 1 = 0)
theorem where_weights : ∀ t : Fin cfg0.N, win0_1.index t 0 = t.val % 2 ∧ win0_1.index t 1 = 0 :=
  (by decide +kernel : ∀ t : Fin grid0.N, win0_1.index t 0 = t.val % 2 ∧ win0_1.index t 1 = 0)
theorem where_first : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)
theorem where_second : ∀ t : Fin cfg0.N, win0_3.index t 0 = t.val / 2 ∧ win0_3.index t 1 = t.val % 2 :=
  (by decide +kernel : ∀ t : Fin grid0.N, win0_3.index t 0 = t.val / 2 ∧ win0_3.index t 1 = t.val % 2)
theorem where_gate_first : ∀ t : Fin cfg0.N, win0_4.index t 0 = t.val / 2 ∧ win0_4.index t 1 = 7 + t.val % 2 :=
  (by decide +kernel : ∀ t : Fin grid0.N, win0_4.index t 0 = t.val / 2 ∧ win0_4.index t 1 = 7 + t.val % 2)
theorem where_gate_second : ∀ t : Fin cfg0.N, win0_5.index t 0 = t.val / 2 ∧ win0_5.index t 1 = 9 + t.val % 2 :=
  (by decide +kernel : ∀ t : Fin grid0.N, win0_5.index t 0 = t.val / 2 ∧ win0_5.index t 1 = 9 + t.val % 2)
theorem where_out_first : ∀ t : Fin cfg0.N, win0_6.index t 0 = t.val / 2 ∧ win0_6.index t 1 = t.val % 2 :=
  (by decide +kernel : ∀ t : Fin grid0.N, win0_6.index t 0 = t.val / 2 ∧ win0_6.index t 1 = t.val % 2)
theorem where_out_second : ∀ t : Fin cfg0.N, win0_7.index t 0 = t.val / 2 ∧ win0_7.index t 1 = t.val % 2 :=
  (by decide +kernel : ∀ t : Fin grid0.N, win0_7.index t 0 = t.val / 2 ∧ win0_7.index t 1 = t.val % 2)
theorem where_out_gates : ∀ t : Fin cfg0.N, win0_8.index t 0 = 0 ∧ win0_8.index t 1 = t.val / 2 ∧ win0_8.index t 2 = t.val % 2 :=
  (by decide +kernel : ∀ t : Fin grid0.N, win0_8.index t 0 = 0 ∧ win0_8.index t 1 = t.val / 2 ∧ win0_8.index t 2 = t.val % 2)

theorem staged_weights (c : Dev nD) : V m c main_v0 = weights m c := by
  have e : V m c main_v0 = truncf .bf16 (weights m c) bitsLt_bf16_f32 := by
    show StableHlo.after hostOps0 (fun b => m (c, b)) main_v0 = _
    after_results
  rw [e]
  rfl

section Blocks

variable (c : Dev nD) (t : Fin cfg0.N) (r : Fin 1024) (r' : Fin 4096) (hr : r'.val = t.val / 2 * 1024 + r.val)

include hr in
theorem grad_block (k : Fin 1024) : iblk m c 0 t (ix2 r k) = grad m c (ix2 r' k) := by
  show V m c main_arg0 ((win0_0.rect t).emb (ix2 r k)) = _
  rw [V_main_arg0]
  obtain ⟨h0, h1⟩ := where_grad t
  refine congrArg (grad m c) (eq_of_coords2 _ _ _ ((win0_0.rect_emb_val t _ 0).trans ?_) (win0_0.rect_emb_val_of_index_zero t 1 h1 _))
  rw [h0]
  exact hr.symm

variable (l : Fin 512) (l' : Fin 1024) (hl : l'.val = t.val % 2 * 512 + l.val)

include hl in
theorem weights_block (k : Fin 1024) : iblk m c 1 t (ix2 l k) = weights m c (ix2 l' k) := by
  show V m c main_v0 ((win0_1.rect t).emb (ix2 l k)) = _
  rw [staged_weights]
  obtain ⟨h0, h1⟩ := where_weights t
  refine congrArg (weights m c) (eq_of_coords2 _ _ _ ((win0_1.rect_emb_val t _ 0).trans ?_) (win0_1.rect_emb_val_of_index_zero t 1 h1 _))
  rw [h0]
  exact hl.symm

include hr hl

theorem product_block :
    tile (iblk m c 0 t) (iblk m c 1 t) r l = product (grad m c) (weights m c) r' l' :=
  Finset.sum_congr rfl fun k _ => by rw [grad_block m c t r r' hr, weights_block m c t l l' hl]

theorem first_block : iblk m c 2 t (ix2 r l) = first m c (ix2 r' l') := by
  show V m c main_arg2 ((win0_2.rect t).emb (ix2 r l)) = _
  rw [V_main_arg2]
  obtain ⟨h0, h1⟩ := where_first t
  refine congrArg (first m c) (eq_of_coords2 _ _ _ ((win0_2.rect_emb_val t _ 0).trans ?_) ((win0_2.rect_emb_val t _ 1).trans ?_))
  · rw [h0]
    exact hr.symm
  · rw [h1]
    exact hl.symm
theorem second_block : iblk m c 3 t (ix2 r l) = second m c (ix2 r' l') := by
  show V m c main_arg3 ((win0_3.rect t).emb (ix2 r l)) = _
  rw [V_main_arg3]
  obtain ⟨h0, h1⟩ := where_second t
  refine congrArg (second m c) (eq_of_coords2 _ _ _ ((win0_3.rect_emb_val t _ 0).trans ?_) ((win0_3.rect_emb_val t _ 1).trans ?_))
  · rw [h0]
    exact hr.symm
  · rw [h1]
    exact hl.symm
theorem gate_first_block : iblk m c 4 t (ix2 r l) = proj m c (ix2 r' (⟨3584 + l'.val, by omega⟩ : Fin 5632)) := by
  show V m c main_arg4 ((win0_4.rect t).emb (ix2 r l)) = _
  rw [V_main_arg4]
  obtain ⟨h0, h1⟩ := where_gate_first t
  refine congrArg (proj m c) (eq_of_coords2 _ _ _ ((win0_4.rect_emb_val t _ 0).trans ?_) ((win0_4.rect_emb_val t _ 1).trans ?_))
  · rw [h0]
    exact hr.symm
  · rw [h1]
    show (7 + t.val % 2) * 512 + l.val = 3584 + l'.val
    omega
theorem gate_second_block : iblk m c 5 t (ix2 r l) = proj m c (ix2 r' (⟨3584 + (1024 + l'.val), by omega⟩ : Fin 5632)) := by
  show V m c main_arg4 ((win0_5.rect t).emb (ix2 r l)) = _
  rw [V_main_arg4]
  obtain ⟨h0, h1⟩ := where_gate_second t
  refine congrArg (proj m c) (eq_of_coords2 _ _ _ ((win0_5.rect_emb_val t _ 0).trans ?_) ((win0_5.rect_emb_val t _ 1).trans ?_))
  · rw [h0]
    exact hr.symm
  · rw [h1]
    show (9 + t.val % 2) * 512 + l.val = 3584 + (1024 + l'.val)
    omega

end Blocks

/-- The four stored blocks, read at an entry. -/
theorem first_entry (x : Vec Ideal S1024x1024 .f32) (w : Vec Ideal S512x1024 .bf16) (p : Vec Ideal S1024x512 .bf16)
    (r : Fin 1024) (l : Fin 512) :
    k0_pay6 x w p (ix2 r l) = inBranch (tile x w r l) (p (ix2 r l)) := by
  pointwise [k0_pay6, k0_pay3, k0_pay4]
  simp only [Ideal.ofBits_one_f32, zero_sub]
  rfl
theorem second_entry (x : Vec Ideal S1024x1024 .f32) (w : Vec Ideal S512x1024 .bf16) (p : Vec Ideal S1024x512 .bf16)
    (r : Fin 1024) (l : Fin 512) :
    k0_pay7 x w p (ix2 r l) = inBranch (tile x w r l) (p (ix2 r l)) := by
  pointwise [k0_pay7, k0_pay3, k0_pay5]
  simp only [Ideal.ofBits_one_f32, zero_sub]
  rfl
theorem gate_first_entry (x : Vec Ideal S1024x1024 .f32) (w : Vec Ideal S512x1024 .bf16) (p a : Vec Ideal S1024x512 .bf16)
    (r : Fin 1024) (l : Fin 512) :
    k0_pay1 (k0_pay4 p) (k0_pay8 x w p a) (Scalar.ofBits .f32 0x3F800000#32) (ix3 (0 : Fin 1) r l)
      = inGate (tile x w r l) (a (ix2 r l)) (p (ix2 r l)) := by
  pointwise [k0_pay1, k0_pay8, k0_pay3, k0_pay4]
  simp only [Ideal.ofBits_one_f32, zero_sub]
  rfl
theorem gate_second_entry (x : Vec Ideal S1024x1024 .f32) (w : Vec Ideal S512x1024 .bf16) (p a : Vec Ideal S1024x512 .bf16)
    (r : Fin 1024) (l : Fin 512) :
    k0_pay2 (k0_pay3 x w) (k0_pay5 p) a (ix3 (0 : Fin 1) r l)
      = inGate (tile x w r l) (a (ix2 r l)) (p (ix2 r l)) := by
  pointwise [k0_pay2, k0_pay3, k0_pay5]
  simp only [Ideal.ofBits_one_f32, zero_sub]
  rfl

theorem hz : (![0, 0] : Fin 2 → Nat) = fun _ => 0 := funext fun a => by fin_cases a <;> rfl

theorem place_first (r : Fin 1024) (l : Fin 512) : r0_3.emb (ix3 (0 : Fin 1) r l) = ix3 (0 : Fin 2) r l :=
  eq_of_coords _ _ _ _ rfl (by show 0 + 1 * r.val = r.val; omega) (by show 0 + 1 * l.val = l.val; omega)
theorem place_second (r : Fin 1024) (l : Fin 512) : r0_4.emb (ix3 (0 : Fin 1) r l) = ix3 (1 : Fin 2) r l :=
  eq_of_coords _ _ _ _ rfl (by show 0 + 1 * r.val = r.val; omega) (by show 0 + 1 * l.val = l.val; omega)

/-- The two halves of the gates' gradient block. -/
theorem half_first (x0 : Vec Ideal S1024x1024 .f32) (x1 : Vec Ideal S512x1024 .bf16) (x2 x3 x4 x5 : Vec Ideal S1024x512 .bf16)
    (r : Fin 1024) (l : Fin 512) :
    out0_8 x0 x1 x2 x3 x4 x5 (ix3 (0 : Fin 2) r l)
      = inGate (tile x0 x1 r l) (x2 (ix2 r l)) (x4 (ix2 r l)) := by
  unfold out0_8
  rw [View.canon_cons_of_not_mem, ← place_first, View.canon_cons_emb]
  · simp only [View.ld_unit_zero (S := S1024x1024) hz, View.ld_unit_zero (S := S512x1024) hz, View.ld_unit_zero (S := S1024x512) hz]
    exact gate_first_entry x0 x1 x4 x2 r l
  rw [Rect.mem_set_unit]
  intro h
  exact absurd (show 1 ≤ 0 from (h 0).1) (by decide)
theorem half_second (x0 : Vec Ideal S1024x1024 .f32) (x1 : Vec Ideal S512x1024 .bf16) (x2 x3 x4 x5 : Vec Ideal S1024x512 .bf16)
    (r : Fin 1024) (l : Fin 512) :
    out0_8 x0 x1 x2 x3 x4 x5 (ix3 (1 : Fin 2) r l)
      = inGate (tile x0 x1 r l) (x3 (ix2 r l)) (x5 (ix2 r l)) := by
  unfold out0_8
  rw [← place_second, View.canon_cons_emb]
  simp only [View.ld_unit_zero (S := S1024x1024) hz, View.ld_unit_zero (S := S512x1024) hz, View.ld_unit_zero (S := S1024x512) hz]
  exact gate_second_entry x0 x1 x5 x3 r l

section Final

variable (c : Dev nD) (r : Fin 4096) (l : Fin 1024)

/-- The grid point whose blocks hold row `r` and column `l`, and the place there. -/
theorem point : ∃ (t : Fin cfg0.N) (r₀ : Fin 1024) (l₀ : Fin 512), r.val = t.val / 2 * 1024 + r₀.val ∧ l.val = t.val % 2 * 512 + l₀.val := by
  have hN : cfg0.N = 8 := N_0
  exact ⟨⟨r.val / 1024 * 2 + l.val / 512, by omega⟩, ⟨r.val % 1024, by omega⟩, ⟨l.val % 512, by omega⟩,
    by dsimp only; omega, by dsimp only; omega⟩

/-- The three result arrays after the run, read at an entry. -/
theorem final_first :
    (dats m 0 c).arrAt 6 cfg0.N (ix2 r l)
      = inBranch (product (grad m c) (weights m c) r l) (proj m c (ix2 r (⟨3584 + l.val, by omega⟩ : Fin 5632))) := by
  obtain ⟨t, r₀, l₀, hr, hl⟩ := point r l
  have e : (win0_6.blk t).view.emb (ix2 r₀ l₀) = ix2 r l := by
    show (win0_6.rect t).emb (ix2 r₀ l₀) = _
    obtain ⟨h0, h1⟩ := where_out_first t
    refine eq_of_coords2 _ _ _ ((win0_6.rect_emb_val t _ 0).trans ?_) ((win0_6.rect_emb_val t _ 1).trans ?_)
    · rw [h0]
      exact hr.symm
    · rw [h1]
      exact hl.symm
  rw [← e]
  refine ((dats m 0 c).arrAt_emb_eq_flushed 6 Value.disjoint6 t (flush0_6 t) (ix2 r₀ l₀)).trans ?_
  show (dats m 0 c).flushed 6 t (ix2 r₀ l₀) = _
  rw [Value.flushed6]
  show out0_6 (iblk m c 0 t) (iblk m c 1 t) (iblk m c 2 t) (iblk m c 3 t) (iblk m c 4 t) (iblk m c 5 t) (ix2 r₀ l₀) = _
  unfold out0_6
  rw [View.canon_unit_zero hz, View.ld_unit_zero hz, View.ld_unit_zero hz, View.ld_unit_zero hz, first_entry,
    product_block m c t r₀ r hr l₀ l hl, gate_first_block m c t r₀ r hr l₀ l hl]
theorem final_second :
    (dats m 0 c).arrAt 7 cfg0.N (ix2 r l)
      = inBranch (product (grad m c) (weights m c) r l) (proj m c (ix2 r (⟨3584 + (1024 + l.val), by omega⟩ : Fin 5632))) := by
  obtain ⟨t, r₀, l₀, hr, hl⟩ := point r l
  have e : (win0_7.blk t).view.emb (ix2 r₀ l₀) = ix2 r l := by
    show (win0_7.rect t).emb (ix2 r₀ l₀) = _
    obtain ⟨h0, h1⟩ := where_out_second t
    refine eq_of_coords2 _ _ _ ((win0_7.rect_emb_val t _ 0).trans ?_) ((win0_7.rect_emb_val t _ 1).trans ?_)
    · rw [h0]
      exact hr.symm
    · rw [h1]
      exact hl.symm
  rw [← e]
  refine ((dats m 0 c).arrAt_emb_eq_flushed 7 Value.disjoint7 t (flush0_7 t) (ix2 r₀ l₀)).trans ?_
  show (dats m 0 c).flushed 7 t (ix2 r₀ l₀) = _
  rw [Value.flushed7]
  show out0_7 (iblk m c 0 t) (iblk m c 1 t) (iblk m c 2 t) (iblk m c 3 t) (iblk m c 4 t) (iblk m c 5 t) (ix2 r₀ l₀) = _
  unfold out0_7
  rw [View.canon_unit_zero hz, View.ld_unit_zero hz, View.ld_unit_zero hz, View.ld_unit_zero hz, second_entry,
    product_block m c t r₀ r hr l₀ l hl, gate_second_block m c t r₀ r hr l₀ l hl]

/-- The gates' gradient in half `q`, row `r` and column `l`. -/
def entry (g : FVec Ideal S4096x1024 .f32) (w : FVec Ideal S1024x1024 .f32) (a b : FVec Ideal S4096x1024 .bf16)
    (p : FVec Ideal S4096x5632 .bf16) (q : Fin 2) (r : Fin 4096) (l : Fin 1024) : EReal :=
  if q = 0 then inGate (product g w r l) (a (ix2 r l)) (p (ix2 r (⟨3584 + l.val, by omega⟩ : Fin 5632)))
  else inGate (product g w r l) (b (ix2 r l)) (p (ix2 r (⟨3584 + (1024 + l.val), by omega⟩ : Fin 5632)))

theorem final_gates (q : Fin 2) :
    (dats m 0 c).arrAt 8 cfg0.N (ix3 q r l) = entry (grad m c) (weights m c) (first m c) (second m c) (proj m c) q r l := by
  obtain ⟨t, r₀, l₀, hr, hl⟩ := point r l
  have e : (win0_8.blk t).view.emb (ix3 q r₀ l₀) = ix3 q r l := by
    show (win0_8.rect t).emb (ix3 q r₀ l₀) = _
    obtain ⟨h0, h1, h2⟩ := where_out_gates t
    refine eq_of_coords _ _ _ _ (win0_8.rect_emb_val_of_index_zero t 0 h0 _) ((win0_8.rect_emb_val t _ 1).trans ?_)
      ((win0_8.rect_emb_val t _ 2).trans ?_)
    · rw [h1]
      exact hr.symm
    · rw [h2]
      exact hl.symm
  rw [← e]
  refine ((dats m 0 c).arrAt_emb_eq_flushed 8 Value.disjoint8 t (flush0_8 t) (ix3 q r₀ l₀)).trans ?_
  show (dats m 0 c).flushed 8 t (ix3 q r₀ l₀) = _
  rw [Value.flushed8]
  show out0_8 (iblk m c 0 t) (iblk m c 1 t) (iblk m c 2 t) (iblk m c 3 t) (iblk m c 4 t) (iblk m c 5 t) (ix3 q r₀ l₀) = _
  unfold entry
  match q with
  | 0 => rw [if_pos rfl, half_first, product_block m c t r₀ r hr l₀ l hl, first_block m c t r₀ r hr l₀ l hl,
      gate_first_block m c t r₀ r hr l₀ l hl]
  | 1 => rw [if_neg (by decide), half_second, product_block m c t r₀ r hr l₀ l hl, second_block m c t r₀ r hr l₀ l hl,
      gate_second_block m c t r₀ r hr l₀ l hl]

end Final

end Kernel

/-- The gradients are the reference's. -/
theorem algebraic : Cert.algebraic_Kernel8Ideal_Reference8Ideal := by
  intro m ρ m' ρ' _ hagree
  refine ⟨fun c => (Cert.Kernel8Ideal.Gen.dats m 0 c).arrAt 6 Cert.Kernel8Ideal.cfg0.N,
    fun c => (Cert.Kernel8Ideal.Gen.dats m 0 c).arrAt 7 Cert.Kernel8Ideal.cfg0.N,
    fun c => (Cert.Kernel8Ideal.Gen.dats m 0 c).arrAt 8 Cert.Kernel8Ideal.cfg0.N, Cert.Kernel8Ideal.Value.run_blocks m ρ, ?_⟩
  refine (θ_run Cert.Reference8Ideal.defs _ _).mono
    (fun _ h c => ⟨(h c).1.trans ?_, (h c).2.1.trans ?_, (h c).2.2.1.trans ?_, (h c).2.2.2⟩)
    (Cert.Reference8Ideal.Value.run (F := Ideal) m' ρ')
  · clear h
    rw [(hagree c).1, (hagree c).2.1, (hagree c).2.2.2.2]
    funext j
    rw [eq_ix2 j]
    refine Eq.trans ?_ (final_first m c (j 0) (j 1)).symm
    generalize j 0 = r
    generalize j 1 = l
    pointwise []
    exact mul_comm (G := EReal) _ _
  · clear h
    rw [(hagree c).1, (hagree c).2.1, (hagree c).2.2.2.2]
    funext j
    rw [eq_ix2 j]
    refine Eq.trans ?_ (final_second m c (j 0) (j 1)).symm
    generalize j 0 = r
    generalize j 1 = l
    pointwise []
    exact mul_comm (G := EReal) _ _
  · clear h
    rw [(hagree c).1, (hagree c).2.1, (hagree c).2.2.1, (hagree c).2.2.2.1, (hagree c).2.2.2.2]
    funext j
    rw [eq_ix3 j]
    refine Eq.trans ?_ (final_gates m c (j 1) (j 2) (j 0)).symm
    generalize j 0 = q
    generalize j 1 = r
    generalize j 2 = l
    have hq : q.val < 2 := q.isLt
    pointwise []
    by_cases h : q.val < 1
    · have e : q = (0 : Fin 2) := Fin.ext (show q.val = 0 by omega)
      rw [dif_pos h, e]
      exact (mul_assoc (G := EReal) _ _ _).symm
    · have e : q = (1 : Fin 2) := Fin.ext (show q.val = 1 by omega)
      rw [dif_neg h, e]
      exact (mul_assoc (G := EReal) _ _ _).symm

end Cert.Mix.MergeBwd

end
-- ==== Proof.Mix.DwProj.lean ====
/-
  The gradient of a branch's output weights: one grid point multiplies the transposed rows of the branch with the rows of
  its output's gradient.
-/
module

public import proofs.«01_k».proof.Defs
public import proofs.«01_k».proof.Proof.Gen.Kernel9Ideal.Value
public import proofs.«01_k».proof.Proof.Gen.Reference9Ideal.Run
public import proofs.«01_k».proof.Proof.Shared.Coords
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem Idealize.ShloMosaic.Tactic
open Idealize.ShloMosaic.Pipeline (Dat Window)

namespace Cert.Mix.DwProj

section Kernel

open Cert.Kernel9Ideal Cert.Kernel9Ideal.Gen Cert.Coords

variable (m : (ℓ : Loc nD τ sig) → Buf (Elt Ideal) ℓ)

/-- The branch's rows, and its output's gradient. -/
abbrev rows (c : Dev nD) : FVec Ideal S4096x1024 .bf16 := m ((c : Thread nD τ).loc main_arg0)
abbrev grad (c : Dev nD) : FVec Ideal S4096x1024 .bf16 := m ((c : Thread nD τ).loc main_arg1)

theorem nowhere : ∀ t : Fin cfg0.N, win0_0.index t 0 = 0 ∧ win0_0.index t 1 = 0 ∧ win0_1.index t 0 = 0 ∧ win0_1.index t 1 = 0
    ∧ win0_2.index t 0 = 0 ∧ win0_2.index t 1 = 0 :=
  (by decide +kernel : ∀ t : Fin grid0.N, win0_0.index t 0 = 0 ∧ win0_0.index t 1 = 0 ∧ win0_1.index t 0 = 0 ∧ win0_1.index t 1 = 0
    ∧ win0_2.index t 0 = 0 ∧ win0_2.index t 1 = 0)

theorem rows_block (c : Dev nD) (t : Fin cfg0.N) (k : Fin 4096) (a : Fin 1024) :
    iblk m c 0 t (ix2 k a) = rows m c (ix2 k a) := by
  show rows m c ((win0_0.rect t).emb (ix2 k a)) = _
  obtain ⟨h0, h1, -⟩ := nowhere t
  exact congrArg (rows m c) (eq_of_coords2 _ _ _ (win0_0.rect_emb_val_of_index_zero t 0 h0 _) (win0_0.rect_emb_val_of_index_zero t 1 h1 _))
theorem grad_block (c : Dev nD) (t : Fin cfg0.N) (k : Fin 4096) (b : Fin 1024) :
    iblk m c 1 t (ix2 k b) = grad m c (ix2 k b) := by
  show grad m c ((win0_1.rect t).emb (ix2 k b)) = _
  obtain ⟨-, -, h0, h1, -⟩ := nowhere t
  exact congrArg (grad m c) (eq_of_coords2 _ _ _ (win0_1.rect_emb_val_of_index_zero t 0 h0 _) (win0_1.rect_emb_val_of_index_zero t 1 h1 _))

/-- The stored block, read at an entry: one sum over the rows. -/
theorem block_entry (x y : Vec Ideal S4096x1024 .bf16) (a b : Fin 1024) :
    k0_pay1 x y (ix2 a b) = ∑ k : Fin 4096, x (ix2 k a) * y (ix2 k b) := by
  pointwise [k0_pay1]

/-- The result array after the run, read at an entry. -/
theorem final (c : Dev nD) (a b : Fin 1024) :
    (dats m 0 c).arrAt 2 cfg0.N (ix2 a b) = ∑ k : Fin 4096, rows m c (ix2 k a) * grad m c (ix2 k b) := by
  have hN : cfg0.N = 1 := N_0
  let t : Fin cfg0.N := ⟨0, by omega⟩
  have e : (win0_2.blk t).view.emb (ix2 a b) = ix2 a b := by
    show (win0_2.rect t).emb (ix2 a b) = _
    obtain ⟨-, -, -, -, h0, h1⟩ := nowhere t
    exact eq_of_coords2 _ _ _ (win0_2.rect_emb_val_of_index_zero t 0 h0 _) (win0_2.rect_emb_val_of_index_zero t 1 h1 _)
  rw [← e]
  refine ((dats m 0 c).arrAt_emb_eq_flushed 2 Value.disjoint2 t (flush0_2 t) (ix2 a b)).trans ?_
  show (dats m 0 c).flushed 2 t (ix2 a b) = _
  rw [Value.flushed2]
  show out0_2 (iblk m c 0 t) (iblk m c 1 t) (ix2 a b) = _
  have hz : (![0, 0] : Fin 2 → Nat) = fun _ => 0 := funext fun a => by fin_cases a <;> rfl
  unfold out0_2
  rw [View.canon_unit_zero hz, View.ld_unit_zero hz, View.ld_unit_zero hz, block_entry]
  simp only [rows_block, grad_block]

end Kernel

/-- The gradient is the reference's. -/
theorem algebraic : Cert.algebraic_Kernel9Ideal_Reference9Ideal := by
  intro m ρ m' ρ' _ hagree
  refine ⟨fun c => (Cert.Kernel9Ideal.Gen.dats m 0 c).arrAt 2 Cert.Kernel9Ideal.cfg0.N, Cert.Kernel9Ideal.Value.run_blocks m ρ, ?_⟩
  refine (θ_run Cert.Reference9Ideal.defs _ _).mono (fun _ h c => ⟨(h c).1.trans ?_, (h c).2⟩)
    (Cert.Reference9Ideal.Value.run (F := Ideal) m' ρ')
  rw [(hagree c).1, (hagree c).2]
  funext j
  rw [eq_ix2 j]
  refine Eq.trans ?_ (final m c (j 0) (j 1)).symm
  generalize j 0 = a
  generalize j 1 = b
  pointwise []
  exact Finset.sum_congr rfl fun k _ => mul_comm _ _

end Cert.Mix.DwProj

end
-- ==== Proof.Mix.DwOut.lean ====
/-
  The gradient of the merge's output weights: two grid points add the products of the two halves of the rows in a carried
  scratch that the first clears and the second writes out.
-/
module

public import proofs.«01_k».proof.Defs
public import proofs.«01_k».proof.Proof.Gen.Kernel10Ideal.Value
public import proofs.«01_k».proof.Proof.Gen.Reference10Ideal.Run
public import proofs.«01_k».proof.Proof.Shared.Coords
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem Idealize.ShloMosaic.Tactic
open Idealize.ShloMosaic.Pipeline (Dat Window)

namespace Cert.Mix.DwOut

section Kernel

open Cert.Kernel10Ideal Cert.Kernel10Ideal.Gen

variable (m : (ℓ : Loc nD τ sig) → Buf (Elt Ideal) ℓ)

/-- The merged rows. -/
abbrev merged (c : Dev nD) : FVec Ideal S4096x1024 .bf16 := m ((c : Thread nD τ).loc main_arg0)
/-- The incoming gradient. -/
abbrev grad (c : Dev nD) : FVec Ideal S4096x1024 .f32 := m ((c : Thread nD τ).loc main_arg1)

theorem hz : (![0, 0] : Fin 2 → Nat) = fun _ => 0 := funext fun a => by fin_cases a <;> rfl

/-- The first point leaves the cleared scratch with its product added. -/
theorem scratch_first (c : Dev nD) (i : grid0.Coords) (a3 h3 a4 h4 a5 h5 a6 h6) (hc0 : cond0_0 i) (hc1 : ¬cond0_1 i)
    (x : Vec Ideal S2048x1024 .bf16) (y : Vec Ideal S2048x1024 .f32) :
    sout0_A_0 c i a3 h3 a4 h4 a5 h5 a6 h6 hc0 hc1 x y = k0_pay2 x y (k0_pay1 (F := Ideal)) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S2048x1024) hz, View.ld_unit_zero (S := S2048x1024) hz]

/-- The second point writes out the scratch it found with its own product added. -/
theorem out_second (c : Dev nD) (i : grid0.Coords) (a3 h3 a4 h4 a5 h5 a6 h6) (hc0 : ¬cond0_0 i) (hc1 : cond0_1 i)
    (x : Vec Ideal S2048x1024 .bf16) (y : Vec Ideal S2048x1024 .f32) (s : Vec Ideal S1024x1024 .f32) :
    out0_B_2 c i a3 h3 a4 h4 a5 h5 a6 h6 hc0 hc1 x y s = k0_pay3 (k0_pay2 x y s) := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero hz, View.readCov_unit_zero (S := S1024x1024) _ hz]
  simp only [View.readAt_eq_ld, h3.read_unread, h4.read_unread, h6.read_unread, View.ld_unit_zero (S := S2048x1024) hz,
    View.ld_unit_zero (S := S2048x1024) hz, View.ld_unit_zero (S := S1024x1024) hz]

/-- The scratch after one more product, read at an entry. -/
theorem step_entry (x : Vec Ideal S2048x1024 .bf16) (y : Vec Ideal S2048x1024 .f32) (s : Vec Ideal S1024x1024 .f32)
    (a b : Fin 1024) :
    k0_pay2 x y s (ix2 a b) = s (ix2 a b) + ∑ k : Fin 2048, x (ix2 k a) * y (ix2 k b) := by
  pointwise [k0_pay2]
theorem clear_entry (a b : Fin 1024) : k0_pay1 (F := Ideal) (ix2 a b) = 0 := by
  pointwise [k0_pay1]

theorem where_merged : ∀ t : Fin cfg0.N, win0_0.index t 0 = t.val % 2 ∧ win0_0.index t 1 = t.val / 2 :=
  (by decide +kernel : ∀ t : Fin grid0.N, win0_0.index t 0 = t.val % 2 ∧ win0_0.index t 1 = t.val / 2)
theorem where_grad : ∀ t : Fin cfg0.N, win0_1.index t 0 = t.val % 2 ∧ win0_1.index t 1 = 0 :=
  (by decide +kernel : ∀ t : Fin grid0.N, win0_1.index t 0 = t.val % 2 ∧ win0_1.index t 1 = 0)
theorem where_out : ∀ t : Fin cfg0.N, win0_2.index t 0 = t.val / 2 ∧ win0_2.index t 1 = 0 :=
  (by decide +kernel : ∀ t : Fin grid0.N, win0_2.index t 0 = t.val / 2 ∧ win0_2.index t 1 = 0)

theorem merged_block (c : Dev nD) (t : Fin cfg0.N) (k : Fin 2048) (a : Fin 1024) (k' : Fin 4096) (a' : Fin 1024)
    (hk : k'.val = t.val % 2 * 2048 + k.val) (ha : a'.val = t.val / 2 * 1024 + a.val) :
    iblk m c 0 t (ix2 k a) = merged m c (ix2 k' a') := by
  show merged m c ((win0_0.rect t).emb (ix2 k a)) = _
  congr 1
  funext d
  apply Fin.ext
  obtain ⟨h0, h1⟩ := where_merged t
  match d with
  | ⟨0, _⟩ => refine (win0_0.rect_emb_val t _ 0).trans ?_
              rw [h0]
              exact hk.symm
  | ⟨1, _⟩ => refine (win0_0.rect_emb_val t _ 1).trans ?_
              rw [h1]
              exact ha.symm

theorem grad_block (c : Dev nD) (t : Fin cfg0.N) (k : Fin 2048) (b : Fin 1024) (k' : Fin 4096)
    (hk : k'.val = t.val % 2 * 2048 + k.val) :
    iblk m c 1 t (ix2 k b) = grad m c (ix2 k' b) := by
  show grad m c ((win0_1.rect t).emb (ix2 k b)) = _
  congr 1
  funext d
  apply Fin.ext
  obtain ⟨h0, h1⟩ := where_grad t
  match d with
  | ⟨0, _⟩ => refine (win0_1.rect_emb_val t _ 0).trans ?_
              rw [h0]
              exact hk.symm
  | ⟨1, _⟩ => exact win0_1.rect_emb_val_of_index_zero t 1 h1 _

/-- The entry of the weights' gradient in row `a` and column `b`. -/
def entry (h : FVec Ideal S4096x1024 .bf16) (g : FVec Ideal S4096x1024 .f32) (a : Fin 1024) (b : Fin 1024) : EReal :=
  ∑ k : Fin 4096, h (ix2 k a) * g (ix2 k b)

/-- What a second point writes out, read at an entry. -/
theorem block_entry (c : Dev nD) (t : Fin cfg0.N) (ht : t.val % 2 = 1) (a b : Fin 1024) (a' : Fin 1024)
    (ha : a'.val = t.val / 2 * 1024 + a.val) :
    (outsAt0 m c t.val t.isLt).1 (ix2 a b) = entry (merged m c) (grad m c) a' b := by
  rw [outsAt0_B m c t (by omega) ht]
  dsimp only
  rw [out_second]
  have hp : t.val - 1 < cfg0.N := Nat.lt_of_le_of_lt (Nat.sub_le _ _) t.isLt
  rw [show outsAt0 m c (t.val - 1) _ = _ from outsAt0_A m c ⟨t.val - 1, hp⟩ (by dsimp only; omega) (by dsimp only; omega)]
  dsimp only
  rw [scratch_first]
  pointwise [k0_pay3]
  rw [step_entry, step_entry, clear_entry, zero_add]
  unfold entry
  refine Eq.trans ?_ (Fin.sum_univ_add (a := 2048) (b := 2048) fun k => merged m c (ix2 k a') * grad m c (ix2 k b)).symm
  congr 1
  · refine Finset.sum_congr rfl fun k _ => ?_
    rw [merged_block m c ⟨t.val - 1, hp⟩ k a (Fin.castAdd 2048 k) a' (by dsimp only [Fin.val_castAdd]; omega) (by dsimp only; omega),
      grad_block m c ⟨t.val - 1, hp⟩ k b (Fin.castAdd 2048 k) (by dsimp only [Fin.val_castAdd]; omega)]
  · refine Finset.sum_congr rfl fun k _ => ?_
    rw [merged_block m c t k a (Fin.natAdd 2048 k) a' (by dsimp only [Fin.val_natAdd]; omega) ha,
      grad_block m c t k b (Fin.natAdd 2048 k) (by dsimp only [Fin.val_natAdd]; omega)]

/-- The blocks written out share no entry. -/
theorem apart : ∀ t t' : Fin cfg0.N, (cfg0.win 2).flush t = true → (cfg0.win 2).flush t' = true → t ≠ t' →
    Disjoint ((cfg0.win 2).blk t).view.set ((cfg0.win 2).blk t').view.set := by
  intro t t' hf hf' hne
  refine (cfg0.win 2).disjoint_blk fun h => hne (Fin.ext ?_)
  have e : win0_2.index t 0 = win0_2.index t' 0 := congrFun h 0
  rw [(where_out t).1, (where_out t').1] at e
  have := (flush0_2 t).mp hf
  have := (flush0_2 t').mp hf'
  omega

/-- The result array after the run, read at an entry. -/
theorem final (c : Dev nD) (a : Fin 1024) (b : Fin 1024) :
    (dats m 0 c).arrAt 2 cfg0.N (ix2 a b) = entry (merged m c) (grad m c) a b := by
  have hN : cfg0.N = 2 := N_0
  let t : Fin cfg0.N := ⟨2 * (a.val / 1024) + 1, by omega⟩
  have ht : t.val = 2 * (a.val / 1024) + 1 := rfl
  let a₀ : Fin 1024 := ⟨a.val % 1024, by omega⟩
  have e : (win0_2.blk t).view.emb (ix2 a₀ b) = ix2 a b := by
    show (win0_2.rect t).emb (ix2 a₀ b) = _
    obtain ⟨h0, h1⟩ := where_out t
    funext d
    apply Fin.ext
    match d with
    | ⟨0, _⟩ => refine (win0_2.rect_emb_val t _ 0).trans ?_
                rw [h0]
                show t.val / 2 * 1024 + a.val % 1024 = a.val
                omega
    | ⟨1, _⟩ => exact win0_2.rect_emb_val_of_index_zero t 1 h1 _
  rw [← e]
  refine ((dats m 0 c).arrAt_emb_eq_flushed 2 apart t ((flush0_2 t).mpr (by omega)) (ix2 a₀ b)).trans ?_
  show (dats m 0 c).flushed 2 t (ix2 a₀ b) = _
  rw [Value.flushed2]
  exact block_entry m c t (by omega) a₀ b a (by show a.val = t.val / 2 * 1024 + a.val % 1024; omega)

end Kernel

/-- The gradient is the reference's. -/
theorem algebraic : Cert.algebraic_Kernel10Ideal_Reference10Ideal := by
  intro m ρ m' ρ' _ hagree
  refine ⟨fun c => (Cert.Kernel10Ideal.Gen.dats m 0 c).arrAt 2 Cert.Kernel10Ideal.cfg0.N, Cert.Kernel10Ideal.Value.run_blocks m ρ, ?_⟩
  refine (θ_run Cert.Reference10Ideal.defs _ _).mono (fun _ h c => ⟨(h c).1.trans ?_, (h c).2⟩)
    (Cert.Reference10Ideal.Value.run (F := Ideal) m' ρ')
  rw [(hagree c).1, (hagree c).2]
  funext j
  rw [eq_ix2 j]
  refine Eq.trans ?_ (final m c (j 0) (j 1)).symm
  generalize j 0 = a
  generalize j 1 = b
  pointwise []
  unfold entry
  exact Finset.sum_congr rfl fun k _ => mul_comm _ _

end Cert.Mix.DwOut

end
-- ==== Proof.Mix.Dz.lean ====
/-
  The gradient of a branch's output product in its input: each of four row tiles multiplies the output's gradient with
  the transposed weights.
-/
module

public import proofs.«01_k».proof.Defs
public import proofs.«01_k».proof.Proof.Gen.Kernel11Ideal.Value
public import proofs.«01_k».proof.Proof.Gen.Reference11Ideal.Run
public import proofs.«01_k».proof.Proof.Shared.Coords
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem Idealize.ShloMosaic.Tactic
open Idealize.ShloMosaic.Pipeline (Dat Window)

namespace Cert.Mix.Dz

section Kernel

open Cert.Kernel11Ideal Cert.Kernel11Ideal.Gen Cert.Coords

variable (m : (ℓ : Loc nD τ sig) → Buf (Elt Ideal) ℓ)

/-- The output's gradient, and the weights. -/
abbrev grad (c : Dev nD) : FVec Ideal S4096x1024 .bf16 := m ((c : Thread nD τ).loc main_arg0)
abbrev weights (c : Dev nD) : FVec Ideal S1024x1024 .f32 := m ((c : Thread nD τ).loc main_arg1)

theorem where_grad : ∀ t : Fin cfg0.N, win0_0.index t 0 = t.val ∧ win0_0.index t 1 = 0 :=
  (by decide +kernel : ∀ t : Fin grid0.N, win0_0.index t 0 = t.val ∧ win0_0.index t 1 = 0)
theorem where_weights : ∀ t : Fin cfg0.N, win0_1.index t 0 = 0 ∧ win0_1.index t 1 = 0 :=
  (by decide +kernel : ∀ t : Fin grid0.N, win0_1.index t 0 = 0 ∧ win0_1.index t 1 = 0)
theorem where_out : ∀ t : Fin cfg0.N, win0_2.index t 0 = t.val ∧ win0_2.index t 1 = 0 :=
  (by decide +kernel : ∀ t : Fin grid0.N, win0_2.index t 0 = t.val ∧ win0_2.index t 1 = 0)

theorem staged_weights (c : Dev nD) : V m c main_v0 = weights m c := by
  have e : V m c main_v0 = truncf .bf16 (weights m c) bitsLt_bf16_f32 := by
    show StableHlo.after hostOps0 (fun b => m (c, b)) main_v0 = _
    after_results
  rw [e]
  rfl

theorem grad_block (c : Dev nD) (t : Fin cfg0.N) (r k : Fin 1024) (r' : Fin 4096) (hr : r'.val = t.val * 1024 + r.val) :
    iblk m c 0 t (ix2 r k) = grad m c (ix2 r' k) := by
  show V m c main_arg0 ((win0_0.rect t).emb (ix2 r k)) = _
  rw [V_main_arg0]
  obtain ⟨h0, h1⟩ := where_grad t
  refine congrArg (grad m c) (eq_of_coords2 _ _ _ ((win0_0.rect_emb_val t _ 0).trans ?_) (win0_0.rect_emb_val_of_index_zero t 1 h1 _))
  rw [h0]
  exact hr.symm
theorem weights_block (c : Dev nD) (t : Fin cfg0.N) (j k : Fin 1024) : iblk m c 1 t (ix2 j k) = weights m c (ix2 j k) := by
  show V m c main_v0 ((win0_1.rect t).emb (ix2 j k)) = _
  rw [staged_weights]
  obtain ⟨h0, h1⟩ := where_weights t
  exact congrArg (weights m c) (eq_of_coords2 _ _ _ (win0_1.rect_emb_val_of_index_zero t 0 h0 _) (win0_1.rect_emb_val_of_index_zero t 1 h1 _))

/-- The stored block, read at an entry. -/
theorem block_entry (x y : Vec Ideal S1024x1024 .bf16) (r j : Fin 1024) :
    k0_pay1 x y (ix2 r j) = ∑ k : Fin 1024, x (ix2 r k) * y (ix2 j k) := by
  pointwise [k0_pay1]

/-- The result array after the run, read at an entry. -/
theorem final (c : Dev nD) (r : Fin 4096) (j : Fin 1024) :
    (dats m 0 c).arrAt 2 cfg0.N (ix2 r j) = ∑ k : Fin 1024, grad m c (ix2 r k) * weights m c (ix2 j k) := by
  have hN : cfg0.N = 4 := N_0
  let t : Fin cfg0.N := ⟨r.val / 1024, by omega⟩
  let r₀ : Fin 1024 := ⟨r.val % 1024, by omega⟩
  have hr : r.val = t.val * 1024 + r₀.val := by show _ = r.val / 1024 * 1024 + r.val % 1024; omega
  have e : (win0_2.blk t).view.emb (ix2 r₀ j) = ix2 r j := by
    show (win0_2.rect t).emb (ix2 r₀ j) = _
    obtain ⟨h0, h1⟩ := where_out t
    refine eq_of_coords2 _ _ _ ((win0_2.rect_emb_val t _ 0).trans ?_) (win0_2.rect_emb_val_of_index_zero t 1 h1 _)
    rw [h0]
    exact hr.symm
  rw [← e]
  refine ((dats m 0 c).arrAt_emb_eq_flushed 2 Value.disjoint2 t (flush0_2 t) (ix2 r₀ j)).trans ?_
  show (dats m 0 c).flushed 2 t (ix2 r₀ j) = _
  rw [Value.flushed2]
  show out0_2 (iblk m c 0 t) (iblk m c 1 t) (ix2 r₀ j) = _
  have hz : (![0, 0] : Fin 2 → Nat) = fun _ => 0 := funext fun a => by fin_cases a <;> rfl
  unfold out0_2
  rw [View.canon_unit_zero hz, View.ld_unit_zero hz, View.ld_unit_zero hz, block_entry]
  refine Finset.sum_congr rfl fun k _ => ?_
  rw [grad_block m c t r₀ k r hr, weights_block]

end Kernel

/-- The gradient is the reference's. -/
theorem algebraic : Cert.algebraic_Kernel11Ideal_Reference11Ideal := by
  intro m ρ m' ρ' _ hagree
  refine ⟨fun c => (Cert.Kernel11Ideal.Gen.dats m 0 c).arrAt 2 Cert.Kernel11Ideal.cfg0.N, Cert.Kernel11Ideal.Value.run_blocks m ρ, ?_⟩
  refine (θ_run Cert.Reference11Ideal.defs _ _).mono (fun _ h c => ⟨(h c).1.trans ?_, (h c).2⟩)
    (Cert.Reference11Ideal.Value.run (F := Ideal) m' ρ')
  rw [(hagree c).1, (hagree c).2]
  funext j
  rw [eq_ix2 j]
  refine Eq.trans ?_ (final m c (j 0) (j 1)).symm
  generalize j 0 = a
  generalize j 1 = b
  pointwise []

end Cert.Mix.Dz

end
-- ==== Proof.Fwd.MixIn.lean ====
/-
  The mix's input product: each grid point multiplies one tile of the normed rows with one column quarter of the weights.
-/
module

public import proofs.«01_k».proof.Defs
public import proofs.«01_k».proof.Proof.Gen.Kernel12Ideal.Value
public import proofs.«01_k».proof.Proof.Gen.Reference12Ideal.Run
public import proofs.«01_k».proof.Proof.Shared.Coords
public import Idealize.ShloMosaic.Lib.Pipeline.Value
public import Idealize.ShloMosaic.Lib.Pointwise
public import Idealize.ShloMosaic.Lib.IdealHost
public import Idealize.ShloMosaic.Lib.Quiescent

@[expose] public section

set_option maxRecDepth 16384

noncomputable section

open Idealize.ShloMosaic Idealize.ShloMosaic.TcCoe Idealize.SL.Sem Idealize.ShloMosaic.Tactic
open Idealize.ShloMosaic.Pipeline (Dat Window)

namespace Cert.Fwd.MixIn

section Kernel

open Cert.Kernel12Ideal Cert.Kernel12Ideal.Gen Cert.Coords

variable (m : (ℓ : Loc nD τ sig) → Buf (Elt Ideal) ℓ)

/-- The normed rows, and the weights. -/
abbrev rows (c : Dev nD) : FVec Ideal S4096x1024 .bf16 := m ((c : Thread nD τ).loc main_arg0)
abbrev weights (c : Dev nD) : FVec Ideal S1024x5632 .f32 := m ((c : Thread nD τ).loc main_arg1)

theorem where_rows : ∀ t : Fin cfg0.N, win0_0.index t 0 = t.val % 4 ∧ win0_0.index t 1 = 0 :=
  (by decide +kernel : ∀ t : Fin grid0.N, win0_0.index t 0 = t.val % 4 ∧ win0_0.index t 1 = 0)
theorem where_weights : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)
theorem where_out : ∀ t : Fin cfg0.N, win0_2.index t 0 = t.val % 4 ∧ win0_2.index t 1 = t.val / 4 :=
  (by decide +kernel : ∀ t : Fin grid0.N, win0_2.index t 0 = t.val % 4 ∧ win0_2.index t 1 = t.val / 4)

/-- The weights as staged: their column quarters, one above the other. -/
theorem staged_weights (c : Dev nD) (q : Fin 4) (j : Fin 1024) (k : Fin 1408) (k' : Fin 5632) (hk : k'.val = q.val * 1408 + k.val) :
    V m c main_v2 (ix3 q j k) = weights m c (ix2 j k') := by
  show StableHlo.after hostOps0 (fun b => m (c, b)) main_v2 _ = _
  after_results
  pointwise []
  exact congrArg (fun l => weights m c (ix2 j l)) (Fin.ext hk.symm)

theorem rows_block (c : Dev nD) (t : Fin cfg0.N) (r k : Fin 1024) (r' : Fin 4096) (hr : r'.val = t.val % 4 * 1024 + r.val) :
    iblk m c 0 t (ix2 r k) = rows m c (ix2 r' k) := by
  show V m c main_arg0 ((win0_0.rect t).emb (ix2 r k)) = _
  rw [V_main_arg0]
  obtain ⟨h0, h1⟩ := where_rows t
  refine congrArg (rows m c) (eq_of_coords2 _ _ _ ((win0_0.rect_emb_val t _ 0).trans ?_) (win0_0.rect_emb_val_of_index_zero t 1 h1 _))
  rw [h0]
  exact hr.symm
theorem weights_block (c : Dev nD) (t : Fin cfg0.N) (k : Fin 1024) (l : Fin 1408) (l' : Fin 5632)
    (hl : l'.val = t.val / 4 * 1408 + l.val) :
    iblk m c 1 t (ix3 (0 : Fin 1) k l) = weights m c (ix2 k l') := by
  have hN : cfg0.N = 16 := N_0
  have ht := t.isLt
  refine Eq.trans ?_ (staged_weights m c ⟨t.val / 4, by omega⟩ k l l' hl)
  show V m c main_v2 ((win0_1.rect t).emb (ix3 (0 : Fin 1) k l)) = _
  obtain ⟨h0, h1, h2⟩ := where_weights t
  refine congrArg (V m c main_v2) (eq_of_coords _ _ _ _ ((win0_1.rect_emb_val t _ 0).trans ?_)
    (win0_1.rect_emb_val_of_index_zero t 1 h1 _) (win0_1.rect_emb_val_of_index_zero t 2 h2 _))
  rw [h0]
  show t.val / 4 * 1 + 0 = t.val / 4
  omega

/-- The stored block, read at an entry. -/
theorem block_entry (x : Vec Ideal S1024x1024 .bf16) (w : Vec Ideal S1x1024x1408 .bf16) (r : Fin 1024) (l : Fin 1408) :
    k0_pay1 x w (ix2 r l) = ∑ k : Fin 1024, x (ix2 r k) * w (ix3 (0 : Fin 1) k l) := by
  pointwise [k0_pay1]

/-- The result array after the run, read at an entry. -/
theorem final (c : Dev nD) (r : Fin 4096) (l : Fin 5632) :
    (dats m 0 c).arrAt 2 cfg0.N (ix2 r l) = ∑ k : Fin 1024, rows m c (ix2 r k) * weights m c (ix2 k l) := by
  have hN : cfg0.N = 16 := N_0
  let t : Fin cfg0.N := ⟨l.val / 1408 * 4 + r.val / 1024, by omega⟩
  have ht : t.val = l.val / 1408 * 4 + r.val / 1024 := rfl
  let r₀ : Fin 1024 := ⟨r.val % 1024, by omega⟩
  let l₀ : Fin 1408 := ⟨l.val % 1408, by omega⟩
  have hr : r.val = t.val % 4 * 1024 + r₀.val := by show _ = _ + r.val % 1024; omega
  have hl : l.val = t.val / 4 * 1408 + l₀.val := by show _ = _ + l.val % 1408; omega
  have e : (win0_2.blk t).view.emb (ix2 r₀ l₀) = ix2 r l := by
    show (win0_2.rect t).emb (ix2 r₀ l₀) = _
    obtain ⟨h0, h1⟩ := where_out t
    refine eq_of_coords2 _ _ _ ((win0_2.rect_emb_val t _ 0).trans ?_) ((win0_2.rect_emb_val t _ 1).trans ?_)
    · rw [h0]
      exact hr.symm
    · rw [h1]
      exact hl.symm
  rw [← e]
  refine ((dats m 0 c).arrAt_emb_eq_flushed 2 Value.disjoint2 t (flush0_2 t) (ix2 r₀ l₀)).trans ?_
  show (dats m 0 c).flushed 2 t (ix2 r₀ l₀) = _
  rw [Value.flushed2]
  show out0_2 (iblk m c 0 t) (iblk m c 1 t) (ix2 r₀ l₀) = _
  have hz : (![0, 0] : Fin 2 → Nat) = fun _ => 0 := funext fun a => by fin_cases a <;> rfl
  have hz3 : (![0, 0, 0] : Fin 3 → Nat) = fun _ => 0 := funext fun a => by fin_cases a <;> rfl
  unfold out0_2
  rw [View.canon_unit_zero hz, View.ld_unit_zero hz, View.ld_unit_zero hz3, block_entry]
  refine Finset.sum_congr rfl fun k _ => ?_
  rw [rows_block m c t r₀ k r hr, weights_block m c t k l₀ l hl]

end Kernel

/-- The product is the reference's. -/
theorem algebraic : Cert.algebraic_Kernel12Ideal_Reference12Ideal := by
  intro m ρ m' ρ' _ hagree
  refine ⟨fun c => (Cert.Kernel12Ideal.Gen.dats m 0 c).arrAt 2 Cert.Kernel12Ideal.cfg0.N, Cert.Kernel12Ideal.Value.run_blocks m ρ, ?_⟩
  refine (θ_run Cert.Reference12Ideal.defs _ _).mono (fun _ h c => ⟨(h c).1.trans ?_, (h c).2⟩)
    (Cert.Reference12Ideal.Value.run (F := Ideal) m' ρ')
  rw [(hagree c).1, (hagree c).2]
  funext j
  rw [eq_ix2 j]
  refine Eq.trans ?_ (final m c (j 0) (j 1)).symm
  generalize j 0 = r
  generalize j 1 = l
  pointwise []

end Cert.Fwd.MixIn

end
-- ==== Proof.Fwd.FfnIn.lean ====
/-
  SwiGLU's input product and gate: each grid point multiplies one tile of the normed rows with two column quarters of the
  weights, the gate's and its factor's, stores both products, and stores `silu` of the first times the second.
-/
module

public import proofs.«01_k».proof.Defs
public import proofs.«01_k».proof.Proof.Gen.Kernel13Ideal.Value
public import proofs.«01_k».proof.Proof.Gen.Reference13Ideal.Run
public import proofs.«01_k».proof.Proof.Shared.Coords
public import proofs.«01_k».proof.Proof.Ffn.Gate
public import Idealize.ShloMosaic.Lib.Pipeline.Value
public import Idealize.ShloMosaic.Lib.Pointwise
public import Idealize.ShloMosaic.Lib.IdealHost
public import Idealize.ShloMosaic.Lib.Quiescent

@[expose] public section

set_option maxRecDepth 16384

noncomputable section

open Idealize.ShloMosaic Idealize.ShloMosaic.TcCoe Idealize.SL.Sem Idealize.ShloMosaic.Tactic
open Idealize.ShloMosaic.Pipeline (Dat Window)

namespace Cert.Fwd.FfnIn

section Kernel

open Cert.Kernel13Ideal Cert.Kernel13Ideal.Gen Cert.Coords Cert.Ffn.Gate

variable (m : (ℓ : Loc nD τ sig) → Buf (Elt Ideal) ℓ)

/-- The normed rows, and the weights. -/
abbrev rows (c : Dev nD) : FVec Ideal S4096x1024 .bf16 := m ((c : Thread nD τ).loc main_arg0)
abbrev inputs (c : Dev nD) : FVec Ideal S1024x5632 .f32 := m ((c : Thread nD τ).loc main_arg1)

theorem where_rows : ∀ t : Fin cfg0.N, win0_0.index t 0 = t.val % 4 ∧ win0_0.index t 1 = 0 :=
  (by decide +kernel : ∀ t : Fin grid0.N, win0_0.index t 0 = t.val % 4 ∧ win0_0.index t 1 = 0)
theorem where_gate : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)
theorem where_factor : ∀ t : Fin cfg0.N, win0_2.index t 0 = t.val / 4 + 2 ∧ win0_2.index t 1 = 0 ∧ win0_2.index t 2 = 0 :=
  (by decide +kernel : ∀ t : Fin grid0.N, win0_2.index t 0 = t.val / 4 + 2 ∧ win0_2.index t 1 = 0 ∧ win0_2.index t 2 = 0)
theorem where_both : ∀ t : Fin cfg0.N, win0_3.index t 0 = 0 ∧ win0_3.index t 1 = t.val % 4 ∧ win0_3.index t 2 = t.val / 4 :=
  (by decide +kernel : ∀ t : Fin grid0.N, win0_3.index t 0 = 0 ∧ win0_3.index t 1 = t.val % 4 ∧ win0_3.index t 2 = t.val / 4)
theorem where_hidden : ∀ t : Fin cfg0.N, win0_4.index t 0 = t.val % 4 ∧ win0_4.index t 1 = t.val / 4 :=
  (by decide +kernel : ∀ t : Fin grid0.N, win0_4.index t 0 = t.val % 4 ∧ win0_4.index t 1 = t.val / 4)

/-- The weights as staged: their column quarters, one above the other. -/
theorem staged_inputs (c : Dev nD) (q : Fin 4) (j : Fin 1024) (k : Fin 1408) (k' : Fin 5632) (hk : k'.val = q.val * 1408 + k.val) :
    V m c main_v2 (ix3 q j k) = inputs m c (ix2 j k') := by
  show StableHlo.after hostOps0 (fun b => m (c, b)) main_v2 _ = _
  after_results
  pointwise []
  exact congrArg (fun l => inputs m c (ix2 j l)) (Fin.ext hk.symm)

/-- The product's entry in row `r` and column `l`, and a grid point's entry. -/
def product (x : FVec Ideal S4096x1024 .bf16) (w : FVec Ideal S1024x5632 .f32) (r : Fin 4096) (l : Fin 5632) : EReal :=
  ∑ k : Fin 1024, x (ix2 r k) * w (ix2 k l)
def tile (x : Vec Ideal S1024x1024 .bf16) (w : Vec Ideal S1x1024x1408 .bf16) (r : Fin 1024) (l : Fin 1408) : EReal :=
  ∑ k : Fin 1024, x (ix2 r k) * w (ix3 (0 : Fin 1) k l)

/-- The gated product of the gate `a` and its factor `b`. -/
def gated (a b : EReal) : EReal := a * sigma a * b

section Blocks

variable (c : Dev nD) (t : Fin cfg0.N)

theorem rows_block (r k : Fin 1024) (r' : Fin 4096) (hr : r'.val = t.val % 4 * 1024 + r.val) :
    iblk m c 0 t (ix2 r k) = rows m c (ix2 r' k) := by
  show V m c main_arg0 ((win0_0.rect t).emb (ix2 r k)) = _
  rw [V_main_arg0]
  obtain ⟨h0, h1⟩ := where_rows t
  refine congrArg (rows m c) (eq_of_coords2 _ _ _ ((win0_0.rect_emb_val t _ 0).trans ?_) (win0_0.rect_emb_val_of_index_zero t 1 h1 _))
  rw [h0]
  exact hr.symm
theorem gate_block (k : Fin 1024) (l : Fin 1408) (l' : Fin 5632) (hl : l'.val = t.val / 4 * 1408 + l.val) :
    iblk m c 1 t (ix3 (0 : Fin 1) k l) = inputs m c (ix2 k l') := by
  have hN : cfg0.N = 8 := N_0
  have ht := t.isLt
  refine Eq.trans ?_ (staged_inputs m c ⟨t.val / 4, by omega⟩ k l l' hl)
  show V m c main_v2 ((win0_1.rect t).emb (ix3 (0 : Fin 1) k l)) = _
  obtain ⟨h0, h1, h2⟩ := where_gate t
  refine congrArg (V m c main_v2) (eq_of_coords _ _ _ _ ((win0_1.rect_emb_val t _ 0).trans ?_)
    (win0_1.rect_emb_val_of_index_zero t 1 h1 _) (win0_1.rect_emb_val_of_index_zero t 2 h2 _))
  rw [h0]
  show t.val / 4 * 1 + 0 = t.val / 4
  omega
theorem factor_block (k : Fin 1024) (l : Fin 1408) (l' : Fin 5632) (hl : l'.val = 2816 + (t.val / 4 * 1408 + l.val)) :
    iblk m c 2 t (ix3 (0 : Fin 1) k l) = inputs m c (ix2 k l') := by
  have hN : cfg0.N = 8 := N_0
  have ht := t.isLt
  refine Eq.trans ?_ (staged_inputs m c ⟨t.val / 4 + 2, by omega⟩ k l l' (by dsimp only; omega))
  show V m c main_v2 ((win0_2.rect t).emb (ix3 (0 : Fin 1) k l)) = _
  obtain ⟨h0, h1, h2⟩ := where_factor t
  refine congrArg (V m c main_v2) (eq_of_coords _ _ _ _ ((win0_2.rect_emb_val t _ 0).trans ?_)
    (win0_2.rect_emb_val_of_index_zero t 1 h1 _) (win0_2.rect_emb_val_of_index_zero t 2 h2 _))
  rw [h0]
  show (t.val / 4 + 2) * 1 + 0 = t.val / 4 + 2
  omega

variable (r : Fin 1024) (r' : Fin 4096) (hr : r'.val = t.val % 4 * 1024 + r.val) (l : Fin 1408)

include hr

theorem gate_tile (l' : Fin 5632) (hl : l'.val = t.val / 4 * 1408 + l.val) :
    tile (iblk m c 0 t) (iblk m c 1 t) r l = product (rows m c) (inputs m c) r' l' :=
  Finset.sum_congr rfl fun k _ => by rw [rows_block m c t r k r' hr, gate_block m c t k l l' hl]
theorem factor_tile (l' : Fin 5632) (hl : l'.val = 2816 + (t.val / 4 * 1408 + l.val)) :
    tile (iblk m c 0 t) (iblk m c 2 t) r l = product (rows m c) (inputs m c) r' l' :=
  Finset.sum_congr rfl fun k _ => by rw [rows_block m c t r k r' hr, factor_block m c t k l l' hl]

end Blocks

/-- The stored blocks, read at an entry. -/
theorem gate_entry (x : Vec Ideal S1024x1024 .bf16) (w : Vec Ideal S1x1024x1408 .bf16) (r : Fin 1024) (l : Fin 1408) :
    k0_pay4 x w (ix3 (0 : Fin 1) r l) = tile x w r l := by
  pointwise [k0_pay4, k0_pay1]
  rfl
theorem factor_entry (x : Vec Ideal S1024x1024 .bf16) (w : Vec Ideal S1x1024x1408 .bf16) (r : Fin 1024) (l : Fin 1408) :
    k0_pay5 x w (ix3 (0 : Fin 1) r l) = tile x w r l := by
  pointwise [k0_pay5, k0_pay2]
  rfl
theorem hidden_entry (x : Vec Ideal S1024x1024 .bf16) (v w : Vec Ideal S1x1024x1408 .bf16) (r : Fin 1024) (l : Fin 1408) :
    k0_pay3 x v w (ix2 r l) = gated (tile x v r l) (tile x w r l) := by
  pointwise [k0_pay3, k0_pay1, k0_pay2]
  simp only [Ideal.ofBits_one_f32, zero_sub]
  rfl

theorem hz : (![0, 0] : Fin 2 → Nat) = fun _ => 0 := funext fun a => by fin_cases a <;> rfl
theorem hz3 : (![0, 0, 0] : Fin 3 → Nat) = fun _ => 0 := funext fun a => by fin_cases a <;> rfl

theorem place_gate (r : Fin 1024) (l : Fin 1408) : r0_3.emb (ix3 (0 : Fin 1) r l) = ix3 (0 : Fin 2) r l :=
  eq_of_coords _ _ _ _ rfl (by show 0 + 1 * r.val = r.val; omega) (by show 0 + 1 * l.val = l.val; omega)
theorem place_factor (r : Fin 1024) (l : Fin 1408) : r0_4.emb (ix3 (0 : Fin 1) r l) = ix3 (1 : Fin 2) r l :=
  eq_of_coords _ _ _ _ rfl (by show 0 + 1 * r.val = r.val; omega) (by show 0 + 1 * l.val = l.val; omega)

/-- The two halves of the products' block. -/
theorem half_gate (x : Vec Ideal S1024x1024 .bf16) (v w : Vec Ideal S1x1024x1408 .bf16) (r : Fin 1024) (l : Fin 1408) :
    out0_3 x v w (ix3 (0 : Fin 2) r l) = tile x v r l := by
  unfold out0_3
  rw [View.canon_cons_of_not_mem, ← place_gate, View.canon_cons_emb, View.ld_unit_zero hz, View.ld_unit_zero hz3, gate_entry]
  rw [Rect.mem_set_unit]
  intro h
  exact absurd (show 1 ≤ 0 from (h 0).1) (by decide)
theorem half_factor (x : Vec Ideal S1024x1024 .bf16) (v w : Vec Ideal S1x1024x1408 .bf16) (r : Fin 1024) (l : Fin 1408) :
    out0_3 x v w (ix3 (1 : Fin 2) r l) = tile x w r l := by
  unfold out0_3
  rw [← place_factor, View.canon_cons_emb, View.ld_unit_zero hz, View.ld_unit_zero hz3, factor_entry]

section Final

variable (c : Dev nD) (r : Fin 4096) (l : Fin 2816)

/-- The grid point whose blocks hold row `r` and column `l`, and the place there. -/
theorem point : ∃ (t : Fin cfg0.N) (r₀ : Fin 1024) (l₀ : Fin 1408), r.val = t.val % 4 * 1024 + r₀.val ∧ l.val = t.val / 4 * 1408 + l₀.val := by
  have hN : cfg0.N = 8 := N_0
  exact ⟨⟨l.val / 1408 * 4 + r.val / 1024, by omega⟩, ⟨r.val % 1024, by omega⟩, ⟨l.val % 1408, by omega⟩,
    by dsimp only; omega, by dsimp only; omega⟩

/-- The gate's and the factor's product in row `r` and column `l`. -/
def gateOf (x : FVec Ideal S4096x1024 .bf16) (w : FVec Ideal S1024x5632 .f32) (r : Fin 4096) (l : Fin 2816) : EReal :=
  product x w r (⟨l.val, by omega⟩ : Fin 5632)
def factorOf (x : FVec Ideal S4096x1024 .bf16) (w : FVec Ideal S1024x5632 .f32) (r : Fin 4096) (l : Fin 2816) : EReal :=
  product x w r (⟨2816 + l.val, by omega⟩ : Fin 5632)

/-- The products' array after the run, read at an entry. -/
theorem final_both (q : Fin 2) :
    (dats m 0 c).arrAt 3 cfg0.N (ix3 q r l)
      = if q = 0 then gateOf (rows m c) (inputs m c) r l else factorOf (rows m c) (inputs m c) r l := by
  obtain ⟨t, r₀, l₀, hr, hl⟩ := point r l
  have e : (win0_3.blk t).view.emb (ix3 q r₀ l₀) = ix3 q r l := by
    show (win0_3.rect t).emb (ix3 q r₀ l₀) = _
    obtain ⟨h0, h1, h2⟩ := where_both t
    refine eq_of_coords _ _ _ _ (win0_3.rect_emb_val_of_index_zero t 0 h0 _) ((win0_3.rect_emb_val t _ 1).trans ?_)
      ((win0_3.rect_emb_val t _ 2).trans ?_)
    · rw [h1]
      exact hr.symm
    · rw [h2]
      exact hl.symm
  rw [← e]
  refine ((dats m 0 c).arrAt_emb_eq_flushed 3 Value.disjoint3 t (flush0_3 t) (ix3 q r₀ l₀)).trans ?_
  show (dats m 0 c).flushed 3 t (ix3 q r₀ l₀) = _
  rw [Value.flushed3]
  show out0_3 (iblk m c 0 t) (iblk m c 1 t) (iblk m c 2 t) (ix3 q r₀ l₀) = _
  match q with
  | 0 => rw [if_pos rfl, half_gate]
         exact gate_tile m c t r₀ r hr l₀ _ hl
  | 1 => rw [if_neg (by decide), half_factor]
         exact factor_tile m c t r₀ r hr l₀ _ (by dsimp only; omega)

/-- The gated products' array after the run, read at an entry. -/
theorem final_hidden :
    (dats m 0 c).arrAt 4 cfg0.N (ix2 r l) = gated (gateOf (rows m c) (inputs m c) r l) (factorOf (rows m c) (inputs m c) r l) := by
  obtain ⟨t, r₀, l₀, hr, hl⟩ := point r l
  have e : (win0_4.blk t).view.emb (ix2 r₀ l₀) = ix2 r l := by
    show (win0_4.rect t).emb (ix2 r₀ l₀) = _
    obtain ⟨h0, h1⟩ := where_hidden t
    refine eq_of_coords2 _ _ _ ((win0_4.rect_emb_val t _ 0).trans ?_) ((win0_4.rect_emb_val t _ 1).trans ?_)
    · rw [h0]
      exact hr.symm
    · rw [h1]
      exact hl.symm
  rw [← e]
  refine ((dats m 0 c).arrAt_emb_eq_flushed 4 Value.disjoint4 t (flush0_4 t) (ix2 r₀ l₀)).trans ?_
  show (dats m 0 c).flushed 4 t (ix2 r₀ l₀) = _
  rw [Value.flushed4]
  show out0_4 (iblk m c 0 t) (iblk m c 1 t) (iblk m c 2 t) (ix2 r₀ l₀) = _
  unfold out0_4
  rw [View.canon_unit_zero hz, View.ld_unit_zero hz, View.ld_unit_zero hz3, View.ld_unit_zero hz3, hidden_entry]
  exact congrArg₂ gated (gate_tile m c t r₀ r hr l₀ _ hl) (factor_tile m c t r₀ r hr l₀ _ (by dsimp only; omega))

end Final

end Kernel

/-- The products and the gated products are the reference's. -/
theorem algebraic : Cert.algebraic_Kernel13Ideal_Reference13Ideal := by
  intro m ρ m' ρ' _ hagree
  refine ⟨fun c => (Cert.Kernel13Ideal.Gen.dats m 0 c).arrAt 3 Cert.Kernel13Ideal.cfg0.N,
    fun c => (Cert.Kernel13Ideal.Gen.dats m 0 c).arrAt 4 Cert.Kernel13Ideal.cfg0.N, Cert.Kernel13Ideal.Value.run_blocks m ρ, ?_⟩
  refine (θ_run Cert.Reference13Ideal.defs _ _).mono
    (fun _ h c => ⟨(h c).1.trans ?_, (h c).2.1.trans ?_, (h c).2.2⟩)
    (Cert.Reference13Ideal.Value.run (F := Ideal) m' ρ')
  · clear h
    rw [(hagree c).1, (hagree c).2]
    funext j
    rw [eq_ix3 j]
    refine Eq.trans ?_ (final_both m c (j 1) (j 2) (j 0)).symm
    generalize j 0 = q
    generalize j 1 = r
    generalize j 2 = l
    have hq : q.val < 2 := q.isLt
    pointwise []
    by_cases h : q.val < 1
    · have e : q = (0 : Fin 2) := Fin.ext (show q.val = 0 by omega)
      rw [dif_pos h, e]
      rfl
    · have e : q = (1 : Fin 2) := Fin.ext (show q.val = 1 by omega)
      rw [dif_neg h, e]
      rfl
  · clear h
    rw [(hagree c).1, (hagree c).2]
    funext j
    rw [eq_ix2 j]
    refine Eq.trans ?_ (final_hidden m c (j 0) (j 1)).symm
    generalize j 0 = r
    generalize j 1 = l
    pointwise []
    rfl

end Cert.Fwd.FfnIn

end
-- ==== Proof.Fwd.FfnOut.lean ====
/-
  SwiGLU's output product, halved and added to the residual stream, and the next norm: each of four row tiles stores the
  sum and its rows divided by their root mean square, times the gain.
-/
module

public import proofs.«01_k».proof.Defs
public import proofs.«01_k».proof.Proof.Gen.Kernel14Ideal.Value
public import proofs.«01_k».proof.Proof.Gen.Reference14Ideal.Run
public import proofs.«01_k».proof.Proof.Shared.Coords
public import proofs.«01_k».proof.Proof.Ffn.Norm
public import proofs.«01_k».proof.Proof.Ffn.Gate
public import Idealize.ShloMosaic.Lib.Pipeline.Value
public import Idealize.ShloMosaic.Lib.Pointwise
public import Idealize.ShloMosaic.Lib.IdealHost
public import Idealize.ShloMosaic.Lib.Quiescent

@[expose] public section

set_option maxRecDepth 16384

noncomputable section

open Idealize.ShloMosaic Idealize.ShloMosaic.TcCoe Idealize.SL.Sem Idealize.ShloMosaic.Tactic
open Idealize.ShloMosaic.Pipeline (Dat Window)

namespace Cert.Fwd.FfnOut

section Kernel

open Cert.Kernel14Ideal Cert.Kernel14Ideal.Gen Cert.Coords Cert.Ffn Cert.Ffn.Gate

variable (m : (ℓ : Loc nD τ sig) → Buf (Elt Ideal) ℓ)

/-- The product's rows, its weights, the residual stream, and the next norm's gain. -/
abbrev rows (c : Dev nD) : FVec Ideal S4096x2816 .bf16 := m ((c : Thread nD τ).loc main_arg0)
abbrev outputs (c : Dev nD) : FVec Ideal S2816x1024 .f32 := m ((c : Thread nD τ).loc main_arg1)
abbrev stream (c : Dev nD) : FVec Ideal S4096x1024 .f32 := m ((c : Thread nD τ).loc main_arg2)
abbrev gain (c : Dev nD) : FVec Ideal S1x1024 .f32 := m ((c : Thread nD τ).loc main_arg3)

/-- The residual stream's next entry in row `r` and column `j`, and a grid point's entry. -/
def next (h : FVec Ideal S4096x2816 .bf16) (w : FVec Ideal S2816x1024 .f32) (x : FVec Ideal S4096x1024 .f32)
    (r : Fin 4096) (j : Fin 1024) : EReal :=
  x (ix2 r j) + half * ∑ k : Fin 2816, h (ix2 r k) * w (ix2 k j)
def tile (h : Vec Ideal S1024x2816 .bf16) (w : Vec Ideal S2816x1024 .bf16) (x : Vec Ideal S1024x1024 .f32)
    (r j : Fin 1024) : EReal :=
  x (ix2 r j) + half * ∑ k : Fin 2816, h (ix2 r k) * w (ix2 k j)

/-- An entry of a normalised row, of the row `y`, the column and the gain. -/
def normed (y : Fin 1024 → EReal) (j : Fin 1024) (g : EReal) : EReal := y j * rms y * g

theorem where_rows : ∀ t : Fin cfg0.N, win0_0.index t 0 = t.val ∧ win0_0.index t 1 = 0 :=
  (by decide +kernel : ∀ t : Fin grid0.N, win0_0.index t 0 = t.val ∧ win0_0.index t 1 = 0)
theorem where_outputs : ∀ t : Fin cfg0.N, win0_1.index t 0 = 0 ∧ win0_1.index t 1 = 0 :=
  (by decide +kernel : ∀ t : Fin grid0.N, win0_1.index t 0 = 0 ∧ win0_1.index t 1 = 0)
theorem where_stream : ∀ t : Fin cfg0.N, win0_2.index t 0 = t.val ∧ win0_2.index t 1 = 0 :=
  (by decide +kernel : ∀ t : Fin grid0.N, win0_2.index t 0 = t.val ∧ win0_2.index t 1 = 0)
theorem where_gain : ∀ t : Fin cfg0.N, win0_3.index t 0 = 0 ∧ win0_3.index t 1 = 0 :=
  (by decide +kernel : ∀ t : Fin grid0.N, win0_3.index t 0 = 0 ∧ win0_3.index t 1 = 0)
theorem where_next : ∀ t : Fin cfg0.N, win0_4.index t 0 = t.val ∧ win0_4.index t 1 = 0 :=
  (by decide +kernel : ∀ t : Fin grid0.N, win0_4.index t 0 = t.val ∧ win0_4.index t 1 = 0)
theorem where_normed : ∀ t : Fin cfg0.N, win0_5.index t 0 = t.val ∧ win0_5.index t 1 = 0 :=
  (by decide +kernel : ∀ t : Fin grid0.N, win0_5.index t 0 = t.val ∧ win0_5.index t 1 = 0)

theorem staged_outputs (c : Dev nD) : V m c main_v0 = outputs m c := by
  have e : V m c main_v0 = truncf .bf16 (outputs m c) bitsLt_bf16_f32 := by
    show StableHlo.after hostOps0 (fun b => m (c, b)) main_v0 = _
    after_results
  rw [e]
  rfl

section Blocks

variable (c : Dev nD) (t : Fin cfg0.N)

theorem outputs_block (k : Fin 2816) (j : Fin 1024) : iblk m c 1 t (ix2 k j) = outputs m c (ix2 k j) := by
  show V m c main_v0 ((win0_1.rect t).emb (ix2 k j)) = _
  rw [staged_outputs]
  obtain ⟨h0, h1⟩ := where_outputs t
  exact congrArg (outputs m c) (eq_of_coords2 _ _ _ (win0_1.rect_emb_val_of_index_zero t 0 h0 _) (win0_1.rect_emb_val_of_index_zero t 1 h1 _))
theorem gain_block (j : Fin 1024) : iblk m c 3 t (ix2 (0 : Fin 1) j) = gain m c (ix2 (0 : Fin 1) j) := by
  show V m c main_arg3 ((win0_3.rect t).emb (ix2 (0 : Fin 1) j)) = _
  rw [V_main_arg3]
  obtain ⟨h0, h1⟩ := where_gain t
  exact congrArg (gain m c) (eq_of_coords2 _ _ _ (win0_3.rect_emb_val_of_index_zero t 0 h0 _) (win0_3.rect_emb_val_of_index_zero t 1 h1 _))

variable (r : Fin 1024) (r' : Fin 4096) (hr : r'.val = t.val * 1024 + r.val)

include hr

theorem rows_block (k : Fin 2816) : iblk m c 0 t (ix2 r k) = rows m c (ix2 r' k) := by
  show V m c main_arg0 ((win0_0.rect t).emb (ix2 r k)) = _
  rw [V_main_arg0]
  obtain ⟨h0, h1⟩ := where_rows t
  refine congrArg (rows m c) (eq_of_coords2 _ _ _ ((win0_0.rect_emb_val t _ 0).trans ?_) (win0_0.rect_emb_val_of_index_zero t 1 h1 _))
  rw [h0]
  exact hr.symm
theorem stream_block (j : Fin 1024) : iblk m c 2 t (ix2 r j) = stream m c (ix2 r' j) := by
  show V m c main_arg2 ((win0_2.rect t).emb (ix2 r j)) = _
  rw [V_main_arg2]
  obtain ⟨h0, h1⟩ := where_stream t
  refine congrArg (stream m c) (eq_of_coords2 _ _ _ ((win0_2.rect_emb_val t _ 0).trans ?_) (win0_2.rect_emb_val_of_index_zero t 1 h1 _))
  rw [h0]
  exact hr.symm
theorem tile_block (j : Fin 1024) :
    tile (iblk m c 0 t) (iblk m c 1 t) (iblk m c 2 t) r j = next (rows m c) (outputs m c) (stream m c) r' j := by
  unfold tile next
  rw [stream_block m c t r r' hr]
  refine congrArg (fun s : EReal => stream m c (ix2 r' j) + half * s) (Finset.sum_congr rfl fun k _ => ?_)
  rw [rows_block m c t r r' hr, outputs_block m c t]

end Blocks

/-- The stored blocks, read at an entry. -/
theorem next_entry (h : Vec Ideal S1024x2816 .bf16) (w : Vec Ideal S2816x1024 .bf16) (x : Vec Ideal S1024x1024 .f32)
    (r j : Fin 1024) : k0_pay1 h w x (ix2 r j) = tile h w x r j := by
  pointwise [k0_pay1]
  rfl
theorem normed_entry (h : Vec Ideal S1024x2816 .bf16) (w : Vec Ideal S2816x1024 .bf16) (x : Vec Ideal S1024x1024 .f32)
    (g : Vec Ideal S1x1024 .f32) (r j : Fin 1024) :
    k0_pay2 h w x g (ix2 r j) = normed (fun k => tile h w x r k) j (g (ix2 (0 : Fin 1) j)) := by
  unfold k0_pay2
  generalize hy : k0_pay1 h w x = y
  pointwise []
  rw [← hy]
  simp only [next_entry]
  rfl

theorem hz : (![0, 0] : Fin 2 → Nat) = fun _ => 0 := funext fun a => by fin_cases a <;> rfl

section Final

variable (c : Dev nD) (r : Fin 4096) (j : Fin 1024)

/-- The grid point whose blocks hold row `r`, and the row there. -/
theorem point : ∃ (t : Fin cfg0.N) (r₀ : Fin 1024), r.val = t.val * 1024 + r₀.val := by
  have hN : cfg0.N = 4 := N_0
  exact ⟨⟨r.val / 1024, by omega⟩, ⟨r.val % 1024, by omega⟩, by dsimp only; omega⟩

/-- The two result arrays after the run, read at an entry. -/
theorem final_next : (dats m 0 c).arrAt 4 cfg0.N (ix2 r j) = next (rows m c) (outputs m c) (stream m c) r j := by
  obtain ⟨t, r₀, hr⟩ := point r
  have e : (win0_4.blk t).view.emb (ix2 r₀ j) = ix2 r j := by
    show (win0_4.rect t).emb (ix2 r₀ j) = _
    obtain ⟨h0, h1⟩ := where_next t
    refine eq_of_coords2 _ _ _ ((win0_4.rect_emb_val t _ 0).trans ?_) (win0_4.rect_emb_val_of_index_zero t 1 h1 _)
    rw [h0]
    exact hr.symm
  rw [← e]
  refine ((dats m 0 c).arrAt_emb_eq_flushed 4 Value.disjoint4 t (flush0_4 t) (ix2 r₀ j)).trans ?_
  show (dats m 0 c).flushed 4 t (ix2 r₀ j) = _
  rw [Value.flushed4]
  show out0_4 (iblk m c 0 t) (iblk m c 1 t) (iblk m c 2 t) (iblk m c 3 t) (ix2 r₀ j) = _
  unfold out0_4
  rw [View.canon_unit_zero hz, View.ld_unit_zero hz, View.ld_unit_zero hz, View.ld_unit_zero hz, next_entry]
  exact tile_block m c t r₀ r hr j
theorem final_normed :
    (dats m 0 c).arrAt 5 cfg0.N (ix2 r j)
      = normed (fun k => next (rows m c) (outputs m c) (stream m c) r k) j (gain m c (ix2 (0 : Fin 1) j)) := by
  obtain ⟨t, r₀, hr⟩ := point r
  have e : (win0_5.blk t).view.emb (ix2 r₀ j) = ix2 r j := by
    show (win0_5.rect t).emb (ix2 r₀ j) = _
    obtain ⟨h0, h1⟩ := where_normed t
    refine eq_of_coords2 _ _ _ ((win0_5.rect_emb_val t _ 0).trans ?_) (win0_5.rect_emb_val_of_index_zero t 1 h1 _)
    rw [h0]
    exact hr.symm
  rw [← e]
  refine ((dats m 0 c).arrAt_emb_eq_flushed 5 Value.disjoint5 t (flush0_5 t) (ix2 r₀ j)).trans ?_
  show (dats m 0 c).flushed 5 t (ix2 r₀ j) = _
  rw [Value.flushed5]
  show out0_5 (iblk m c 0 t) (iblk m c 1 t) (iblk m c 2 t) (iblk m c 3 t) (ix2 r₀ j) = _
  unfold out0_5
  rw [View.canon_unit_zero hz, View.ld_unit_zero hz, View.ld_unit_zero hz, View.ld_unit_zero hz, View.ld_unit_zero hz,
    normed_entry, gain_block]
  exact congrArg (fun y => normed y j (gain m c (ix2 (0 : Fin 1) j))) (funext fun k => tile_block m c t r₀ r hr k)

end Final

end Kernel

/-- The residual stream and its normalised rows are the reference's. -/
theorem algebraic : Cert.algebraic_Kernel14Ideal_Reference14Ideal := by
  intro m ρ m' ρ' _ hagree
  refine ⟨fun c => (Cert.Kernel14Ideal.Gen.dats m 0 c).arrAt 4 Cert.Kernel14Ideal.cfg0.N,
    fun c => (Cert.Kernel14Ideal.Gen.dats m 0 c).arrAt 5 Cert.Kernel14Ideal.cfg0.N, Cert.Kernel14Ideal.Value.run_blocks m ρ, ?_⟩
  refine (θ_run Cert.Reference14Ideal.defs _ _).mono
    (fun _ h c => ⟨(h c).1.trans ?_, (h c).2.1.trans ?_, (h c).2.2⟩)
    (Cert.Reference14Ideal.Value.run (F := Ideal) m' ρ')
  · clear h
    rw [(hagree c).1, (hagree c).2.1, (hagree c).2.2.1]
    funext i
    rw [eq_ix2 i]
    refine Eq.trans ?_ (final_next m c (i 0) (i 1)).symm
    generalize i 0 = r
    generalize i 1 = j
    pointwise []
    rfl
  · clear h
    rw [(hagree c).1, (hagree c).2.1, (hagree c).2.2.1, (hagree c).2.2.2]
    funext i
    rw [eq_ix2 i]
    refine Eq.trans ?_ (final_normed m c (i 0) (i 1)).symm
    generalize i 0 = r
    generalize i 1 = j
    pointwise []
    rfl

end Cert.Fwd.FfnOut

end
-- ==== Proof.Fwd.MixOut.lean ====
/-
  The merge's output product, added to the residual stream, and the next norm: each of four row tiles stores the sum and
  its rows divided by their root mean square, times the gain.
-/
module

public import proofs.«01_k».proof.Defs
public import proofs.«01_k».proof.Proof.Gen.Kernel15Ideal.Value
public import proofs.«01_k».proof.Proof.Gen.Reference15Ideal.Run
public import proofs.«01_k».proof.Proof.Shared.Coords
public import proofs.«01_k».proof.Proof.Ffn.Norm
public import Idealize.ShloMosaic.Lib.Pipeline.Value
public import Idealize.ShloMosaic.Lib.Pointwise
public import Idealize.ShloMosaic.Lib.IdealHost
public import Idealize.ShloMosaic.Lib.Quiescent

@[expose] public section

set_option maxRecDepth 16384

noncomputable section

open Idealize.ShloMosaic Idealize.ShloMosaic.TcCoe Idealize.SL.Sem Idealize.ShloMosaic.Tactic
open Idealize.ShloMosaic.Pipeline (Dat Window)

namespace Cert.Fwd.MixOut

section Kernel

open Cert.Kernel15Ideal Cert.Kernel15Ideal.Gen Cert.Coords Cert.Ffn

variable (m : (ℓ : Loc nD τ sig) → Buf (Elt Ideal) ℓ)

/-- The product's rows, its weights, the residual stream, and the next norm's gain. -/
abbrev rows (c : Dev nD) : FVec Ideal S4096x1024 .bf16 := m ((c : Thread nD τ).loc main_arg0)
abbrev outputs (c : Dev nD) : FVec Ideal S1024x1024 .f32 := m ((c : Thread nD τ).loc main_arg1)
abbrev stream (c : Dev nD) : FVec Ideal S4096x1024 .f32 := m ((c : Thread nD τ).loc main_arg2)
abbrev gain (c : Dev nD) : FVec Ideal S1x1024 .f32 := m ((c : Thread nD τ).loc main_arg3)

/-- The residual stream's next entry in row `r` and column `j`, and a grid point's entry. -/
def next (h : FVec Ideal S4096x1024 .bf16) (w : FVec Ideal S1024x1024 .f32) (x : FVec Ideal S4096x1024 .f32)
    (r : Fin 4096) (j : Fin 1024) : EReal :=
  x (ix2 r j) + ∑ k : Fin 1024, h (ix2 r k) * w (ix2 k j)
def tile (h : Vec Ideal S1024x1024 .bf16) (w : Vec Ideal S1024x1024 .bf16) (x : Vec Ideal S1024x1024 .f32)
    (r j : Fin 1024) : EReal :=
  x (ix2 r j) + ∑ k : Fin 1024, h (ix2 r k) * w (ix2 k j)

/-- An entry of a normalised row, of the row `y`, the column and the gain. -/
def normed (y : Fin 1024 → EReal) (j : Fin 1024) (g : EReal) : EReal := y j * rms y * g

theorem where_rows : ∀ t : Fin cfg0.N, win0_0.index t 0 = t.val ∧ win0_0.index t 1 = 0 :=
  (by decide +kernel : ∀ t : Fin grid0.N, win0_0.index t 0 = t.val ∧ win0_0.index t 1 = 0)
theorem where_outputs : ∀ t : Fin cfg0.N, win0_1.index t 0 = 0 ∧ win0_1.index t 1 = 0 :=
  (by decide +kernel : ∀ t : Fin grid0.N, win0_1.index t 0 = 0 ∧ win0_1.index t 1 = 0)
theorem where_stream : ∀ t : Fin cfg0.N, win0_2.index t 0 = t.val ∧ win0_2.index t 1 = 0 :=
  (by decide +kernel : ∀ t : Fin grid0.N, win0_2.index t 0 = t.val ∧ win0_2.index t 1 = 0)
theorem where_gain : ∀ t : Fin cfg0.N, win0_3.index t 0 = 0 ∧ win0_3.index t 1 = 0 :=
  (by decide +kernel : ∀ t : Fin grid0.N, win0_3.index t 0 = 0 ∧ win0_3.index t 1 = 0)
theorem where_next : ∀ t : Fin cfg0.N, win0_4.index t 0 = t.val ∧ win0_4.index t 1 = 0 :=
  (by decide +kernel : ∀ t : Fin grid0.N, win0_4.index t 0 = t.val ∧ win0_4.index t 1 = 0)
theorem where_normed : ∀ t : Fin cfg0.N, win0_5.index t 0 = t.val ∧ win0_5.index t 1 = 0 :=
  (by decide +kernel : ∀ t : Fin grid0.N, win0_5.index t 0 = t.val ∧ win0_5.index t 1 = 0)

theorem staged_outputs (c : Dev nD) : V m c main_v0 = outputs m c := by
  have e : V m c main_v0 = truncf .bf16 (outputs m c) bitsLt_bf16_f32 := by
    show StableHlo.after hostOps0 (fun b => m (c, b)) main_v0 = _
    after_results
  rw [e]
  rfl

section Blocks

variable (c : Dev nD) (t : Fin cfg0.N)

theorem outputs_block (k : Fin 1024) (j : Fin 1024) : iblk m c 1 t (ix2 k j) = outputs m c (ix2 k j) := by
  show V m c main_v0 ((win0_1.rect t).emb (ix2 k j)) = _
  rw [staged_outputs]
  obtain ⟨h0, h1⟩ := where_outputs t
  exact congrArg (outputs m c) (eq_of_coords2 _ _ _ (win0_1.rect_emb_val_of_index_zero t 0 h0 _) (win0_1.rect_emb_val_of_index_zero t 1 h1 _))
theorem gain_block (j : Fin 1024) : iblk m c 3 t (ix2 (0 : Fin 1) j) = gain m c (ix2 (0 : Fin 1) j) := by
  show V m c main_arg3 ((win0_3.rect t).emb (ix2 (0 : Fin 1) j)) = _
  rw [V_main_arg3]
  obtain ⟨h0, h1⟩ := where_gain t
  exact congrArg (gain m c) (eq_of_coords2 _ _ _ (win0_3.rect_emb_val_of_index_zero t 0 h0 _) (win0_3.rect_emb_val_of_index_zero t 1 h1 _))

variable (r : Fin 1024) (r' : Fin 4096) (hr : r'.val = t.val * 1024 + r.val)

include hr

theorem rows_block (k : Fin 1024) : iblk m c 0 t (ix2 r k) = rows m c (ix2 r' k) := by
  show V m c main_arg0 ((win0_0.rect t).emb (ix2 r k)) = _
  rw [V_main_arg0]
  obtain ⟨h0, h1⟩ := where_rows t
  refine congrArg (rows m c) (eq_of_coords2 _ _ _ ((win0_0.rect_emb_val t _ 0).trans ?_) (win0_0.rect_emb_val_of_index_zero t 1 h1 _))
  rw [h0]
  exact hr.symm
theorem stream_block (j : Fin 1024) : iblk m c 2 t (ix2 r j) = stream m c (ix2 r' j) := by
  show V m c main_arg2 ((win0_2.rect t).emb (ix2 r j)) = _
  rw [V_main_arg2]
  obtain ⟨h0, h1⟩ := where_stream t
  refine congrArg (stream m c) (eq_of_coords2 _ _ _ ((win0_2.rect_emb_val t _ 0).trans ?_) (win0_2.rect_emb_val_of_index_zero t 1 h1 _))
  rw [h0]
  exact hr.symm
theorem tile_block (j : Fin 1024) :
    tile (iblk m c 0 t) (iblk m c 1 t) (iblk m c 2 t) r j = next (rows m c) (outputs m c) (stream m c) r' j := by
  unfold tile next
  rw [stream_block m c t r r' hr]
  refine congrArg (fun s : EReal => stream m c (ix2 r' j) + s) (Finset.sum_congr rfl fun k _ => ?_)
  rw [rows_block m c t r r' hr, outputs_block m c t]

end Blocks

/-- The stored blocks, read at an entry. -/
theorem next_entry (h : Vec Ideal S1024x1024 .bf16) (w : Vec Ideal S1024x1024 .bf16) (x : Vec Ideal S1024x1024 .f32)
    (r j : Fin 1024) : k0_pay1 h w x (ix2 r j) = tile h w x r j := by
  pointwise [k0_pay1]
  rfl
theorem normed_entry (h : Vec Ideal S1024x1024 .bf16) (w : Vec Ideal S1024x1024 .bf16) (x : Vec Ideal S1024x1024 .f32)
    (g : Vec Ideal S1x1024 .f32) (r j : Fin 1024) :
    k0_pay2 h w x g (ix2 r j) = normed (fun k => tile h w x r k) j (g (ix2 (0 : Fin 1) j)) := by
  unfold k0_pay2
  generalize hy : k0_pay1 h w x = y
  pointwise []
  rw [← hy]
  simp only [next_entry]
  rfl

theorem hz : (![0, 0] : Fin 2 → Nat) = fun _ => 0 := funext fun a => by fin_cases a <;> rfl

section Final

variable (c : Dev nD) (r : Fin 4096) (j : Fin 1024)

/-- The grid point whose blocks hold row `r`, and the row there. -/
theorem point : ∃ (t : Fin cfg0.N) (r₀ : Fin 1024), r.val = t.val * 1024 + r₀.val := by
  have hN : cfg0.N = 4 := N_0
  exact ⟨⟨r.val / 1024, by omega⟩, ⟨r.val % 1024, by omega⟩, by dsimp only; omega⟩

/-- The two result arrays after the run, read at an entry. -/
theorem final_next : (dats m 0 c).arrAt 4 cfg0.N (ix2 r j) = next (rows m c) (outputs m c) (stream m c) r j := by
  obtain ⟨t, r₀, hr⟩ := point r
  have e : (win0_4.blk t).view.emb (ix2 r₀ j) = ix2 r j := by
    show (win0_4.rect t).emb (ix2 r₀ j) = _
    obtain ⟨h0, h1⟩ := where_next t
    refine eq_of_coords2 _ _ _ ((win0_4.rect_emb_val t _ 0).trans ?_) (win0_4.rect_emb_val_of_index_zero t 1 h1 _)
    rw [h0]
    exact hr.symm
  rw [← e]
  refine ((dats m 0 c).arrAt_emb_eq_flushed 4 Value.disjoint4 t (flush0_4 t) (ix2 r₀ j)).trans ?_
  show (dats m 0 c).flushed 4 t (ix2 r₀ j) = _
  rw [Value.flushed4]
  show out0_4 (iblk m c 0 t) (iblk m c 1 t) (iblk m c 2 t) (iblk m c 3 t) (ix2 r₀ j) = _
  unfold out0_4
  rw [View.canon_unit_zero hz, View.ld_unit_zero hz, View.ld_unit_zero hz, View.ld_unit_zero hz, next_entry]
  exact tile_block m c t r₀ r hr j
theorem final_normed :
    (dats m 0 c).arrAt 5 cfg0.N (ix2 r j)
      = normed (fun k => next (rows m c) (outputs m c) (stream m c) r k) j (gain m c (ix2 (0 : Fin 1) j)) := by
  obtain ⟨t, r₀, hr⟩ := point r
  have e : (win0_5.blk t).view.emb (ix2 r₀ j) = ix2 r j := by
    show (win0_5.rect t).emb (ix2 r₀ j) = _
    obtain ⟨h0, h1⟩ := where_normed t
    refine eq_of_coords2 _ _ _ ((win0_5.rect_emb_val t _ 0).trans ?_) (win0_5.rect_emb_val_of_index_zero t 1 h1 _)
    rw [h0]
    exact hr.symm
  rw [← e]
  refine ((dats m 0 c).arrAt_emb_eq_flushed 5 Value.disjoint5 t (flush0_5 t) (ix2 r₀ j)).trans ?_
  show (dats m 0 c).flushed 5 t (ix2 r₀ j) = _
  rw [Value.flushed5]
  show out0_5 (iblk m c 0 t) (iblk m c 1 t) (iblk m c 2 t) (iblk m c 3 t) (ix2 r₀ j) = _
  unfold out0_5
  rw [View.canon_unit_zero hz, View.ld_unit_zero hz, View.ld_unit_zero hz, View.ld_unit_zero hz, View.ld_unit_zero hz,
    normed_entry, gain_block]
  exact congrArg (fun y => normed y j (gain m c (ix2 (0 : Fin 1) j))) (funext fun k => tile_block m c t r₀ r hr k)

end Final

end Kernel

/-- The residual stream and its normalised rows are the reference's. -/
theorem algebraic : Cert.algebraic_Kernel15Ideal_Reference15Ideal := by
  intro m ρ m' ρ' _ hagree
  refine ⟨fun c => (Cert.Kernel15Ideal.Gen.dats m 0 c).arrAt 4 Cert.Kernel15Ideal.cfg0.N,
    fun c => (Cert.Kernel15Ideal.Gen.dats m 0 c).arrAt 5 Cert.Kernel15Ideal.cfg0.N, Cert.Kernel15Ideal.Value.run_blocks m ρ, ?_⟩
  refine (θ_run Cert.Reference15Ideal.defs _ _).mono
    (fun _ h c => ⟨(h c).1.trans ?_, (h c).2.1.trans ?_, (h c).2.2⟩)
    (Cert.Reference15Ideal.Value.run (F := Ideal) m' ρ')
  · clear h
    rw [(hagree c).1, (hagree c).2.1, (hagree c).2.2.1]
    funext i
    rw [eq_ix2 i]
    refine Eq.trans ?_ (final_next m c (i 0) (i 1)).symm
    generalize i 0 = r
    generalize i 1 = j
    pointwise []
    rfl
  · clear h
    rw [(hagree c).1, (hagree c).2.1, (hagree c).2.2.1, (hagree c).2.2.2]
    funext i
    rw [eq_ix2 i]
    refine Eq.trans ?_ (final_normed m c (i 0) (i 1)).symm
    generalize i 0 = r
    generalize i 1 = j
    pointwise []
    rfl

end Cert.Fwd.MixOut

end
-- ==== Proof.Fwd.Loss.lean ====
/-
  The last output product with the loss: each of four row tiles stores the loss's gradient in the residual stream, and adds
  its half mean square to the loss that the tiles carry. The reference divides row by row and halves the sum; a real
  factor that is not negative distributes over a sum of extended reals, so no condition on the arguments is needed.
-/
module

public import proofs.«01_k».proof.Defs
public import proofs.«01_k».proof.Proof.Gen.Kernel16Ideal.Value
public import proofs.«01_k».proof.Proof.Gen.Reference16Ideal.Run
public import proofs.«01_k».proof.Proof.Shared.Coords
public import proofs.«01_k».proof.Proof.Ffn.Norm
public import proofs.«01_k».proof.Proof.Ffn.Gate
public import Idealize.ShloMosaic.Lib.Pipeline.Value
public import Idealize.ShloMosaic.Lib.Pointwise
public import Idealize.ShloMosaic.Lib.IdealHost
public import Idealize.ShloMosaic.Lib.Quiescent

@[expose] public section

set_option maxRecDepth 16384

noncomputable section

open Idealize.ShloMosaic Idealize.ShloMosaic.TcCoe Idealize.SL.Sem Idealize.ShloMosaic.Tactic
open Idealize.ShloMosaic.Pipeline (Dat Window)

namespace Cert.Fwd.Loss

/-- The two programs' constants: one over the row length, and half of that. -/
abbrev scale : EReal := Ideal.ofBits .f32 0x3A800000#32
abbrev halfScale : EReal := Ideal.ofBits .f32 0x3A000000#32
abbrev two : EReal := Ideal.ofBits .f32 0x40000000#32

theorem scale_coe : scale = ((1 / 1024 : ℝ) : EReal) := by
  simp [Ideal.ofBits, Ideal.ieee, -EReal.coe_mul]
  norm_num
theorem halfScale_coe : halfScale = ((1 / 2048 : ℝ) : EReal) := by
  simp [Ideal.ofBits, Ideal.ieee, -EReal.coe_mul]
  norm_num
theorem half_coe : Cert.Ffn.Gate.half = ((1 / 2 : ℝ) : EReal) := Cert.Ffn.ofBits_half
theorem width_coe : Cert.Ffn.width = ((1024 : ℝ) : EReal) := Cert.Ffn.ofBits_1024
theorem two_coe : two = ((2 : ℝ) : EReal) := by
  simp [Ideal.ofBits, Ideal.ieee, -EReal.coe_mul]
  norm_num

/-- A real factor that is not negative distributes over a sum. -/
theorem mul_sum_of_nonneg {ι : Type} (s : Finset ι) (f : ι → EReal) {a : ℝ} (ha : 0 ≤ a) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

section Kernel

open Cert.Kernel16Ideal Cert.Kernel16Ideal.Gen Cert.Coords Cert.Ffn Cert.Ffn.Gate

variable (m : (ℓ : Loc nD τ sig) → Buf (Elt Ideal) ℓ)

/-- The product's rows, its weights, the residual stream, and the target. -/
abbrev rows (c : Dev nD) : FVec Ideal S4096x2816 .bf16 := m ((c : Thread nD τ).loc main_arg0)
abbrev outputs (c : Dev nD) : FVec Ideal S2816x1024 .f32 := m ((c : Thread nD τ).loc main_arg1)
abbrev stream (c : Dev nD) : FVec Ideal S4096x1024 .f32 := m ((c : Thread nD τ).loc main_arg2)
abbrev goal (c : Dev nD) : FVec Ideal S4096x1024 .f32 := m ((c : Thread nD τ).loc main_arg3)

/-- The difference from the target in row `r` and column `j`, and a grid point's. -/
def diff (h : FVec Ideal S4096x2816 .bf16) (w : FVec Ideal S2816x1024 .f32) (x y : FVec Ideal S4096x1024 .f32)
    (r : Fin 4096) (j : Fin 1024) : EReal :=
  x (ix2 r j) + half * (∑ k : Fin 2816, h (ix2 r k) * w (ix2 k j)) - y (ix2 r j)
def tile (h : Vec Ideal S1024x2816 .bf16) (w : Vec Ideal S2816x1024 .bf16) (x y : Vec Ideal S1024x1024 .f32)
    (r j : Fin 1024) : EReal :=
  x (ix2 r j) + half * (∑ k : Fin 2816, h (ix2 r k) * w (ix2 k j)) - y (ix2 r j)

/-- A row's part of the loss. -/
def term (d : Fin 1024 → EReal) : EReal := halfScale * ∑ j : Fin 1024, d j * d j

theorem where_rows : ∀ t : Fin cfg0.N, win0_0.index t 0 = t.val ∧ win0_0.index t 1 = 0 :=
  (by decide +kernel : ∀ t : Fin grid0.N, win0_0.index t 0 = t.val ∧ win0_0.index t 1 = 0)
theorem where_outputs : ∀ t : Fin cfg0.N, win0_1.index t 0 = 0 ∧ win0_1.index t 1 = 0 :=
  (by decide +kernel : ∀ t : Fin grid0.N, win0_1.index t 0 = 0 ∧ win0_1.index t 1 = 0)
theorem where_stream : ∀ t : Fin cfg0.N, win0_2.index t 0 = t.val ∧ win0_2.index t 1 = 0 :=
  (by decide +kernel : ∀ t : Fin grid0.N, win0_2.index t 0 = t.val ∧ win0_2.index t 1 = 0)
theorem where_goal : ∀ t : Fin cfg0.N, win0_3.index t 0 = t.val ∧ win0_3.index t 1 = 0 :=
  (by decide +kernel : ∀ t : Fin grid0.N, win0_3.index t 0 = t.val ∧ win0_3.index t 1 = 0)
theorem where_slope : ∀ t : Fin cfg0.N, win0_4.index t 0 = t.val ∧ win0_4.index t 1 = 0 :=
  (by decide +kernel : ∀ t : Fin grid0.N, win0_4.index t 0 = t.val ∧ win0_4.index t 1 = 0)
theorem where_loss : ∀ t : Fin cfg0.N, win0_5.index t 0 = 0 ∧ win0_5.index t 1 = 0 :=
  (by decide +kernel : ∀ t : Fin grid0.N, win0_5.index t 0 = 0 ∧ win0_5.index t 1 = 0)

theorem staged_outputs (c : Dev nD) : V m c main_v0 = outputs m c := by
  have e : V m c main_v0 = truncf .bf16 (outputs m c) bitsLt_bf16_f32 := by
    show StableHlo.after hostOps0 (fun b => m (c, b)) main_v0 = _
    after_results
  rw [e]
  rfl

section Blocks

variable (c : Dev nD) (t : Fin cfg0.N)

theorem outputs_block (k : Fin 2816) (j : Fin 1024) : iblk m c 1 t (ix2 k j) = outputs m c (ix2 k j) := by
  show V m c main_v0 ((win0_1.rect t).emb (ix2 k j)) = _
  rw [staged_outputs]
  obtain ⟨h0, h1⟩ := where_outputs t
  exact congrArg (outputs m c) (eq_of_coords2 _ _ _ (win0_1.rect_emb_val_of_index_zero t 0 h0 _) (win0_1.rect_emb_val_of_index_zero t 1 h1 _))

variable (r : Fin 1024) (r' : Fin 4096) (hr : r'.val = t.val * 1024 + r.val)

include hr

theorem rows_block (k : Fin 2816) : iblk m c 0 t (ix2 r k) = rows m c (ix2 r' k) := by
  show V m c main_arg0 ((win0_0.rect t).emb (ix2 r k)) = _
  rw [V_main_arg0]
  obtain ⟨h0, h1⟩ := where_rows t
  refine congrArg (rows m c) (eq_of_coords2 _ _ _ ((win0_0.rect_emb_val t _ 0).trans ?_) (win0_0.rect_emb_val_of_index_zero t 1 h1 _))
  rw [h0]
  exact hr.symm
theorem stream_block (j : Fin 1024) : iblk m c 2 t (ix2 r j) = stream m c (ix2 r' j) := by
  show V m c main_arg2 ((win0_2.rect t).emb (ix2 r j)) = _
  rw [V_main_arg2]
  obtain ⟨h0, h1⟩ := where_stream t
  refine congrArg (stream m c) (eq_of_coords2 _ _ _ ((win0_2.rect_emb_val t _ 0).trans ?_) (win0_2.rect_emb_val_of_index_zero t 1 h1 _))
  rw [h0]
  exact hr.symm
theorem goal_block (j : Fin 1024) : iblk m c 3 t (ix2 r j) = goal m c (ix2 r' j) := by
  show V m c main_arg3 ((win0_3.rect t).emb (ix2 r j)) = _
  rw [V_main_arg3]
  obtain ⟨h0, h1⟩ := where_goal t
  refine congrArg (goal m c) (eq_of_coords2 _ _ _ ((win0_3.rect_emb_val t _ 0).trans ?_) (win0_3.rect_emb_val_of_index_zero t 1 h1 _))
  rw [h0]
  exact hr.symm
theorem tile_block (j : Fin 1024) :
    tile (iblk m c 0 t) (iblk m c 1 t) (iblk m c 2 t) (iblk m c 3 t) r j
      = diff (rows m c) (outputs m c) (stream m c) (goal m c) r' j := by
  unfold tile diff
  rw [stream_block m c t r r' hr, goal_block m c t r r' hr]
  refine congrArg (fun s : EReal => stream m c (ix2 r' j) + half * s - goal m c (ix2 r' j)) (Finset.sum_congr rfl fun k _ => ?_)
  rw [rows_block m c t r r' hr, outputs_block m c t]

end Blocks

section Entries

variable (h : Vec Ideal S1024x2816 .bf16) (w : Vec Ideal S2816x1024 .bf16) (x y : Vec Ideal S1024x1024 .f32)

/-- The stored blocks, read at an entry. -/
theorem diff_entry (r j : Fin 1024) : k0_pay1 h w x y (ix2 r j) = tile h w x y r j := by
  pointwise [k0_pay1]
  rfl
theorem slope_entry (r j : Fin 1024) : k0_pay2 h w x y (ix2 r j) = tile h w x y r j * scale := by
  unfold k0_pay2
  generalize hd : k0_pay1 h w x y = d
  pointwise []
  rw [← hd, diff_entry]
theorem loss_entry (a : Fin 8) (b : Fin 128) :
    k0_pay3 h w x y (ix2 a b) = ∑ r : Fin 1024, term (tile h w x y r) := by
  unfold k0_pay3
  generalize hd : k0_pay1 h w x y = d
  pointwise []
  show halfScale * ∑ r : Fin 1024, ∑ j : Fin 1024, d (ix2 r j) * d (ix2 r j) = _
  rw [halfScale_coe, mul_sum_of_nonneg _ _ (by norm_num)]
  refine Finset.sum_congr rfl fun r _ => ?_
  unfold term
  rw [halfScale_coe]
  refine congrArg _ (Finset.sum_congr rfl fun j _ => ?_)
  rw [← hd, diff_entry]
theorem loss_step (s : Vec Ideal S8x128 .f32) (a : Fin 8) (b : Fin 128) :
    k0_pay4 h w x y s (ix2 a b) = s (ix2 a b) + ∑ r : Fin 1024, term (tile h w x y r) := by
  rw [← loss_entry h w x y a b]
  unfold k0_pay4
  generalize k0_pay3 h w x y = d
  pointwise []

end Entries

theorem hz : (![0, 0] : Fin 2 → Nat) = fun _ => 0 := funext fun a => by fin_cases a <;> rfl

section Cases

variable (c : Dev nD) (i : grid0.Coords) (a1 : Memref sig .tc .vmem S1024x2816 .bf16) (h1 : a1.IsWhole)
  (a2 : Memref sig .tc .vmem S2816x1024 .bf16) (h2 : a2.IsWhole)
  (a3 : Memref sig .tc .vmem S1024x1024 .f32) (h3 : a3.IsWhole)
  (a4 : Memref sig .tc .vmem S1024x1024 .f32) (h4 : a4.IsWhole)
  (a5 : Memref sig .tc .vmem S1024x1024 .f32) (h5 : a5.IsWhole)
  (a6 : Memref sig .tc .vmem S8x128 .f32) (h6 : a6.IsWhole)
  (x0 : Vec Ideal S1024x2816 .bf16) (x1 : Vec Ideal S2816x1024 .bf16) (x2 x3 : Vec Ideal S1024x1024 .f32) (s : Vec Ideal S8x128 .f32)

/-- What the first tile stores. -/
theorem first_slope (hc0 : cond0_0 i) (hc1 : ¬cond0_1 i) :
    out0_A_4 c i a1 h1 a2 h2 a3 h3 a4 h4 a5 h5 a6 h6 hc0 hc1 x0 x1 x2 x3 = k0_pay2 x0 x1 x2 x3 := by
  unfold out0_A_4
  rw [View.read_writes_eq_canon _ _ _ (cover0_A_4 c i a1 h1 a2 h2 a3 h3 a4 h4 a5 h5 a6 h6 hc0 hc1 x0 x1 x2 x3)]
  unfold kernelRun0_A
  dsimp only
  sl_unfold_words
  rw [View.canon_unit_zero hz]
  simp only [View.readAt_eq_ld, h1.read_unread, h2.read_unread, h3.read_unread, h4.read_unread,
    View.ld_unit_zero (S := S1024x2816) hz, View.ld_unit_zero (S := S2816x1024) hz, View.ld_unit_zero (S := S1024x1024) hz]
theorem first_loss (hc0 : cond0_0 i) (hc1 : ¬cond0_1 i) :
    out0_A_5 c i a1 h1 a2 h2 a3 h3 a4 h4 a5 h5 a6 h6 hc0 hc1 x0 x1 x2 x3 = k0_pay3 x0 x1 x2 x3 := by
  unfold out0_A_5
  rw [View.read_writes_eq_canon _ _ _ (cover0_A_5 c i a1 h1 a2 h2 a3 h3 a4 h4 a5 h5 a6 h6 hc0 hc1 x0 x1 x2 x3)]
  unfold kernelRun0_A
  dsimp only
  sl_unfold_words
  rw [View.canon_unit_zero hz]
  simp only [View.readAt_eq_ld, h1.read_unread, h2.read_unread, h3.read_unread, h4.read_unread,
    View.ld_unit_zero (S := S1024x2816) hz, View.ld_unit_zero (S := S2816x1024) hz, View.ld_unit_zero (S := S1024x1024) hz]
/-- What a later tile stores. -/
theorem later_slope (hc0 : ¬cond0_0 i) (hc1 : cond0_1 i) :
    out0_B_4 c i a1 h1 a2 h2 a3 h3 a4 h4 a5 h5 a6 h6 hc0 hc1 x0 x1 x2 x3 s = k0_pay2 x0 x1 x2 x3 := by
  unfold out0_B_4
  rw [View.read_writes_eq_canon _ _ _ (cover0_B_4 c i a1 h1 a2 h2 a3 h3 a4 h4 a5 h5 a6 h6 hc0 hc1 x0 x1 x2 x3 s)]
  unfold kernelRun0_B
  dsimp only
  sl_unfold_words
  rw [View.canon_unit_zero hz]
  simp only [View.readAt_eq_ld, h1.read_unread, h2.read_unread, h3.read_unread, h4.read_unread,
    View.ld_unit_zero (S := S1024x2816) hz, View.ld_unit_zero (S := S2816x1024) hz, View.ld_unit_zero (S := S1024x1024) hz]
theorem later_loss (hc0 : ¬cond0_0 i) (hc1 : cond0_1 i) :
    out0_B_5 c i a1 h1 a2 h2 a3 h3 a4 h4 a5 h5 a6 h6 hc0 hc1 x0 x1 x2 x3 s = k0_pay4 x0 x1 x2 x3 s := by
  unfold out0_B_5
  rw [View.read_writes_eq_canon _ _ _ (cover0_B_5 c i a1 h1 a2 h2 a3 h3 a4 h4 a5 h5 a6 h6 hc0 hc1 x0 x1 x2 x3 s)]
  unfold kernelRun0_B
  dsimp only
  sl_unfold_words
  rw [View.canon_unit_zero hz]
  simp only [View.readAt_eq_ld, h1.read_unread, h2.read_unread, h3.read_unread, h4.read_unread, h6.read_unread,
    View.ld_unit_zero (S := S1024x2816) hz, View.ld_unit_zero (S := S2816x1024) hz, View.ld_unit_zero (S := S1024x1024) hz,
    View.ld_unit_zero (S := S8x128) hz]

end Cases

section Final

variable (c : Dev nD)

theorem tile_slope (t : Fin cfg0.N) (r : Fin 1024) (j : Fin 1024) (r' : Fin 4096) (hr : r'.val = t.val * 1024 + r.val) :
    (outsAt0 m c t.val t.isLt).1 (ix2 r j) = diff (rows m c) (outputs m c) (stream m c) (goal m c) r' j * scale := by
  have e : (outsAt0 m c t.val t.isLt).1 = k0_pay2 (iblk m c 0 t) (iblk m c 1 t) (iblk m c 2 t) (iblk m c 3 t) := by
    have hN : cfg0.N = 4 := N_0
    by_cases h : t.val = 0
    · rw [outsAt0_A m c t (by omega) (by omega)]
      dsimp only
      rw [first_slope]
    · rw [outsAt0_B m c t (by omega) (by omega)]
      dsimp only
      rw [later_slope]
  rw [e, slope_entry, tile_block m c t r r' hr]

/-- A row's part of the device's loss. -/
def part (r : Fin 4096) : EReal := term (diff (rows m c) (outputs m c) (stream m c) (goal m c) r)

theorem tile_loss (t : Fin cfg0.N) :
    (∑ r : Fin 1024, term (tile (iblk m c 0 t) (iblk m c 1 t) (iblk m c 2 t) (iblk m c 3 t) r))
      = ∑ r : Fin 1024, part m c ⟨t.val * 1024 + r.val, by have hN : cfg0.N = 4 := N_0; omega⟩ :=
  Finset.sum_congr rfl fun r _ => congrArg term (funext fun j => tile_block m c t r _ rfl j)

variable (a : Fin 8) (b : Fin 128)

theorem loss_first (t : Fin cfg0.N) (h : t.val = 0) :
    (outsAt0 m c t.val t.isLt).2 (ix2 a b)
      = ∑ r : Fin 1024, part m c ⟨t.val * 1024 + r.val, by have hN : cfg0.N = 4 := N_0; omega⟩ := by
  rw [outsAt0_A m c t (by omega) (by omega)]
  dsimp only
  rw [first_loss, loss_entry, tile_loss m c t]
theorem loss_later (t : Fin cfg0.N) (h : t.val ≠ 0) :
    (outsAt0 m c t.val t.isLt).2 (ix2 a b)
      = (outsAt0 m c (t.val - 1) (Nat.lt_of_le_of_lt (Nat.sub_le _ _) t.isLt)).2 (ix2 a b)
        + ∑ r : Fin 1024, part m c ⟨t.val * 1024 + r.val, by have hN : cfg0.N = 4 := N_0; omega⟩ := by
  have hN : cfg0.N = 4 := N_0
  rw [outsAt0_B m c t (by omega) (by omega)]
  dsimp only
  rw [later_loss, loss_step, tile_loss m c t]

/-- The loss over the first tiles. -/
theorem loss_partial : ∀ (n : ℕ) (hn : n < cfg0.N),
    (outsAt0 m c n hn).2 (ix2 a b)
      = ∑ r : Fin (n * 1024 + 1024), part m c ⟨r.val, by have hN : cfg0.N = 4 := N_0; have := r.isLt; omega⟩ := by
  intro n
  have hN : cfg0.N = 4 := N_0
  induction n with
  | zero =>
    intro hn
    refine (loss_first m c a b ⟨0, hn⟩ rfl).trans (Fintype.sum_equiv (finCongr (by omega)) _ _ fun r => ?_)
    exact congrArg (part m c) (Fin.ext (by simp))
  | succ n ih =>
    intro hn
    refine (loss_later m c a b ⟨n + 1, hn⟩ (Nat.succ_ne_zero n)).trans ?_
    rw [Fin.sum_univ_add]
    refine congrArg₂ (· + ·) ((ih (by omega)).trans (Fintype.sum_equiv (finCongr (by omega)) _ _ fun r => rfl)) rfl

/-- The gradient after the run, read at an entry. -/
theorem final_slope (r : Fin 4096) (j : Fin 1024) :
    (dats m 0 c).arrAt 4 cfg0.N (ix2 r j) = diff (rows m c) (outputs m c) (stream m c) (goal m c) r j * scale := by
  have hN : cfg0.N = 4 := N_0
  let t : Fin cfg0.N := ⟨r.val / 1024, by omega⟩
  let r₀ : Fin 1024 := ⟨r.val % 1024, by omega⟩
  have hr : r.val = t.val * 1024 + r₀.val := by show _ = r.val / 1024 * 1024 + r.val % 1024; omega
  have e : (win0_4.blk t).view.emb (ix2 r₀ j) = ix2 r j := by
    show (win0_4.rect t).emb (ix2 r₀ j) = _
    obtain ⟨h0, h1⟩ := where_slope t
    refine eq_of_coords2 _ _ _ ((win0_4.rect_emb_val t _ 0).trans ?_) (win0_4.rect_emb_val_of_index_zero t 1 h1 _)
    rw [h0]
    exact hr.symm
  rw [← e]
  refine ((dats m 0 c).arrAt_emb_eq_flushed 4 Value.disjoint4 t (flush0_4 t) (ix2 r₀ j)).trans ?_
  show (dats m 0 c).flushed 4 t (ix2 r₀ j) = _
  rw [Value.flushed4]
  exact tile_slope m c t r₀ j r hr

/-- Only the last tile writes the loss out. -/
theorem apart : ∀ t t' : Fin cfg0.N, (cfg0.win 5).flush t = true → (cfg0.win 5).flush t' = true → t ≠ t' →
    Disjoint ((cfg0.win 5).blk t).view.set ((cfg0.win 5).blk t').view.set := by
  intro t t' hf hf' hne
  have hN : cfg0.N = 4 := N_0
  have := (flush0_5 t).mp hf
  have := (flush0_5 t').mp hf'
  exact absurd (Fin.ext (by omega)) hne

/-- The loss after the run, read at an entry. -/
theorem final_loss : (dats m 0 c).arrAt 5 cfg0.N (ix2 a b) = ∑ r : Fin 4096, part m c r := by
  have hN : cfg0.N = 4 := N_0
  let t : Fin cfg0.N := ⟨3, by omega⟩
  have e : (win0_5.blk t).view.emb (ix2 a b) = ix2 a b := by
    show (win0_5.rect t).emb (ix2 a b) = _
    obtain ⟨h0, h1⟩ := where_loss t
    exact eq_of_coords2 _ _ _ (win0_5.rect_emb_val_of_index_zero t 0 h0 _) (win0_5.rect_emb_val_of_index_zero t 1 h1 _)
  rw [← e]
  refine ((dats m 0 c).arrAt_emb_eq_flushed 5 apart t ((flush0_5 t).mpr rfl) (ix2 a b)).trans ?_
  show (dats m 0 c).flushed 5 t (ix2 a b) = _
  rw [Value.flushed5]
  exact loss_partial m c a b 3 t.isLt

end Final

end Kernel

/-- The reference's constant of the gradient. -/
theorem slope_eq (d : EReal) : Ideal.div Cert.Ffn.Gate.half Cert.Ffn.width * (two * d) = d * scale := by
  rw [half_coe, width_coe, Ideal.div_coe (by norm_num), two_coe, scale_coe, ← mul_assoc, ← EReal.coe_mul,
    ← EReal.coe_mul, mul_comm]
  congr 2
  norm_num

/-- The reference's halved sum of the rows' means. -/
theorem loss_eq (d : Fin 4096 → Fin 1024 → EReal) :
    Cert.Ffn.Gate.half * ∑ r : Fin 4096, Ideal.div (∑ j : Fin 1024, d r j * d r j) Cert.Ffn.width = ∑ r : Fin 4096, term (d r) := by
  rw [half_coe, mul_sum_of_nonneg _ _ (by norm_num)]
  refine Finset.sum_congr rfl fun r _ => ?_
  unfold term
  rw [width_coe, Ideal.div_coe (by norm_num), halfScale_coe, mul_comm _ ((1 / 1024 : ℝ) : EReal), ← mul_assoc, ← EReal.coe_mul]
  congr 2
  norm_num

/-- The loss and its gradient are the reference's. -/
theorem algebraic : Cert.algebraic_Kernel16Ideal_Reference16Ideal := by
  intro m ρ m' ρ' _ hagree
  refine ⟨fun c => (Cert.Kernel16Ideal.Gen.dats m 0 c).arrAt 4 Cert.Kernel16Ideal.cfg0.N,
    fun c => (Cert.Kernel16Ideal.Gen.dats m 0 c).arrAt 5 Cert.Kernel16Ideal.cfg0.N, Cert.Kernel16Ideal.Value.run_blocks m ρ, ?_⟩
  refine (θ_run Cert.Reference16Ideal.defs _ _).mono
    (fun _ h c => ⟨(h c).1.trans ?_, (h c).2.1.trans ?_, (h c).2.2⟩)
    (Cert.Reference16Ideal.Value.run (F := Ideal) m' ρ')
  · clear h
    rw [(hagree c).1, (hagree c).2.1, (hagree c).2.2.1, (hagree c).2.2.2]
    funext i
    rw [eq_ix2 i]
    refine Eq.trans ?_ (final_slope m c (i 0) (i 1)).symm
    generalize i 0 = r
    generalize i 1 = j
    pointwise []
    exact slope_eq _
  · clear h
    rw [(hagree c).1, (hagree c).2.1, (hagree c).2.2.1, (hagree c).2.2.2]
    funext i
    rw [eq_ix2 i]
    refine Eq.trans ?_ (final_loss m c (i 0) (i 1)).symm
    generalize i 0 = a
    generalize i 1 = b
    pointwise []
    exact loss_eq _

end Cert.Fwd.Loss

end
-- ==== Proof.Fwd.Merge.lean ====
/-
  The two branches' output products and their gated merge: each grid point multiplies a tile of either branch's rows with a
  column half of its weights, stores both products, and stores their sum, each times the logistic function of its gate.
-/
module

public import proofs.«01_k».proof.Defs
public import proofs.«01_k».proof.Proof.Gen.Kernel17Ideal.Value
public import proofs.«01_k».proof.Proof.Gen.Reference17Ideal.Run
public import proofs.«01_k».proof.Proof.Shared.Coords
public import proofs.«01_k».proof.Proof.Ffn.Gate
public import Idealize.ShloMosaic.Lib.Pipeline.Value
public import Idealize.ShloMosaic.Lib.Pointwise
public import Idealize.ShloMosaic.Lib.IdealHost
public import Idealize.ShloMosaic.Lib.Quiescent

@[expose] public section

set_option maxRecDepth 16384

noncomputable section

open Idealize.ShloMosaic Idealize.ShloMosaic.TcCoe Idealize.SL.Sem Idealize.ShloMosaic.Tactic
open Idealize.ShloMosaic.Pipeline (Dat Window)

namespace Cert.Fwd.Merge

section Kernel

open Cert.Kernel17Ideal Cert.Kernel17Ideal.Gen Cert.Coords Cert.Ffn.Gate

variable (m : (ℓ : Loc nD τ sig) → Buf (Elt Ideal) ℓ)

/-- The two branches' rows, the projection that holds their gates, and their output weights. -/
abbrev first (c : Dev nD) : FVec Ideal S4096x1024 .bf16 := m ((c : Thread nD τ).loc main_arg0)
abbrev second (c : Dev nD) : FVec Ideal S4096x1024 .bf16 := m ((c : Thread nD τ).loc main_arg1)
abbrev proj (c : Dev nD) : FVec Ideal S4096x5632 .bf16 := m ((c : Thread nD τ).loc main_arg2)
abbrev weights_first (c : Dev nD) : FVec Ideal S1024x1024 .f32 := m ((c : Thread nD τ).loc main_arg3)
abbrev weights_second (c : Dev nD) : FVec Ideal S1024x1024 .f32 := m ((c : Thread nD τ).loc main_arg4)

/-- A product's entry in row `r` and column `l`, and a grid point's entry. -/
def product (x : FVec Ideal S4096x1024 .bf16) (w : FVec Ideal S1024x1024 .f32) (r : Fin 4096) (l : Fin 1024) : EReal :=
  ∑ k : Fin 1024, x (ix2 r k) * w (ix2 k l)
def tile (x : Vec Ideal S1024x1024 .bf16) (w : Vec Ideal S1024x512 .bf16) (r : Fin 1024) (l : Fin 512) : EReal :=
  ∑ k : Fin 1024, x (ix2 r k) * w (ix2 k l)

/-- The merge of `a` and `b` by the gates `p` and `q`. -/
def merged (a b p q : EReal) : EReal := sigma p * a + sigma q * b

theorem where_first : ∀ t : Fin cfg0.N, win0_0.index t 0 = t.val / 2 ∧ win0_0.index t 1 = 0 :=
  (by decide +kernel : ∀ t : Fin grid0.N, win0_0.index t 0 = t.val / 2 ∧ win0_0.index t 1 = 0)
theorem where_second : ∀ t : Fin cfg0.N, win0_1.index t 0 = t.val / 2 ∧ win0_1.index t 1 = 0 :=
  (by decide +kernel : ∀ t : Fin grid0.N, win0_1.index t 0 = t.val / 2 ∧ win0_1.index t 1 = 0)
theorem where_gate_first : ∀ t : Fin cfg0.N, win0_2.index t 0 = t.val / 2 ∧ win0_2.index t 1 = 7 + t.val % 2 :=
  (by decide +kernel : ∀ t : Fin grid0.N, win0_2.index t 0 = t.val / 2 ∧ win0_2.index t 1 = 7 + t.val % 2)
theorem where_gate_second : ∀ t : Fin cfg0.N, win0_3.index t 0 = t.val / 2 ∧ win0_3.index t 1 = 9 + t.val % 2 :=
  (by decide +kernel : ∀ t : Fin grid0.N, win0_3.index t 0 = t.val / 2 ∧ win0_3.index t 1 = 9 + t.val % 2)
theorem where_weights_first : ∀ t : Fin cfg0.N, win0_4.index t 0 = 0 ∧ win0_4.index t 1 = t.val % 2 :=
  (by decide +kernel : ∀ t : Fin grid0.N, win0_4.index t 0 = 0 ∧ win0_4.index t 1 = t.val % 2)
theorem where_weights_second : ∀ t : Fin cfg0.N, win0_5.index t 0 = 0 ∧ win0_5.index t 1 = t.val % 2 :=
  (by decide +kernel : ∀ t : Fin grid0.N, win0_5.index t 0 = 0 ∧ win0_5.index t 1 = t.val % 2)
theorem where_out : ∀ t : Fin cfg0.N, win0_6.index t 0 = t.val / 2 ∧ win0_6.index t 1 = t.val % 2 :=
  (by decide +kernel : ∀ t : Fin grid0.N, win0_6.index t 0 = t.val / 2 ∧ win0_6.index t 1 = t.val % 2)
theorem where_out_first : ∀ t : Fin cfg0.N, win0_7.index t 0 = t.val / 2 ∧ win0_7.index t 1 = t.val % 2 :=
  (by decide +kernel : ∀ t : Fin grid0.N, win0_7.index t 0 = t.val / 2 ∧ win0_7.index t 1 = t.val % 2)
theorem where_out_second : ∀ t : Fin cfg0.N, win0_8.index t 0 = t.val / 2 ∧ win0_8.index t 1 = t.val % 2 :=
  (by decide +kernel : ∀ t : Fin grid0.N, win0_8.index t 0 = t.val / 2 ∧ win0_8.index t 1 = t.val % 2)

theorem staged_first (c : Dev nD) : V m c main_v0 = weights_first m c := by
  have e : V m c main_v0 = truncf .bf16 (weights_first m c) bitsLt_bf16_f32 := by
    show StableHlo.after hostOps0 (fun b => m (c, b)) main_v0 = _
    after_results
  rw [e]
  rfl
theorem staged_second (c : Dev nD) : V m c main_v1 = weights_second m c := by
  have e : V m c main_v1 = truncf .bf16 (weights_second m c) bitsLt_bf16_f32 := by
    show StableHlo.after hostOps0 (fun b => m (c, b)) main_v1 = _
    after_results
  rw [e]
  rfl

section Blocks

variable (c : Dev nD) (t : Fin cfg0.N) (r : Fin 1024) (r' : Fin 4096) (hr : r'.val = t.val / 2 * 1024 + r.val)
  (l : Fin 512) (l' : Fin 1024) (hl : l'.val = t.val % 2 * 512 + l.val)

include hr in
theorem first_block (k : Fin 1024) : iblk m c 0 t (ix2 r k) = first m c (ix2 r' k) := by
  show V m c main_arg0 ((win0_0.rect t).emb (ix2 r k)) = _
  rw [V_main_arg0]
  obtain ⟨h0, h1⟩ := where_first t
  refine congrArg (first m c) (eq_of_coords2 _ _ _ ((win0_0.rect_emb_val t _ 0).trans ?_) (win0_0.rect_emb_val_of_index_zero t 1 h1 _))
  rw [h0]
  exact hr.symm
include hr in
theorem second_block (k : Fin 1024) : iblk m c 1 t (ix2 r k) = second m c (ix2 r' k) := by
  show V m c main_arg1 ((win0_1.rect t).emb (ix2 r k)) = _
  rw [V_main_arg1]
  obtain ⟨h0, h1⟩ := where_second t
  refine congrArg (second m c) (eq_of_coords2 _ _ _ ((win0_1.rect_emb_val t _ 0).trans ?_) (win0_1.rect_emb_val_of_index_zero t 1 h1 _))
  rw [h0]
  exact hr.symm
include hl in
theorem weights_first_block (k : Fin 1024) : iblk m c 4 t (ix2 k l) = weights_first m c (ix2 k l') := by
  show V m c main_v0 ((win0_4.rect t).emb (ix2 k l)) = _
  rw [staged_first]
  obtain ⟨h0, h1⟩ := where_weights_first t
  refine congrArg (weights_first m c) (eq_of_coords2 _ _ _ (win0_4.rect_emb_val_of_index_zero t 0 h0 _) ((win0_4.rect_emb_val t _ 1).trans ?_))
  rw [h1]
  exact hl.symm
include hl in
theorem weights_second_block (k : Fin 1024) : iblk m c 5 t (ix2 k l) = weights_second m c (ix2 k l') := by
  show V m c main_v1 ((win0_5.rect t).emb (ix2 k l)) = _
  rw [staged_second]
  obtain ⟨h0, h1⟩ := where_weights_second t
  refine congrArg (weights_second m c) (eq_of_coords2 _ _ _ (win0_5.rect_emb_val_of_index_zero t 0 h0 _) ((win0_5.rect_emb_val t _ 1).trans ?_))
  rw [h1]
  exact hl.symm

include hr hl

theorem first_tile : tile (iblk m c 0 t) (iblk m c 4 t) r l = product (first m c) (weights_first m c) r' l' :=
  Finset.sum_congr rfl fun k _ => by rw [first_block m c t r r' hr, weights_first_block m c t l l' hl]
theorem second_tile : tile (iblk m c 1 t) (iblk m c 5 t) r l = product (second m c) (weights_second m c) r' l' :=
  Finset.sum_congr rfl fun k _ => by rw [second_block m c t r r' hr, weights_second_block m c t l l' hl]
theorem gate_first_block : iblk m c 2 t (ix2 r l) = proj m c (ix2 r' (⟨3584 + l'.val, by omega⟩ : Fin 5632)) := by
  show V m c main_arg2 ((win0_2.rect t).emb (ix2 r l)) = _
  rw [V_main_arg2]
  obtain ⟨h0, h1⟩ := where_gate_first t
  refine congrArg (proj m c) (eq_of_coords2 _ _ _ ((win0_2.rect_emb_val t _ 0).trans ?_) ((win0_2.rect_emb_val t _ 1).trans ?_))
  · rw [h0]
    exact hr.symm
  · rw [h1]
    show (7 + t.val % 2) * 512 + l.val = 3584 + l'.val
    omega
theorem gate_second_block : iblk m c 3 t (ix2 r l) = proj m c (ix2 r' (⟨3584 + (1024 + l'.val), by omega⟩ : Fin 5632)) := by
  show V m c main_arg2 ((win0_3.rect t).emb (ix2 r l)) = _
  rw [V_main_arg2]
  obtain ⟨h0, h1⟩ := where_gate_second t
  refine congrArg (proj m c) (eq_of_coords2 _ _ _ ((win0_3.rect_emb_val t _ 0).trans ?_) ((win0_3.rect_emb_val t _ 1).trans ?_))
  · rw [h0]
    exact hr.symm
  · rw [h1]
    show (9 + t.val % 2) * 512 + l.val = 3584 + (1024 + l'.val)
    omega

end Blocks

/-- The stored blocks, read at an entry. -/
theorem first_entry (x : Vec Ideal S1024x1024 .bf16) (w : Vec Ideal S1024x512 .bf16) (r : Fin 1024) (l : Fin 512) :
    k0_pay5 x w (ix2 r l) = tile x w r l := by
  pointwise [k0_pay5, k0_pay2]
  rfl
theorem second_entry (x : Vec Ideal S1024x1024 .bf16) (w : Vec Ideal S1024x512 .bf16) (r : Fin 1024) (l : Fin 512) :
    k0_pay1 (k0_pay3 x w) (ix2 r l) = tile x w r l := by
  pointwise [k0_pay1, k0_pay3]
  rfl
theorem merged_entry (x y : Vec Ideal S1024x1024 .bf16) (v w p q : Vec Ideal S1024x512 .bf16) (r : Fin 1024) (l : Fin 512) :
    k0_pay4 x v y w p q (ix2 r l) = merged (tile x v r l) (tile y w r l) (p (ix2 r l)) (q (ix2 r l)) := by
  pointwise [k0_pay4, k0_pay2, k0_pay3]
  simp only [Ideal.ofBits_one_f32, zero_sub]
  rfl

theorem hz : (![0, 0] : Fin 2 → Nat) = fun _ => 0 := funext fun a => by fin_cases a <;> rfl

section Final

variable (c : Dev nD) (r : Fin 4096) (l : Fin 1024)

/-- The grid point whose blocks hold row `r` and column `l`, and the place there. -/
theorem point : ∃ (t : Fin cfg0.N) (r₀ : Fin 1024) (l₀ : Fin 512), r.val = t.val / 2 * 1024 + r₀.val ∧ l.val = t.val % 2 * 512 + l₀.val := by
  have hN : cfg0.N = 8 := N_0
  exact ⟨⟨r.val / 1024 * 2 + l.val / 512, by omega⟩, ⟨r.val % 1024, by omega⟩, ⟨l.val % 512, by omega⟩,
    by dsimp only; omega, by dsimp only; omega⟩

/-- The three result arrays after the run, read at an entry. -/
theorem final_merged :
    (dats m 0 c).arrAt 6 cfg0.N (ix2 r l)
      = merged (product (first m c) (weights_first m c) r l) (product (second m c) (weights_second m c) r l)
          (proj m c (ix2 r (⟨3584 + l.val, by omega⟩ : Fin 5632))) (proj m c (ix2 r (⟨3584 + (1024 + l.val), by omega⟩ : Fin 5632))) := by
  obtain ⟨t, r₀, l₀, hr, hl⟩ := point r l
  have e : (win0_6.blk t).view.emb (ix2 r₀ l₀) = ix2 r l := by
    show (win0_6.rect t).emb (ix2 r₀ l₀) = _
    obtain ⟨h0, h1⟩ := where_out t
    refine eq_of_coords2 _ _ _ ((win0_6.rect_emb_val t _ 0).trans ?_) ((win0_6.rect_emb_val t _ 1).trans ?_)
    · rw [h0]
      exact hr.symm
    · rw [h1]
      exact hl.symm
  rw [← e]
  refine ((dats m 0 c).arrAt_emb_eq_flushed 6 Value.disjoint6 t (flush0_6 t) (ix2 r₀ l₀)).trans ?_
  show (dats m 0 c).flushed 6 t (ix2 r₀ l₀) = _
  rw [Value.flushed6]
  show out0_6 (iblk m c 0 t) (iblk m c 1 t) (iblk m c 2 t) (iblk m c 3 t) (iblk m c 4 t) (iblk m c 5 t) (ix2 r₀ l₀) = _
  unfold out0_6
  rw [View.canon_unit_zero hz]
  simp only [View.ld_unit_zero (S := S1024x1024) hz, View.ld_unit_zero (S := S1024x512) hz]
  rw [merged_entry, first_tile m c t r₀ r hr l₀ l hl, second_tile m c t r₀ r hr l₀ l hl, gate_first_block m c t r₀ r hr l₀ l hl,
    gate_second_block m c t r₀ r hr l₀ l hl]
theorem final_first : (dats m 0 c).arrAt 7 cfg0.N (ix2 r l) = product (first m c) (weights_first m c) r l := by
  obtain ⟨t, r₀, l₀, hr, hl⟩ := point r l
  have e : (win0_7.blk t).view.emb (ix2 r₀ l₀) = ix2 r l := by
    show (win0_7.rect t).emb (ix2 r₀ l₀) = _
    obtain ⟨h0, h1⟩ := where_out_first t
    refine eq_of_coords2 _ _ _ ((win0_7.rect_emb_val t _ 0).trans ?_) ((win0_7.rect_emb_val t _ 1).trans ?_)
    · rw [h0]
      exact hr.symm
    · rw [h1]
      exact hl.symm
  rw [← e]
  refine ((dats m 0 c).arrAt_emb_eq_flushed 7 Value.disjoint7 t (flush0_7 t) (ix2 r₀ l₀)).trans ?_
  show (dats m 0 c).flushed 7 t (ix2 r₀ l₀) = _
  rw [Value.flushed7]
  show out0_7 (iblk m c 0 t) (iblk m c 1 t) (iblk m c 2 t) (iblk m c 3 t) (iblk m c 4 t) (iblk m c 5 t) (ix2 r₀ l₀) = _
  unfold out0_7
  rw [View.canon_unit_zero hz, View.ld_unit_zero hz, View.ld_unit_zero hz, first_entry, first_tile m c t r₀ r hr l₀ l hl]
theorem final_second : (dats m 0 c).arrAt 8 cfg0.N (ix2 r l) = product (second m c) (weights_second m c) r l := by
  obtain ⟨t, r₀, l₀, hr, hl⟩ := point r l
  have e : (win0_8.blk t).view.emb (ix2 r₀ l₀) = ix2 r l := by
    show (win0_8.rect t).emb (ix2 r₀ l₀) = _
    obtain ⟨h0, h1⟩ := where_out_second t
    refine eq_of_coords2 _ _ _ ((win0_8.rect_emb_val t _ 0).trans ?_) ((win0_8.rect_emb_val t _ 1).trans ?_)
    · rw [h0]
      exact hr.symm
    · rw [h1]
      exact hl.symm
  rw [← e]
  refine ((dats m 0 c).arrAt_emb_eq_flushed 8 Value.disjoint8 t (flush0_8 t) (ix2 r₀ l₀)).trans ?_
  show (dats m 0 c).flushed 8 t (ix2 r₀ l₀) = _
  rw [Value.flushed8]
  show out0_8 (iblk m c 0 t) (iblk m c 1 t) (iblk m c 2 t) (iblk m c 3 t) (iblk m c 4 t) (iblk m c 5 t) (ix2 r₀ l₀) = _
  unfold out0_8
  rw [View.canon_unit_zero hz, View.ld_unit_zero hz, View.ld_unit_zero hz, second_entry, second_tile m c t r₀ r hr l₀ l hl]

end Final

end Kernel

/-- The products and their merge are the reference's. -/
theorem algebraic : Cert.algebraic_Kernel17Ideal_Reference17Ideal := by
  intro m ρ m' ρ' _ hagree
  refine ⟨fun c => (Cert.Kernel17Ideal.Gen.dats m 0 c).arrAt 6 Cert.Kernel17Ideal.cfg0.N,
    fun c => (Cert.Kernel17Ideal.Gen.dats m 0 c).arrAt 7 Cert.Kernel17Ideal.cfg0.N,
    fun c => (Cert.Kernel17Ideal.Gen.dats m 0 c).arrAt 8 Cert.Kernel17Ideal.cfg0.N, Cert.Kernel17Ideal.Value.run_blocks m ρ, ?_⟩
  refine (θ_run Cert.Reference17Ideal.defs _ _).mono
    (fun _ h c => ⟨(h c).1.trans ?_, (h c).2.1.trans ?_, (h c).2.2.1.trans ?_, (h c).2.2.2⟩)
    (Cert.Reference17Ideal.Value.run (F := Ideal) m' ρ')
  · clear h
    rw [(hagree c).1, (hagree c).2.1, (hagree c).2.2.1, (hagree c).2.2.2.1, (hagree c).2.2.2.2]
    funext j
    rw [eq_ix2 j]
    refine Eq.trans ?_ (final_merged m c (j 0) (j 1)).symm
    generalize j 0 = r
    generalize j 1 = l
    pointwise []
    rfl
  · clear h
    rw [(hagree c).1, (hagree c).2.2.2.1]
    funext j
    rw [eq_ix2 j]
    refine Eq.trans ?_ (final_first m c (j 0) (j 1)).symm
    generalize j 0 = r
    generalize j 1 = l
    pointwise []
    rfl
  · clear h
    rw [(hagree c).2.1, (hagree c).2.2.2.2]
    funext j
    rw [eq_ix2 j]
    refine Eq.trans ?_ (final_second m c (j 0) (j 1)).symm
    generalize j 0 = r
    generalize j 1 = l
    pointwise []
    rfl

end Cert.Fwd.Merge

end
-- ==== Proof.Attn.Math.lean ====
/-
  The gradient of one block's attention in its queries, keys and values, on the extended reals: for any finite set of
  query rows against 256 keys and values of 64 entries, from the probabilities.
-/
module

public import proofs.«01_k».proof.Proof.Ffn.Norm

@[expose] public section

noncomputable section

open Idealize.ShloMosaic
open Cert.Ffn (epsilon epsilon_coe minusHalf minusHalf_coe IsReal square_nonneg square_of_not_real twice)

namespace Cert.Attn

/-- The row length and one eighth, as the extended reals their literals denote. -/
abbrev width : EReal := Ideal.ofBits .f32 0x42800000#32
abbrev eighth : EReal := Ideal.ofBits .f32 0x3E000000#32

theorem width_coe : width = ((64 : ℝ) : EReal) := by
  simp [Ideal.ofBits, Ideal.ieee, -EReal.coe_mul]
  norm_num

/-- The mean square plus epsilon of a row, its reciprocal square root, and the row normalised and scaled. -/
def meanSquare (x : Fin 64 → EReal) : EReal := Ideal.div (∑ k, x k * x k) width + epsilon
def factor (x : Fin 64 → EReal) : EReal := Ideal.rsqrt (meanSquare x)
def normed (x g : Fin 64 → EReal) (d : Fin 64) : EReal := x d * factor x * g d

/-- The gradient that a normalisation hands back, from the gradient `dn` of the normalised and scaled row. -/
def back (x dn g : Fin 64 → EReal) (d : Fin 64) : EReal :=
  factor x * (dn d * g d) - x d * (factor x * factor x * factor x) * Ideal.div (∑ k, x k * (dn k * g k)) width

theorem meanSquare_top {x : Fin 64 → EReal} {k : Fin 64} (h : ¬IsReal (x k)) : meanSquare x = ⊤ := by
  have e : ∑ k, x k * x k = ⊤ := by
    refine top_le_iff.1 ?_
    rw [← square_of_not_real h]
    exact Finset.single_le_sum (f := fun k => x k * x k) (fun i _ => square_nonneg (x i)) (Finset.mem_univ k)
  obtain ⟨ε, -, hε⟩ := epsilon_coe
  unfold meanSquare
  rw [e, width_coe, hε, Ideal.div_coe (by norm_num), EReal.top_mul_coe_of_pos (by norm_num)]
  exact EReal.top_add_coe ε

theorem meanSquare_pos {x : Fin 64 → EReal} (h : ∀ k, IsReal (x k)) : ∃ v : ℝ, 0 < v ∧ meanSquare x = (v : EReal) := by
  obtain ⟨s, hs⟩ := IsReal.sum Finset.univ (fun k => x k * x k) fun k _ => (h k).mul (h k)
  have h0 : (0 : ℝ) ≤ s := by
    have := Finset.sum_nonneg (s := Finset.univ) (f := fun k => x k * x k) fun k _ => square_nonneg (x k)
    rw [hs] at this
    exact_mod_cast this
  obtain ⟨ε, hp, hε⟩ := epsilon_coe
  refine ⟨s * (1 / 64) + ε, by positivity, ?_⟩
  unfold meanSquare
  rw [hs, width_coe, hε, Ideal.div_coe (by norm_num), ← EReal.coe_mul, ← EReal.coe_add]

/-- The plain computation's form of it. -/
theorem back_eq (x : Fin 64 → EReal) (k : Fin 64) (w s : EReal) :
    w * factor x + x k * Ideal.div (s * (minusHalf * Ideal.div (factor x) (meanSquare x))) width
        + Ideal.div (s * (minusHalf * Ideal.div (factor x) (meanSquare x))) width * x k
      = factor x * w - x k * (factor x * factor x * factor x) * Ideal.div s width := by
  unfold factor
  rw [mul_comm _ (x k), width_coe, Ideal.div_coe (by norm_num), Ideal.div_coe (by norm_num), add_assoc]
  by_cases h : ∀ k, IsReal (x k)
  · obtain ⟨v, hv, e⟩ := meanSquare_pos h
    obtain ⟨a, ha⟩ := h k
    have hq : (Real.sqrt v)⁻¹ * (Real.sqrt v)⁻¹ = 1 / v := by
      rw [← mul_inv, Real.mul_self_sqrt hv.le, one_div]
    rw [e, ha, Ideal.rsqrt_coe, if_neg hv.not_gt, if_neg hv.ne', Ideal.div_coe hv.ne', minusHalf_coe]
    generalize (Real.sqrt v)⁻¹ = r at hq
    have l : (a : EReal) * (s * (((-(1 / 2) : ℝ) : EReal) * ((r : EReal) * ((1 / v : ℝ) : EReal))) * ((1 / 64 : ℝ) : EReal))
        = s * ((a * (-(1 / 2) * (r * (1 / v))) * (1 / 64) : ℝ) : EReal) := by
      simp only [EReal.coe_mul]
      ac_rfl
    have g : (a : EReal) * ((r : EReal) * r * r) * (s * ((1 / 64 : ℝ) : EReal))
        = s * ((a * (r * r * r) * (1 / 64) : ℝ) : EReal) := by
      simp only [EReal.coe_mul]
      ac_rfl
    rw [l, g, twice, sub_eq_add_neg, ← mul_neg, ← EReal.coe_neg, mul_comm w]
    congr 3
    norm_cast
    rw [hq]
    ring
  · obtain ⟨k', hk⟩ := not_forall.1 h
    rw [meanSquare_top hk]
    simp [Ideal.div]

section Rows

variable {ρ : Type} [Fintype ρ] (q o : ρ → Fin 64 → EReal) (k v : Fin 256 → Fin 64 → EReal) (p : ρ → Fin 256 → EReal)
  (gq gk : Fin 64 → EReal)

/-- The gradient of a probability; of a score before its scale, times the scale; and of a value. -/
def gained (i : ρ) (j : Fin 256) : EReal := ∑ d, o i d * v j d
def slope (i : ρ) (j : Fin 256) : EReal := p i j * (gained o v i j - ∑ l, p i l * gained o v i l) * eighth
def dValue (j : Fin 256) (d : Fin 64) : EReal := ∑ i, o i d * p i j

/-- The gradients of a normalised query and of a normalised key, then of the query and of the key. -/
def dNormQuery (i : ρ) (d : Fin 64) : EReal := ∑ j, slope o v p i j * normed (k j) gk d
def dNormKey (j : Fin 256) (d : Fin 64) : EReal := ∑ i, normed (q i) gq d * slope o v p i j
def dQuery (i : ρ) (d : Fin 64) : EReal := back (q i) (dNormQuery o k v p gk i) gq d
def dKey (j : Fin 256) (d : Fin 64) : EReal := back (k j) (dNormKey q o v p gq j) gk d

end Rows

end Cert.Attn

end
-- ==== Proof.Attn.Parts.lean ====
/-
  The parts of which the kernel's body builds one block of one key head: heads taken out of a row and put back by
  products with matrices of zeros and ones, normalisations, and the gradients. Each part is read at an entry.
-/
module

public import proofs.«01_k».proof.Defs
public import proofs.«01_k».proof.Proof.Gen.Kernel18Ideal.Value
public import proofs.«01_k».proof.Proof.Shared.Coords
public import proofs.«01_k».proof.Proof.Attn.Math
public import Idealize.ShloMosaic.Lib.Pointwise
public import Idealize.ShloMosaic.Lib.Pipeline.ValueKit

@[expose] public section

set_option maxRecDepth 16384

noncomputable section

open Idealize.ShloMosaic Idealize.ShloMosaic.Tactic
open Cert.Coords

namespace Cert.Attn.Parts

open Cert.Kernel18Ideal Cert.Kernel18Ideal.Gen

/-- The matrix with a one where the row is the column plus an offset. -/
def sel (n : ℕ) : FVec Ideal S256x64 .bf16 :=
  truncf .bf16 (sitofp .f32 (extui 32 (cmpi .eq (iota .tc S256x64 32 [0] iota_S256x64_d0_w32)
    (addi (iota .tc S256x64 32 [1] iota_S256x64_d1_w32) (broadcast S256x64 (BitVec.ofNat 32 n)))) natLt_1_32)) bitsLt_bf16_f32

theorem sel_entry (n : ℕ) (hn : n ≤ 192) (a : Fin 256) (b : Fin 64) :
    sel n (ix2 a b) = if a.val = n + b.val then 1 else 0 := by
  pointwise [sel]
  have e : (BitVec.ofNat 32 a.val == BitVec.ofNat 32 b.val + BitVec.ofNat 32 n) = decide (a.val = n + b.val) := by
    rw [← BitVec.ofNat_add, Bool.eq_iff_iff, beq_iff_eq, decide_eq_true_iff, ← BitVec.toNat_inj, BitVec.toNat_ofNat, BitVec.toNat_ofNat,
      Nat.mod_eq_of_lt (by omega), Nat.mod_eq_of_lt (by omega), Nat.add_comm b.val]
  show (((BitVec.setWidth 32 (BitVec.ofBool (BitVec.ofNat 32 a.val == BitVec.ofNat 32 b.val + BitVec.ofNat 32 n))).toInt : ℝ) : EReal) = _
  rw [e]
  by_cases h : a.val = n + b.val
  · rw [decide_eq_true h, if_pos h]
    have : (BitVec.setWidth 32 (BitVec.ofBool true)).toInt = 1 := by decide
    rw [this]
    norm_num
  · rw [decide_eq_false h, if_neg h]
    norm_num

/-- A window of keys or values, taken out of 128 rows and the 512 rows after them. -/
def window (s : FVec Ideal S256x64 .bf16) (a : Vec Ideal S128x256 .bf16) (b : Vec Ideal S512x256 .bf16) : FVec Ideal S640x64 .f32 :=
  concatenate S640x64 0
    [⟨S128x64, matmul dot_S128x256_S256x64_S128x64_1_0_0_1_n_n none (φ₁ := .bf16) a s (constant S128x64 .f32 0x00000000#32)⟩,
      ⟨S512x64, matmul dot_S512x256_S256x64_S512x64_1_0_0_1_n_n none (φ₁ := .bf16) b s (constant S512x64 .f32 0x00000000#32)⟩]
    concatenates_S128x64_S512x64_S640x64_d0

/-- The four heads of a group, one below the other. -/
def taken (s : FVec Ideal S256x64 .bf16) (x : Vec Ideal S128x256 .bf16) : FVec Ideal S128x64 .f32 :=
  matmul dot_S128x256_S256x64_S128x64_1_0_0_1_n_n none (φ₁ := .bf16) x s (constant S128x64 .f32 0x00000000#32)
def heads (x : Vec Ideal S128x256 .bf16) : FVec Ideal S512x64 .f32 :=
  concatenate S512x64 0 [⟨S128x64, taken (sel 0) x⟩, ⟨S128x64, taken (sel 64) x⟩, ⟨S128x64, taken (sel 128) x⟩,
    ⟨S128x64, taken (sel 192) x⟩] concatenates_S128x64_S128x64_S128x64_S128x64_S512x64_d0

theorem sum_sel (f : Fin 256 → EReal) (n : ℕ) (hn : n ≤ 192) (b : Fin 64) :
    ∑ a, f a * sel n (ix2 a b) = f ⟨n + b.val, by omega⟩ := by
  simp only [sel_entry n hn]
  rw [Finset.sum_eq_single (⟨n + b.val, by omega⟩ : Fin 256)]
  · simp
  · intro a _ ha
    rw [if_neg fun h => ha (Fin.ext h), mul_zero]
  · simp

theorem taken_entry (n : ℕ) (hn : n ≤ 192) (x : Vec Ideal S128x256 .bf16) (i : Fin 128) (d : Fin 64) :
    taken (sel n) x (ix2 i d) = x (ix2 i ⟨n + d.val, by omega⟩) := by
  pointwise [taken]
  exact sum_sel (fun a => x (ix2 i a)) n hn d

theorem at_eq {a b : ℕ} (x : (⟨2, ![a, b]⟩ : Shape).Idx → EReal) (i i' : Fin a) (j j' : Fin b) (hi : i.val = i'.val) (hj : j.val = j'.val) :
    x (ix2 i j) = x (ix2 i' j') := by
  rw [Fin.ext hi, Fin.ext hj]

theorem heads_entry (x : Vec Ideal S128x256 .bf16) (t : Fin 512) (d : Fin 64) :
    heads x (ix2 t d) = x (ix2 (⟨t.val % 128, by omega⟩ : Fin 128) (⟨64 * (t.val / 128) + d.val, by omega⟩ : Fin 256)) := by
  pointwise [heads]
  have ht := t.isLt
  obtain h | h | h | h : t.val / 128 = 0 ∨ t.val / 128 = 1 ∨ t.val / 128 = 2 ∨ t.val / 128 = 3 := by omega
  · rw [dif_pos (by omega), taken_entry 0 (by omega)]
    exact at_eq (a := 128) (b := 256) x _ _ _ _ (by dsimp only; omega) (by dsimp only; omega)
  · rw [dif_neg (by omega), dif_pos (by omega), taken_entry 64 (by omega)]
    exact at_eq (a := 128) (b := 256) x _ _ _ _ (by dsimp only; omega) (by dsimp only; omega)
  · rw [dif_neg (by omega), dif_neg (by omega), dif_pos (by omega), taken_entry 128 (by omega)]
    exact at_eq (a := 128) (b := 256) x _ _ _ _ (by dsimp only; omega) (by dsimp only; omega)
  · rw [dif_neg (by omega), dif_neg (by omega), dif_neg (by omega), taken_entry 192 (by omega)]
    exact at_eq (a := 128) (b := 256) x _ _ _ _ (by dsimp only; omega) (by dsimp only; omega)

theorem window_entry (n : ℕ) (hn : n ≤ 192) (a : Vec Ideal S128x256 .bf16) (b : Vec Ideal S512x256 .bf16) (j : Fin 640) (d : Fin 64) :
    window (sel n) a b (ix2 j d)
      = if h : j.val < 128 then a (ix2 (⟨j.val, h⟩ : Fin 128) (⟨n + d.val, by omega⟩ : Fin 256))
        else b (ix2 (⟨j.val - 128, by omega⟩ : Fin 512) (⟨n + d.val, by omega⟩ : Fin 256)) := by
  pointwise [window]
  by_cases h : j.val < 128
  · rw [dif_pos h, dif_pos h]
    exact sum_sel (fun k => a (ix2 _ k)) n hn d
  · rw [dif_neg h, dif_neg h]
    exact sum_sel (fun k => b (ix2 _ k)) n hn d

/-- The reciprocal square roots of the mean squares plus epsilon of 512 rows, of 640 rows, and the rows normalised. -/
def factors (x : FVec Ideal S512x64 .f32) : FVec Ideal S512x1 .f32 :=
  rsqrt (addf (divf (shapeCast S512x1 (multiReduction .add [1] S512 (mulf x x) 0x00000000#32 reduces_S512x64_S512 (.inl rfl) rfl) shapeCasts_S512_S512x1)
    (broadcast S512x1 (Scalar.ofBits .f32 0x42800000#32))) (broadcast S512x1 (Scalar.ofBits .f32 0x358637BD#32)))
def factors' (x : FVec Ideal S640x64 .f32) : FVec Ideal S640x1 .f32 :=
  rsqrt (addf (divf (shapeCast S640x1 (multiReduction .add [1] S640 (mulf x x) 0x00000000#32 reduces_S640x64_S640 (.inl rfl) rfl) shapeCasts_S640_S640x1)
    (broadcast S640x1 (Scalar.ofBits .f32 0x42800000#32))) (broadcast S640x1 (Scalar.ofBits .f32 0x358637BD#32)))
def norms (x : FVec Ideal S512x64 .f32) (g : FVec Ideal S1x64 .f32) : FVec Ideal S512x64 .bf16 :=
  truncf .bf16 (mulf (mulf x (broadcastTo S512x64 (factors x) broadcasts_S512x1_S512x64)) (broadcastTo S512x64 g broadcasts_S1x64_S512x64)) bitsLt_bf16_f32
def norms' (x : FVec Ideal S640x64 .f32) (g : FVec Ideal S1x64 .f32) : FVec Ideal S640x64 .bf16 :=
  truncf .bf16 (mulf (mulf x (broadcastTo S640x64 (factors' x) broadcasts_S640x1_S640x64)) (broadcastTo S640x64 g broadcasts_S1x64_S640x64)) bitsLt_bf16_f32

theorem factors_entry (x : FVec Ideal S512x64 .f32) (t : Fin 512) : factors x (ix2 t 0) = factor fun d => x (ix2 t d) := by
  pointwise [factors, factor, meanSquare]
theorem factors'_entry (x : FVec Ideal S640x64 .f32) (t : Fin 640) : factors' x (ix2 t 0) = factor fun d => x (ix2 t d) := by
  pointwise [factors', factor, meanSquare]
theorem norms_entry (x : FVec Ideal S512x64 .f32) (g : FVec Ideal S1x64 .f32) (t : Fin 512) (d : Fin 64) :
    norms x g (ix2 t d) = normed (fun d => x (ix2 t d)) (fun d => g (ix2 (0 : Fin 1) d)) d := by
  pointwise [norms, normed]
  rw [factors_entry]
theorem norms'_entry (x : FVec Ideal S640x64 .f32) (g : FVec Ideal S1x64 .f32) (t : Fin 640) (d : Fin 64) :
    norms' x g (ix2 t d) = normed (fun d => x (ix2 t d)) (fun d => g (ix2 (0 : Fin 1) d)) d := by
  pointwise [norms', normed]
  rw [factors'_entry]

section Block

variable (o : FVec Ideal S512x64 .bf16) (v : FVec Ideal S640x64 .bf16) (p : FVec Ideal S512x256 .bf16) (w : ℕ)
  (hw : S640x64.Slices ![w, 0] S256x64) (hr : S640x1.Slices ![w, 0] S256x1)

/-- The gradients of the probabilities, and of the scaled scores times the scale. -/
def gains : FVec Ideal S512x256 .f32 :=
  matmul dot_S512x64_S256x64_S512x256_1_1_0_0_n_n none o (extractStridedSlice S256x64 ![w, 0] v hw) (constant S512x256 .f32 0x00000000#32)
def slopes : FVec Ideal S512x256 .bf16 :=
  truncf .bf16 (mulf (mulf (extf .f32 p bitsLt_bf16_f32) (subf (gains o v w hw) (broadcastTo S512x256
    (shapeCast S512x1 (multiReduction .add [1] S512 (mulf (extf .f32 p bitsLt_bf16_f32) (gains o v w hw)) 0x00000000#32 reduces_S512x256_S512 (.inl rfl) rfl)
      shapeCasts_S512_S512x1) broadcasts_S512x1_S512x256))) (broadcast S512x256 (Scalar.ofBits .f32 0x3E000000#32))) bitsLt_bf16_f32

/-- A window's row. -/
def low (w : ℕ) (hl : w ≤ 384) (j : Fin 256) : Fin 640 := ⟨w + j.val, by omega⟩

theorem gains_entry (hl : w ≤ 384) (t : Fin 512) (j : Fin 256) :
    gains o v w hw (ix2 t j) = gained (fun t d => o (ix2 t d)) (fun j d => v (ix2 (low w hl j) d)) t j := by
  pointwise [gains, gained, low]
theorem slopes_entry (hl : w ≤ 384) (t : Fin 512) (j : Fin 256) :
    slopes o v p w hw (ix2 t j)
      = slope (fun t d => o (ix2 t d)) (fun j d => v (ix2 (low w hl j) d)) (fun t j => p (ix2 t j)) t j := by
  pointwise [slopes, slope]
  simp only [gains_entry o v w hw hl]

variable (q : FVec Ideal S512x64 .bf16) (k : FVec Ideal S640x64 .bf16)

/-- The gradients of the values; of the normalised queries; of the normalised keys. -/
def values : FVec Ideal S256x64 .f32 :=
  transpose S256x64 [1, 0] (matmul dot_S512x64_S512x256_S64x256_0_0_1_1_n_n none o p (constant S64x256 .f32 0x00000000#32))
    transposes_S64x256_p1_0_S256x64
def queryNorms (s : FVec Ideal S512x256 .bf16) : FVec Ideal S512x64 .f32 :=
  matmul dot_S512x256_S256x64_S512x64_1_0_0_1_n_n none s (extractStridedSlice S256x64 ![w, 0] k hw) (constant S512x64 .f32 0x00000000#32)
def keyNorms (s : FVec Ideal S512x256 .bf16) : FVec Ideal S256x64 .f32 :=
  transpose S256x64 [1, 0] (matmul dot_S512x64_S512x256_S64x256_0_0_1_1_n_n none q s (constant S64x256 .f32 0x00000000#32))
    transposes_S64x256_p1_0_S256x64

theorem values_entry (j : Fin 256) (d : Fin 64) :
    values o p (ix2 j d) = dValue (fun t d => o (ix2 t d)) (fun t j => p (ix2 t j)) j d := by
  pointwise [values, dValue]
theorem queryNorms_entry (hl : w ≤ 384) (s : FVec Ideal S512x256 .bf16) (t : Fin 512) (d : Fin 64) :
    queryNorms w hw k s (ix2 t d) = ∑ j, s (ix2 t j) * k (ix2 (low w hl j) d) := by
  pointwise [queryNorms, low]
theorem keyNorms_entry (s : FVec Ideal S512x256 .bf16) (j : Fin 256) (d : Fin 64) :
    keyNorms q s (ix2 j d) = ∑ t, q (ix2 t d) * s (ix2 t j) := by
  pointwise [keyNorms]

/-- The gradients that the normalisations hand back. -/
def queryBack (x dn : FVec Ideal S512x64 .f32) (g : FVec Ideal S1x64 .f32) : FVec Ideal S512x64 .f32 :=
  subf (mulf (broadcastTo S512x64 (factors x) broadcasts_S512x1_S512x64) (mulf dn (broadcastTo S512x64 g broadcasts_S1x64_S512x64)))
    (mulf (mulf x (broadcastTo S512x64 (mulf (mulf (factors x) (factors x)) (factors x)) broadcasts_S512x1_S512x64))
      (broadcastTo S512x64 (divf (shapeCast S512x1 (multiReduction .add [1] S512 (mulf x (mulf dn (broadcastTo S512x64 g broadcasts_S1x64_S512x64)))
        0x00000000#32 reduces_S512x64_S512 (.inl rfl) rfl) shapeCasts_S512_S512x1) (broadcast S512x1 (Scalar.ofBits .f32 0x42800000#32)))
        broadcasts_S512x1_S512x64))
def keyBack (x : FVec Ideal S640x64 .f32) (dn : FVec Ideal S256x64 .f32) (g : FVec Ideal S1x64 .f32) : FVec Ideal S256x64 .f32 :=
  subf (mulf (broadcastTo S256x64 (extractStridedSlice S256x1 ![w, 0] (factors' x) hr) broadcasts_S256x1_S256x64)
      (mulf dn (broadcastTo S256x64 g broadcasts_S1x64_S256x64)))
    (mulf (mulf (extractStridedSlice S256x64 ![w, 0] x hw) (broadcastTo S256x64 (mulf (mulf (extractStridedSlice S256x1 ![w, 0] (factors' x) hr)
        (extractStridedSlice S256x1 ![w, 0] (factors' x) hr)) (extractStridedSlice S256x1 ![w, 0] (factors' x) hr)) broadcasts_S256x1_S256x64))
      (broadcastTo S256x64 (divf (shapeCast S256x1 (multiReduction .add [1] S256 (mulf (extractStridedSlice S256x64 ![w, 0] x hw)
        (mulf dn (broadcastTo S256x64 g broadcasts_S1x64_S256x64))) 0x00000000#32 reduces_S256x64_S256 (.inl rfl) rfl) shapeCasts_S256_S256x1)
        (broadcast S256x1 (Scalar.ofBits .f32 0x42800000#32))) broadcasts_S256x1_S256x64))

theorem queryBack_entry (x dn : FVec Ideal S512x64 .f32) (g : FVec Ideal S1x64 .f32) (t : Fin 512) (d : Fin 64) :
    queryBack x dn g (ix2 t d) = back (fun d => x (ix2 t d)) (fun d => dn (ix2 t d)) (fun d => g (ix2 (0 : Fin 1) d)) d := by
  pointwise [queryBack, back]
  rw [factors_entry]
theorem keyBack_entry (hl : w ≤ 384) (x : FVec Ideal S640x64 .f32) (dn : FVec Ideal S256x64 .f32) (g : FVec Ideal S1x64 .f32) (j : Fin 256) (d : Fin 64) :
    keyBack w hw hr x dn g (ix2 j d)
      = back (fun d => x (ix2 (low w hl j) d)) (fun d => dn (ix2 j d)) (fun d => g (ix2 (0 : Fin 1) d)) d := by
  pointwise [keyBack, back]
  rw [factors'_entry]
  rfl

/-- Four heads, one below the other, put back into a row. -/
def lowered (s : FVec Ideal S256x64 .bf16) (x : FVec Ideal S128x64 .f32) : FVec Ideal S128x256 .f32 :=
  matmul dot_S128x64_S256x64_S128x256_1_1_0_0_n_n none (truncf .bf16 x bitsLt_bf16_f32) s (constant S128x256 .f32 0x00000000#32)
def put (x : FVec Ideal S512x64 .f32) : FVec Ideal S128x256 .bf16 :=
  truncf .bf16 (addf (addf (addf (lowered (sel 0) (extractStridedSlice S128x64 ![0, 0] x slices_S512x64_o0_0_S128x64))
    (lowered (sel 64) (extractStridedSlice S128x64 ![128, 0] x slices_S512x64_o128_0_S128x64)))
    (lowered (sel 128) (extractStridedSlice S128x64 ![256, 0] x slices_S512x64_o256_0_S128x64)))
    (lowered (sel 192) (extractStridedSlice S128x64 ![384, 0] x slices_S512x64_o384_0_S128x64))) bitsLt_bf16_f32

theorem lowered_entry (n : ℕ) (hn : n ≤ 192) (x : FVec Ideal S128x64 .f32) (i : Fin 128) (a : Fin 256) :
    lowered (sel n) x (ix2 i a) = if h : n ≤ a.val ∧ a.val < n + 64 then x (ix2 i ⟨a.val - n, by omega⟩) else 0 := by
  pointwise [lowered]
  simp only [sel_entry n hn]
  by_cases h : n ≤ a.val ∧ a.val < n + 64
  · rw [dif_pos h, Finset.sum_eq_single (⟨a.val - n, by omega⟩ : Fin 64)]
    · rw [if_pos (by dsimp only; omega), mul_one]
    · intro b _ hb
      rw [if_neg fun e => hb (Fin.ext (by dsimp only; omega)), mul_zero]
    · simp
  · rw [dif_neg h]
    refine Finset.sum_eq_zero fun b _ => ?_
    rw [if_neg (by omega), mul_zero]

theorem put_entry (x : FVec Ideal S512x64 .f32) (i : Fin 128) (a : Fin 256) :
    put x (ix2 i a) = x (ix2 (⟨a.val / 64 * 128 + i.val, by omega⟩ : Fin 512) (⟨a.val % 64, by omega⟩ : Fin 64)) := by
  pointwise [put]
  rw [lowered_entry 0 (by omega), lowered_entry 64 (by omega), lowered_entry 128 (by omega), lowered_entry 192 (by omega)]
  have ha := a.isLt
  obtain h | h | h | h : a.val / 64 = 0 ∨ a.val / 64 = 1 ∨ a.val / 64 = 2 ∨ a.val / 64 = 3 := by omega
  · rw [dif_pos (by omega), dif_neg (by omega), dif_neg (by omega), dif_neg (by omega), add_zero, add_zero, add_zero]
    pointwise []
    exact at_eq x _ _ _ _ (by dsimp only; omega) (by dsimp only; omega)
  · rw [dif_neg (by omega), dif_pos (by omega), dif_neg (by omega), dif_neg (by omega), zero_add, add_zero, add_zero]
    pointwise []
    exact at_eq x _ _ _ _ (by dsimp only; omega) (by dsimp only; omega)
  · rw [dif_neg (by omega), dif_neg (by omega), dif_pos (by omega), dif_neg (by omega), zero_add, zero_add, add_zero]
    pointwise []
    exact at_eq x _ _ _ _ (by dsimp only; omega) (by dsimp only; omega)
  · rw [dif_neg (by omega), dif_neg (by omega), dif_neg (by omega), dif_pos (by omega), zero_add, zero_add, zero_add]
    pointwise []
    exact at_eq x _ _ _ _ (by dsimp only; omega) (by dsimp only; omega)

end Block
end Cert.Attn.Parts

end
-- ==== Proof.Attn.Tile.lean ====
/-
  What the kernel stores at an index of its two output blocks, from the tile's own input blocks.
-/
module

public import proofs.«01_k».proof.Proof.Attn.Parts
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat Window)
open Cert.Coords

namespace Cert.Attn.Tile

open Cert.Kernel18Ideal Cert.Kernel18Ideal.Gen Cert.Attn.Parts

theorem hz : (![0, 0] : Fin 2 → Nat) = fun _ => 0 := funext fun a => by fin_cases a <;> rfl

section Block

variable (s : ℕ) (xq xo k0 v0 : FVec Ideal S128x256 .bf16) (k1 v1 : FVec Ideal S512x256 .bf16) (p : FVec Ideal S1x1x512x256 .bf16)
  (gq gk : FVec Ideal S1x64 .f32) (w : ℕ) (hw : S640x64.Slices ![w, 0] S256x64) (hr : S640x1.Slices ![w, 0] S256x1)

/-- One block of one key head: the scores' gradients, then the gradients of queries, keys and values. -/
def scores : FVec Ideal S512x256 .bf16 :=
  slopes (truncf .bf16 (heads xo) bitsLt_bf16_f32) (truncf .bf16 (window (sel s) v0 v1) bitsLt_bf16_f32)
    (shapeCast S512x256 p shapeCasts_S1x1x512x256_S512x256) w hw
def queryBlock : FVec Ideal S128x256 .bf16 :=
  put (queryBack (heads xq) (queryNorms w hw (norms' (window (sel s) k0 k1) gk) (scores s xo v0 v1 p w hw)) gq)
def keyBlock : FVec Ideal S256x64 .f32 :=
  keyBack w hw hr (window (sel s) k0 k1) (keyNorms (norms (heads xq) gq) (scores s xo v0 v1 p w hw)) gk
def valueBlock : FVec Ideal S256x64 .f32 :=
  values (truncf .bf16 (heads xo) bitsLt_bf16_f32) (shapeCast S512x256 p shapeCasts_S1x1x512x256_S512x256)

end Block

/-- The rows of a tile that a block of a key head reads: queries, keys or values, probabilities and a gain. -/
def rows (x : Vec Ideal S512x1024 .bf16) (b h : Fin 4) (t : Fin 512) (d : Fin 64) : EReal :=
  x (ix2 (⟨128 * b.val + t.val % 128, by omega⟩ : Fin 512) (⟨256 * h.val + (64 * (t.val / 128) + d.val), by omega⟩ : Fin 1024))
def keys (x : Vec Ideal S128x256 .bf16) (y : Vec Ideal S512x256 .bf16) (b h : Fin 4) (j : Fin 256) (d : Fin 64) : EReal :=
  if e : 128 * b.val + j.val < 128 then x (ix2 (⟨128 * b.val + j.val, e⟩ : Fin 128) (⟨64 * h.val + d.val, by omega⟩ : Fin 256))
  else y (ix2 (⟨128 * b.val + j.val - 128, by omega⟩ : Fin 512) (⟨64 * h.val + d.val, by omega⟩ : Fin 256))
def probs (x : Vec Ideal S4x4x512x256 .bf16) (b h : Fin 4) (t : Fin 512) (j : Fin 256) : EReal := x (ix4 b h t j)
def gain (g : Vec Ideal S1x64 .f32) (d : Fin 64) : EReal := g (ix2 (0 : Fin 1) d)

section Entries

variable (x0 : Vec Ideal S512x1024 .bf16) (x1 : Vec Ideal S128x256 .bf16) (x2 : Vec Ideal S512x256 .bf16)
  (x3 : Vec Ideal S128x256 .bf16) (x4 : Vec Ideal S512x256 .bf16) (x5 : Vec Ideal S512x1024 .bf16) (x6 x7 : Vec Ideal S1x64 .f32)
  (x8 : Vec Ideal S4x4x512x256 .bf16) (b h : Fin 4)
  (p q : ℕ) (hp : p = 128 * b.val) (hq : q = 256 * h.val) (hw : S640x64.Slices ![p, 0] S256x64) (hr : S640x1.Slices ![p, 0] S256x1)

/-- A block of 128 rows and 256 lanes; a block of probabilities. -/
def part (x : Vec Ideal S512x1024 .bf16) (p q : ℕ) (hb : ∀ a, (![p, q] : Fin 2 → ℕ) a + S128x256.size a ≤ S512x1024.size a) : FVec Ideal S128x256 .bf16 :=
  View.ld (Val := Elt Ideal) (e' := .bf16) x (Rect.unit (s := S512x1024) ![p, q] S128x256.size hb)
def part4 (x : Vec Ideal S4x4x512x256 .bf16) (p q : ℕ) (hb : ∀ a, (![p / 128, q / 256, 0, 0] : Fin 4 → ℕ) a + S1x1x512x256.size a ≤ S4x4x512x256.size a) :
    FVec Ideal S1x1x512x256 .bf16 :=
  View.ld (Val := Elt Ideal) (e' := .bf16) x (Rect.unit (s := S4x4x512x256) ![p / 128, q / 256, 0, 0] S1x1x512x256.size hb)

include hp hq in
theorem heads_part (hb) (t : Fin 512) (d : Fin 64) : heads (part x0 p q hb) (ix2 t d) = rows x0 b h t d := by
  subst hp hq
  rw [heads_entry]
  exact View.ld_unit_apply_of x0 _ _ _ _ _ fun a => by
    match a with
    | ⟨0, _⟩ => rfl
    | ⟨1, _⟩ => rfl

include hp hq in
theorem probs_part (hb) (t : Fin 512) (j : Fin 256) :
    shapeCast S512x256 (part4 x8 p q hb) shapeCasts_S1x1x512x256_S512x256 (ix2 t j) = probs x8 b h t j := by
  subst hp hq
  pointwise []
  exact View.ld_unit_apply_of x8 _ _ _ _ (ix4 b h t j) fun a => by
    match a with
    | ⟨0, _⟩ => exact (Nat.mul_div_cancel_left b.val (by decide : 0 < 128)).symm
    | ⟨1, _⟩ => exact (Nat.mul_div_cancel_left h.val (by decide : 0 < 256)).symm
    | ⟨2, _⟩ => exact (Nat.zero_add _).symm
    | ⟨3, _⟩ => exact (Nat.zero_add _).symm

include hp hq in
theorem window_part (hl : p ≤ 384) (j : Fin 256) (d : Fin 64) : window (sel (q / 4)) x1 x2 (ix2 (low p hl j) d) = keys x1 x2 b h j d := by
  subst hp hq
  rw [show 256 * h.val / 4 = 64 * h.val by omega, window_entry _ (by omega)]
  rfl

include hp hq in
theorem scores_part (hl : p ≤ 384) (hb hb') (t : Fin 512) (j : Fin 256) :
    scores (q / 4) (part x5 p q hb) x3 x4 (part4 x8 p q hb') p hw (ix2 t j)
      = slope (rows x5 b h) (keys x3 x4 b h) (probs x8 b h) t j := by
  unfold scores
  rw [slopes_entry _ _ _ _ _ hl]
  congr 1
  · funext t d
    pointwise []
    rw [heads_part x5 b h p q hp hq]
  · funext j d
    pointwise []
    rw [window_part x3 x4 b h p q hp hq]
  · funext t j
    exact probs_part x8 b h p q hp hq hb' t j

include hp hq in
theorem query_part (hb hb1 hb2) (i : Fin 128) (a : Fin 256) :
    queryBlock (q / 4) (part x0 p q hb) (part x5 p q hb1) x1 x3 x2 x4 (part4 x8 p q hb2) x6 x7 p hw (ix2 i a)
      = dQuery (rows x0 b h) (rows x5 b h) (keys x1 x2 b h) (keys x3 x4 b h) (probs x8 b h) (gain x6) (gain x7)
        ⟨a.val / 64 * 128 + i.val, by omega⟩ ⟨a.val % 64, by omega⟩ := by
  have hl : p ≤ 384 := by omega
  unfold queryBlock dQuery
  rw [put_entry, queryBack_entry]
  congr 1
  · funext d
    exact heads_part x0 b h p q hp hq hb _ d
  · funext d
    rw [queryNorms_entry _ _ _ hl]
    unfold dNormQuery
    refine Finset.sum_congr rfl fun j _ => ?_
    rw [scores_part x3 x4 x5 x8 b h p q hp hq hw hl, norms'_entry]
    congr 2
    funext d
    exact window_part x1 x2 b h p q hp hq hl j d

include hp hq in
theorem key_part (hb hb1 hb2) (j : Fin 256) (d : Fin 64) :
    keyBlock (q / 4) (part x0 p q hb) (part x5 p q hb1) x1 x3 x2 x4 (part4 x8 p q hb2) x6 x7 p hw hr (ix2 j d)
      = dKey (rows x0 b h) (rows x5 b h) (keys x1 x2 b h) (keys x3 x4 b h) (probs x8 b h) (gain x6) (gain x7) j d := by
  have hl : p ≤ 384 := by omega
  unfold keyBlock dKey
  rw [keyBack_entry _ _ _ hl]
  congr 1
  · funext d
    exact window_part x1 x2 b h p q hp hq hl j d
  · funext d
    rw [keyNorms_entry]
    unfold dNormKey
    refine Finset.sum_congr rfl fun t _ => ?_
    rw [scores_part x3 x4 x5 x8 b h p q hp hq hw hl, norms_entry]
    congr 2
    funext d
    exact heads_part x0 b h p q hp hq hb t d

include hp hq in
theorem value_part (hb1 hb2) (j : Fin 256) (d : Fin 64) :
    valueBlock (part x5 p q hb1) (part4 x8 p q hb2) (ix2 j d) = dValue (rows x5 b h) (probs x8 b h) j d := by
  unfold valueBlock
  rw [values_entry]
  congr 1
  · funext t d
    pointwise []
    rw [heads_part x5 b h p q hp hq]
  · funext t j
    exact probs_part x8 b h p q hp hq hb2 t j

end Entries

section Stores

variable (x0 : Vec Ideal S512x1024 .bf16) (x1 : Vec Ideal S128x256 .bf16) (x2 : Vec Ideal S512x256 .bf16)
  (x3 : Vec Ideal S128x256 .bf16) (x4 : Vec Ideal S512x256 .bf16) (x5 : Vec Ideal S512x1024 .bf16) (x6 x7 : Vec Ideal S1x64 .f32)
  (x8 : Vec Ideal S4x4x512x256 .bf16) (x9 : Vec Ideal S4x4x512x1 .f32)

/-- A store of queries' gradients, at the row and the lane that its place gives. -/
theorem query_at (p q : ℕ) (hp : p % 128 = 0 ∧ p ≤ 384) (hq : q % 256 = 0 ∧ q ≤ 768) (x : S128x256.Idx) (y : S512x1024.Idx)
    (h0 : (y 0).val = p + (x 0).val) (h1 : (y 1).val = q + (x 1).val) (hw) (hb hb1 hb2) (P : FVec Ideal S128x256 .bf16)
    (hP : P = queryBlock (q / 4) (part x0 p q hb) (part x5 p q hb1) x1 x3 x2 x4 (part4 x8 p q hb2) x6 x7 p hw) (v : EReal)
    (hv : ∀ (b h : Fin 4) (i : Fin 128) (a : Fin 256), (y 0).val = 128 * b.val + i.val → (y 1).val = 256 * h.val + a.val →
      dQuery (rows x0 b h) (rows x5 b h) (keys x1 x2 b h) (keys x3 x4 b h) (probs x8 b h) (gain x6) (gain x7)
        ⟨a.val / 64 * 128 + i.val, by omega⟩ ⟨a.val % 64, by omega⟩ = v) : P x = v := by
  subst hP
  rw [eq_of_coords2 x (x 0) (x 1) rfl rfl]
  have hx0 : (x 0).val < 128 := (x 0).isLt
  have hx1 : (x 1).val < 256 := (x 1).isLt
  exact (query_part x0 x1 x2 x3 x4 x5 x6 x7 x8 ⟨p / 128, by omega⟩ ⟨q / 256, by omega⟩ p q (by dsimp only; omega) (by dsimp only; omega) hw hb hb1 hb2 (x 0) (x 1)).trans
    (hv _ _ (x 0) (x 1) (by dsimp only; omega) (by dsimp only; omega))

variable (c : Dev nD) (i : grid0.Coords)

set_option maxHeartbeats 1000000 in
theorem query_entry (a1 w1 a2 w2 a3 w3 a4 w4 a5 w5 a6 w6 a7 w7 a8 w8 a9 w9 a10 w10 a11 w11 a12 w12 a13 w13 a14 w14 a15 w15 a16 w16 hc0)
    (y : S512x1024.Idx) (v : EReal)
    (hv : ∀ (b h : Fin 4) (i : Fin 128) (a : Fin 256), (y 0).val = 128 * b.val + i.val → (y 1).val = 256 * h.val + a.val →
      dQuery (rows x0 b h) (rows x5 b h) (keys x1 x2 b h) (keys x3 x4 b h) (probs x8 b h) (gain x6) (gain x7)
        ⟨a.val / 64 * 128 + i.val, by omega⟩ ⟨a.val % 64, by omega⟩ = v) :
    out0_A_10 (F := Ideal) c i a1 w1 a2 w2 a3 w3 a4 w4 a5 w5 a6 w6 a7 w7 a8 w8 a9 w9 a10 w10 a11 w11 a12 w12 a13 w13 a14 w14 a15 w15 a16 w16 hc0 x0 x1 x2 x3 x4 x5 x6 x7 x8 x9 y = v := by
  unfold out0_A_10
  rw [View.read_writes_eq_canon _ _ _ (cover0_A_10 (F := Ideal) c i a1 w1 a2 w2 a3 w3 a4 w4 a5 w5 a6 w6 a7 w7 a8 w8 a9 w9 a10 w10 a11 w11 a12 w12 a13 w13 a14 w14 a15 w15 a16 w16 hc0 x0 x1 x2 x3 x4 x5 x6 x7 x8 x9)]
  have hc := cover0_A_10 (F := Ideal) c i a1 w1 a2 w2 a3 w3 a4 w4 a5 w5 a6 w6 a7 w7 a8 w8 a9 w9 a10 w10 a11 w11 a12 w12 a13 w13 a14 w14 a15 w15 a16 w16 hc0 x0 x1 x2 x3 x4 x5 x6 x7 x8 x9 y
  revert hc
  unfold kernelRun0_A
  dsimp only
  sl_unfold_words
  simp only [View.readAt_eq_ld, w1.read_unread, w2.read_unread, w3.read_unread, w4.read_unread, w5.read_unread,
    w6.read_unread, w7.read_unread, w8.read_unread, w9.read_unread, View.ld_unit_zero (S := S128x256) hz, View.ld_unit_zero (S := S512x256) hz,
    View.ld_unit_zero (S := S1x64) hz]
  intro hc
  canon_tiles x h using hc
  all_goals
    clear hc
    first
    | exact query_at x0 x1 x2 x3 x4 x5 x6 x7 x8 _ _ (by decide) (by decide) x y h0 h1 _ _ _ _ _ rfl v hv
    | exact query_at x0 x1 x2 x3 x4 x5 x6 x7 x8 _ _ (by decide) (by decide) x y (h0.trans (Nat.zero_add _).symm) h1 _ _ _ _ _ rfl v hv
    | exact query_at x0 x1 x2 x3 x4 x5 x6 x7 x8 _ _ (by decide) (by decide) x y h0 (h1.trans (Nat.zero_add _).symm) _ _ _ _ _ rfl v hv
    | exact query_at x0 x1 x2 x3 x4 x5 x6 x7 x8 _ _ (by decide) (by decide) x y (h0.trans (Nat.zero_add _).symm) (h1.trans (Nat.zero_add _).symm) _ _ _ _ _ rfl v hv

set_option maxHeartbeats 1000000 in
theorem query_entry' (a1 w1 a2 w2 a3 w3 a4 w4 a5 w5 a6 w6 a7 w7 a8 w8 a9 w9 a10 w10 a11 w11 a12 w12 a13 w13 a14 w14 a15 w15 a16 w16 hc0 xo12 xo13 xo14 xo15)
    (y : S512x1024.Idx) (v : EReal)
    (hv : ∀ (b h : Fin 4) (i : Fin 128) (a : Fin 256), (y 0).val = 128 * b.val + i.val → (y 1).val = 256 * h.val + a.val →
      dQuery (rows x0 b h) (rows x5 b h) (keys x1 x2 b h) (keys x3 x4 b h) (probs x8 b h) (gain x6) (gain x7)
        ⟨a.val / 64 * 128 + i.val, by omega⟩ ⟨a.val % 64, by omega⟩ = v) :
    out0_B_10 (F := Ideal) c i a1 w1 a2 w2 a3 w3 a4 w4 a5 w5 a6 w6 a7 w7 a8 w8 a9 w9 a10 w10 a11 w11 a12 w12 a13 w13 a14 w14 a15 w15 a16 w16 hc0 x0 x1 x2 x3 x4 x5 x6 x7 x8 x9 xo12 xo13 xo14 xo15 y = v := by
  unfold out0_B_10
  rw [View.read_writes_eq_canon _ _ _ (cover0_B_10 (F := Ideal) c i a1 w1 a2 w2 a3 w3 a4 w4 a5 w5 a6 w6 a7 w7 a8 w8 a9 w9 a10 w10 a11 w11 a12 w12 a13 w13 a14 w14 a15 w15 a16 w16 hc0 x0 x1 x2 x3 x4 x5 x6 x7 x8 x9 xo12 xo13 xo14 xo15)]
  have hc := cover0_B_10 (F := Ideal) c i a1 w1 a2 w2 a3 w3 a4 w4 a5 w5 a6 w6 a7 w7 a8 w8 a9 w9 a10 w10 a11 w11 a12 w12 a13 w13 a14 w14 a15 w15 a16 w16 hc0 x0 x1 x2 x3 x4 x5 x6 x7 x8 x9 xo12 xo13 xo14 xo15 y
  revert hc
  unfold kernelRun0_B
  dsimp only
  sl_unfold_words
  simp only [View.readAt_eq_ld, w1.read_unread, w2.read_unread, w3.read_unread, w4.read_unread, w5.read_unread,
    w6.read_unread, w7.read_unread, w8.read_unread, w9.read_unread, View.ld_unit_zero (S := S128x256) hz, View.ld_unit_zero (S := S512x256) hz,
    View.ld_unit_zero (S := S1x64) hz]
  intro hc
  canon_tiles x h using hc
  all_goals
    clear hc
    first
    | exact query_at x0 x1 x2 x3 x4 x5 x6 x7 x8 _ _ (by decide) (by decide) x y h0 h1 _ _ _ _ _ rfl v hv
    | exact query_at x0 x1 x2 x3 x4 x5 x6 x7 x8 _ _ (by decide) (by decide) x y (h0.trans (Nat.zero_add _).symm) h1 _ _ _ _ _ rfl v hv
    | exact query_at x0 x1 x2 x3 x4 x5 x6 x7 x8 _ _ (by decide) (by decide) x y h0 (h1.trans (Nat.zero_add _).symm) _ _ _ _ _ rfl v hv
    | exact query_at x0 x1 x2 x3 x4 x5 x6 x7 x8 _ _ (by decide) (by decide) x y (h0.trans (Nat.zero_add _).symm) (h1.trans (Nat.zero_add _).symm) _ _ _ _ _ rfl v hv

end Stores
end Cert.Attn.Tile

end
-- ==== Proof.Attn.Pair.lean ====
/-
  What the kernel stores at an index of its second output block, the keys' and values' gradients side by side, from the
  tile's own input blocks.
-/
module

public import proofs.«01_k».proof.Proof.Attn.Tile

@[expose] public section

set_option maxRecDepth 16384

noncomputable section

open Idealize.ShloMosaic Idealize.ShloMosaic.TcCoe Idealize.SL.Sem Idealize.ShloMosaic.Tactic
open Cert.Coords

namespace Cert.Attn.Pair

open Cert.Kernel18Ideal Cert.Kernel18Ideal.Gen Cert.Attn.Parts Cert.Attn.Tile

/-- Four heads' rows, put side by side; half of each head's rows. -/
def beside (A B C D : FVec Ideal S128x64 .f32) : FVec Ideal S1x1x128x256 .bf16 :=
  shapeCast S1x1x128x256 (put (concatenate S512x64 0 [⟨S128x64, A⟩, ⟨S128x64, B⟩, ⟨S128x64, C⟩, ⟨S128x64, D⟩]
    concatenates_S128x64_S128x64_S128x64_S128x64_S512x64_d0)) shapeCasts_S128x256_S1x1x128x256
def half (r : ℕ) (hs : S256x64.Slices ![r, 0] S128x64) (f : FVec Ideal S256x64 .f32) : FVec Ideal S128x64 .f32 :=
  extractStridedSlice S128x64 ![r, 0] f hs
def stack (r : ℕ) (hs : S256x64.Slices ![r, 0] S128x64) (f : Fin 4 → FVec Ideal S256x64 .f32) : FVec Ideal S1x1x128x256 .bf16 :=
  beside (half r hs (f 0)) (half r hs (f 1)) (half r hs (f 2)) (half r hs (f 3))

theorem stack_entry (r : ℕ) (hs) (f : Fin 4 → FVec Ideal S256x64 .f32) (g : Fin 4 → Fin 256 → Fin 64 → EReal)
    (hf : ∀ h j d, f h (ix2 j d) = g h j d) (hr : r ≤ 128) (i : Fin 128) (a : Fin 256) :
    stack r hs f (ix4 (0 : Fin 1) (0 : Fin 1) i a) = g ⟨a.val / 64, by omega⟩ ⟨r + i.val, by omega⟩ ⟨a.val % 64, by omega⟩ := by
  pointwise [stack, beside]
  rw [put_entry]
  pointwise [half]
  have ha := a.isLt
  obtain h | h | h | h : a.val / 64 = 0 ∨ a.val / 64 = 1 ∨ a.val / 64 = 2 ∨ a.val / 64 = 3 := by omega
  · rw [dif_pos (by omega), hf]
    exact congrArg₂ (fun h j => g h j _) (Fin.ext h.symm) (Fin.ext (by dsimp only; omega))
  · rw [dif_neg (by omega), dif_pos (by omega), hf]
    exact congrArg₂ (fun h j => g h j _) (Fin.ext h.symm) (Fin.ext (by dsimp only; omega))
  · rw [dif_neg (by omega), dif_neg (by omega), dif_pos (by omega), hf]
    exact congrArg₂ (fun h j => g h j _) (Fin.ext h.symm) (Fin.ext (by dsimp only; omega))
  · rw [dif_neg (by omega), dif_neg (by omega), dif_neg (by omega), hf]
    exact congrArg₂ (fun h j => g h j _) (Fin.ext h.symm) (Fin.ext (by dsimp only; omega))

theorem inb (b : ℕ) (hb : b < 4) (h : Fin 4) (a : Fin 2) : (![128 * b, 256 * h.val] : Fin 2 → ℕ) a + S128x256.size a ≤ S512x1024.size a := by
  match a with
  | ⟨0, _⟩ => exact (by omega : 128 * b + 128 ≤ 512)
  | ⟨1, _⟩ => exact (by omega : 256 * h.val + 256 ≤ 1024)
theorem inb4 (b : ℕ) (hb : b < 4) (h : Fin 4) (a : Fin 4) :
    (![128 * b / 128, 256 * h.val / 256, 0, 0] : Fin 4 → ℕ) a + S1x1x512x256.size a ≤ S4x4x512x256.size a := by
  match a with
  | ⟨0, _⟩ => exact (by omega : 128 * b / 128 + 1 ≤ 4)
  | ⟨1, _⟩ => exact (by omega : 256 * h.val / 256 + 1 ≤ 4)
  | ⟨2, _⟩ => exact le_refl 512
  | ⟨3, _⟩ => exact le_refl 256

section Stores

variable (x0 : Vec Ideal S512x1024 .bf16) (x1 : Vec Ideal S128x256 .bf16) (x2 : Vec Ideal S512x256 .bf16)
  (x3 : Vec Ideal S128x256 .bf16) (x4 : Vec Ideal S512x256 .bf16) (x5 : Vec Ideal S512x1024 .bf16) (x6 x7 : Vec Ideal S1x64 .f32)
  (x8 : Vec Ideal S4x4x512x256 .bf16) (x9 : Vec Ideal S4x4x512x1 .f32)

/-- A store of keys' gradients, and one of values' gradients, at the indices that its place gives. -/
theorem key_at (b u : ℕ) (hb : b < 4) (hu : u < 2) (x : S1x1x128x256.Idx) (y : S4x2x128x512.Idx)
    (h0 : (y 0).val = b + (x 0).val) (h1 : (y 1).val = u + (x 1).val) (h2 : (y 2).val = (x 2).val) (h3 : (y 3).val = (x 3).val)
    (hs) (hw) (hr) (f : Fin 4 → FVec Ideal S256x64 .f32)
    (hf : f = fun h => keyBlock (256 * h.val / 4) (part x0 (128 * b) (256 * h.val) (inb b hb h))
      (part x5 (128 * b) (256 * h.val) (inb b hb h)) x1 x3 x2 x4 (part4 x8 (128 * b) (256 * h.val) (inb4 b hb h)) x6 x7 (128 * b) hw hr)
    (P : FVec Ideal S1x1x128x256 .bf16) (A B C D : FVec Ideal S128x64 .f32) (hP : P = beside A B C D)
    (hA : A = half (128 * u) hs (f 0)) (hB : B = half (128 * u) hs (f 1)) (hC : C = half (128 * u) hs (f 2)) (hD : D = half (128 * u) hs (f 3)) (v : EReal)
    (hv : ∀ (b : Fin 4) (u : Fin 2) (i : Fin 128) (h : Fin 4) (d : Fin 64), (y 0).val = b.val → (y 1).val = u.val → (y 2).val = i.val →
      (y 3).val = 64 * h.val + d.val → dKey (rows x0 b h) (rows x5 b h) (keys x1 x2 b h) (keys x3 x4 b h) (probs x8 b h) (gain x6) (gain x7)
        ⟨128 * u.val + i.val, by omega⟩ d = v) : P x = v := by
  have e0 : (x 0).val < 1 := (x 0).isLt
  have e1 : (x 1).val < 1 := (x 1).isLt
  have e3 : (x 3).val < 256 := (x 3).isLt
  rw [hP, hA, hB, hC, hD, hf]
  refine ((congrArg _ (eq_of_coords4 x (0 : Fin 1) (0 : Fin 1) (x 2) (x 3) (by omega) (by omega) rfl rfl)).trans
    (stack_entry (128 * u) hs _ _ (fun h j d => key_part x0 x1 x2 x3 x4 x5 x6 x7 x8 ⟨b, hb⟩ h (128 * b) (256 * h.val) rfl rfl hw hr _ _ _ j d)
      (by omega) (x 2) (x 3))).trans ?_
  exact hv ⟨b, hb⟩ ⟨u, hu⟩ (x 2) ⟨(x 3).val / 64, by omega⟩ ⟨(x 3).val % 64, by omega⟩ (by dsimp only; omega) (by dsimp only; omega) h2
    (by dsimp only; omega)
theorem value_at (b u : ℕ) (hb : b < 4) (hu : u < 2) (x : S1x1x128x256.Idx) (y : S4x2x128x512.Idx)
    (h0 : (y 0).val = b + (x 0).val) (h1 : (y 1).val = u + (x 1).val) (h2 : (y 2).val = (x 2).val) (h3 : (y 3).val = 256 + (x 3).val)
    (hs) (f : Fin 4 → FVec Ideal S256x64 .f32)
    (hf : f = fun h => valueBlock (part x5 (128 * b) (256 * h.val) (inb b hb h)) (part4 x8 (128 * b) (256 * h.val) (inb4 b hb h)))
    (P : FVec Ideal S1x1x128x256 .bf16) (A B C D : FVec Ideal S128x64 .f32) (hP : P = beside A B C D)
    (hA : A = half (128 * u) hs (f 0)) (hB : B = half (128 * u) hs (f 1)) (hC : C = half (128 * u) hs (f 2)) (hD : D = half (128 * u) hs (f 3)) (v : EReal)
    (hv : ∀ (b : Fin 4) (u : Fin 2) (i : Fin 128) (h : Fin 4) (d : Fin 64), (y 0).val = b.val → (y 1).val = u.val → (y 2).val = i.val →
      (y 3).val = 256 + (64 * h.val + d.val) → dValue (rows x5 b h) (probs x8 b h) ⟨128 * u.val + i.val, by omega⟩ d = v) : P x = v := by
  have e0 : (x 0).val < 1 := (x 0).isLt
  have e1 : (x 1).val < 1 := (x 1).isLt
  have e3 : (x 3).val < 256 := (x 3).isLt
  rw [hP, hA, hB, hC, hD, hf]
  refine ((congrArg _ (eq_of_coords4 x (0 : Fin 1) (0 : Fin 1) (x 2) (x 3) (by omega) (by omega) rfl rfl)).trans
    (stack_entry (128 * u) hs _ _ (fun h j d => value_part x5 x8 ⟨b, hb⟩ h (128 * b) (256 * h.val) rfl rfl _ _ j d)
      (by omega) (x 2) (x 3))).trans ?_
  exact hv ⟨b, hb⟩ ⟨u, hu⟩ (x 2) ⟨(x 3).val / 64, by omega⟩ ⟨(x 3).val % 64, by omega⟩ (by dsimp only; omega) (by dsimp only; omega) h2
    (by dsimp only; omega)

variable (c : Dev nD) (i : grid0.Coords)

end Stores
end Cert.Attn.Pair

end
-- ==== Proof.Attn.Store.lean ====
/-
  What the kernel stores in its second output block, in the first step and in a later one.
-/
module

public import proofs.«01_k».proof.Proof.Attn.Pair

@[expose] public section

set_option maxRecDepth 16384

noncomputable section

open Idealize.ShloMosaic Idealize.ShloMosaic.TcCoe Idealize.SL.Sem Idealize.ShloMosaic.Tactic
open Cert.Coords

namespace Cert.Attn.Pair

open Cert.Kernel18Ideal Cert.Kernel18Ideal.Gen Cert.Attn.Parts Cert.Attn.Tile

variable (x0 : Vec Ideal S512x1024 .bf16) (x1 : Vec Ideal S128x256 .bf16) (x2 : Vec Ideal S512x256 .bf16)
  (x3 : Vec Ideal S128x256 .bf16) (x4 : Vec Ideal S512x256 .bf16) (x5 : Vec Ideal S512x1024 .bf16) (x6 x7 : Vec Ideal S1x64 .f32)
  (x8 : Vec Ideal S4x4x512x256 .bf16) (x9 : Vec Ideal S4x4x512x1 .f32)
variable (c : Dev nD) (i : grid0.Coords)

set_option maxHeartbeats 1000000 in
theorem pair_entry (a1 w1 a2 w2 a3 w3 a4 w4 a5 w5 a6 w6 a7 w7 a8 w8 a9 w9 a10 w10 a11 w11 a12 w12 a13 w13 a14 w14 a15 w15 a16 w16 hc0)
    (y : S4x2x128x512.Idx) (v : EReal)
    (hk : ∀ (b : Fin 4) (u : Fin 2) (i : Fin 128) (h : Fin 4) (d : Fin 64), (y 0).val = b.val → (y 1).val = u.val → (y 2).val = i.val →
      (y 3).val = 64 * h.val + d.val → dKey (rows x0 b h) (rows x5 b h) (keys x1 x2 b h) (keys x3 x4 b h) (probs x8 b h) (gain x6) (gain x7)
        ⟨128 * u.val + i.val, by omega⟩ d = v)
    (hv : ∀ (b : Fin 4) (u : Fin 2) (i : Fin 128) (h : Fin 4) (d : Fin 64), (y 0).val = b.val → (y 1).val = u.val → (y 2).val = i.val →
      (y 3).val = 256 + (64 * h.val + d.val) → dValue (rows x5 b h) (probs x8 b h) ⟨128 * u.val + i.val, by omega⟩ d = v) :
    out0_A_11 (F := Ideal) c i a1 w1 a2 w2 a3 w3 a4 w4 a5 w5 a6 w6 a7 w7 a8 w8 a9 w9 a10 w10 a11 w11 a12 w12 a13 w13 a14 w14 a15 w15 a16 w16 hc0 x0 x1 x2 x3 x4 x5 x6 x7 x8 x9 y = v := by
  unfold out0_A_11
  rw [View.read_writes_eq_canon _ _ _ (cover0_A_11 (F := Ideal) c i a1 w1 a2 w2 a3 w3 a4 w4 a5 w5 a6 w6 a7 w7 a8 w8 a9 w9 a10 w10 a11 w11 a12 w12 a13 w13 a14 w14 a15 w15 a16 w16 hc0 x0 x1 x2 x3 x4 x5 x6 x7 x8 x9)]
  have hc := cover0_A_11 (F := Ideal) c i a1 w1 a2 w2 a3 w3 a4 w4 a5 w5 a6 w6 a7 w7 a8 w8 a9 w9 a10 w10 a11 w11 a12 w12 a13 w13 a14 w14 a15 w15 a16 w16 hc0 x0 x1 x2 x3 x4 x5 x6 x7 x8 x9 y
  revert hc
  unfold kernelRun0_A
  dsimp only
  sl_unfold_words
  simp only [View.readAt_eq_ld, w1.read_unread, w2.read_unread, w3.read_unread, w4.read_unread, w5.read_unread,
    w6.read_unread, w7.read_unread, w8.read_unread, w9.read_unread, View.ld_unit_zero (S := S128x256) hz, View.ld_unit_zero (S := S512x256) hz,
    View.ld_unit_zero (S := S1x64) hz]
  intro hc
  canon_tiles x h using hc
  all_goals clear hc
  case piece15 => refine key_at x0 x1 x2 x3 x4 x5 x6 x7 x8 0 0 (by decide) (by decide) x y (h0.trans (Nat.zero_add _).symm) (h1.trans (Nat.zero_add _).symm) h2 h3 (by decide) (by decide) (by decide) _ rfl _ _ _ _ _ rfl ?_ ?_ ?_ ?_ v hk <;> rfl
  case piece14 => refine value_at x5 x8 0 0 (by decide) (by decide) x y (h0.trans (Nat.zero_add _).symm) (h1.trans (Nat.zero_add _).symm) h2 h3 (by decide) _ rfl _ _ _ _ _ rfl ?_ ?_ ?_ ?_ v hv <;> rfl
  case piece13 => refine key_at x0 x1 x2 x3 x4 x5 x6 x7 x8 0 1 (by decide) (by decide) x y (h0.trans (Nat.zero_add _).symm) h1 h2 h3 (by decide) (by decide) (by decide) _ rfl _ _ _ _ _ rfl ?_ ?_ ?_ ?_ v hk <;> rfl
  case piece12 => refine value_at x5 x8 0 1 (by decide) (by decide) x y (h0.trans (Nat.zero_add _).symm) h1 h2 h3 (by decide) _ rfl _ _ _ _ _ rfl ?_ ?_ ?_ ?_ v hv <;> rfl
  case piece11 => refine key_at x0 x1 x2 x3 x4 x5 x6 x7 x8 1 0 (by decide) (by decide) x y h0 (h1.trans (Nat.zero_add _).symm) h2 h3 (by decide) (by decide) (by decide) _ rfl _ _ _ _ _ rfl ?_ ?_ ?_ ?_ v hk <;> rfl
  case piece10 => refine value_at x5 x8 1 0 (by decide) (by decide) x y h0 (h1.trans (Nat.zero_add _).symm) h2 h3 (by decide) _ rfl _ _ _ _ _ rfl ?_ ?_ ?_ ?_ v hv <;> rfl
  case piece9 => refine key_at x0 x1 x2 x3 x4 x5 x6 x7 x8 1 1 (by decide) (by decide) x y h0 h1 h2 h3 (by decide) (by decide) (by decide) _ rfl _ _ _ _ _ rfl ?_ ?_ ?_ ?_ v hk <;> rfl
  case piece8 => refine value_at x5 x8 1 1 (by decide) (by decide) x y h0 h1 h2 h3 (by decide) _ rfl _ _ _ _ _ rfl ?_ ?_ ?_ ?_ v hv <;> rfl
  case piece7 => refine key_at x0 x1 x2 x3 x4 x5 x6 x7 x8 2 0 (by decide) (by decide) x y h0 (h1.trans (Nat.zero_add _).symm) h2 h3 (by decide) (by decide) (by decide) _ rfl _ _ _ _ _ rfl ?_ ?_ ?_ ?_ v hk <;> rfl
  case piece6 => refine value_at x5 x8 2 0 (by decide) (by decide) x y h0 (h1.trans (Nat.zero_add _).symm) h2 h3 (by decide) _ rfl _ _ _ _ _ rfl ?_ ?_ ?_ ?_ v hv <;> rfl
  case piece5 => refine key_at x0 x1 x2 x3 x4 x5 x6 x7 x8 2 1 (by decide) (by decide) x y h0 h1 h2 h3 (by decide) (by decide) (by decide) _ rfl _ _ _ _ _ rfl ?_ ?_ ?_ ?_ v hk <;> rfl
  case piece4 => refine value_at x5 x8 2 1 (by decide) (by decide) x y h0 h1 h2 h3 (by decide) _ rfl _ _ _ _ _ rfl ?_ ?_ ?_ ?_ v hv <;> rfl
  case piece3 => refine key_at x0 x1 x2 x3 x4 x5 x6 x7 x8 3 0 (by decide) (by decide) x y h0 (h1.trans (Nat.zero_add _).symm) h2 h3 (by decide) (by decide) (by decide) _ rfl _ _ _ _ _ rfl ?_ ?_ ?_ ?_ v hk <;> rfl
  case piece2 => refine value_at x5 x8 3 0 (by decide) (by decide) x y h0 (h1.trans (Nat.zero_add _).symm) h2 h3 (by decide) _ rfl _ _ _ _ _ rfl ?_ ?_ ?_ ?_ v hv <;> rfl
  case piece1 => refine key_at x0 x1 x2 x3 x4 x5 x6 x7 x8 3 1 (by decide) (by decide) x y h0 h1 h2 h3 (by decide) (by decide) (by decide) _ rfl _ _ _ _ _ rfl ?_ ?_ ?_ ?_ v hk <;> rfl
  case piece0 => refine value_at x5 x8 3 1 (by decide) (by decide) x y h0 h1 h2 h3 (by decide) _ rfl _ _ _ _ _ rfl ?_ ?_ ?_ ?_ v hv <;> rfl

set_option maxHeartbeats 1000000 in
theorem pair_entry' (a1 w1 a2 w2 a3 w3 a4 w4 a5 w5 a6 w6 a7 w7 a8 w8 a9 w9 a10 w10 a11 w11 a12 w12 a13 w13 a14 w14 a15 w15 a16 w16 hc0 xo12 xo13 xo14 xo15)
    (y : S4x2x128x512.Idx) (v : EReal)
    (hk : ∀ (b : Fin 4) (u : Fin 2) (i : Fin 128) (h : Fin 4) (d : Fin 64), (y 0).val = b.val → (y 1).val = u.val → (y 2).val = i.val →
      (y 3).val = 64 * h.val + d.val → dKey (rows x0 b h) (rows x5 b h) (keys x1 x2 b h) (keys x3 x4 b h) (probs x8 b h) (gain x6) (gain x7)
        ⟨128 * u.val + i.val, by omega⟩ d = v)
    (hv : ∀ (b : Fin 4) (u : Fin 2) (i : Fin 128) (h : Fin 4) (d : Fin 64), (y 0).val = b.val → (y 1).val = u.val → (y 2).val = i.val →
      (y 3).val = 256 + (64 * h.val + d.val) → dValue (rows x5 b h) (probs x8 b h) ⟨128 * u.val + i.val, by omega⟩ d = v) :
    out0_B_11 (F := Ideal) c i a1 w1 a2 w2 a3 w3 a4 w4 a5 w5 a6 w6 a7 w7 a8 w8 a9 w9 a10 w10 a11 w11 a12 w12 a13 w13 a14 w14 a15 w15 a16 w16 hc0 x0 x1 x2 x3 x4 x5 x6 x7 x8 x9 xo12 xo13 xo14 xo15 y = v := by
  unfold out0_B_11
  rw [View.read_writes_eq_canon _ _ _ (cover0_B_11 (F := Ideal) c i a1 w1 a2 w2 a3 w3 a4 w4 a5 w5 a6 w6 a7 w7 a8 w8 a9 w9 a10 w10 a11 w11 a12 w12 a13 w13 a14 w14 a15 w15 a16 w16 hc0 x0 x1 x2 x3 x4 x5 x6 x7 x8 x9 xo12 xo13 xo14 xo15)]
  have hc := cover0_B_11 (F := Ideal) c i a1 w1 a2 w2 a3 w3 a4 w4 a5 w5 a6 w6 a7 w7 a8 w8 a9 w9 a10 w10 a11 w11 a12 w12 a13 w13 a14 w14 a15 w15 a16 w16 hc0 x0 x1 x2 x3 x4 x5 x6 x7 x8 x9 xo12 xo13 xo14 xo15 y
  revert hc
  unfold kernelRun0_B
  dsimp only
  sl_unfold_words
  simp only [View.readAt_eq_ld, w1.read_unread, w2.read_unread, w3.read_unread, w4.read_unread, w5.read_unread,
    w6.read_unread, w7.read_unread, w8.read_unread, w9.read_unread, View.ld_unit_zero (S := S128x256) hz, View.ld_unit_zero (S := S512x256) hz,
    View.ld_unit_zero (S := S1x64) hz]
  intro hc
  canon_tiles x h using hc
  all_goals clear hc
  case piece15 => refine key_at x0 x1 x2 x3 x4 x5 x6 x7 x8 0 0 (by decide) (by decide) x y (h0.trans (Nat.zero_add _).symm) (h1.trans (Nat.zero_add _).symm) h2 h3 (by decide) (by decide) (by decide) _ rfl _ _ _ _ _ rfl ?_ ?_ ?_ ?_ v hk <;> rfl
  case piece14 => refine value_at x5 x8 0 0 (by decide) (by decide) x y (h0.trans (Nat.zero_add _).symm) (h1.trans (Nat.zero_add _).symm) h2 h3 (by decide) _ rfl _ _ _ _ _ rfl ?_ ?_ ?_ ?_ v hv <;> rfl
  case piece13 => refine key_at x0 x1 x2 x3 x4 x5 x6 x7 x8 0 1 (by decide) (by decide) x y (h0.trans (Nat.zero_add _).symm) h1 h2 h3 (by decide) (by decide) (by decide) _ rfl _ _ _ _ _ rfl ?_ ?_ ?_ ?_ v hk <;> rfl
  case piece12 => refine value_at x5 x8 0 1 (by decide) (by decide) x y (h0.trans (Nat.zero_add _).symm) h1 h2 h3 (by decide) _ rfl _ _ _ _ _ rfl ?_ ?_ ?_ ?_ v hv <;> rfl
  case piece11 => refine key_at x0 x1 x2 x3 x4 x5 x6 x7 x8 1 0 (by decide) (by decide) x y h0 (h1.trans (Nat.zero_add _).symm) h2 h3 (by decide) (by decide) (by decide) _ rfl _ _ _ _ _ rfl ?_ ?_ ?_ ?_ v hk <;> rfl
  case piece10 => refine value_at x5 x8 1 0 (by decide) (by decide) x y h0 (h1.trans (Nat.zero_add _).symm) h2 h3 (by decide) _ rfl _ _ _ _ _ rfl ?_ ?_ ?_ ?_ v hv <;> rfl
  case piece9 => refine key_at x0 x1 x2 x3 x4 x5 x6 x7 x8 1 1 (by decide) (by decide) x y h0 h1 h2 h3 (by decide) (by decide) (by decide) _ rfl _ _ _ _ _ rfl ?_ ?_ ?_ ?_ v hk <;> rfl
  case piece8 => refine value_at x5 x8 1 1 (by decide) (by decide) x y h0 h1 h2 h3 (by decide) _ rfl _ _ _ _ _ rfl ?_ ?_ ?_ ?_ v hv <;> rfl
  case piece7 => refine key_at x0 x1 x2 x3 x4 x5 x6 x7 x8 2 0 (by decide) (by decide) x y h0 (h1.trans (Nat.zero_add _).symm) h2 h3 (by decide) (by decide) (by decide) _ rfl _ _ _ _ _ rfl ?_ ?_ ?_ ?_ v hk <;> rfl
  case piece6 => refine value_at x5 x8 2 0 (by decide) (by decide) x y h0 (h1.trans (Nat.zero_add _).symm) h2 h3 (by decide) _ rfl _ _ _ _ _ rfl ?_ ?_ ?_ ?_ v hv <;> rfl
  case piece5 => refine key_at x0 x1 x2 x3 x4 x5 x6 x7 x8 2 1 (by decide) (by decide) x y h0 h1 h2 h3 (by decide) (by decide) (by decide) _ rfl _ _ _ _ _ rfl ?_ ?_ ?_ ?_ v hk <;> rfl
  case piece4 => refine value_at x5 x8 2 1 (by decide) (by decide) x y h0 h1 h2 h3 (by decide) _ rfl _ _ _ _ _ rfl ?_ ?_ ?_ ?_ v hv <;> rfl
  case piece3 => refine key_at x0 x1 x2 x3 x4 x5 x6 x7 x8 3 0 (by decide) (by decide) x y h0 (h1.trans (Nat.zero_add _).symm) h2 h3 (by decide) (by decide) (by decide) _ rfl _ _ _ _ _ rfl ?_ ?_ ?_ ?_ v hk <;> rfl
  case piece2 => refine value_at x5 x8 3 0 (by decide) (by decide) x y h0 (h1.trans (Nat.zero_add _).symm) h2 h3 (by decide) _ rfl _ _ _ _ _ rfl ?_ ?_ ?_ ?_ v hv <;> rfl
  case piece1 => refine key_at x0 x1 x2 x3 x4 x5 x6 x7 x8 3 1 (by decide) (by decide) x y h0 h1 h2 h3 (by decide) (by decide) (by decide) _ rfl _ _ _ _ _ rfl ?_ ?_ ?_ ?_ v hk <;> rfl
  case piece0 => refine value_at x5 x8 3 1 (by decide) (by decide) x y h0 h1 h2 h3 (by decide) _ rfl _ _ _ _ _ rfl ?_ ?_ ?_ ?_ v hv <;> rfl

end Cert.Attn.Pair

end
-- ==== Proof.Attn.Whole.lean ====
/-
  The two arrays the kernel leaves, entry by entry, from the arrays it is called with: the gradient of the queries, and the
  keys' and values' gradients that each block of queries sends to its own block and to the one before.
-/
module

public import proofs.«01_k».proof.Proof.Attn.Store

@[expose] public section

set_option maxRecDepth 16384

noncomputable section

open Idealize.ShloMosaic Idealize.ShloMosaic.TcCoe Idealize.SL.Sem Idealize.ShloMosaic.Tactic
open Idealize.ShloMosaic.Pipeline (Dat Window)
open Cert.Coords

namespace Cert.Attn

/-- A block's rows of queries and of the output's gradient for a key head, four query heads one after the other. -/
def queriesOf (P : FVec Ideal ⟨2, ![4096, 5632]⟩ .bf16) (n : Fin 32) (h : Fin 4) (t : Fin 512) (d : Fin 64) : EReal :=
  P (ix2 (⟨128 * n.val + t.val % 128, by omega⟩ : Fin 4096) (⟨2048 + (256 * h.val + (64 * (t.val / 128) + d.val)), by omega⟩ : Fin 5632))
def gradsOf (D : FVec Ideal ⟨2, ![4096, 1024]⟩ .bf16) (n : Fin 32) (h : Fin 4) (t : Fin 512) (d : Fin 64) : EReal :=
  D (ix2 (⟨128 * n.val + t.val % 128, by omega⟩ : Fin 4096) (⟨256 * h.val + (64 * (t.val / 128) + d.val), by omega⟩ : Fin 1024))

/-- The rows a block's keys and values are at: the block before (the first block's own, for the first), then its own. -/
def place (n j : ℕ) : ℕ := if j < 128 then 128 * (n - 1) + j else 128 * n + (j - 128)
theorem place_lt (n : Fin 32) (j : Fin 256) : place n.val j.val < 4096 := by unfold place; split <;> omega

def keysOf (P : FVec Ideal ⟨2, ![4096, 5632]⟩ .bf16) (n : Fin 32) (h : Fin 4) (j : Fin 256) (d : Fin 64) : EReal :=
  P (ix2 (⟨place n.val j.val, place_lt n j⟩ : Fin 4096) (⟨3072 + (64 * h.val + d.val), by omega⟩ : Fin 5632))
def valuesOf (P : FVec Ideal ⟨2, ![4096, 5632]⟩ .bf16) (n : Fin 32) (h : Fin 4) (j : Fin 256) (d : Fin 64) : EReal :=
  P (ix2 (⟨place n.val j.val, place_lt n j⟩ : Fin 4096) (⟨3328 + (64 * h.val + d.val), by omega⟩ : Fin 5632))
def probsOf (W : FVec Ideal ⟨4, ![32, 4, 512, 256]⟩ .bf16) (n : Fin 32) (h : Fin 4) (t : Fin 512) (j : Fin 256) : EReal := W (ix4 n h t j)
def gainOf (g : FVec Ideal ⟨2, ![1, 64]⟩ .f32) (d : Fin 64) : EReal := g (ix2 (0 : Fin 1) d)

namespace Whole

open Cert.Kernel18Ideal Cert.Kernel18Ideal.Gen Cert.Attn.Tile Cert.Attn.Pair

theorem where0 : ∀ t : Fin cfg0.N, win0_0.index t 0 = t.val ∧ win0_0.index t 1 = 2 :=
  (by decide +kernel : ∀ t : Fin grid0.N, win0_0.index t 0 = t.val ∧ win0_0.index t 1 = 2)
theorem where1 : ∀ t : Fin cfg0.N, win0_1.index t 0 = 4 * t.val - 1 ∧ win0_1.index t 1 = 12 :=
  (by decide +kernel : ∀ t : Fin grid0.N, win0_1.index t 0 = 4 * t.val - 1 ∧ win0_1.index t 1 = 12)
theorem where2 : ∀ t : Fin cfg0.N, win0_2.index t 0 = t.val ∧ win0_2.index t 1 = 12 :=
  (by decide +kernel : ∀ t : Fin grid0.N, win0_2.index t 0 = t.val ∧ win0_2.index t 1 = 12)
theorem where3 : ∀ t : Fin cfg0.N, win0_3.index t 0 = 4 * t.val - 1 ∧ win0_3.index t 1 = 13 :=
  (by decide +kernel : ∀ t : Fin grid0.N, win0_3.index t 0 = 4 * t.val - 1 ∧ win0_3.index t 1 = 13)
theorem where4 : ∀ t : Fin cfg0.N, win0_4.index t 0 = t.val ∧ win0_4.index t 1 = 13 :=
  (by decide +kernel : ∀ t : Fin grid0.N, win0_4.index t 0 = t.val ∧ win0_4.index t 1 = 13)
theorem where5 : ∀ t : Fin cfg0.N, win0_5.index t 0 = t.val ∧ win0_5.index t 1 = 0 :=
  (by decide +kernel : ∀ t : Fin grid0.N, win0_5.index t 0 = t.val ∧ win0_5.index t 1 = 0)
theorem where6 : ∀ t : Fin cfg0.N, win0_6.index t 0 = 0 ∧ win0_6.index t 1 = 0 :=
  (by decide +kernel : ∀ t : Fin grid0.N, win0_6.index t 0 = 0 ∧ win0_6.index t 1 = 0)
theorem where7 : ∀ t : Fin cfg0.N, win0_7.index t 0 = 0 ∧ win0_7.index t 1 = 0 :=
  (by decide +kernel : ∀ t : Fin grid0.N, win0_7.index t 0 = 0 ∧ win0_7.index t 1 = 0)
theorem where8 : ∀ t : Fin cfg0.N, win0_8.index t 0 = t.val ∧ win0_8.index t 1 = 0 ∧ win0_8.index t 2 = 0 ∧ win0_8.index t 3 = 0 :=
  (by decide +kernel : ∀ t : Fin grid0.N, win0_8.index t 0 = t.val ∧ win0_8.index t 1 = 0 ∧ win0_8.index t 2 = 0 ∧ win0_8.index t 3 = 0)
theorem where10 : ∀ t : Fin cfg0.N, win0_10.index t 0 = t.val ∧ win0_10.index t 1 = 0 :=
  (by decide +kernel : ∀ t : Fin grid0.N, win0_10.index t 0 = t.val ∧ win0_10.index t 1 = 0)
theorem where11 : ∀ t : Fin cfg0.N, win0_11.index t 0 = t.val ∧ win0_11.index t 1 = 0 ∧ win0_11.index t 2 = 0 ∧ win0_11.index t 3 = 0 :=
  (by decide +kernel : ∀ t : Fin grid0.N, win0_11.index t 0 = t.val ∧ win0_11.index t 1 = 0 ∧ win0_11.index t 2 = 0 ∧ win0_11.index t 3 = 0)
theorem flush10 : ∀ t : Fin cfg0.N, (cfg0.win 10).flush t = true := (by decide +kernel : ∀ t : Fin grid0.N, win0_10.flush t = true)
theorem flush11 : ∀ t : Fin cfg0.N, (cfg0.win 11).flush t = true := (by decide +kernel : ∀ t : Fin grid0.N, win0_11.flush t = true)

variable (m : (ℓ : Loc nD τ sig) → Buf (Elt Ideal) ℓ) (c : Dev nD)

/-- What the kernel is called with. -/
def proj : FVec Ideal S4096x5632 .bf16 := m ((c.tc : Thread nD τ).loc main_arg0)
def grad : FVec Ideal S4096x1024 .bf16 := m ((c.tc : Thread nD τ).loc main_arg1)
def gainQ : FVec Ideal S1x64 .f32 := m ((c.tc : Thread nD τ).loc main_arg2)
def gainK : FVec Ideal S1x64 .f32 := m ((c.tc : Thread nD τ).loc main_arg3)
def weights : FVec Ideal S32x4x512x256 .bf16 := m ((c.tc : Thread nD τ).loc main_arg4)

section Blocks

variable (t : Fin cfg0.N) (b h : Fin 4) (n : Fin 32) (hn : n.val = 4 * t.val + b.val)

include hn in
theorem query_rows : rows (X0_0 m c t) b h = queriesOf (proj m c) n h := by
  funext r d
  unfold rows queriesOf X0_0 Window.fill
  rw [dif_pos (moved0_0 t _)]
  show V m c main_arg0 ((win0_0.rect t).emb _) = _
  rw [V_main_arg0]
  obtain ⟨h0, h1⟩ := where0 t
  refine congrArg (proj m c) (eq_of_coords2 _ _ _ ((win0_0.rect_emb_val t _ 0).trans ?_) ((win0_0.rect_emb_val t _ 1).trans ?_))
  · rw [h0]
    show t.val * 512 + (128 * b.val + r.val % 128) = 128 * n.val + r.val % 128
    omega
  · rw [h1]; rfl

include hn in
theorem grad_rows : rows (iblk m c 5 t) b h = gradsOf (grad m c) n h := by
  funext r d
  unfold rows gradsOf
  show V m c main_arg1 ((win0_5.rect t).emb _) = _
  rw [V_main_arg1]
  obtain ⟨h0, h1⟩ := where5 t
  refine congrArg (grad m c) (eq_of_coords2 _ _ _ ((win0_5.rect_emb_val t _ 0).trans ?_) (win0_5.rect_emb_val_of_index_zero t 1 h1 _))
  rw [h0]
  show t.val * 512 + (128 * b.val + r.val % 128) = 128 * n.val + r.val % 128
  omega

include hn in
theorem key_rows : keys (iblk m c 1 t) (iblk m c 2 t) b h = keysOf (proj m c) n h := by
  funext j d
  unfold keys keysOf
  split
  · show V m c main_arg0 ((win0_1.rect t).emb _) = _
    rw [V_main_arg0]
    obtain ⟨h0, h1⟩ := where1 t
    refine congrArg (proj m c) (eq_of_coords2 _ _ _ ((win0_1.rect_emb_val t _ 0).trans ?_) ((win0_1.rect_emb_val t _ 1).trans ?_))
    · rw [h0]
      show (4 * t.val - 1) * 128 + (128 * b.val + j.val) = place n.val j.val
      unfold place
      rw [if_pos (by omega)]
      omega
    · rw [h1]; rfl
  · show V m c main_arg0 ((win0_2.rect t).emb _) = _
    rw [V_main_arg0]
    obtain ⟨h0, h1⟩ := where2 t
    refine congrArg (proj m c) (eq_of_coords2 _ _ _ ((win0_2.rect_emb_val t _ 0).trans ?_) ((win0_2.rect_emb_val t _ 1).trans ?_))
    · rw [h0]
      show t.val * 512 + (128 * b.val + j.val - 128) = place n.val j.val
      unfold place
      split <;> omega
    · rw [h1]; rfl

include hn in
theorem value_rows : keys (iblk m c 3 t) (iblk m c 4 t) b h = valuesOf (proj m c) n h := by
  funext j d
  unfold keys valuesOf
  split
  · show V m c main_arg0 ((win0_3.rect t).emb _) = _
    rw [V_main_arg0]
    obtain ⟨h0, h1⟩ := where3 t
    refine congrArg (proj m c) (eq_of_coords2 _ _ _ ((win0_3.rect_emb_val t _ 0).trans ?_) ((win0_3.rect_emb_val t _ 1).trans ?_))
    · rw [h0]
      show (4 * t.val - 1) * 128 + (128 * b.val + j.val) = place n.val j.val
      unfold place
      rw [if_pos (by omega)]
      omega
    · rw [h1]; rfl
  · show V m c main_arg0 ((win0_4.rect t).emb _) = _
    rw [V_main_arg0]
    obtain ⟨h0, h1⟩ := where4 t
    refine congrArg (proj m c) (eq_of_coords2 _ _ _ ((win0_4.rect_emb_val t _ 0).trans ?_) ((win0_4.rect_emb_val t _ 1).trans ?_))
    · rw [h0]
      show t.val * 512 + (128 * b.val + j.val - 128) = place n.val j.val
      unfold place
      split <;> omega
    · rw [h1]; rfl

include hn in
theorem prob_rows : probs (iblk m c 8 t) b h = probsOf (weights m c) n h := by
  funext r j
  unfold probs probsOf
  show V m c main_arg4 ((win0_8.rect t).emb _) = _
  rw [V_main_arg4]
  obtain ⟨h0, h1, h2, h3⟩ := where8 t
  refine congrArg (weights m c) (eq_of_coords4 _ _ _ _ _ ((win0_8.rect_emb_val t _ 0).trans ?_) (win0_8.rect_emb_val_of_index_zero t 1 h1 _)
    (win0_8.rect_emb_val_of_index_zero t 2 h2 _) (win0_8.rect_emb_val_of_index_zero t 3 h3 _))
  rw [h0]
  show t.val * 4 + b.val = n.val
  omega

theorem gainQ_row : gain (iblk m c 6 t) = gainOf (gainQ m c) := by
  funext d
  unfold gain gainOf
  show V m c main_arg2 ((win0_6.rect t).emb _) = _
  rw [V_main_arg2]
  obtain ⟨h0, h1⟩ := where6 t
  exact congrArg (gainQ m c) (eq_of_coords2 _ _ _ (win0_6.rect_emb_val_of_index_zero t 0 h0 _) (win0_6.rect_emb_val_of_index_zero t 1 h1 _))
theorem gainK_row : gain (iblk m c 7 t) = gainOf (gainK m c) := by
  funext d
  unfold gain gainOf
  show V m c main_arg3 ((win0_7.rect t).emb _) = _
  rw [V_main_arg3]
  obtain ⟨h0, h1⟩ := where7 t
  exact congrArg (gainK m c) (eq_of_coords2 _ _ _ (win0_7.rect_emb_val_of_index_zero t 0 h0 _) (win0_7.rect_emb_val_of_index_zero t 1 h1 _))

end Blocks

variable (n : Fin 32) (h : Fin 4)

/-- The gradients as functions of the whole arrays. -/
def queryGrad (t : Fin 512) (d : Fin 64) : EReal :=
  dQuery (queriesOf (proj m c) n h) (gradsOf (grad m c) n h) (keysOf (proj m c) n h) (valuesOf (proj m c) n h) (probsOf (weights m c) n h)
    (gainOf (gainQ m c)) (gainOf (gainK m c)) t d
def keyGrad (j : Fin 256) (d : Fin 64) : EReal :=
  dKey (queriesOf (proj m c) n h) (gradsOf (grad m c) n h) (keysOf (proj m c) n h) (valuesOf (proj m c) n h) (probsOf (weights m c) n h)
    (gainOf (gainQ m c)) (gainOf (gainK m c)) j d
def valueGrad (j : Fin 256) (d : Fin 64) : EReal := dValue (gradsOf (grad m c) n h) (probsOf (weights m c) n h) j d

theorem query_final (T : Fin 4096) (C : Fin 1024) (v : EReal)
    (hv : ∀ (n : Fin 32) (h g : Fin 4) (i : Fin 128) (d : Fin 64), T.val = 128 * n.val + i.val → C.val = 256 * h.val + (64 * g.val + d.val) →
      queryGrad m c n h ⟨128 * g.val + i.val, by omega⟩ d = v) :
    (dats m 0 c).arrAt 10 cfg0.N (ix2 T C) = v := by
  have hN : cfg0.N = 8 := N_0
  have hT := T.isLt
  obtain ⟨t, ht⟩ : ∃ t : Fin cfg0.N, t.val = T.val / 512 := ⟨⟨T.val / 512, by omega⟩, rfl⟩
  obtain ⟨h0, h1⟩ := where10 t
  have e : (win0_10.blk t).view.emb (ix2 (⟨T.val % 512, by omega⟩ : Fin 512) C) = ix2 T C :=
    eq_of_coords2 _ _ _ ((win0_10.rect_emb_val t _ 0).trans (by
      rw [h0, ht]
      show T.val / 512 * 512 + T.val % 512 = T.val
      omega)) (win0_10.rect_emb_val_of_index_zero t 1 h1 _)
  rw [← e]
  refine ((dats m 0 c).arrAt_emb_eq_flushed 10 Value.disjoint10 t (flush10 t) _).trans ?_
  show (dats m 0 c).flushed 10 t _ = _
  have key : ∀ (b h : Fin 4) (i : Fin 128) (a : Fin 256), T.val % 512 = 128 * b.val + i.val → C.val = 256 * h.val + a.val →
      dQuery (rows (X0_0 m c t) b h) (rows (iblk m c 5 t) b h) (keys (iblk m c 1 t) (iblk m c 2 t) b h) (keys (iblk m c 3 t) (iblk m c 4 t) b h)
        (probs (iblk m c 8 t) b h) (gain (iblk m c 6 t)) (gain (iblk m c 7 t)) ⟨a.val / 64 * 128 + i.val, by omega⟩ ⟨a.val % 64, by omega⟩ = v := by
    intro b h i a hr hc
    have hn : (⟨4 * t.val + b.val, by omega⟩ : Fin 32).val = 4 * t.val + b.val := rfl
    rw [query_rows m c t b h _ hn, grad_rows m c t b h _ hn, key_rows m c t b h _ hn, value_rows m c t b h _ hn, prob_rows m c t b h _ hn,
      gainQ_row, gainK_row]
    refine Eq.trans ?_ (hv ⟨4 * t.val + b.val, by omega⟩ h ⟨a.val / 64, by omega⟩ i ⟨a.val % 64, by omega⟩ (by dsimp only; omega) (by dsimp only; omega))
    unfold queryGrad
    exact congrArg (fun r => dQuery _ _ _ _ _ _ _ r _) (Fin.ext (by dsimp only; omega))
  by_cases ht0 : t.val % 8 = 0
  · rw [Value.flushed10_A m c t ht0]
    exact query_entry _ _ _ _ _ _ _ _ _ _ _ _ _ _ _ _ _ _ _ _ _ _ _ _ _ _ _ _ _ _ _ _ _ _ _ _ _ _ _ _ _ _ _ _ _ _ v key
  · rw [Value.flushed10_B m c t ht0]
    exact query_entry' _ _ _ _ _ _ _ _ _ _ _ _ _ _ _ _ _ _ _ _ _ _ _ _ _ _ _ _ _ _ _ _ _ _ _ _ _ _ _ _ _ _ _ _ _ _ _ _ _ _ v key

theorem pair_final (N : Fin 32) (U : Fin 2) (I : Fin 128) (L : Fin 512) (v : EReal)
    (hk : ∀ (h : Fin 4) (d : Fin 64), L.val = 64 * h.val + d.val → keyGrad m c N h ⟨128 * U.val + I.val, by omega⟩ d = v)
    (hv : ∀ (h : Fin 4) (d : Fin 64), L.val = 256 + (64 * h.val + d.val) → valueGrad m c N h ⟨128 * U.val + I.val, by omega⟩ d = v) :
    (dats m 0 c).arrAt 11 cfg0.N (ix4 N U I L) = v := by
  have hN : cfg0.N = 8 := N_0
  have hT := N.isLt
  obtain ⟨t, ht⟩ : ∃ t : Fin cfg0.N, t.val = N.val / 4 := ⟨⟨N.val / 4, by omega⟩, rfl⟩
  obtain ⟨h0, h1, h2, h3⟩ := where11 t
  have e : (win0_11.blk t).view.emb (ix4 (⟨N.val % 4, by omega⟩ : Fin 4) U I L) = ix4 N U I L :=
    eq_of_coords4 _ _ _ _ _ ((win0_11.rect_emb_val t _ 0).trans (by
      rw [h0, ht]
      show N.val / 4 * 4 + N.val % 4 = N.val
      omega)) (win0_11.rect_emb_val_of_index_zero t 1 h1 _) (win0_11.rect_emb_val_of_index_zero t 2 h2 _)
      (win0_11.rect_emb_val_of_index_zero t 3 h3 _)
  rw [← e]
  refine ((dats m 0 c).arrAt_emb_eq_flushed 11 Value.disjoint11 t (flush11 t) _).trans ?_
  show (dats m 0 c).flushed 11 t _ = _
  have key : ∀ (b : Fin 4) (u : Fin 2) (i : Fin 128) (h : Fin 4) (d : Fin 64), N.val % 4 = b.val → U.val = u.val → I.val = i.val →
      L.val = 64 * h.val + d.val →
      dKey (rows (X0_0 m c t) b h) (rows (iblk m c 5 t) b h) (keys (iblk m c 1 t) (iblk m c 2 t) b h) (keys (iblk m c 3 t) (iblk m c 4 t) b h)
        (probs (iblk m c 8 t) b h) (gain (iblk m c 6 t)) (gain (iblk m c 7 t)) ⟨128 * u.val + i.val, by omega⟩ d = v := by
    intro b u i h d hb hu hi hl
    obtain rfl : U = u := Fin.ext hu
    obtain rfl : I = i := Fin.ext hi
    have hn : N.val = 4 * t.val + b.val := by omega
    rw [query_rows m c t b h _ hn, grad_rows m c t b h _ hn, key_rows m c t b h _ hn, value_rows m c t b h _ hn, prob_rows m c t b h _ hn,
      gainQ_row, gainK_row]
    exact hk h d hl
  have val : ∀ (b : Fin 4) (u : Fin 2) (i : Fin 128) (h : Fin 4) (d : Fin 64), N.val % 4 = b.val → U.val = u.val → I.val = i.val →
      L.val = 256 + (64 * h.val + d.val) →
      dValue (rows (iblk m c 5 t) b h) (probs (iblk m c 8 t) b h) ⟨128 * u.val + i.val, by omega⟩ d = v := by
    intro b u i h d hb hu hi hl
    obtain rfl : U = u := Fin.ext hu
    obtain rfl : I = i := Fin.ext hi
    have hn : N.val = 4 * t.val + b.val := by omega
    rw [grad_rows m c t b h _ hn, prob_rows m c t b h _ hn]
    exact hv h d hl
  by_cases ht0 : t.val % 8 = 0
  · rw [Value.flushed11_A m c t ht0]
    exact pair_entry _ _ _ _ _ _ _ _ _ _ _ _ _ _ _ _ _ _ _ _ _ _ _ _ _ _ _ _ _ _ _ _ _ _ _ _ _ _ _ _ _ _ _ _ _ _ v key val
  · rw [Value.flushed11_B m c t ht0]
    exact pair_entry' _ _ _ _ _ _ _ _ _ _ _ _ _ _ _ _ _ _ _ _ _ _ _ _ _ _ _ _ _ _ _ _ _ _ _ _ _ _ _ _ _ _ _ _ _ _ _ _ _ _ v key val

end Whole
end Cert.Attn

end
-- ==== Proof.Attn.Plain.lean ====
/-
  The steps of the plain computation of the attention's gradients, each read at an index: the rows of queries, keys and
  values, the gradients of the scores, and the two normalisations' gradients.
-/
module

public import proofs.«01_k».proof.Proof.Attn.Whole
public import proofs.«01_k».proof.Proof.Gen.Reference18Ideal

@[expose] public section

set_option maxRecDepth 16384

noncomputable section

open Idealize.ShloMosaic Idealize.ShloMosaic.TcCoe Idealize.SL.Sem Idealize.ShloMosaic.Tactic
open Cert.Coords
open Cert.Ffn (minusHalf)

namespace Cert.Attn.Plain

open Cert.Reference18Ideal Cert.Reference18Ideal.Gen

/-- A sum over a block's 512 rows, query head by query head. -/
theorem sum_rows (f : Fin 512 → EReal) : ∑ t, f t = ∑ g : Fin 4, ∑ i : Fin 128, f ⟨128 * g.val + i.val, by omega⟩ := by
  rw [← Equiv.sum_comp (finProdFinEquiv (m := 4) (n := 128)) f, Fintype.sum_prod_type]
  refine Finset.sum_congr rfl fun g _ => Finset.sum_congr rfl fun i _ => congrArg f (Fin.ext ?_)
  exact Nat.add_comm i.val (128 * g.val)

section Inputs

variable (P : FVec Ideal S4096x5632 .bf16) (D : FVec Ideal S4096x1024 .bf16) (W : FVec Ideal S32x4x512x256 .bf16)

/-- The queries', keys' and values' columns. -/
def columns : FVec Ideal S4096x1536 .f32 :=
  extractStridedSlice S4096x1536 ![0, 2048] (extf .f32 P bitsLt_bf16_f32) slices_S4096x5632_S4096x1536_0_2048
def queryCols : FVec Ideal S32x128x4x4x64 .f32 :=
  shapeCast S32x128x4x4x64 (extractStridedSlice S4096x1024 ![0, 0] (columns P) slices_S4096x1536_S4096x1024_0_0) shapeCasts_S4096x1024_S32x128x4x4x64
/-- Each block's rows after those of the block before, and zeros before the first block. -/
def windows (x : FVec Ideal S4096x256 .f32) : FVec Ideal S32x256x4x64 .f32 :=
  concatenate S32x256x4x64 1 [⟨S32x128x4x64, concatenate S32x128x4x64 0
      [⟨S1x128x4x64, broadcastInDim S1x128x4x64 ![] bcast_S_S1x128x4x64 (constant S_ .f32 0x00000000#32)⟩,
       ⟨S31x128x4x64, extractStridedSlice S31x128x4x64 ![0, 0, 0, 0] (shapeCast S32x128x4x64 x shapeCasts_S4096x256_S32x128x4x64) slices_S32x128x4x64_S31x128x4x64_0_0_0_0⟩]
      concatenates_S1x128x4x64_S31x128x4x64_S32x128x4x64_d0⟩,
    ⟨S32x128x4x64, shapeCast S32x128x4x64 x shapeCasts_S4096x256_S32x128x4x64⟩] concatenates_S32x128x4x64_S32x128x4x64_S32x256x4x64_d1
def keyCols : FVec Ideal S32x256x4x64 .f32 :=
  windows (extractStridedSlice S4096x256 ![0, 1024] (columns P) slices_S4096x1536_S4096x256_0_1024)
def valueCols : FVec Ideal S32x256x4x64 .f32 :=
  windows (extractStridedSlice S4096x256 ![0, 1280] (columns P) slices_S4096x1536_S4096x256_0_1280)
def weightCols : FVec Ideal S32x4x4x128x256 .f32 :=
  shapeCast S32x4x4x128x256 (extf .f32 W bitsLt_bf16_f32) shapeCasts_S32x4x512x256_S32x4x4x128x256
def gradCols : FVec Ideal S32x4x64x4x128 .f32 :=
  transpose S32x4x64x4x128 [0, 2, 4, 3, 1] (shapeCast S32x128x4x4x64 (extf .f32 D bitsLt_bf16_f32) shapeCasts_S4096x1024_S32x128x4x4x64)
    transposes_S32x128x4x4x64_S32x4x64x4x128_0_2_4_3_1

theorem queryCols_entry (n : Fin 32) (i : Fin 128) (h g : Fin 4) (d : Fin 64) :
    queryCols P (ix5 n i h g d) = queriesOf P n h ⟨128 * g.val + i.val, by omega⟩ d := by
  unfold queriesOf
  pointwise [queryCols, columns]
  exact congrArg₂ (fun a b => P (ix2 a b)) (Fin.ext (by dsimp only; omega)) (Fin.ext (by dsimp only; omega))
theorem windows_entry (x : FVec Ideal S4096x256 .f32) (n : Fin 32) (j : Fin 256) (h : Fin 4) (d : Fin 64) :
    windows x (ix4 n j h d) = if n.val = 0 ∧ j.val < 128 then 0
      else x (ix2 (⟨place n.val j.val, place_lt n j⟩ : Fin 4096) (⟨64 * h.val + d.val, by omega⟩ : Fin 256)) := by
  pointwise [windows]
  by_cases hz : n.val = 0 ∧ j.val < 128
  · rw [if_pos hz]
    split_ifs <;> first
    | rfl
    | omega
  · rw [if_neg hz]
    split_ifs <;> first
    | omega
    | exact congrArg₂ (fun a b => x (ix2 a b)) (Fin.ext (by dsimp only [place]; split <;> omega)) (Fin.ext (by dsimp only; omega))
/-- A block's keys and values, with zeros before the first block. -/
def keysIn (n : Fin 32) (h : Fin 4) (j : Fin 256) (d : Fin 64) : EReal := if n.val = 0 ∧ j.val < 128 then 0 else keysOf P n h j d
def valuesIn (n : Fin 32) (h : Fin 4) (j : Fin 256) (d : Fin 64) : EReal := if n.val = 0 ∧ j.val < 128 then 0 else valuesOf P n h j d
theorem keyCols_entry (n : Fin 32) (j : Fin 256) (h : Fin 4) (d : Fin 64) : keyCols P (ix4 n j h d) = keysIn P n h j d := by
  unfold keyCols keysIn keysOf
  rw [windows_entry]
  pointwise [columns]
  exact congrArg (fun b => if n.val = 0 ∧ j.val < 128 then 0 else P (ix2 _ b)) (Fin.ext (by dsimp only; omega))
theorem valueCols_entry (n : Fin 32) (j : Fin 256) (h : Fin 4) (d : Fin 64) : valueCols P (ix4 n j h d) = valuesIn P n h j d := by
  unfold valueCols valuesIn valuesOf
  rw [windows_entry]
  pointwise [columns]
  exact congrArg (fun b => if n.val = 0 ∧ j.val < 128 then 0 else P (ix2 _ b)) (Fin.ext (by dsimp only; omega))
theorem weightCols_entry (n : Fin 32) (h g : Fin 4) (i : Fin 128) (j : Fin 256) :
    weightCols W (ix5 n h g i j) = probsOf W n h ⟨128 * g.val + i.val, by omega⟩ j := by
  unfold probsOf
  pointwise [weightCols]
  exact congrArg (fun b => W (ix4 n h b j)) (Fin.ext (by dsimp only; omega))
theorem gradCols_entry (n : Fin 32) (h : Fin 4) (d : Fin 64) (g : Fin 4) (i : Fin 128) :
    gradCols D (ix5 n h d g i) = gradsOf D n h ⟨128 * g.val + i.val, by omega⟩ d := by
  unfold gradsOf
  pointwise [gradCols]
  exact congrArg₂ (fun a b => D (ix2 a b)) (Fin.ext (by dsimp only; omega)) (Fin.ext (by dsimp only; omega))

end Inputs

section Scores

variable (o : FVec Ideal S32x4x64x4x128 .f32) (v : FVec Ideal S32x256x4x64 .f32) (w : FVec Ideal S32x4x4x128x256 .f32)

/-- The gradients of the probabilities, and of the scores before their scale, times the scale; of the values. -/
def gainedOf : FVec Ideal S32x4x4x128x256 .f32 := Host.dotGeneral dot_S32x4x64x4x128_S32x256x4x64_S32x4x4x128x256_2_3_34_1_01_02 none o v
def slopesOf : FVec Ideal S32x4x256x128x4 .f32 :=
  transpose S32x4x256x128x4 [0, 1, 4, 3, 2] (mulf (mulf w (subf (gainedOf o v) (broadcastInDim S32x4x4x128x256 ![0, 1, 2, 3, 4] bcast_S32x4x4x128x1_S32x4x4x128x256_0_1_2_3_4
      (broadcastInDim S32x4x4x128x1 ![0, 1, 2, 3] bcast_S32x4x4x128_S32x4x4x128x1_0_1_2_3
        (Host.reduceAdd (mulf w (gainedOf o v)) (constant S_ .f32 0x00000000#32) reducesTo_S32x4x4x128x256_S32x4x4x128_d4 h_S_)))))
    (broadcastInDim S32x4x4x128x256 ![] bcast_S_S32x4x4x128x256 (constant S_ .f32 0x3E000000#32))) transposes_S32x4x4x128x256_S32x4x256x128x4_0_1_4_3_2
def valueGrads : FVec Ideal S32x256x4x64 .f32 :=
  transpose S32x256x4x64 [0, 3, 1, 2] (Host.dotGeneral dot_S32x4x64x4x128_S32x4x4x128x256_S32x4x64x256_34_23_2_4_01_01 none o w) transposes_S32x4x64x256_S32x256x4x64_0_3_1_2

theorem gainedOf_entry (n : Fin 32) (h g : Fin 4) (i : Fin 128) (j : Fin 256) :
    gainedOf o v (ix5 n h g i j) = ∑ d : Fin 64, o (ix5 n h d g i) * v (ix4 n j h d) := by
  pointwise [gainedOf]
theorem slopesOf_entry (n : Fin 32) (h : Fin 4) (j : Fin 256) (i : Fin 128) (g : Fin 4) :
    slopesOf o v w (ix5 n h j i g) = w (ix5 n h g i j) * (gainedOf o v (ix5 n h g i j) - ∑ l : Fin 256, w (ix5 n h g i l) * gainedOf o v (ix5 n h g i l)) * eighth := by
  unfold eighth
  pointwise [slopesOf]
theorem valueGrads_entry (n : Fin 32) (j : Fin 256) (h : Fin 4) (d : Fin 64) :
    valueGrads o w (ix4 n j h d) = ∑ g : Fin 4, ∑ i : Fin 128, o (ix5 n h d g i) * w (ix5 n h g i j) := by
  pointwise [valueGrads]

end Scores

section Norms

variable (q : FVec Ideal S32x128x4x4x64 .f32) (k : FVec Ideal S32x256x4x64 .f32) (g : FVec Ideal S1x64 .f32)

/-- The mean squares, and the rows' factors. -/
def meansQ : FVec Ideal S32x128x4x4x1 .f32 :=
  addf (Host.divf (broadcastInDim S32x128x4x4x1 ![0, 1, 2, 3] bcast_S32x128x4x4_S32x128x4x4x1_0_1_2_3
      (Host.reduceAdd (mulf q q) (constant S_ .f32 0x00000000#32) reducesTo_S32x128x4x4x64_S32x128x4x4_d4 h_S_))
    (broadcastInDim S32x128x4x4x1 ![] bcast_S_S32x128x4x4x1 (constant S_ .f32 0x42800000#32)))
    (broadcastInDim S32x128x4x4x1 ![] bcast_S_S32x128x4x4x1 (constant S_ .f32 0x358637BD#32))
def meansK : FVec Ideal S32x256x4x1 .f32 :=
  addf (Host.divf (broadcastInDim S32x256x4x1 ![0, 1, 2] bcast_S32x256x4_S32x256x4x1_0_1_2
      (Host.reduceAdd (mulf k k) (constant S_ .f32 0x00000000#32) reducesTo_S32x256x4x64_S32x256x4_d3 h_S_))
    (broadcastInDim S32x256x4x1 ![] bcast_S_S32x256x4x1 (constant S_ .f32 0x42800000#32)))
    (broadcastInDim S32x256x4x1 ![] bcast_S_S32x256x4x1 (constant S_ .f32 0x358637BD#32))
def gainsQ : FVec Ideal S32x128x4x4x64 .f32 :=
  broadcastInDim S32x128x4x4x64 ![0, 1, 2, 3, 4] bcast_S1x1x1x1x64_S32x128x4x4x64_0_1_2_3_4 (broadcastInDim S1x1x1x1x64 ![3, 4] bcast_S1x64_S1x1x1x1x64_3_4 g)
def gainsK : FVec Ideal S32x256x4x64 .f32 :=
  broadcastInDim S32x256x4x64 ![0, 1, 2, 3] bcast_S1x1x1x64_S32x256x4x64_0_1_2_3 (broadcastInDim S1x1x1x64 ![2, 3] bcast_S1x64_S1x1x1x64_2_3 g)
def spreadQ (x : FVec Ideal S32x128x4x4x1 .f32) : FVec Ideal S32x128x4x4x64 .f32 :=
  broadcastInDim S32x128x4x4x64 ![0, 1, 2, 3, 4] bcast_S32x128x4x4x1_S32x128x4x4x64_0_1_2_3_4 x
def spreadK (x : FVec Ideal S32x256x4x1 .f32) : FVec Ideal S32x256x4x64 .f32 :=
  broadcastInDim S32x256x4x64 ![0, 1, 2, 3] bcast_S32x256x4x1_S32x256x4x64_0_1_2_3 x
/-- The normalised and scaled rows. -/
def normsQ : FVec Ideal S32x128x4x4x64 .f32 := mulf (mulf q (spreadQ (Host.rsqrt (meansQ q)))) (gainsQ g)
def normsK : FVec Ideal S32x256x4x64 .f32 := mulf (mulf k (spreadK (Host.rsqrt (meansK k)))) (gainsK g)
/-- The coefficient of a row in its own gradient, half of it, and the gradient. -/
def coefQ (w : FVec Ideal S32x128x4x4x64 .f32) : FVec Ideal S32x128x4x4x64 .f32 :=
  broadcastInDim S32x128x4x4x64 ![0, 1, 2, 3] bcast_S32x128x4x4_S32x128x4x4x64_0_1_2_3
    (Host.reduceAdd (Host.divf (mulf
        (shapeCast S32x128x4x4x1 (Host.reduceAdd (mulf q w) (constant S_ .f32 0x00000000#32) reducesTo_S32x128x4x4x64_S32x128x4x4_d4 h_S_) shapeCasts_S32x128x4x4_S32x128x4x4x1)
        (mulf (broadcastInDim S32x128x4x4x1 ![] bcast_S_S32x128x4x4x1 (constant S_ .f32 0xBF000000#32)) (Host.divf (Host.rsqrt (meansQ q)) (meansQ q))))
      (broadcastInDim S32x128x4x4x1 ![] bcast_S_S32x128x4x4x1 (constant S_ .f32 0x42800000#32)))
      (constant S_ .f32 0x00000000#32) reducesTo_S32x128x4x4x1_S32x128x4x4_d4 h_S_)
def coefK (w : FVec Ideal S32x256x4x64 .f32) : FVec Ideal S32x256x4x64 .f32 :=
  broadcastInDim S32x256x4x64 ![0, 1, 2] bcast_S32x256x4_S32x256x4x64_0_1_2
    (Host.reduceAdd (Host.divf (mulf
        (shapeCast S32x256x4x1 (Host.reduceAdd (mulf k w) (constant S_ .f32 0x00000000#32) reducesTo_S32x256x4x64_S32x256x4_d3 h_S_) shapeCasts_S32x256x4_S32x256x4x1)
        (mulf (broadcastInDim S32x256x4x1 ![] bcast_S_S32x256x4x1 (constant S_ .f32 0xBF000000#32)) (Host.divf (Host.rsqrt (meansK k)) (meansK k))))
      (broadcastInDim S32x256x4x1 ![] bcast_S_S32x256x4x1 (constant S_ .f32 0x42800000#32)))
      (constant S_ .f32 0x00000000#32) reducesTo_S32x256x4x1_S32x256x4_d3 h_S_)
def backsQ (w : FVec Ideal S32x128x4x4x64 .f32) : FVec Ideal S32x128x4x4x64 .f32 :=
  addf (addf (mulf w (spreadQ (Host.rsqrt (meansQ q)))) (mulf q (coefQ q w))) (mulf (coefQ q w) q)
def backsK (w : FVec Ideal S32x256x4x64 .f32) : FVec Ideal S32x256x4x64 .f32 :=
  addf (addf (mulf w (spreadK (Host.rsqrt (meansK k)))) (mulf k (coefK k w))) (mulf (coefK k w) k)

theorem meansQ_entry (n : Fin 32) (i : Fin 128) (h u : Fin 4) (z : Fin 1) :
    meansQ q (ix5 n i h u z) = meanSquare fun d => q (ix5 n i h u d) := by
  unfold meanSquare width
  pointwise [meansQ]
theorem meansK_entry (n : Fin 32) (j : Fin 256) (h : Fin 4) (z : Fin 1) :
    meansK k (ix4 n j h z) = meanSquare fun d => k (ix4 n j h d) := by
  unfold meanSquare width
  pointwise [meansK]
theorem normsQ_entry (n : Fin 32) (i : Fin 128) (h u : Fin 4) (d : Fin 64) :
    normsQ q g (ix5 n i h u d) = normed (fun d => q (ix5 n i h u d)) (gainOf g) d := by
  unfold normed factor gainOf
  pointwise [normsQ, spreadQ, gainsQ]
  rw [meansQ_entry]
theorem normsK_entry (n : Fin 32) (j : Fin 256) (h : Fin 4) (d : Fin 64) :
    normsK k g (ix4 n j h d) = normed (fun d => k (ix4 n j h d)) (gainOf g) d := by
  unfold normed factor gainOf
  pointwise [normsK, spreadK, gainsK]
  rw [meansK_entry]
theorem backsQ_entry (w : FVec Ideal S32x128x4x4x64 .f32) (n : Fin 32) (i : Fin 128) (h u : Fin 4) (d : Fin 64) (dn gg : Fin 64 → EReal)
    (hw : ∀ d, w (ix5 n i h u d) = dn d * gg d) :
    backsQ q w (ix5 n i h u d) = back (fun d => q (ix5 n i h u d)) dn gg d := by
  refine Eq.trans ?_ (back_eq (fun d => q (ix5 n i h u d)) d (dn d * gg d) (∑ l, q (ix5 n i h u l) * (dn l * gg l)))
  simp only [← hw]
  unfold factor width minusHalf
  pointwise [backsQ, spreadQ, coefQ]
  simp only [meansQ_entry, zero_add, Finset.univ_unique, Finset.sum_singleton]
theorem backsK_entry (w : FVec Ideal S32x256x4x64 .f32) (n : Fin 32) (j : Fin 256) (h : Fin 4) (d : Fin 64) (dn gg : Fin 64 → EReal)
    (hw : ∀ d, w (ix4 n j h d) = dn d * gg d) :
    backsK k w (ix4 n j h d) = back (fun d => k (ix4 n j h d)) dn gg d := by
  refine Eq.trans ?_ (back_eq (fun d => k (ix4 n j h d)) d (dn d * gg d) (∑ l, k (ix4 n j h l) * (dn l * gg l)))
  simp only [← hw]
  unfold factor width minusHalf
  pointwise [backsK, spreadK, coefK]
  simp only [meansK_entry, zero_add, Finset.univ_unique, Finset.sum_singleton]

end Norms

section Products

variable (s : FVec Ideal S32x4x256x128x4 .f32) (qn : FVec Ideal S32x128x4x4x64 .f32) (kn : FVec Ideal S32x256x4x64 .f32)

/-- The gradients of the normalised queries and keys. -/
def normQueries : FVec Ideal S32x128x4x4x64 .f32 :=
  transpose S32x128x4x4x64 [0, 2, 1, 3, 4] (Host.dotGeneral dot_S32x4x256x128x4_S32x256x4x64_S32x4x128x4x64_2_1_34_3_01_02 none s kn)
    transposes_S32x4x128x4x64_S32x128x4x4x64_0_2_1_3_4
def normKeys : FVec Ideal S32x256x4x64 .f32 :=
  transpose S32x256x4x64 [0, 2, 1, 3] (Host.dotGeneral dot_S32x4x256x128x4_S32x128x4x4x64_S32x4x256x64_34_13_2_4_01_02 none s qn)
    transposes_S32x4x256x64_S32x256x4x64_0_2_1_3

theorem normQueries_entry (n : Fin 32) (i : Fin 128) (h u : Fin 4) (d : Fin 64) :
    normQueries s kn (ix5 n i h u d) = ∑ j : Fin 256, s (ix5 n h j i u) * kn (ix4 n j h d) := by
  pointwise [normQueries]
theorem normKeys_entry (n : Fin 32) (j : Fin 256) (h : Fin 4) (d : Fin 64) :
    normKeys s qn (ix4 n j h d) = ∑ i : Fin 128, ∑ u : Fin 4, s (ix5 n h j i u) * qn (ix5 n i h u d) := by
  pointwise [normKeys]

end Products

end Cert.Attn.Plain

end
-- ==== Proof.Attn.Masked.lean ====
/-
  Keys and values of probability zero leave no trace in the gradients: they may be replaced by others.
-/
module

public import proofs.«01_k».proof.Proof.Attn.Math

@[expose] public section

noncomputable section

open Idealize.ShloMosaic

namespace Cert.Attn

section Masked

variable {ρ : Type} [Fintype ρ] (q o : ρ → Fin 64 → EReal) {k k' v v' : Fin 256 → Fin 64 → EReal} {p : ρ → Fin 256 → EReal}
  (gq gk : Fin 64 → EReal)

theorem slope_of_zero {i : ρ} {j : Fin 256} (h : p i j = 0) : slope o v p i j = 0 := by
  unfold slope
  rw [h, zero_mul, zero_mul]

/-- A row of gradient zero. -/
theorem back_of_zero (x g : Fin 64 → EReal) (d : Fin 64) : back x (fun _ => 0) g d = 0 := by
  unfold back
  have e : Ideal.div 0 width = 0 := by rw [width_coe, Ideal.div_coe (by norm_num), zero_mul]
  simp only [zero_mul, mul_zero, Finset.sum_const_zero, e, sub_zero]

variable (H : ∀ j, (k j = k' j ∧ v j = v' j) ∨ ∀ i, p i j = 0)

include H

theorem slope_masked (i : ρ) (j : Fin 256) : slope o v p i j = slope o v' p i j := by
  have g (l : Fin 256) : p i l * gained o v i l = p i l * gained o v' i l := by
    rcases H l with ⟨_, h⟩ | h
    · unfold gained
      rw [h]
    · rw [h i, zero_mul, zero_mul]
  rcases H j with ⟨_, h⟩ | h
  · unfold slope
    simp only [g]
    unfold gained
    rw [h]
  · rw [slope_of_zero o (h i), slope_of_zero o (h i)]
theorem dQuery_masked (i : ρ) (d : Fin 64) : dQuery q o k v p gq gk i d = dQuery q o k' v' p gq gk i d := by
  have e : dNormQuery o k v p gk i = dNormQuery o k' v' p gk i := by
    funext d
    unfold dNormQuery
    refine Finset.sum_congr rfl fun j _ => ?_
    rw [slope_masked o H]
    rcases H j with ⟨h, _⟩ | h
    · rw [h]
    · rw [slope_of_zero o (h i), zero_mul, zero_mul]
  unfold dQuery
  rw [e]
theorem dKey_masked (j : Fin 256) (d : Fin 64) : dKey q o k v p gq gk j d = dKey q o k' v' p gq gk j d := by
  have e : dNormKey q o v p gq j = dNormKey q o v' p gq j := by
    funext d
    unfold dNormKey
    exact Finset.sum_congr rfl fun i _ => by rw [slope_masked o H]
  unfold dKey
  rcases H j with ⟨h, _⟩ | h
  · rw [e, h]
  · have z : dNormKey q o v p gq j = fun _ => 0 := by
      funext d
      unfold dNormKey
      exact Finset.sum_eq_zero fun i _ => by rw [slope_of_zero o (h i), mul_zero]
    rw [← e, z, back_of_zero, back_of_zero]

end Masked

end Cert.Attn

end
-- ==== Proof.Attn.Ref.lean ====
/-
  The plain computation's two results are the gradients the kernel leaves in its two arrays.
-/
module

public import proofs.«01_k».proof.Proof.Attn.Plain
public import proofs.«01_k».proof.Proof.Attn.Masked
public import proofs.«01_k».proof.Proof.Gen.Pre_masked_before_first
public import Idealize.ShloMosaic.Lib.ReduceAll
public import proofs.«01_k».proof.Proof.Gen.Reference18Ideal.Run

@[expose] public section

set_option maxRecDepth 16384

noncomputable section

open Idealize.ShloMosaic Idealize.ShloMosaic.TcCoe Idealize.SL.Sem Idealize.ShloMosaic.Tactic

open Cert.Coords Cert.Attn.Plain

namespace Cert.Attn.Ref

open Cert.Reference18Ideal Cert.Reference18Ideal.Gen

/-- Indices with equal coordinates. -/
theorem same4 {a b c d : ℕ} {i i' : Fin a} {j j' : Fin b} {k k' : Fin c} {l l' : Fin d} (hi : i.val = i'.val) (hj : j.val = j'.val)
    (hk : k.val = k'.val) (hl : l.val = l'.val) : ix4 i j k l = ix4 i' j' k' l' := by
  rw [Fin.ext hi, Fin.ext hj, Fin.ext hk, Fin.ext hl]
theorem same5 {a b c d e : ℕ} {i i' : Fin a} {j j' : Fin b} {k k' : Fin c} {l l' : Fin d} {u u' : Fin e} (hi : i.val = i'.val)
    (hj : j.val = j'.val) (hk : k.val = k'.val) (hl : l.val = l'.val) (hu : u.val = u'.val) : ix5 i j k l u = ix5 i' j' k' l' u' := by
  rw [Fin.ext hi, Fin.ext hj, Fin.ext hk, Fin.ext hl, Fin.ext hu]

section Whole

variable (P : FVec Ideal S4096x5632 .bf16) (D : FVec Ideal S4096x1024 .bf16) (gq gk : FVec Ideal S1x64 .f32) (W : FVec Ideal S32x4x512x256 .bf16)

/-- The scores' gradients, and the scaled gradients of the normalised queries and keys. -/
def scores : FVec Ideal S32x4x256x128x4 .f32 := slopesOf (gradCols D) (valueCols P) (weightCols W)
def scaledQ : FVec Ideal S32x128x4x4x64 .f32 := mulf (normQueries (scores P D W) (normsK (keyCols P) gk)) (gainsQ gq)
def scaledK : FVec Ideal S32x256x4x64 .f32 := mulf (normKeys (scores P D W) (normsQ (queryCols P) gq)) (gainsK gk)
/-- The two results. -/
def queriesOut : FVec Ideal S4096x1024 .bf16 :=
  truncf .bf16 (shapeCast S4096x1024 (backsQ (queryCols P) (scaledQ P D gq gk W)) shapeCasts_S32x128x4x4x64_S4096x1024) bitsLt_bf16_f32
def pairsOut : FVec Ideal S32x2x128x512 .bf16 :=
  truncf .bf16 (concatenate S32x2x128x512 3
    [⟨S32x2x128x256, shapeCast S32x2x128x256 (backsK (keyCols P) (scaledK P D gq gk W)) shapeCasts_S32x256x4x64_S32x2x128x256⟩,
     ⟨S32x2x128x256, shapeCast S32x2x128x256 (valueGrads (gradCols D) (weightCols W)) shapeCasts_S32x256x4x64_S32x2x128x256⟩]
    concatenates_S32x2x128x256_S32x2x128x256_S32x2x128x512_d3) bitsLt_bf16_f32

theorem scores_entry (n : Fin 32) (h : Fin 4) (j : Fin 256) (i : Fin 128) (u : Fin 4) :
    scores P D W (ix5 n h j i u) = slope (gradsOf D n h) (valuesIn P n h) (probsOf W n h) ⟨128 * u.val + i.val, by omega⟩ j := by
  unfold scores slope gained
  simp only [slopesOf_entry, gainedOf_entry, weightCols_entry, gradCols_entry, valueCols_entry]
theorem scaledQ_entry (n : Fin 32) (i : Fin 128) (h u : Fin 4) (d : Fin 64) :
    scaledQ P D gq gk W (ix5 n i h u d)
      = dNormQuery (gradsOf D n h) (keysIn P n h) (valuesIn P n h) (probsOf W n h) (gainOf gk) ⟨128 * u.val + i.val, by omega⟩ d * gainOf gq d := by
  unfold dNormQuery gainOf
  pointwise [scaledQ, gainsQ]
  simp only [normQueries_entry, scores_entry, normsK_entry, keyCols_entry]
  rfl
theorem scaledK_entry (n : Fin 32) (j : Fin 256) (h : Fin 4) (d : Fin 64) :
    scaledK P D gq gk W (ix4 n j h d)
      = dNormKey (queriesOf P n h) (gradsOf D n h) (valuesIn P n h) (probsOf W n h) (gainOf gq) j d * gainOf gk d := by
  unfold dNormKey gainOf
  pointwise [scaledK, gainsK]
  rw [sum_rows, Finset.sum_comm]
  simp only [normKeys_entry, scores_entry, normsQ_entry, queryCols_entry, mul_comm (slope _ _ _ _ _)]
  rfl
theorem queries_entry (n : Fin 32) (i : Fin 128) (h u : Fin 4) (d : Fin 64) :
    queriesOut P D gq gk W (ix2 (⟨128 * n.val + i.val, by omega⟩ : Fin 4096) (⟨256 * h.val + (64 * u.val + d.val), by omega⟩ : Fin 1024))
      = dQuery (queriesOf P n h) (gradsOf D n h) (keysIn P n h) (valuesIn P n h) (probsOf W n h) (gainOf gq) (gainOf gk) ⟨128 * u.val + i.val, by omega⟩ d := by
  unfold dQuery
  refine Eq.trans ?_ ((backsQ_entry (queryCols P) (scaledQ P D gq gk W) n i h u d _ _ (scaledQ_entry P D gq gk W n i h u)).trans ?_)
  · pointwise [queriesOut]
  · simp only [queryCols_entry]
theorem keys_entry (n : Fin 32) (U : Fin 2) (I : Fin 128) (h : Fin 4) (d : Fin 64) :
    pairsOut P D gq gk W (ix4 n U I (⟨64 * h.val + d.val, by omega⟩ : Fin 512))
      = dKey (queriesOf P n h) (gradsOf D n h) (keysIn P n h) (valuesIn P n h) (probsOf W n h) (gainOf gq) (gainOf gk) ⟨128 * U.val + I.val, by omega⟩ d := by
  unfold dKey
  refine Eq.trans ?_ ((backsK_entry (keyCols P) (scaledK P D gq gk W) n ⟨128 * U.val + I.val, by omega⟩ h d _ _ (scaledK_entry P D gq gk W n _ h)).trans ?_)
  · pointwise [pairsOut]
    rw [dif_pos (by omega)]
    exact congrArg (backsK (keyCols P) (scaledK P D gq gk W)) (same4 rfl (by dsimp only; omega) rfl rfl)
  · simp only [keyCols_entry]
theorem values_entry (n : Fin 32) (U : Fin 2) (I : Fin 128) (h : Fin 4) (d : Fin 64) :
    pairsOut P D gq gk W (ix4 n U I (⟨256 + (64 * h.val + d.val), by omega⟩ : Fin 512))
      = dValue (gradsOf D n h) (probsOf W n h) ⟨128 * U.val + I.val, by omega⟩ d := by
  unfold dValue
  rw [sum_rows]
  refine Eq.trans ?_ ((valueGrads_entry (gradCols D) (weightCols W) n ⟨128 * U.val + I.val, by omega⟩ h d).trans ?_)
  · pointwise [pairsOut]
    exact congrArg (valueGrads (gradCols D) (weightCols W)) (same4 rfl (by dsimp only; omega) rfl rfl)
  · simp only [gradCols_entry, weightCols_entry]

end Whole

variable (m : (ℓ : Loc nD τ sig) → Buf (Elt Ideal) ℓ) (c : Dev nD)

/-- The printed results, in these words. -/
theorem first_result : Value.res_main_v113 m c = queriesOut (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  unfold Value.res_main_v113
  rfl
theorem second_result : Value.res_main_v114 m c = pairsOut (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  unfold Value.res_main_v114
  rfl

theorem holds_of_bit {p : Prop} [Decidable p] (h : BitVec.ofBool (decide p) = 1#1) : p := by
  by_contra hn
  rw [decide_eq_false hn] at h
  exact absurd h (by decide)
/-- Under the condition, the probabilities of what lies before the first block are zero. -/
theorem masked (m) (hpre : Cert.Pre_Kernel18Ideal_masked_before_first m) (c) (h : Fin 4) (t : Fin 512) (j : Fin 128) :
    Cert.Attn.Whole.weights m c (ix4 (0 : Fin 32) h t (⟨j.val, by omega⟩ : Fin 256)) = 0 := by
  have e := congrFun (hpre c) (fun a => a.elim0)
  unfold Cert.Pre_masked_before_first.fn at e
  have e := Host.reduce_andi_all _ _ _ _ _ e (ix3 h t j)
  pointwise [] at e
  exact holds_of_bit e
/-- What lies before the first block has probability zero; elsewhere the reference's keys and values are the kernel's. -/
theorem unseen (m) (hpre : Cert.Pre_Kernel18Ideal_masked_before_first m) (c) (P : FVec Ideal S4096x5632 .bf16) (n : Fin 32) (h : Fin 4) (j : Fin 256) :
    (keysIn P n h j = keysOf P n h j ∧ valuesIn P n h j = valuesOf P n h j) ∨ ∀ i, probsOf (Cert.Attn.Whole.weights m c) n h i j = 0 := by
  by_cases hj : n.val = 0 ∧ j.val < 128
  · obtain ⟨hn, hj⟩ := hj
    obtain rfl : n = 0 := Fin.ext hn
    exact .inr fun i => masked m hpre c h i ⟨j.val, hj⟩
  · refine .inl ⟨funext fun d => ?_, funext fun d => ?_⟩
    · unfold keysIn
      rw [if_neg hj]
    · unfold valuesIn
      rw [if_neg hj]

/-- The kernel leaves what the plain computation leaves, in both results. -/
theorem algebraic : Cert.algebraic_Kernel18Ideal_Reference18Ideal_pre_masked_before_first := by
  intro m ρ m' ρ' hpre hagree
  refine ⟨fun c => (Cert.Kernel18Ideal.Gen.dats m 0 c).arrAt 10 Cert.Kernel18Ideal.cfg0.N,
    fun c => (Cert.Kernel18Ideal.Gen.dats m 0 c).arrAt 11 Cert.Kernel18Ideal.cfg0.N,
    (θ_run Cert.Kernel18Ideal.defs _ _).mono (fun _ h c => ⟨(h c).1, (h c).2.1, (h c).2.2.2.2.2.2⟩) (Cert.Kernel18Ideal.Value.run_blocks m ρ), ?_⟩
  refine (θ_run Cert.Reference18Ideal.defs _ _).mono (fun _ h c => ⟨(h c).1.trans ?_, (h c).2.1.trans ?_, (h c).2.2⟩)
    (Cert.Reference18Ideal.Value.run (F := Ideal) m' ρ')
  all_goals clear h
  all_goals obtain ⟨e0, e1, e2, e3, e4, e5⟩ := hagree c
  · rw [first_result, e0, e1, e2, e3, e4]
    funext i
    rw [eq_ix2 i]
    refine (Cert.Attn.Whole.query_final m c _ _ _ fun n h g i d hT hC => ?_).symm
    exact (dQuery_masked _ _ _ _ (unseen m hpre c _ n h) _ d).symm.trans ((queries_entry _ _ _ _ _ n i h g d).symm.trans (congrArg₂ (fun a b => queriesOut _ _ _ _ _ (ix2 a b)) (Fin.ext hT.symm) (Fin.ext hC.symm)))
  · rw [second_result, e0, e1, e2, e3, e4]
    funext i
    rw [eq_ix4 i]
    refine (Cert.Attn.Whole.pair_final m c _ _ _ _ _ (fun h d hL => ?_) (fun h d hL => ?_)).symm
    · exact (dKey_masked _ _ _ _ (unseen m hpre c _ _ h) _ d).symm.trans
        ((keys_entry _ _ _ _ _ _ _ _ h d).symm.trans (congrArg (fun b => pairsOut _ _ _ _ _ (ix4 _ _ _ b)) (Fin.ext hL.symm)))
    · exact (values_entry _ _ _ _ _ _ _ _ h d).symm.trans (congrArg (fun b => pairsOut _ _ _ _ _ (ix4 _ _ _ b)) (Fin.ext hL.symm))

end Cert.Attn.Ref

end
-- ==== Proof.Fwd.Norm.lean ====
/-
  The first norm: each of four row tiles stores its rows divided by their root mean square, times the gain.
-/
module

public import proofs.«01_k».proof.Defs
public import proofs.«01_k».proof.Proof.Gen.Kernel19Ideal.Value
public import proofs.«01_k».proof.Proof.Gen.Reference19Ideal.Run
public import proofs.«01_k».proof.Proof.Shared.Coords
public import proofs.«01_k».proof.Proof.Ffn.Norm
public import Idealize.ShloMosaic.Lib.Pipeline.Value
public import Idealize.ShloMosaic.Lib.Pointwise
public import Idealize.ShloMosaic.Lib.IdealHost
public import Idealize.ShloMosaic.Lib.Quiescent

@[expose] public section

set_option maxRecDepth 16384

noncomputable section

open Idealize.ShloMosaic Idealize.ShloMosaic.TcCoe Idealize.SL.Sem Idealize.ShloMosaic.Tactic
open Idealize.ShloMosaic.Pipeline (Dat Window)

namespace Cert.Fwd.Norm

section Kernel

open Cert.Kernel19Ideal Cert.Kernel19Ideal.Gen Cert.Coords Cert.Ffn

variable (m : (ℓ : Loc nD τ sig) → Buf (Elt Ideal) ℓ)

/-- The residual stream and the gain, and an entry of a normalised row. -/
abbrev stream (c : Dev nD) : FVec Ideal S4096x1024 .f32 := m ((c : Thread nD τ).loc main_arg0)
abbrev gain (c : Dev nD) : FVec Ideal S1x1024 .f32 := m ((c : Thread nD τ).loc main_arg1)
def normed (y : Fin 1024 → EReal) (j : Fin 1024) (g : EReal) : EReal := y j * rms y * g

theorem where_stream : ∀ t : Fin cfg0.N, win0_0.index t 0 = t.val ∧ win0_0.index t 1 = 0 :=
  (by decide +kernel : ∀ t : Fin grid0.N, win0_0.index t 0 = t.val ∧ win0_0.index t 1 = 0)
theorem where_gain : ∀ t : Fin cfg0.N, win0_1.index t 0 = 0 ∧ win0_1.index t 1 = 0 :=
  (by decide +kernel : ∀ t : Fin grid0.N, win0_1.index t 0 = 0 ∧ win0_1.index t 1 = 0)
theorem where_normed : ∀ t : Fin cfg0.N, win0_2.index t 0 = t.val ∧ win0_2.index t 1 = 0 :=
  (by decide +kernel : ∀ t : Fin grid0.N, win0_2.index t 0 = t.val ∧ win0_2.index t 1 = 0)

theorem gain_block (c : Dev nD) (t : Fin cfg0.N) (j : Fin 1024) : iblk m c 1 t (ix2 (0 : Fin 1) j) = gain m c (ix2 (0 : Fin 1) j) := by
  show V m c main_arg1 ((win0_1.rect t).emb (ix2 (0 : Fin 1) j)) = _
  rw [V_main_arg1]
  obtain ⟨h0, h1⟩ := where_gain t
  exact congrArg (gain m c) (eq_of_coords2 _ _ _ (win0_1.rect_emb_val_of_index_zero t 0 h0 _) (win0_1.rect_emb_val_of_index_zero t 1 h1 _))
theorem stream_block (c : Dev nD) (t : Fin cfg0.N) (r : Fin 1024) (r' : Fin 4096) (hr : r'.val = t.val * 1024 + r.val) (j : Fin 1024) :
    iblk m c 0 t (ix2 r j) = stream m c (ix2 r' j) := by
  show V m c main_arg0 ((win0_0.rect t).emb (ix2 r j)) = _
  rw [V_main_arg0]
  obtain ⟨h0, h1⟩ := where_stream t
  refine congrArg (stream m c) (eq_of_coords2 _ _ _ ((win0_0.rect_emb_val t _ 0).trans ?_) (win0_0.rect_emb_val_of_index_zero t 1 h1 _))
  rw [h0]
  exact hr.symm

/-- The stored block, read at an entry. -/
theorem normed_entry (x : Vec Ideal S1024x1024 .f32) (g : Vec Ideal S1x1024 .f32) (r j : Fin 1024) :
    k0_pay1 x g (ix2 r j) = normed (fun k => x (ix2 r k)) j (g (ix2 (0 : Fin 1) j)) := by
  pointwise [k0_pay1]
  rfl

/-- The result array after the run, read at an entry. -/
theorem final (c : Dev nD) (r : Fin 4096) (j : Fin 1024) :
    (dats m 0 c).arrAt 2 cfg0.N (ix2 r j) = normed (fun k => stream m c (ix2 r k)) j (gain m c (ix2 (0 : Fin 1) j)) := by
  have hN : cfg0.N = 4 := N_0
  have hz : (![0, 0] : Fin 2 → Nat) = fun _ => 0 := funext fun a => by fin_cases a <;> rfl
  obtain ⟨t, r₀, hr⟩ : ∃ (t : Fin cfg0.N) (r₀ : Fin 1024), r.val = t.val * 1024 + r₀.val :=
    ⟨⟨r.val / 1024, by omega⟩, ⟨r.val % 1024, by omega⟩, by dsimp only; omega⟩
  have e : (win0_2.blk t).view.emb (ix2 r₀ j) = ix2 r j := by
    show (win0_2.rect t).emb (ix2 r₀ j) = _
    obtain ⟨h0, h1⟩ := where_normed t
    refine eq_of_coords2 _ _ _ ((win0_2.rect_emb_val t _ 0).trans ?_) (win0_2.rect_emb_val_of_index_zero t 1 h1 _)
    rw [h0]
    exact hr.symm
  rw [← e]
  refine ((dats m 0 c).arrAt_emb_eq_flushed 2 Value.disjoint2 t (flush0_2 t) (ix2 r₀ j)).trans ?_
  show (dats m 0 c).flushed 2 t (ix2 r₀ j) = _
  rw [Value.flushed2]
  show out0_2 (iblk m c 0 t) (iblk m c 1 t) (ix2 r₀ j) = _
  unfold out0_2
  rw [View.canon_unit_zero hz, View.ld_unit_zero hz, View.ld_unit_zero hz, normed_entry, gain_block]
  exact congrArg (fun y => normed y j (gain m c (ix2 (0 : Fin 1) j))) (funext fun k => stream_block m c t r₀ r hr k)

end Kernel

/-- The normalised rows are the reference's. -/
theorem algebraic : Cert.algebraic_Kernel19Ideal_Reference19Ideal := by
  intro m ρ m' ρ' _ hagree
  refine ⟨fun c => (Cert.Kernel19Ideal.Gen.dats m 0 c).arrAt 2 Cert.Kernel19Ideal.cfg0.N, Cert.Kernel19Ideal.Value.run_blocks m ρ, ?_⟩
  refine (θ_run Cert.Reference19Ideal.defs _ _).mono (fun _ h c => ⟨(h c).1.trans ?_, (h c).2⟩)
    (Cert.Reference19Ideal.Value.run (F := Ideal) m' ρ')
  clear h
  rw [(hagree c).1, (hagree c).2]
  funext i
  rw [eq_ix2 i]
  refine Eq.trans ?_ (final m c (i 0) (i 1)).symm
  generalize i 0 = r
  generalize i 1 = j
  pointwise []
  rfl

end Cert.Fwd.Norm

end
-- ==== Proof.AttnFwd.Parts.lean ====
/-
  The parts of which the forward kernel's body builds one block of one key head: rows normalised head by head, key heads
  copied beside each other, query heads one below the other, and the probabilities. Each part is read at an entry.
-/
module

public import proofs.«01_k».proof.Defs
public import proofs.«01_k».proof.Proof.Gen.Kernel20Ideal.Value
public import proofs.«01_k».proof.Proof.Shared.Coords
public import proofs.«01_k».proof.Proof.Attn.Math
public import Idealize.ShloMosaic.Lib.Pointwise
public import Idealize.ShloMosaic.Lib.Pipeline.ValueKit

@[expose] public section

set_option maxRecDepth 16384

noncomputable section

open Idealize.ShloMosaic Idealize.ShloMosaic.Tactic
open Cert.Coords Cert.Attn

namespace Cert.AttnFwd.Parts

open Cert.Kernel20Ideal Cert.Kernel20Ideal.Gen

/-- The head a lane is in, as the body's integer operations compute it. -/
def head (S : Shape) (x : IVec S 32) : IVec S 32 :=
  select (andi (cmpi .ne (subi (extui 32 (cmpi .sgt x (broadcast S 0#32)) natLt_1_32) (extui 32 (cmpi .slt x (broadcast S 0#32)) natLt_1_32))
      (broadcast S (Scalar.subi (Scalar.extui (Scalar.cmpi .sgt 64#32 0#32)) (Scalar.extui (Scalar.cmpi .slt 64#32 0#32)))))
    (cmpi .ne (remsi x (broadcast S 64#32)) (broadcast S 0#32))) (subi (divsi x (broadcast S 64#32)) (broadcast S 1#32)) (divsi x (broadcast S 64#32))

/-- Two entries at the same coordinates. -/
theorem same {m n : ℕ} {α : Type} (x : (⟨2, ![m, n]⟩ : Shape).Idx → α) {i i' : Fin m} {j j' : Fin n} (h : i.val = i'.val) (h' : j.val = j'.val) :
    x (ix2 i j) = x (ix2 i' j') := by
  rw [Fin.ext h, Fin.ext h']

/-- Whether two heads are the same. -/
theorem same_head : ∀ (a : Fin 256) (i : Fin 4),
    IntOp.cmpi .eq (BitVec.ofNat 32 (a.val / 64)) (BitVec.ofNat 32 i.val) = if a.val / 64 = i.val then 1#1 else 0#1 := by
  decide +kernel

/-- A sum over 256 lanes that is nothing outside a head is a sum over the head's lanes. -/
theorem sum_lanes (f : Fin 256 → EReal) (i : Fin 4) :
    ∑ a : Fin 256, (if a.val / 64 = i.val then f a else 0) = ∑ d : Fin 64, f ⟨64 * i.val + d.val, by omega⟩ := by
  rw [← Finset.sum_filter]
  symm
  refine Finset.sum_bij (fun d _ => (⟨64 * i.val + d.val, by omega⟩ : Fin 256)) (fun d _ => ?_) (fun d _ d' _ h => ?_) (fun a ha => ?_) (fun _ _ => rfl)
  · rw [Finset.mem_filter]
    exact ⟨Finset.mem_univ _, by dsimp only; omega⟩
  · exact Fin.ext (by have := congrArg Fin.val h; dsimp only at this; omega)
  · have := (Finset.mem_filter.1 ha).2
    exact ⟨⟨a.val - 64 * i.val, by omega⟩, Finset.mem_univ _, Fin.ext (by dsimp only; omega)⟩

/-- The word for minus infinity, the largest of a row with its sink, and the row's weights in all. -/
theorem bottom : Ideal.ofBits .f32 0xFF800000#32 = ⊥ := by simp [Ideal.ofBits, Ideal.ieee]
def peak (f : Fin 256 → EReal) (z : EReal) : EReal := max (Finset.fold max ⊥ f Finset.univ) z
def total (f : Fin 256 → EReal) (z : EReal) : EReal := (∑ j, Ideal.exp (f j - peak f z)) + Ideal.exp (z - peak f z)

theorem per_width (s : EReal) : s * Ideal.ofBits .f32 0x3C800000#32 = Ideal.div s width := by
  rw [width_coe, Ideal.div_coe (by norm_num)]
  congr 1
  simp [Ideal.ofBits, Ideal.ieee, -EReal.coe_mul]
  norm_num

/-- The head of each lane of 640 rows; the reciprocal root mean square of a head, spread over all lanes; and the rows normalised head by head. -/
def head640 : IVec S640x256 32 := head S640x256 (iota .tc S640x256 32 [1] iota_S640x256_d1_w32)
def is640 (i : ℕ) : IVec S640x256 1 := cmpi .eq head640 (broadcast S640x256 (BitVec.ofNat 32 i))
def fac640 (x : FVec Ideal S640x256 .f32) (i : ℕ) : FVec Ideal S640x256 .f32 :=
  broadcastTo S640x256 (shapeCast S640x1 (rsqrt (addf (mulf (shapeCast S640x1 (multiReduction .add [1] S640
    (select (is640 i) (mulf x x) (broadcast S640x256 (Scalar.ofBits .f32 0x00000000#32))) 0x00000000#32 reduces_S640x256_S640 (.inl rfl) rfl)
      shapeCasts_S640_S640x1) (broadcast S640x1 (Scalar.ofBits .f32 0x3C800000#32))) (broadcast S640x1 (Scalar.ofBits .f32 0x358637BD#32))))
    shapeCasts_S640x1_S640x1) broadcasts_S640x1_S640x256
def facs640 (x : FVec Ideal S640x256 .f32) : FVec Ideal S640x256 .f32 :=
  select (is640 3) (fac640 x 3) (select (is640 2) (fac640 x 2) (select (is640 1) (fac640 x 1) (select (is640 0) (fac640 x 0)
    (broadcast S640x256 (Scalar.ofBits .f32 0x00000000#32)))))
def norms640 (x : FVec Ideal S640x256 .f32) (g : FVec Ideal S1x256 .f32) : FVec Ideal S640x256 .f32 :=
  mulf (mulf x (facs640 x)) (broadcastTo S640x256 g broadcasts_S1x256_S640x256)

theorem head640_entry (r : Fin 640) (a : Fin 256) : head640 (ix2 r a) = BitVec.ofNat 32 (a.val / 64) := by
  pointwise [head640, head]
  revert a
  decide +kernel

theorem is640_entry (i : ℕ) (hi : i < 4) (r : Fin 640) (a : Fin 256) : is640 i (ix2 r a) = if a.val / 64 = i then 1#1 else 0#1 := by
  pointwise [is640]
  rw [head640_entry]
  exact same_head a ⟨i, hi⟩

theorem fac640_entry (x : FVec Ideal S640x256 .f32) (i : ℕ) (hi : i < 4) (r : Fin 640) (a : Fin 256) :
    fac640 x i (ix2 r a) = factor fun d => x (ix2 r ⟨64 * i + d.val, by omega⟩) := by
  pointwise [fac640]
  simp only [is640_entry i hi]
  unfold factor meanSquare
  congr 1
  rw [← sum_lanes (fun a => x (ix2 r a) * x (ix2 r a)) ⟨i, hi⟩, ← per_width]
  congr 2
  refine Finset.sum_congr rfl fun a _ => ?_
  by_cases h : a.val / 64 = i
  · simp [h, Scalar.select]
  · simp [h, Scalar.select]

theorem facs640_entry (x : FVec Ideal S640x256 .f32) (r : Fin 640) (a : Fin 256) :
    facs640 x (ix2 r a) = factor fun d => x (ix2 r ⟨64 * (a.val / 64) + d.val, by omega⟩) := by
  pointwise [facs640]
  rw [is640_entry 3 (by omega), is640_entry 2 (by omega), is640_entry 1 (by omega), is640_entry 0 (by omega), fac640_entry x 3 (by omega),
    fac640_entry x 2 (by omega), fac640_entry x 1 (by omega), fac640_entry x 0 (by omega)]
  obtain h | h | h | h : a.val / 64 = 0 ∨ a.val / 64 = 1 ∨ a.val / 64 = 2 ∨ a.val / 64 = 3 := by omega
  all_goals simp [h, Scalar.select]

theorem norms640_entry (x : FVec Ideal S640x256 .f32) (g : FVec Ideal S1x256 .f32) (r : Fin 640) (a : Fin 256) :
    norms640 x g (ix2 r a) = normed (fun d => x (ix2 r ⟨64 * (a.val / 64) + d.val, by omega⟩))
      (fun d => g (ix2 (0 : Fin 1) ⟨64 * (a.val / 64) + d.val, by omega⟩)) ⟨a.val % 64, by omega⟩ := by
  have e : (⟨64 * (a.val / 64) + a.val % 64, by omega⟩ : Fin 256) = a := Fin.ext (by dsimp only; omega)
  unfold normed
  dsimp only
  rw [e]
  pointwise [norms640]
  rw [facs640_entry]

/-- The head of each lane of 128 rows; the reciprocal root mean square of a head, spread over all lanes; and the rows normalised head by head. -/
def head128 : IVec S128x256 32 := head S128x256 (iota .tc S128x256 32 [1] iota_S128x256_d1_w32)
def is128 (i : ℕ) : IVec S128x256 1 := cmpi .eq head128 (broadcast S128x256 (BitVec.ofNat 32 i))
def fac128 (x : FVec Ideal S128x256 .f32) (i : ℕ) : FVec Ideal S128x256 .f32 :=
  broadcastTo S128x256 (shapeCast S128x1 (rsqrt (addf (mulf (shapeCast S128x1 (multiReduction .add [1] S128
    (select (is128 i) (mulf x x) (broadcast S128x256 (Scalar.ofBits .f32 0x00000000#32))) 0x00000000#32 reduces_S128x256_S128 (.inl rfl) rfl)
      shapeCasts_S128_S128x1) (broadcast S128x1 (Scalar.ofBits .f32 0x3C800000#32))) (broadcast S128x1 (Scalar.ofBits .f32 0x358637BD#32))))
    shapeCasts_S128x1_S128x1) broadcasts_S128x1_S128x256
def facs128 (x : FVec Ideal S128x256 .f32) : FVec Ideal S128x256 .f32 :=
  select (is128 3) (fac128 x 3) (select (is128 2) (fac128 x 2) (select (is128 1) (fac128 x 1) (select (is128 0) (fac128 x 0)
    (broadcast S128x256 (Scalar.ofBits .f32 0x00000000#32)))))
def norms128 (x : FVec Ideal S128x256 .f32) (g : FVec Ideal S1x256 .f32) : FVec Ideal S128x256 .f32 :=
  mulf (mulf x (facs128 x)) (broadcastTo S128x256 g broadcasts_S1x256_S128x256)

theorem head128_entry (r : Fin 128) (a : Fin 256) : head128 (ix2 r a) = BitVec.ofNat 32 (a.val / 64) := by
  pointwise [head128, head]
  revert a
  decide +kernel

theorem is128_entry (i : ℕ) (hi : i < 4) (r : Fin 128) (a : Fin 256) : is128 i (ix2 r a) = if a.val / 64 = i then 1#1 else 0#1 := by
  pointwise [is128]
  rw [head128_entry]
  exact same_head a ⟨i, hi⟩

theorem fac128_entry (x : FVec Ideal S128x256 .f32) (i : ℕ) (hi : i < 4) (r : Fin 128) (a : Fin 256) :
    fac128 x i (ix2 r a) = factor fun d => x (ix2 r ⟨64 * i + d.val, by omega⟩) := by
  pointwise [fac128]
  simp only [is128_entry i hi]
  unfold factor meanSquare
  congr 1
  rw [← sum_lanes (fun a => x (ix2 r a) * x (ix2 r a)) ⟨i, hi⟩, ← per_width]
  congr 2
  refine Finset.sum_congr rfl fun a _ => ?_
  by_cases h : a.val / 64 = i
  · simp [h, Scalar.select]
  · simp [h, Scalar.select]

theorem facs128_entry (x : FVec Ideal S128x256 .f32) (r : Fin 128) (a : Fin 256) :
    facs128 x (ix2 r a) = factor fun d => x (ix2 r ⟨64 * (a.val / 64) + d.val, by omega⟩) := by
  pointwise [facs128]
  rw [is128_entry 3 (by omega), is128_entry 2 (by omega), is128_entry 1 (by omega), is128_entry 0 (by omega), fac128_entry x 3 (by omega),
    fac128_entry x 2 (by omega), fac128_entry x 1 (by omega), fac128_entry x 0 (by omega)]
  obtain h | h | h | h : a.val / 64 = 0 ∨ a.val / 64 = 1 ∨ a.val / 64 = 2 ∨ a.val / 64 = 3 := by omega
  all_goals simp [h, Scalar.select]

theorem norms128_entry (x : FVec Ideal S128x256 .f32) (g : FVec Ideal S1x256 .f32) (r : Fin 128) (a : Fin 256) :
    norms128 x g (ix2 r a) = normed (fun d => x (ix2 r ⟨64 * (a.val / 64) + d.val, by omega⟩))
      (fun d => g (ix2 (0 : Fin 1) ⟨64 * (a.val / 64) + d.val, by omega⟩)) ⟨a.val % 64, by omega⟩ := by
  have e : (⟨64 * (a.val / 64) + a.val % 64, by omega⟩ : Fin 256) = a := Fin.ext (by dsimp only; omega)
  unfold normed
  dsimp only
  rw [e]
  pointwise [norms128]
  rw [facs128_entry]

/-- The matrix that copies head `h` beside itself four times. -/
def sixtyFour : BitVec 32 := Scalar.select (Scalar.cmpi .eq 64#32 0#32) 1#32 64#32
def within : IVec S256x256 32 := remsi (iota .tc S256x256 32 [1] iota_S256x256_d1_w32) (broadcast S256x256 sixtyFour)
def copies (n : ℕ) : FVec Ideal S256x256 .bf16 :=
  truncf .bf16 (sitofp .f32 (extui 32 (cmpi .eq (iota .tc S256x256 32 [0] iota_S256x256_d0_w32)
    (addi (broadcast S256x256 (BitVec.ofNat 32 n))
      (select (andi (xori (cmpi .slt within (broadcast S256x256 0#32))
          (broadcastTo S256x256 (broadcast S256x256 (Scalar.cmpi .slt sixtyFour 0#32)) broadcasts_S256x256_S256x256))
          (cmpi .ne within (broadcast S256x256 0#32))) (addi within (broadcast S256x256 sixtyFour)) within))) natLt_1_32)) bitsLt_bf16_f32

theorem within_fixed : ∀ b : Fin 256, (Scalar.select (IntOp.andi (IntOp.xori (IntOp.cmpi .slt (IntOp.remsi .vector (BitVec.ofNat 32 b.val) sixtyFour) 0#32) (Scalar.cmpi .slt sixtyFour 0#32))
    (IntOp.cmpi .ne (IntOp.remsi .vector (BitVec.ofNat 32 b.val) sixtyFour) 0#32))
    (IntOp.addi (IntOp.remsi .vector (BitVec.ofNat 32 b.val) sixtyFour) sixtyFour) (IntOp.remsi .vector (BitVec.ofNat 32 b.val) sixtyFour))
    = BitVec.ofNat 32 (b.val % 64) := by
  decide +kernel

theorem copies_entry (n : ℕ) (hn : n ≤ 192) (a b : Fin 256) :
    copies n (ix2 a b) = if a.val = n + b.val % 64 then 1 else 0 := by
  pointwise [copies, within]
  rw [within_fixed b]
  have e : (BitVec.ofNat 32 a.val == BitVec.ofNat 32 n + BitVec.ofNat 32 (b.val % 64)) = decide (a.val = n + b.val % 64) := by
    rw [← BitVec.ofNat_add, Bool.eq_iff_iff, beq_iff_eq, decide_eq_true_iff, ← BitVec.toNat_inj, BitVec.toNat_ofNat, BitVec.toNat_ofNat,
      Nat.mod_eq_of_lt (by omega), Nat.mod_eq_of_lt (by omega)]
  show (((BitVec.setWidth 32 (BitVec.ofBool (BitVec.ofNat 32 a.val == BitVec.ofNat 32 n + BitVec.ofNat 32 (b.val % 64)))).toInt : ℝ) : EReal) = _
  rw [e]
  by_cases h : a.val = n + b.val % 64
  · rw [decide_eq_true h, if_pos h]
    have : (BitVec.setWidth 32 (BitVec.ofBool true)).toInt = 1 := by decide
    rw [this]
    norm_num
  · rw [decide_eq_false h, if_neg h]
    norm_num

/-- One head of 640 rows, copied beside itself. -/
def spread (n : ℕ) (x : FVec Ideal S640x256 .bf16) : FVec Ideal S640x256 .bf16 :=
  truncf .bf16 (matmul dot_S640x256_S256x256_S640x256_1_0_0_1_n_n none x (copies n) (constant S640x256 .f32 0x00000000#32)) bitsLt_bf16_f32

theorem spread_entry (n : ℕ) (hn : n ≤ 192) (x : FVec Ideal S640x256 .bf16) (r : Fin 640) (a : Fin 256) :
    spread n x (ix2 r a) = x (ix2 r ⟨n + a.val % 64, by omega⟩) := by
  pointwise [spread]
  simp only [copies_entry n hn]
  rw [Finset.sum_eq_single (⟨n + a.val % 64, by omega⟩ : Fin 256)]
  · simp
  · intro b _ hb
    rw [if_neg fun h => hb (Fin.ext h), mul_zero]
  · simp

/-- 128 rows and the 512 rows after them. -/
def joined (x : Vec Ideal S128x256 .bf16) (y : Vec Ideal S512x256 .bf16) : FVec Ideal S640x256 .bf16 :=
  concatenate S640x256 0 [⟨S128x256, x⟩, ⟨S512x256, y⟩] concatenates_S128x256_S512x256_S640x256_d0

/-- The copies of one key head's normalised keys, and of its values. -/
def keyRows (n : ℕ) (x : Vec Ideal S128x256 .bf16) (y : Vec Ideal S512x256 .bf16) (g : FVec Ideal S1x256 .f32) : FVec Ideal S640x256 .bf16 :=
  spread n (truncf .bf16 (norms640 (extf .f32 (joined x y) bitsLt_bf16_f32) g) bitsLt_bf16_f32)
def valueRows (n : ℕ) (x : Vec Ideal S128x256 .bf16) (y : Vec Ideal S512x256 .bf16) : FVec Ideal S640x256 .bf16 :=
  spread n (joined x y)

/-- The four heads of 128 rows one below the other, each in its own lanes. -/
def only (i : ℕ) (x : FVec Ideal S128x256 .f32) : FVec Ideal S128x256 .f32 :=
  select (is128 i) x (broadcast S128x256 (Scalar.ofBits .f32 0x00000000#32))
def stacked (x : FVec Ideal S128x256 .f32) : FVec Ideal S512x256 .bf16 :=
  truncf .bf16 (concatenate S512x256 0 [⟨S128x256, only 0 x⟩, ⟨S128x256, only 1 x⟩, ⟨S128x256, only 2 x⟩, ⟨S128x256, only 3 x⟩]
    concatenates_S128x256_S128x256_S128x256_S128x256_S512x256_d0) bitsLt_bf16_f32
def queryRows (x : Vec Ideal S128x256 .bf16) (g : FVec Ideal S1x256 .f32) : FVec Ideal S512x256 .bf16 :=
  stacked (norms128 (extf .f32 (φ := .bf16) x bitsLt_bf16_f32) g)

theorem only_entry (i : ℕ) (hi : i < 4) (x : FVec Ideal S128x256 .f32) (r : Fin 128) (a : Fin 256) :
    only i x (ix2 r a) = if a.val / 64 = i then x (ix2 r a) else 0 := by
  pointwise [only]
  rw [is128_entry i hi]
  by_cases h : a.val / 64 = i
  · simp [h, Scalar.select]
  · simp [h, Scalar.select]

theorem stacked_entry (x : FVec Ideal S128x256 .f32) (t : Fin 512) (a : Fin 256) :
    stacked x (ix2 t a) = if a.val / 64 = t.val / 128 then x (ix2 (⟨t.val % 128, by omega⟩ : Fin 128) a) else 0 := by
  have ht := t.isLt
  pointwise [stacked]
  obtain h | h | h | h : t.val / 128 = 0 ∨ t.val / 128 = 1 ∨ t.val / 128 = 2 ∨ t.val / 128 = 3 := by omega
  · rw [dif_pos (by omega), only_entry 0 (by omega), h]
    exact congrArg (fun v => if a.val / 64 = 0 then v else 0) (same x (by first | rfl | (dsimp only; omega)) (by first | rfl | (dsimp only; omega)))
  · rw [dif_neg (by omega), dif_pos (by omega), only_entry 1 (by omega), h]
    exact congrArg (fun v => if a.val / 64 = 1 then v else 0) (same x (by first | rfl | (dsimp only; omega)) (by first | rfl | (dsimp only; omega)))
  · rw [dif_neg (by omega), dif_neg (by omega), dif_pos (by omega), only_entry 2 (by omega), h]
    exact congrArg (fun v => if a.val / 64 = 2 then v else 0) (same x (by first | rfl | (dsimp only; omega)) (by first | rfl | (dsimp only; omega)))
  · rw [dif_neg (by omega), dif_neg (by omega), dif_neg (by omega), only_entry 3 (by omega), h]
    exact congrArg (fun v => if a.val / 64 = 3 then v else 0) (same x (by first | rfl | (dsimp only; omega)) (by first | rfl | (dsimp only; omega)))

/-- The four heads put back beside each other. -/
def unstacked (x : FVec Ideal S512x256 .f32) : FVec Ideal S128x256 .bf16 :=
  truncf .bf16 (addf (addf (addf (only 0 (extractStridedSlice S128x256 ![0, 0] x slices_S512x256_o0_0_S128x256))
    (only 1 (extractStridedSlice S128x256 ![128, 0] x slices_S512x256_o128_0_S128x256)))
    (only 2 (extractStridedSlice S128x256 ![256, 0] x slices_S512x256_o256_0_S128x256)))
    (only 3 (extractStridedSlice S128x256 ![384, 0] x slices_S512x256_o384_0_S128x256))) bitsLt_bf16_f32

theorem unstacked_entry (x : FVec Ideal S512x256 .f32) (i : Fin 128) (a : Fin 256) :
    unstacked x (ix2 i a) = x (ix2 (⟨a.val / 64 * 128 + i.val, by omega⟩ : Fin 512) a) := by
  pointwise [unstacked]
  rw [only_entry 0 (by omega), only_entry 1 (by omega), only_entry 2 (by omega), only_entry 3 (by omega)]
  pointwise []
  obtain h | h | h | h : a.val / 64 = 0 ∨ a.val / 64 = 1 ∨ a.val / 64 = 2 ∨ a.val / 64 = 3 := by omega
  all_goals simp [h]
  all_goals exact same x (by first | rfl | (dsimp only; omega)) (by first | rfl | (dsimp only; omega))

section Block

variable (s : BitVec 1) (q : FVec Ideal S512x256 .bf16) (k v : FVec Ideal S640x256 .bf16) (z : Vec Ideal S1x512x1 .f32) (b : Vec Ideal S1x512x256 .f32)
  (w : ℕ) (hw : S640x256.Slices ![w, 0] S256x256)

/-- The scores of a block, the largest of a row with its sink, the weights, their sum with the sink's, and the probabilities. -/
def scores : FVec Ideal S512x256 .f32 :=
  select (andi (cmpi .slt (iota .tc S512x256 32 [1] iota_S512x256_d1_w32) (broadcast S512x256 128#32)) (broadcast S512x256 s))
    (broadcast S512x256 (Scalar.ofBits .f32 0xFF800000#32))
    (addf (mulf (matmul dot_S512x256_S256x256_S512x256_1_1_0_0_n_n none q (extractStridedSlice S256x256 ![w, 0] k hw)
      (constant S512x256 .f32 0x00000000#32)) (broadcast S512x256 (Scalar.ofBits .f32 0x3E000000#32)))
      (shapeCast S512x256 b shapeCasts_S1x512x256_S512x256))
def sinkRow : FVec Ideal S512x1 .f32 := shapeCast S512x1 z shapeCasts_S1x512x1_S512x1

end Block

section Soft

variable (x : FVec Ideal S512x256 .f32) (z : FVec Ideal S512x1 .f32)

def top : FVec Ideal S512x1 .f32 :=
  maximumf (shapeCast S512x1 (multiReduction .maximumf [1] S512 x 0xFF800000#32 reduces_S512x256_S512 (.inl rfl) rfl) shapeCasts_S512_S512x1) z
def weights : FVec Ideal S512x256 .f32 := exp (subf x (broadcastTo S512x256 (top x z) broadcasts_S512x1_S512x256))
def sinkWeights : FVec Ideal S512x1 .f32 := exp (subf z (top x z))
def share : FVec Ideal S512x1 .f32 :=
  divf (broadcast S512x1 (Scalar.ofBits .f32 0x3F800000#32)) (addf (shapeCast S512x1
    (multiReduction .add [1] S512 (weights x z) 0x00000000#32 reduces_S512x256_S512 (.inl rfl) rfl) shapeCasts_S512_S512x1) (sinkWeights x z))
def probs : FVec Ideal S512x256 .f32 := mulf (weights x z) (broadcastTo S512x256 (share x z) broadcasts_S512x1_S512x256)
def sinkProbs : FVec Ideal S512x1 .f32 := mulf (sinkWeights x z) (share x z)

theorem top_entry (t : Fin 512) : top x z (ix2 t (0 : Fin 1)) = peak (fun j => x (ix2 t j)) (z (ix2 t (0 : Fin 1))) := by
  pointwise [top]
  rw [bottom]
  rfl

theorem weights_entry (t : Fin 512) (j : Fin 256) :
    weights x z (ix2 t j) = Ideal.exp (x (ix2 t j) - peak (fun j => x (ix2 t j)) (z (ix2 t (0 : Fin 1)))) := by
  pointwise [weights]
  rw [top_entry]

theorem sinkWeights_entry (t : Fin 512) :
    sinkWeights x z (ix2 t (0 : Fin 1)) = Ideal.exp (z (ix2 t (0 : Fin 1)) - peak (fun j => x (ix2 t j)) (z (ix2 t (0 : Fin 1)))) := by
  pointwise [sinkWeights]
  rw [top_entry]

theorem share_entry (t : Fin 512) :
    share x z (ix2 t (0 : Fin 1)) = Ideal.div 1 (total (fun j => x (ix2 t j)) (z (ix2 t (0 : Fin 1)))) := by
  pointwise [share]
  simp only [weights_entry, sinkWeights_entry]
  rfl

theorem probs_entry (t : Fin 512) (j : Fin 256) :
    probs x z (ix2 t j) = Ideal.exp (x (ix2 t j) - peak (fun j => x (ix2 t j)) (z (ix2 t (0 : Fin 1))))
      * Ideal.div 1 (total (fun j => x (ix2 t j)) (z (ix2 t (0 : Fin 1)))) := by
  pointwise [probs]
  rw [weights_entry, share_entry]

theorem sinkProbs_entry (t : Fin 512) :
    sinkProbs x z (ix2 t (0 : Fin 1)) = Ideal.exp (z (ix2 t (0 : Fin 1)) - peak (fun j => x (ix2 t j)) (z (ix2 t (0 : Fin 1))))
      * Ideal.div 1 (total (fun j => x (ix2 t j)) (z (ix2 t (0 : Fin 1)))) := by
  pointwise [sinkProbs]
  rw [sinkWeights_entry, share_entry]

/-- The probabilities times the values, the heads put back beside each other. -/
def outBlock (p : FVec Ideal S512x256 .f32) (v : FVec Ideal S640x256 .bf16) (w : ℕ) (hw : S640x256.Slices ![w, 0] S256x256) : FVec Ideal S128x256 .bf16 :=
  unstacked (matmul dot_S512x256_S256x256_S512x256_1_0_0_1_n_n none (truncf .bf16 p bitsLt_bf16_f32) (extractStridedSlice S256x256 ![w, 0] v hw)
    (constant S512x256 .f32 0x00000000#32))

theorem outBlock_entry (p : FVec Ideal S512x256 .f32) (v : FVec Ideal S640x256 .bf16) (w : ℕ) (hl : w ≤ 384) (hw : S640x256.Slices ![w, 0] S256x256)
    (i : Fin 128) (a : Fin 256) :
    outBlock p v w hw (ix2 i a)
      = ∑ j : Fin 256, p (ix2 (⟨a.val / 64 * 128 + i.val, by omega⟩ : Fin 512) j) * v (ix2 (⟨w + j.val, by omega⟩ : Fin 640) a) := by
  unfold outBlock
  rw [unstacked_entry]
  pointwise []

end Soft

/-- Whether the mask hides a key: in the first block, the first half of the window. -/
theorem hides : ∀ (j : Fin 256) (s : Bool),
    IntOp.andi (IntOp.cmpi .slt (BitVec.ofNat 32 j.val) 128#32) (BitVec.ofBool s) = if j.val < 128 ∧ s = true then 1#1 else 0#1 := by
  decide +kernel

theorem scores_entry (s : Bool) (q : FVec Ideal S512x256 .bf16) (k : FVec Ideal S640x256 .bf16) (b : Vec Ideal S1x512x256 .f32)
    (w : ℕ) (hl : w ≤ 384) (hw : S640x256.Slices ![w, 0] S256x256) (t : Fin 512) (j : Fin 256) :
    scores (BitVec.ofBool s) q k b w hw (ix2 t j) = if j.val < 128 ∧ s = true then ⊥
      else (∑ a, q (ix2 t a) * k (ix2 (⟨w + j.val, by omega⟩ : Fin 640) a)) * eighth + b (ix3 (0 : Fin 1) t j) := by
  pointwise [scores]
  rw [hides, bottom]
  by_cases h : j.val < 128 ∧ s = true
  · rw [if_pos h, if_pos h]
    rfl
  · rw [if_neg h, if_neg h]
    rfl

/-- A row of queries out of a block, and a head's gain. -/
def rowOf (x : Vec Ideal S128x256 .bf16) (t : Fin 512) (d : Fin 64) : EReal :=
  x (ix2 (⟨t.val % 128, by omega⟩ : Fin 128) (⟨64 * (t.val / 128) + d.val, by omega⟩ : Fin 256))
def gainAt (g : FVec Ideal S1x256 .f32) (i : ℕ) (hi : i < 4) (d : Fin 64) : EReal := g (ix2 (0 : Fin 1) (⟨64 * i + d.val, by omega⟩ : Fin 256))

theorem queryRows_entry (x : Vec Ideal S128x256 .bf16) (g : FVec Ideal S1x256 .f32) (t : Fin 512) (a : Fin 256) :
    queryRows x g (ix2 t a) = if a.val / 64 = t.val / 128 then normed (rowOf x t) (gainAt g (t.val / 128) (by omega)) ⟨a.val % 64, by omega⟩ else 0 := by
  unfold queryRows
  rw [stacked_entry]
  by_cases h : a.val / 64 = t.val / 128
  · rw [if_pos h, if_pos h, norms128_entry]
    congr 1
    · funext d
      pointwise [rowOf]
      exact same x (by first | rfl | (dsimp only; omega)) (by first | rfl | (dsimp only; omega))
    · funext d
      exact same g (by first | rfl | (dsimp only; omega)) (by first | rfl | (dsimp only; omega))
  · rw [if_neg h, if_neg h]

theorem keyRows_entry (h : ℕ) (hh : h < 4) (x : Vec Ideal S128x256 .bf16) (y : Vec Ideal S512x256 .bf16) (g : FVec Ideal S1x256 .f32) (r : Fin 640) (a : Fin 256) :
    keyRows (64 * h) x y g (ix2 r a)
      = normed (fun d => joined x y (ix2 r ⟨64 * h + d.val, by omega⟩)) (gainAt g h hh) ⟨a.val % 64, by omega⟩ := by
  unfold keyRows
  rw [spread_entry _ (by omega)]
  pointwise []
  rw [norms640_entry]
  congr 1
  · funext d
    pointwise []
    exact same (joined x y) (by first | rfl | (dsimp only; omega)) (by first | rfl | (dsimp only; omega))
  · funext d
    exact same g (by first | rfl | (dsimp only; omega)) (by first | rfl | (dsimp only; omega))
  · exact Fin.ext (by dsimp only; omega)

theorem dot_entry (h : ℕ) (hh : h < 4) (q : Vec Ideal S128x256 .bf16) (gq : FVec Ideal S1x256 .f32) (x : Vec Ideal S128x256 .bf16)
    (y : Vec Ideal S512x256 .bf16) (gk : FVec Ideal S1x256 .f32) (t : Fin 512) (r : Fin 640) :
    ∑ a, queryRows q gq (ix2 t a) * keyRows (64 * h) x y gk (ix2 r a)
      = ∑ d, normed (rowOf q t) (gainAt gq (t.val / 128) (by omega)) d
        * normed (fun d => joined x y (ix2 r ⟨64 * h + d.val, by omega⟩)) (gainAt gk h hh) d := by
  have e := sum_lanes (fun a => normed (rowOf q t) (gainAt gq (t.val / 128) (by omega)) ⟨a.val % 64, by omega⟩
        * normed (fun d => joined x y (ix2 r ⟨64 * h + d.val, by omega⟩)) (gainAt gk h hh) ⟨a.val % 64, by omega⟩) ⟨t.val / 128, by omega⟩
  refine (Finset.sum_congr rfl fun a _ => ?_).trans (e.trans (Finset.sum_congr rfl fun d _ => ?_))
  · rw [queryRows_entry, keyRows_entry h hh]
    dsimp only
    by_cases c : a.val / 64 = t.val / 128
    · rw [if_pos c, if_pos c]
    · rw [if_neg c, if_neg c, zero_mul]
  · have c : (⟨(64 * (t.val / 128) + d.val) % 64, by omega⟩ : Fin 64) = d := Fin.ext (by dsimp only; omega)
    dsimp only
    rw [c]

end Cert.AttnFwd.Parts

end
-- ==== Proof.AttnFwd.Tile.lean ====
/-
  What the forward kernel stores at an index of its three output blocks, from the tile's own input blocks.
-/
module

public import proofs.«01_k».proof.Proof.AttnFwd.Parts
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat Window)
open Cert.Coords Cert.Attn

namespace Cert.AttnFwd

open Parts (peak total)

/-- A key's probability, and the sink's, as the kernel takes them: a weight times the reciprocal of the weights in all. -/
def prob (f : Fin 256 → EReal) (z : EReal) (j : Fin 256) : EReal := Ideal.exp (f j - peak f z) * Ideal.div 1 (total f z)
def sinkProb (f : Fin 256 → EReal) (z : EReal) : EReal := Ideal.exp (z - peak f z) * Ideal.div 1 (total f z)

/-- A score: hidden where the mask says so, else an eighth of the dot product of the normalised rows, plus the bias. -/
def score (hidden : Prop) [Decidable hidden] (q k gq gk : Fin 64 → EReal) (b : EReal) : EReal :=
  if hidden then ⊥ else (∑ d, normed q gq d * normed k gk d) * eighth + b

namespace Tile

open Cert.Kernel20Ideal Cert.Kernel20Ideal.Gen Cert.AttnFwd.Parts

theorem hz : (![0, 0] : Fin 2 → Nat) = fun _ => 0 := funext fun a => by fin_cases a <;> rfl

/-- Whether block `b` of tile `i` is the first of all. -/
def first (i b : ℕ) : BitVec 1 := Scalar.cmpi .eq (Scalar.addi (Scalar.muli (BitVec.ofNat 32 i) 4#32) (BitVec.ofNat 32 b)) 0#32
theorem first_eq : ∀ i : Fin 8, ∀ b : Fin 4, first i.val b.val = BitVec.ofBool (decide (4 * i.val + b.val = 0)) := by decide +kernel

/-- The rows of a tile that a block of a key head reads. -/
def rows (x : Vec Ideal S512x1024 .bf16) (b h : Fin 4) (t : Fin 512) (d : Fin 64) : EReal :=
  x (ix2 (⟨128 * b.val + t.val % 128, by omega⟩ : Fin 512) (⟨256 * h.val + (64 * (t.val / 128) + d.val), by omega⟩ : Fin 1024))
def keys (x : Vec Ideal S128x256 .bf16) (y : Vec Ideal S512x256 .bf16) (b h : Fin 4) (j : Fin 256) (d : Fin 64) : EReal :=
  if e : 128 * b.val + j.val < 128 then x (ix2 (⟨128 * b.val + j.val, e⟩ : Fin 128) (⟨64 * h.val + d.val, by omega⟩ : Fin 256))
  else y (ix2 (⟨128 * b.val + j.val - 128, by omega⟩ : Fin 512) (⟨64 * h.val + d.val, by omega⟩ : Fin 256))

/-- That a block's rectangle lies in the array it is read from. -/
abbrev Fits (p q : ℕ) : Prop := ∀ a, (![p, q] : Fin 2 → ℕ) a + S128x256.size a ≤ S512x1024.size a
abbrev FitsSink (q : ℕ) : Prop := ∀ a, (![q / 256, 0, 0] : Fin 3 → ℕ) a + S1x512x1.size a ≤ S4x512x1.size a
abbrev FitsBias (q : ℕ) : Prop := ∀ a, (![q / 256, 0, 0] : Fin 3 → ℕ) a + S1x512x256.size a ≤ S4x512x256.size a

/-- A block of 128 rows and 256 lanes; a key head's sinks and its bias. -/
def part (x : Vec Ideal S512x1024 .bf16) (p q : ℕ) (hb : Fits p q) : FVec Ideal S128x256 .bf16 :=
  View.ld (Val := Elt Ideal) (e' := .bf16) x (Rect.unit (s := S512x1024) ![p, q] S128x256.size hb)
def partSink (x : Vec Ideal S4x512x1 .f32) (q : ℕ) (hb : FitsSink q) : FVec Ideal S1x512x1 .f32 :=
  View.ld (Val := Elt Ideal) (e' := .f32) x (Rect.unit (s := S4x512x1) ![q / 256, 0, 0] S1x512x1.size hb)
def partBias (x : Vec Ideal S4x512x256 .f32) (q : ℕ) (hb : FitsBias q) : FVec Ideal S1x512x256 .f32 :=
  View.ld (Val := Elt Ideal) (e' := .f32) x (Rect.unit (s := S4x512x256) ![q / 256, 0, 0] S1x512x256.size hb)

theorem joined_entry (x : Vec Ideal S128x256 .bf16) (y : Vec Ideal S512x256 .bf16) (r : Fin 640) (a : Fin 256) :
    joined x y (ix2 r a) = if e : r.val < 128 then x (ix2 ⟨r.val, e⟩ a) else y (ix2 (⟨r.val - 128, by omega⟩ : Fin 512) a) := by
  pointwise [joined]

section Entries

variable (i : ℕ) (x0 : Vec Ideal S512x1024 .bf16) (x1 : Vec Ideal S128x256 .bf16) (x2 : Vec Ideal S512x256 .bf16)
  (x3 : Vec Ideal S128x256 .bf16) (x4 : Vec Ideal S512x256 .bf16) (x5 x6 : Vec Ideal S1x256 .f32)
  (x7 : Vec Ideal S4x512x1 .f32) (x8 : Vec Ideal S4x512x256 .f32) (p q : ℕ) (hw : S640x256.Slices ![p, 0] S256x256)

/-- One block of one key head: its scores, its sinks, and what it stores. -/
def blockScores (hb : Fits p q) (hb1 : FitsBias q) : FVec Ideal S512x256 .f32 :=
  scores (first i (p / 128)) (queryRows (part x0 p q hb) x5) (keyRows (q / 4) x1 x2 x6) (partBias x8 q hb1) p hw
def blockSinks (hb2 : FitsSink q) : FVec Ideal S512x1 .f32 := sinkRow (partSink x7 q hb2)
def storedOut (hb : Fits p q) (hb1 : FitsBias q) (hb2 : FitsSink q) : FVec Ideal S128x256 .bf16 :=
  outBlock (probs (blockScores i x0 x1 x2 x5 x6 x8 p q hw hb hb1) (blockSinks x7 q hb2)) (valueRows (q / 4) x3 x4) p hw
def storedProbs (hb : Fits p q) (hb1 : FitsBias q) (hb2 : FitsSink q) : FVec Ideal S1x1x512x256 .bf16 :=
  shapeCast S1x1x512x256 (truncf .bf16 (probs (blockScores i x0 x1 x2 x5 x6 x8 p q hw hb hb1) (blockSinks x7 q hb2)) bitsLt_bf16_f32) shapeCasts_S512x256_S1x1x512x256
def storedSinks (hb : Fits p q) (hb1 : FitsBias q) (hb2 : FitsSink q) : FVec Ideal S1x1x512x1 .f32 :=
  shapeCast S1x1x512x1 (sinkProbs (blockScores i x0 x1 x2 x5 x6 x8 p q hw hb hb1) (blockSinks x7 q hb2)) shapeCasts_S512x1_S1x1x512x1

/-- The score of a query row and a key of a block of a key head, from the tile's blocks. -/
def tileScore (b h : Fin 4) (t : Fin 512) (j : Fin 256) : EReal :=
  score (j.val < 128 ∧ 4 * i + b.val = 0) (rows x0 b h t) (keys x1 x2 b h j) (gainAt x5 (t.val / 128) (by omega)) (gainAt x6 h.val h.isLt)
    (x8 (ix3 h t j))

variable (b h : Fin 4) (hi : i < 8) (hp : p = 128 * b.val) (hq : q = 256 * h.val)

include hi hp hq in
theorem scores_part (hb hb1) (t : Fin 512) (j : Fin 256) :
    blockScores i x0 x1 x2 x5 x6 x8 p q hw hb hb1 (ix2 t j) = tileScore i x0 x1 x2 x5 x6 x8 b h t j := by
  subst hp hq
  unfold blockScores tileScore score
  rw [Nat.mul_div_cancel_left b.val (by decide : 0 < 128), first_eq ⟨i, hi⟩ b, scores_entry _ _ _ _ _ (by omega)]
  have e : 256 * h.val / 4 = 64 * h.val := by omega
  simp only [decide_eq_true_eq]
  rw [e, dot_entry h.val h.isLt]
  have hr : rowOf (part x0 (128 * b.val) (256 * h.val) hb) t = rows x0 b h t := by
    funext d
    exact View.ld_unit_apply_of x0 _ _ _ _ _ fun a => by
      match a with
      | ⟨0, _⟩ => rfl
      | ⟨1, _⟩ => rfl
  have hk : (fun d : Fin 64 => joined x1 x2 (ix2 (⟨128 * b.val + j.val, by omega⟩ : Fin 640) (⟨64 * h.val + d.val, by omega⟩ : Fin 256))) = keys x1 x2 b h j := by
    funext d
    rw [joined_entry]
    rfl
  have hx : partBias x8 (256 * h.val) hb1 (ix3 (0 : Fin 1) t j) = x8 (ix3 h t j) :=
    View.ld_unit_apply_of x8 _ _ _ _ (ix3 h t j) fun a => by
      match a with
      | ⟨0, _⟩ => exact (Nat.mul_div_cancel_left h.val (by decide : 0 < 256)).symm
      | ⟨1, _⟩ => exact (Nat.zero_add _).symm
      | ⟨2, _⟩ => exact (Nat.zero_add _).symm
  rw [hr, hk, hx]

include hq in
theorem sinks_part (hb2) (t : Fin 512) : blockSinks x7 q hb2 (ix2 t (0 : Fin 1)) = x7 (ix3 h t (0 : Fin 1)) := by
  subst hq
  pointwise [blockSinks, sinkRow]
  exact View.ld_unit_apply_of x7 _ _ _ _ (ix3 h t (0 : Fin 1)) fun a => by
    match a with
    | ⟨0, _⟩ => exact (Nat.mul_div_cancel_left h.val (by decide : 0 < 256)).symm
    | ⟨1, _⟩ => exact (Nat.zero_add _).symm
    | ⟨2, _⟩ => exact (Nat.zero_add _).symm

include hi hp hq in
theorem probs_part (hb hb1 hb2) (t : Fin 512) (j : Fin 256) :
    probs (blockScores i x0 x1 x2 x5 x6 x8 p q hw hb hb1) (blockSinks x7 q hb2) (ix2 t j)
      = prob (tileScore i x0 x1 x2 x5 x6 x8 b h t) (x7 (ix3 h t (0 : Fin 1))) j := by
  rw [probs_entry, sinks_part x7 q h hq]
  simp only [scores_part i x0 x1 x2 x5 x6 x8 p q hw b h hi hp hq]
  rfl

include hi hp hq in
theorem storedProbs_entry (hb hb1 hb2) (t : Fin 512) (j : Fin 256) :
    storedProbs i x0 x1 x2 x5 x6 x7 x8 p q hw hb hb1 hb2 (ix4 (0 : Fin 1) (0 : Fin 1) t j)
      = prob (tileScore i x0 x1 x2 x5 x6 x8 b h t) (x7 (ix3 h t (0 : Fin 1))) j := by
  pointwise [storedProbs]
  exact probs_part i x0 x1 x2 x5 x6 x7 x8 p q hw b h hi hp hq hb hb1 hb2 t j

include hi hp hq in
theorem storedSinks_entry (hb hb1 hb2) (t : Fin 512) :
    storedSinks i x0 x1 x2 x5 x6 x7 x8 p q hw hb hb1 hb2 (ix4 (0 : Fin 1) (0 : Fin 1) t (0 : Fin 1))
      = sinkProb (tileScore i x0 x1 x2 x5 x6 x8 b h t) (x7 (ix3 h t (0 : Fin 1))) := by
  pointwise [storedSinks]
  rw [sinkProbs_entry, sinks_part x7 q h hq]
  simp only [scores_part i x0 x1 x2 x5 x6 x8 p q hw b h hi hp hq]
  rfl

include hi hp hq in
theorem storedOut_entry (hb hb1 hb2) (r : Fin 128) (a : Fin 256) :
    storedOut i x0 x1 x2 x3 x4 x5 x6 x7 x8 p q hw hb hb1 hb2 (ix2 r a)
      = ∑ j, prob (tileScore i x0 x1 x2 x5 x6 x8 b h ⟨a.val / 64 * 128 + r.val, by omega⟩) (x7 (ix3 h (⟨a.val / 64 * 128 + r.val, by omega⟩ : Fin 512) (0 : Fin 1))) j
        * keys x3 x4 b h j ⟨a.val % 64, by omega⟩ := by
  unfold storedOut
  rw [outBlock_entry _ _ _ (by omega)]
  refine Finset.sum_congr rfl fun j _ => ?_
  rw [probs_part i x0 x1 x2 x5 x6 x7 x8 p q hw b h hi hp hq]
  congr 1
  subst hp hq
  unfold valueRows
  rw [spread_entry _ (by omega), joined_entry]
  unfold keys
  have e : 256 * h.val / 4 = 64 * h.val := by omega
  split
  · exact same x3 (by dsimp only) (by dsimp only; omega)
  · exact same x4 (by dsimp only) (by dsimp only; omega)

end Entries

end Tile
end Cert.AttnFwd

end
-- ==== Proof.AttnFwd.Store.lean ====
/-
  The forward kernel's stores, read at an index of each of its three output blocks.
-/
module

public import proofs.«01_k».proof.Proof.AttnFwd.Tile

@[expose] public section

set_option maxRecDepth 16384

noncomputable section

open Idealize.ShloMosaic Idealize.ShloMosaic.TcCoe Idealize.SL.Sem Idealize.ShloMosaic.Tactic
open Idealize.ShloMosaic.Pipeline (Dat Window)
open Cert.Coords Cert.Attn

namespace Cert.AttnFwd.Tile

open Cert.Kernel20Ideal Cert.Kernel20Ideal.Gen Cert.AttnFwd.Parts

variable (x0 : Vec Ideal S512x1024 .bf16) (x1 : Vec Ideal S128x256 .bf16) (x2 : Vec Ideal S512x256 .bf16)
  (x3 : Vec Ideal S128x256 .bf16) (x4 : Vec Ideal S512x256 .bf16) (x5 x6 : Vec Ideal S1x256 .f32)
  (x7 : Vec Ideal S4x512x1 .f32) (x8 : Vec Ideal S4x512x256 .f32)

/-- A store, at the place that its offsets give. -/
theorem out_at (i : ℕ) (hi : i < 8) (p q : ℕ) (hp : p % 128 = 0 ∧ p ≤ 384) (hq : q % 256 = 0 ∧ q ≤ 768) (x : S128x256.Idx) (y : S512x1024.Idx)
    (h0 : (y 0).val = p + (x 0).val) (h1 : (y 1).val = q + (x 1).val) (hw) (hb hb1 hb2) (P : FVec Ideal S128x256 .bf16)
    (hP : P = storedOut i x0 x1 x2 x3 x4 x5 x6 x7 x8 p q hw hb hb1 hb2) (v : EReal)
    (hv : ∀ (b h : Fin 4) (r : Fin 128) (a : Fin 256), (y 0).val = 128 * b.val + r.val → (y 1).val = 256 * h.val + a.val →
      ∑ j, prob (tileScore i x0 x1 x2 x5 x6 x8 b h ⟨a.val / 64 * 128 + r.val, by omega⟩) (x7 (ix3 h (⟨a.val / 64 * 128 + r.val, by omega⟩ : Fin 512) (0 : Fin 1))) j
        * keys x3 x4 b h j ⟨a.val % 64, by omega⟩ = v) : P x = v := by
  subst hP
  rw [eq_of_coords2 x (x 0) (x 1) rfl rfl]
  have hx0 : (x 0).val < 128 := (x 0).isLt
  have hx1 : (x 1).val < 256 := (x 1).isLt
  exact (storedOut_entry i x0 x1 x2 x3 x4 x5 x6 x7 x8 p q hw ⟨p / 128, by omega⟩ ⟨q / 256, by omega⟩ hi (by dsimp only; omega) (by dsimp only; omega) hb hb1 hb2 (x 0) (x 1)).trans
    (hv _ _ (x 0) (x 1) (by dsimp only; omega) (by dsimp only; omega))

theorem probs_at (i : ℕ) (hi : i < 8) (p q : ℕ) (hp : p % 128 = 0 ∧ p ≤ 384) (hq : q % 256 = 0 ∧ q ≤ 768) (x : S1x1x512x256.Idx) (y : S4x4x512x256.Idx)
    (h0 : (y 0).val = p / 128 + (x 0).val) (h1 : (y 1).val = q / 256 + (x 1).val) (h2 : (y 2).val = (x 2).val) (h3 : (y 3).val = (x 3).val) (hw) (hb hb1 hb2)
    (P : FVec Ideal S1x1x512x256 .bf16) (hP : P = storedProbs i x0 x1 x2 x5 x6 x7 x8 p q hw hb hb1 hb2) :
    P x = prob (tileScore i x0 x1 x2 x5 x6 x8 (y 0) (y 1) (y 2)) (x7 (ix3 (y 1) (y 2) (0 : Fin 1))) (y 3) := by
  subst hP
  have hx0 : (x 0).val < 1 := (x 0).isLt
  have hx1 : (x 1).val < 1 := (x 1).isLt
  rw [eq_of_coords4 x (0 : Fin 1) (0 : Fin 1) (y 2) (y 3) (by show (x 0).val = 0; omega) (by show (x 1).val = 0; omega) h2.symm h3.symm]
  exact storedProbs_entry i x0 x1 x2 x5 x6 x7 x8 p q hw (y 0) (y 1) hi (by rw [h0]; omega) (by rw [h1]; omega) hb hb1 hb2 (y 2) (y 3)

theorem sinks_at (i : ℕ) (hi : i < 8) (p q : ℕ) (hp : p % 128 = 0 ∧ p ≤ 384) (hq : q % 256 = 0 ∧ q ≤ 768) (x : S1x1x512x1.Idx) (y : S4x4x512x1.Idx)
    (h0 : (y 0).val = p / 128 + (x 0).val) (h1 : (y 1).val = q / 256 + (x 1).val) (h2 : (y 2).val = (x 2).val) (hw) (hb hb1 hb2)
    (P : FVec Ideal S1x1x512x1 .f32) (hP : P = storedSinks i x0 x1 x2 x5 x6 x7 x8 p q hw hb hb1 hb2) :
    P x = sinkProb (tileScore i x0 x1 x2 x5 x6 x8 (y 0) (y 1) (y 2)) (x7 (ix3 (y 1) (y 2) (0 : Fin 1))) := by
  subst hP
  have hx0 : (x 0).val < 1 := (x 0).isLt
  have hx1 : (x 1).val < 1 := (x 1).isLt
  have hx3 : (x 3).val < 1 := (x 3).isLt
  rw [eq_of_coords4 x (0 : Fin 1) (0 : Fin 1) (y 2) (0 : Fin 1) (by show (x 0).val = 0; omega) (by show (x 1).val = 0; omega) h2.symm (by show (x 3).val = 0; omega)]
  exact storedSinks_entry i x0 x1 x2 x5 x6 x7 x8 p q hw (y 0) (y 1) hi (by rw [h0]; omega) (by rw [h1]; omega) hb hb1 hb2 (y 2)

variable (c : Dev nD) (i : grid0.Coords) (hi : (i 0).val < 8)

include hi in
set_option maxHeartbeats 2000000 in
theorem out_entry (a1 w1 a2 w2 a3 w3 a4 w4 a5 w5 a6 w6 a7 w7 a8 w8 a9 w9 a10 w10 a11 w11 a12 w12)
    (y : S512x1024.Idx) (v : EReal)
    (hv : ∀ (b h : Fin 4) (r : Fin 128) (a : Fin 256), (y 0).val = 128 * b.val + r.val → (y 1).val = 256 * h.val + a.val →
      ∑ j, prob (tileScore (i 0).val x0 x1 x2 x5 x6 x8 b h ⟨a.val / 64 * 128 + r.val, by omega⟩) (x7 (ix3 h (⟨a.val / 64 * 128 + r.val, by omega⟩ : Fin 512) (0 : Fin 1))) j
        * keys x3 x4 b h j ⟨a.val % 64, by omega⟩ = v) :
    out0_A_9 (F := Ideal) c i a1 w1 a2 w2 a3 w3 a4 w4 a5 w5 a6 w6 a7 w7 a8 w8 a9 w9 a10 w10 a11 w11 a12 w12 x0 x1 x2 x3 x4 x5 x6 x7 x8 y = v := by
  unfold out0_A_9
  rw [View.read_writes_eq_canon _ _ _ (cover0_A_9 (F := Ideal) c i a1 w1 a2 w2 a3 w3 a4 w4 a5 w5 a6 w6 a7 w7 a8 w8 a9 w9 a10 w10 a11 w11 a12 w12 x0 x1 x2 x3 x4 x5 x6 x7 x8)]
  have hc := cover0_A_9 (F := Ideal) c i a1 w1 a2 w2 a3 w3 a4 w4 a5 w5 a6 w6 a7 w7 a8 w8 a9 w9 a10 w10 a11 w11 a12 w12 x0 x1 x2 x3 x4 x5 x6 x7 x8 y
  revert hc
  unfold kernelRun0_A
  dsimp only
  sl_unfold_words
  simp only [View.readAt_eq_ld, w1.read_unread, w2.read_unread, w3.read_unread, w4.read_unread, w5.read_unread,
    w6.read_unread, w7.read_unread, w8.read_unread, w9.read_unread, View.ld_unit_zero (S := S128x256) hz, View.ld_unit_zero (S := S512x256) hz,
    View.ld_unit_zero (S := S1x256) hz]
  intro hc
  canon_tiles x h using hc
  all_goals clear hc
  case piece15 => exact out_at x0 x1 x2 x3 x4 x5 x6 x7 x8 (i 0).val hi 0 0 (by decide) (by decide) x y (h0.trans (Nat.zero_add _).symm) (h1.trans (Nat.zero_add _).symm) _ _ _ _ _ rfl v hv
  case piece14 => exact out_at x0 x1 x2 x3 x4 x5 x6 x7 x8 (i 0).val hi 128 0 (by decide) (by decide) x y h0 (h1.trans (Nat.zero_add _).symm) _ _ _ _ _ rfl v hv
  case piece13 => exact out_at x0 x1 x2 x3 x4 x5 x6 x7 x8 (i 0).val hi 256 0 (by decide) (by decide) x y h0 (h1.trans (Nat.zero_add _).symm) _ _ _ _ _ rfl v hv
  case piece12 => exact out_at x0 x1 x2 x3 x4 x5 x6 x7 x8 (i 0).val hi 384 0 (by decide) (by decide) x y h0 (h1.trans (Nat.zero_add _).symm) _ _ _ _ _ rfl v hv
  case piece11 => exact out_at x0 x1 x2 x3 x4 x5 x6 x7 x8 (i 0).val hi 0 256 (by decide) (by decide) x y (h0.trans (Nat.zero_add _).symm) h1 _ _ _ _ _ rfl v hv
  case piece10 => exact out_at x0 x1 x2 x3 x4 x5 x6 x7 x8 (i 0).val hi 128 256 (by decide) (by decide) x y h0 h1 _ _ _ _ _ rfl v hv
  case piece9 => exact out_at x0 x1 x2 x3 x4 x5 x6 x7 x8 (i 0).val hi 256 256 (by decide) (by decide) x y h0 h1 _ _ _ _ _ rfl v hv
  case piece8 => exact out_at x0 x1 x2 x3 x4 x5 x6 x7 x8 (i 0).val hi 384 256 (by decide) (by decide) x y h0 h1 _ _ _ _ _ rfl v hv
  case piece7 => exact out_at x0 x1 x2 x3 x4 x5 x6 x7 x8 (i 0).val hi 0 512 (by decide) (by decide) x y (h0.trans (Nat.zero_add _).symm) h1 _ _ _ _ _ rfl v hv
  case piece6 => exact out_at x0 x1 x2 x3 x4 x5 x6 x7 x8 (i 0).val hi 128 512 (by decide) (by decide) x y h0 h1 _ _ _ _ _ rfl v hv
  case piece5 => exact out_at x0 x1 x2 x3 x4 x5 x6 x7 x8 (i 0).val hi 256 512 (by decide) (by decide) x y h0 h1 _ _ _ _ _ rfl v hv
  case piece4 => exact out_at x0 x1 x2 x3 x4 x5 x6 x7 x8 (i 0).val hi 384 512 (by decide) (by decide) x y h0 h1 _ _ _ _ _ rfl v hv
  case piece3 => exact out_at x0 x1 x2 x3 x4 x5 x6 x7 x8 (i 0).val hi 0 768 (by decide) (by decide) x y (h0.trans (Nat.zero_add _).symm) h1 _ _ _ _ _ rfl v hv
  case piece2 => exact out_at x0 x1 x2 x3 x4 x5 x6 x7 x8 (i 0).val hi 128 768 (by decide) (by decide) x y h0 h1 _ _ _ _ _ rfl v hv
  case piece1 => exact out_at x0 x1 x2 x3 x4 x5 x6 x7 x8 (i 0).val hi 256 768 (by decide) (by decide) x y h0 h1 _ _ _ _ _ rfl v hv
  case piece0 => exact out_at x0 x1 x2 x3 x4 x5 x6 x7 x8 (i 0).val hi 384 768 (by decide) (by decide) x y h0 h1 _ _ _ _ _ rfl v hv

end Cert.AttnFwd.Tile

end
-- ==== Proof.AttnFwd.StoreProbs.lean ====
/-
  The forward kernel's stores of the probabilities, read at an index.
-/
module

public import proofs.«01_k».proof.Proof.AttnFwd.Store

@[expose] public section

set_option maxRecDepth 16384

noncomputable section

open Idealize.ShloMosaic Idealize.ShloMosaic.TcCoe Idealize.SL.Sem Idealize.ShloMosaic.Tactic
open Idealize.ShloMosaic.Pipeline (Dat Window)
open Cert.Coords Cert.Attn

namespace Cert.AttnFwd.Tile

open Cert.Kernel20Ideal Cert.Kernel20Ideal.Gen Cert.AttnFwd.Parts

variable (x0 : Vec Ideal S512x1024 .bf16) (x1 : Vec Ideal S128x256 .bf16) (x2 : Vec Ideal S512x256 .bf16)
  (x3 : Vec Ideal S128x256 .bf16) (x4 : Vec Ideal S512x256 .bf16) (x5 x6 : Vec Ideal S1x256 .f32)
  (x7 : Vec Ideal S4x512x1 .f32) (x8 : Vec Ideal S4x512x256 .f32)

variable (c : Dev nD) (i : grid0.Coords) (hi : (i 0).val < 8)

include hi in
set_option maxHeartbeats 2000000 in
theorem probs_entry (a1 w1 a2 w2 a3 w3 a4 w4 a5 w5 a6 w6 a7 w7 a8 w8 a9 w9 a10 w10 a11 w11 a12 w12)
    (y : S4x4x512x256.Idx) :
    out0_A_10 (F := Ideal) c i a1 w1 a2 w2 a3 w3 a4 w4 a5 w5 a6 w6 a7 w7 a8 w8 a9 w9 a10 w10 a11 w11 a12 w12 x0 x1 x2 x3 x4 x5 x6 x7 x8 y = prob (tileScore (i 0).val x0 x1 x2 x5 x6 x8 (y 0) (y 1) (y 2)) (x7 (ix3 (y 1) (y 2) (0 : Fin 1))) (y 3) := by
  unfold out0_A_10
  rw [View.read_writes_eq_canon _ _ _ (cover0_A_10 (F := Ideal) c i a1 w1 a2 w2 a3 w3 a4 w4 a5 w5 a6 w6 a7 w7 a8 w8 a9 w9 a10 w10 a11 w11 a12 w12 x0 x1 x2 x3 x4 x5 x6 x7 x8)]
  have hc := cover0_A_10 (F := Ideal) c i a1 w1 a2 w2 a3 w3 a4 w4 a5 w5 a6 w6 a7 w7 a8 w8 a9 w9 a10 w10 a11 w11 a12 w12 x0 x1 x2 x3 x4 x5 x6 x7 x8 y
  revert hc
  unfold kernelRun0_A
  dsimp only
  sl_unfold_words
  simp only [View.readAt_eq_ld, w1.read_unread, w2.read_unread, w3.read_unread, w4.read_unread, w5.read_unread,
    w6.read_unread, w7.read_unread, w8.read_unread, w9.read_unread, View.ld_unit_zero (S := S128x256) hz, View.ld_unit_zero (S := S512x256) hz,
    View.ld_unit_zero (S := S1x256) hz]
  intro hc
  canon_tiles x h using hc
  all_goals clear hc
  case piece15 => exact probs_at x0 x1 x2 x5 x6 x7 x8 (i 0).val hi 0 0 (by decide) (by decide) x y (h0.trans (Nat.zero_add _).symm) (h1.trans (Nat.zero_add _).symm) h2 h3 slices_S640x256_o0_0_S256x256 _ _ _ _ rfl
  case piece14 => exact probs_at x0 x1 x2 x5 x6 x7 x8 (i 0).val hi 128 0 (by decide) (by decide) x y h0 (h1.trans (Nat.zero_add _).symm) h2 h3 slices_S640x256_o128_0_S256x256 _ _ _ _ rfl
  case piece13 => exact probs_at x0 x1 x2 x5 x6 x7 x8 (i 0).val hi 256 0 (by decide) (by decide) x y h0 (h1.trans (Nat.zero_add _).symm) h2 h3 slices_S640x256_o256_0_S256x256 _ _ _ _ rfl
  case piece12 => exact probs_at x0 x1 x2 x5 x6 x7 x8 (i 0).val hi 384 0 (by decide) (by decide) x y h0 (h1.trans (Nat.zero_add _).symm) h2 h3 slices_S640x256_o384_0_S256x256 _ _ _ _ rfl
  case piece11 => exact probs_at x0 x1 x2 x5 x6 x7 x8 (i 0).val hi 0 256 (by decide) (by decide) x y (h0.trans (Nat.zero_add _).symm) h1 h2 h3 slices_S640x256_o0_0_S256x256 _ _ _ _ rfl
  case piece10 => exact probs_at x0 x1 x2 x5 x6 x7 x8 (i 0).val hi 128 256 (by decide) (by decide) x y h0 h1 h2 h3 slices_S640x256_o128_0_S256x256 _ _ _ _ rfl
  case piece9 => exact probs_at x0 x1 x2 x5 x6 x7 x8 (i 0).val hi 256 256 (by decide) (by decide) x y h0 h1 h2 h3 slices_S640x256_o256_0_S256x256 _ _ _ _ rfl
  case piece8 => exact probs_at x0 x1 x2 x5 x6 x7 x8 (i 0).val hi 384 256 (by decide) (by decide) x y h0 h1 h2 h3 slices_S640x256_o384_0_S256x256 _ _ _ _ rfl
  case piece7 => exact probs_at x0 x1 x2 x5 x6 x7 x8 (i 0).val hi 0 512 (by decide) (by decide) x y (h0.trans (Nat.zero_add _).symm) h1 h2 h3 slices_S640x256_o0_0_S256x256 _ _ _ _ rfl
  case piece6 => exact probs_at x0 x1 x2 x5 x6 x7 x8 (i 0).val hi 128 512 (by decide) (by decide) x y h0 h1 h2 h3 slices_S640x256_o128_0_S256x256 _ _ _ _ rfl
  case piece5 => exact probs_at x0 x1 x2 x5 x6 x7 x8 (i 0).val hi 256 512 (by decide) (by decide) x y h0 h1 h2 h3 slices_S640x256_o256_0_S256x256 _ _ _ _ rfl
  case piece4 => exact probs_at x0 x1 x2 x5 x6 x7 x8 (i 0).val hi 384 512 (by decide) (by decide) x y h0 h1 h2 h3 slices_S640x256_o384_0_S256x256 _ _ _ _ rfl
  case piece3 => exact probs_at x0 x1 x2 x5 x6 x7 x8 (i 0).val hi 0 768 (by decide) (by decide) x y (h0.trans (Nat.zero_add _).symm) h1 h2 h3 slices_S640x256_o0_0_S256x256 _ _ _ _ rfl
  case piece2 => exact probs_at x0 x1 x2 x5 x6 x7 x8 (i 0).val hi 128 768 (by decide) (by decide) x y h0 h1 h2 h3 slices_S640x256_o128_0_S256x256 _ _ _ _ rfl
  case piece1 => exact probs_at x0 x1 x2 x5 x6 x7 x8 (i 0).val hi 256 768 (by decide) (by decide) x y h0 h1 h2 h3 slices_S640x256_o256_0_S256x256 _ _ _ _ rfl
  case piece0 => exact probs_at x0 x1 x2 x5 x6 x7 x8 (i 0).val hi 384 768 (by decide) (by decide) x y h0 h1 h2 h3 slices_S640x256_o384_0_S256x256 _ _ _ _ rfl

end Cert.AttnFwd.Tile

end
-- ==== Proof.AttnFwd.StoreSinks.lean ====
/-
  The forward kernel's stores of the sinks' probabilities, read at an index.
-/
module

public import proofs.«01_k».proof.Proof.AttnFwd.Store

@[expose] public section

set_option maxRecDepth 16384

noncomputable section

open Idealize.ShloMosaic Idealize.ShloMosaic.TcCoe Idealize.SL.Sem Idealize.ShloMosaic.Tactic
open Idealize.ShloMosaic.Pipeline (Dat Window)
open Cert.Coords Cert.Attn

namespace Cert.AttnFwd.Tile

open Cert.Kernel20Ideal Cert.Kernel20Ideal.Gen Cert.AttnFwd.Parts

variable (x0 : Vec Ideal S512x1024 .bf16) (x1 : Vec Ideal S128x256 .bf16) (x2 : Vec Ideal S512x256 .bf16)
  (x3 : Vec Ideal S128x256 .bf16) (x4 : Vec Ideal S512x256 .bf16) (x5 x6 : Vec Ideal S1x256 .f32)
  (x7 : Vec Ideal S4x512x1 .f32) (x8 : Vec Ideal S4x512x256 .f32)

variable (c : Dev nD) (i : grid0.Coords) (hi : (i 0).val < 8)

include hi in
set_option maxHeartbeats 2000000 in
theorem sinks_entry (a1 w1 a2 w2 a3 w3 a4 w4 a5 w5 a6 w6 a7 w7 a8 w8 a9 w9 a10 w10 a11 w11 a12 w12)
    (y : S4x4x512x1.Idx) :
    out0_A_11 (F := Ideal) c i a1 w1 a2 w2 a3 w3 a4 w4 a5 w5 a6 w6 a7 w7 a8 w8 a9 w9 a10 w10 a11 w11 a12 w12 x0 x1 x2 x3 x4 x5 x6 x7 x8 y = sinkProb (tileScore (i 0).val x0 x1 x2 x5 x6 x8 (y 0) (y 1) (y 2)) (x7 (ix3 (y 1) (y 2) (0 : Fin 1))) := by
  unfold out0_A_11
  rw [View.read_writes_eq_canon _ _ _ (cover0_A_11 (F := Ideal) c i a1 w1 a2 w2 a3 w3 a4 w4 a5 w5 a6 w6 a7 w7 a8 w8 a9 w9 a10 w10 a11 w11 a12 w12 x0 x1 x2 x3 x4 x5 x6 x7 x8)]
  have hc := cover0_A_11 (F := Ideal) c i a1 w1 a2 w2 a3 w3 a4 w4 a5 w5 a6 w6 a7 w7 a8 w8 a9 w9 a10 w10 a11 w11 a12 w12 x0 x1 x2 x3 x4 x5 x6 x7 x8 y
  revert hc
  unfold kernelRun0_A
  dsimp only
  sl_unfold_words
  simp only [View.readAt_eq_ld, w1.read_unread, w2.read_unread, w3.read_unread, w4.read_unread, w5.read_unread,
    w6.read_unread, w7.read_unread, w8.read_unread, w9.read_unread, View.ld_unit_zero (S := S128x256) hz, View.ld_unit_zero (S := S512x256) hz,
    View.ld_unit_zero (S := S1x256) hz]
  intro hc
  canon_tiles x h using hc
  all_goals clear hc
  case piece15 => exact sinks_at x0 x1 x2 x5 x6 x7 x8 (i 0).val hi 0 0 (by decide) (by decide) x y (h0.trans (Nat.zero_add _).symm) (h1.trans (Nat.zero_add _).symm) h2 slices_S640x256_o0_0_S256x256 _ _ _ _ rfl
  case piece14 => exact sinks_at x0 x1 x2 x5 x6 x7 x8 (i 0).val hi 128 0 (by decide) (by decide) x y h0 (h1.trans (Nat.zero_add _).symm) h2 slices_S640x256_o128_0_S256x256 _ _ _ _ rfl
  case piece13 => exact sinks_at x0 x1 x2 x5 x6 x7 x8 (i 0).val hi 256 0 (by decide) (by decide) x y h0 (h1.trans (Nat.zero_add _).symm) h2 slices_S640x256_o256_0_S256x256 _ _ _ _ rfl
  case piece12 => exact sinks_at x0 x1 x2 x5 x6 x7 x8 (i 0).val hi 384 0 (by decide) (by decide) x y h0 (h1.trans (Nat.zero_add _).symm) h2 slices_S640x256_o384_0_S256x256 _ _ _ _ rfl
  case piece11 => exact sinks_at x0 x1 x2 x5 x6 x7 x8 (i 0).val hi 0 256 (by decide) (by decide) x y (h0.trans (Nat.zero_add _).symm) h1 h2 slices_S640x256_o0_0_S256x256 _ _ _ _ rfl
  case piece10 => exact sinks_at x0 x1 x2 x5 x6 x7 x8 (i 0).val hi 128 256 (by decide) (by decide) x y h0 h1 h2 slices_S640x256_o128_0_S256x256 _ _ _ _ rfl
  case piece9 => exact sinks_at x0 x1 x2 x5 x6 x7 x8 (i 0).val hi 256 256 (by decide) (by decide) x y h0 h1 h2 slices_S640x256_o256_0_S256x256 _ _ _ _ rfl
  case piece8 => exact sinks_at x0 x1 x2 x5 x6 x7 x8 (i 0).val hi 384 256 (by decide) (by decide) x y h0 h1 h2 slices_S640x256_o384_0_S256x256 _ _ _ _ rfl
  case piece7 => exact sinks_at x0 x1 x2 x5 x6 x7 x8 (i 0).val hi 0 512 (by decide) (by decide) x y (h0.trans (Nat.zero_add _).symm) h1 h2 slices_S640x256_o0_0_S256x256 _ _ _ _ rfl
  case piece6 => exact sinks_at x0 x1 x2 x5 x6 x7 x8 (i 0).val hi 128 512 (by decide) (by decide) x y h0 h1 h2 slices_S640x256_o128_0_S256x256 _ _ _ _ rfl
  case piece5 => exact sinks_at x0 x1 x2 x5 x6 x7 x8 (i 0).val hi 256 512 (by decide) (by decide) x y h0 h1 h2 slices_S640x256_o256_0_S256x256 _ _ _ _ rfl
  case piece4 => exact sinks_at x0 x1 x2 x5 x6 x7 x8 (i 0).val hi 384 512 (by decide) (by decide) x y h0 h1 h2 slices_S640x256_o384_0_S256x256 _ _ _ _ rfl
  case piece3 => exact sinks_at x0 x1 x2 x5 x6 x7 x8 (i 0).val hi 0 768 (by decide) (by decide) x y (h0.trans (Nat.zero_add _).symm) h1 h2 slices_S640x256_o0_0_S256x256 _ _ _ _ rfl
  case piece2 => exact sinks_at x0 x1 x2 x5 x6 x7 x8 (i 0).val hi 128 768 (by decide) (by decide) x y h0 h1 h2 slices_S640x256_o128_0_S256x256 _ _ _ _ rfl
  case piece1 => exact sinks_at x0 x1 x2 x5 x6 x7 x8 (i 0).val hi 256 768 (by decide) (by decide) x y h0 h1 h2 slices_S640x256_o256_0_S256x256 _ _ _ _ rfl
  case piece0 => exact sinks_at x0 x1 x2 x5 x6 x7 x8 (i 0).val hi 384 768 (by decide) (by decide) x y h0 h1 h2 slices_S640x256_o384_0_S256x256 _ _ _ _ rfl

end Cert.AttnFwd.Tile

end
-- ==== Proof.AttnFwd.Whole.lean ====
/-
  The three arrays the kernel leaves, entry by entry, from the arrays it is called with.
-/
module

public import proofs.«01_k».proof.Proof.Attn.Whole
public import proofs.«01_k».proof.Proof.AttnFwd.StoreProbs
public import proofs.«01_k».proof.Proof.AttnFwd.StoreSinks

@[expose] public section

set_option maxRecDepth 16384

noncomputable section

open Idealize.ShloMosaic Idealize.ShloMosaic.TcCoe Idealize.SL.Sem Idealize.ShloMosaic.Tactic
open Idealize.ShloMosaic.Pipeline (Dat Window)
open Cert.Coords

namespace Cert.AttnFwd

open Cert.Attn (queriesOf keysOf valuesOf place place_lt gainOf)

/-- The score of a query row and a key of a block of a key head. Before the first block there is nothing to be seen. -/
def scoreOf (P : FVec Ideal ⟨2, ![4096, 5632]⟩ .bf16) (gq gk : FVec Ideal ⟨2, ![1, 64]⟩ .f32) (B : FVec Ideal ⟨3, ![4, 512, 256]⟩ .f32)
    (n : Fin 32) (h : Fin 4) (t : Fin 512) (j : Fin 256) : EReal :=
  score (j.val < 128 ∧ n.val = 0) (queriesOf P n h t) (keysOf P n h j) (gainOf gq) (gainOf gk) (B (ix3 h t j))
/-- The sink's logit of a query row of a key head. -/
def sinkOf (s : FVec Ideal ⟨2, ![4, 4]⟩ .f32) (h : Fin 4) (t : Fin 512) : EReal := s (ix2 h (⟨t.val / 128, by omega⟩ : Fin 4))

namespace Whole

open Cert.Kernel20Ideal Cert.Kernel20Ideal.Gen Cert.AttnFwd.Tile Cert.AttnFwd.Parts

theorem where0 : ∀ t : Fin cfg0.N, win0_0.index t 0 = t.val ∧ win0_0.index t 1 = 2 :=
  (by decide +kernel : ∀ t : Fin grid0.N, win0_0.index t 0 = t.val ∧ win0_0.index t 1 = 2)
theorem where1 : ∀ t : Fin cfg0.N, win0_1.index t 0 = 4 * t.val - 1 ∧ win0_1.index t 1 = 12 :=
  (by decide +kernel : ∀ t : Fin grid0.N, win0_1.index t 0 = 4 * t.val - 1 ∧ win0_1.index t 1 = 12)
theorem where2 : ∀ t : Fin cfg0.N, win0_2.index t 0 = t.val ∧ win0_2.index t 1 = 12 :=
  (by decide +kernel : ∀ t : Fin grid0.N, win0_2.index t 0 = t.val ∧ win0_2.index t 1 = 12)
theorem where3 : ∀ t : Fin cfg0.N, win0_3.index t 0 = 4 * t.val - 1 ∧ win0_3.index t 1 = 13 :=
  (by decide +kernel : ∀ t : Fin grid0.N, win0_3.index t 0 = 4 * t.val - 1 ∧ win0_3.index t 1 = 13)
theorem where4 : ∀ t : Fin cfg0.N, win0_4.index t 0 = t.val ∧ win0_4.index t 1 = 13 :=
  (by decide +kernel : ∀ t : Fin grid0.N, win0_4.index t 0 = t.val ∧ win0_4.index t 1 = 13)
theorem where5 : ∀ t : Fin cfg0.N, win0_5.index t 0 = 0 ∧ win0_5.index t 1 = 0 :=
  (by decide +kernel : ∀ t : Fin grid0.N, win0_5.index t 0 = 0 ∧ win0_5.index t 1 = 0)
theorem where6 : ∀ t : Fin cfg0.N, win0_6.index t 0 = 0 ∧ win0_6.index t 1 = 0 :=
  (by decide +kernel : ∀ t : Fin grid0.N, win0_6.index t 0 = 0 ∧ win0_6.index t 1 = 0)
theorem where7 : ∀ t : Fin cfg0.N, win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0)
theorem where8 : ∀ t : Fin cfg0.N, win0_8.index t 0 = 0 ∧ win0_8.index t 1 = 0 ∧ win0_8.index t 2 = 0 :=
  (by decide +kernel : ∀ t : Fin grid0.N, win0_8.index t 0 = 0 ∧ win0_8.index t 1 = 0 ∧ win0_8.index t 2 = 0)
theorem where9 : ∀ t : Fin cfg0.N, win0_9.index t 0 = t.val ∧ win0_9.index t 1 = 0 :=
  (by decide +kernel : ∀ t : Fin grid0.N, win0_9.index t 0 = t.val ∧ win0_9.index t 1 = 0)
theorem where10 : ∀ t : Fin cfg0.N, win0_10.index t 0 = t.val ∧ win0_10.index t 1 = 0 ∧ win0_10.index t 2 = 0 ∧ win0_10.index t 3 = 0 :=
  (by decide +kernel : ∀ t : Fin grid0.N, win0_10.index t 0 = t.val ∧ win0_10.index t 1 = 0 ∧ win0_10.index t 2 = 0 ∧ win0_10.index t 3 = 0)
theorem where11 : ∀ t : Fin cfg0.N, win0_11.index t 0 = t.val ∧ win0_11.index t 1 = 0 ∧ win0_11.index t 2 = 0 ∧ win0_11.index t 3 = 0 :=
  (by decide +kernel : ∀ t : Fin grid0.N, win0_11.index t 0 = t.val ∧ win0_11.index t 1 = 0 ∧ win0_11.index t 2 = 0 ∧ win0_11.index t 3 = 0)
theorem flush9 : ∀ t : Fin cfg0.N, (cfg0.win 9).flush t = true := (by decide +kernel : ∀ t : Fin grid0.N, win0_9.flush t = true)
theorem flush10 : ∀ t : Fin cfg0.N, (cfg0.win 10).flush t = true := (by decide +kernel : ∀ t : Fin grid0.N, win0_10.flush t = true)
theorem flush11 : ∀ t : Fin cfg0.N, (cfg0.win 11).flush t = true := (by decide +kernel : ∀ t : Fin grid0.N, win0_11.flush t = true)
theorem point_val : ∀ t : Fin cfg0.N, (grid0.coords t 0).val = t.val := (by decide +kernel : ∀ t : Fin grid0.N, (grid0.coords t 0).val = t.val)

variable (m : (ℓ : Loc nD τ sig) → Buf (Elt Ideal) ℓ) (c : Dev nD)

/-- What the kernel is called with. -/
def proj : FVec Ideal S4096x5632 .bf16 := m ((c.tc : Thread nD τ).loc main_arg0)
def gainQ : FVec Ideal S1x64 .f32 := m ((c.tc : Thread nD τ).loc main_arg1)
def gainK : FVec Ideal S1x64 .f32 := m ((c.tc : Thread nD τ).loc main_arg2)
def sinks : FVec Ideal S4x4 .f32 := m ((c.tc : Thread nD τ).loc main_arg3)
def bias : FVec Ideal S4x512x256 .f32 := m ((c.tc : Thread nD τ).loc main_arg4)

/-- The gains, written four times over, and the sinks, each written for its 128 rows. -/
theorem staged_gainQ (a : Fin 256) : V m c main_v5 (ix2 (0 : Fin 1) a) = gainOf (gainQ m c) ⟨a.val % 64, by omega⟩ := by
  show StableHlo.after hostOps0 (fun b => m (c, b)) main_v5 _ = _
  after_results
  unfold gainOf
  pointwise []
  rfl
theorem staged_gainK (a : Fin 256) : V m c main_v8 (ix2 (0 : Fin 1) a) = gainOf (gainK m c) ⟨a.val % 64, by omega⟩ := by
  show StableHlo.after hostOps0 (fun b => m (c, b)) main_v8 _ = _
  after_results
  unfold gainOf
  pointwise []
  rfl
theorem staged_sinks (h : Fin 4) (t : Fin 512) : V m c main_v2 (ix3 h t (0 : Fin 1)) = sinkOf (sinks m c) h t := by
  show StableHlo.after hostOps0 (fun b => m (c, b)) main_v2 _ = _
  after_results
  unfold sinkOf
  pointwise []
  rfl

section Blocks

variable (t : Fin cfg0.N) (b h : Fin 4) (n : Fin 32) (hn : n.val = 4 * t.val + b.val)

include hn in
theorem query_rows : rows (X0_0 m c t) b h = queriesOf (proj m c) n h := by
  funext r d
  unfold rows queriesOf X0_0 Window.fill
  rw [dif_pos (moved0_0 t _)]
  show V m c main_arg0 ((win0_0.rect t).emb _) = _
  rw [V_main_arg0]
  obtain ⟨h0, h1⟩ := where0 t
  refine congrArg (proj m c) (eq_of_coords2 _ _ _ ((win0_0.rect_emb_val t _ 0).trans ?_) ((win0_0.rect_emb_val t _ 1).trans ?_))
  · rw [h0]
    show t.val * 512 + (128 * b.val + r.val % 128) = 128 * n.val + r.val % 128
    omega
  · rw [h1]; rfl

include hn in
theorem key_rows : keys (iblk m c 1 t) (iblk m c 2 t) b h = keysOf (proj m c) n h := by
  funext j d
  unfold keys keysOf
  split
  · show V m c main_arg0 ((win0_1.rect t).emb _) = _
    rw [V_main_arg0]
    obtain ⟨h0, h1⟩ := where1 t
    refine congrArg (proj m c) (eq_of_coords2 _ _ _ ((win0_1.rect_emb_val t _ 0).trans ?_) ((win0_1.rect_emb_val t _ 1).trans ?_))
    · rw [h0]
      show (4 * t.val - 1) * 128 + (128 * b.val + j.val) = place n.val j.val
      unfold place
      rw [if_pos (by omega)]
      omega
    · rw [h1]; rfl
  · show V m c main_arg0 ((win0_2.rect t).emb _) = _
    rw [V_main_arg0]
    obtain ⟨h0, h1⟩ := where2 t
    refine congrArg (proj m c) (eq_of_coords2 _ _ _ ((win0_2.rect_emb_val t _ 0).trans ?_) ((win0_2.rect_emb_val t _ 1).trans ?_))
    · rw [h0]
      show t.val * 512 + (128 * b.val + j.val - 128) = place n.val j.val
      unfold place
      split <;> omega
    · rw [h1]; rfl

include hn in
theorem value_rows : keys (iblk m c 3 t) (iblk m c 4 t) b h = valuesOf (proj m c) n h := by
  funext j d
  unfold keys valuesOf
  split
  · show V m c main_arg0 ((win0_3.rect t).emb _) = _
    rw [V_main_arg0]
    obtain ⟨h0, h1⟩ := where3 t
    refine congrArg (proj m c) (eq_of_coords2 _ _ _ ((win0_3.rect_emb_val t _ 0).trans ?_) ((win0_3.rect_emb_val t _ 1).trans ?_))
    · rw [h0]
      show (4 * t.val - 1) * 128 + (128 * b.val + j.val) = place n.val j.val
      unfold place
      rw [if_pos (by omega)]
      omega
    · rw [h1]; rfl
  · show V m c main_arg0 ((win0_4.rect t).emb _) = _
    rw [V_main_arg0]
    obtain ⟨h0, h1⟩ := where4 t
    refine congrArg (proj m c) (eq_of_coords2 _ _ _ ((win0_4.rect_emb_val t _ 0).trans ?_) ((win0_4.rect_emb_val t _ 1).trans ?_))
    · rw [h0]
      show t.val * 512 + (128 * b.val + j.val - 128) = place n.val j.val
      unfold place
      split <;> omega
    · rw [h1]; rfl

theorem gainQ_row (u : ℕ) (hu : u < 4) : gainAt (iblk m c 5 t) u hu = gainOf (gainQ m c) := by
  funext d
  unfold gainAt
  show V m c main_v5 ((win0_5.rect t).emb _) = _
  obtain ⟨h0, h1⟩ := where5 t
  refine (congrArg (V m c main_v5) (eq_of_coords2 _ _ _ (win0_5.rect_emb_val_of_index_zero t 0 h0 _) (win0_5.rect_emb_val_of_index_zero t 1 h1 _))).trans
    ((staged_gainQ m c _).trans (congrArg (gainOf (gainQ m c)) (Fin.ext ?_)))
  show (64 * u + d.val) % 64 = d.val
  omega
theorem gainK_row (u : ℕ) (hu : u < 4) : gainAt (iblk m c 6 t) u hu = gainOf (gainK m c) := by
  funext d
  unfold gainAt
  show V m c main_v8 ((win0_6.rect t).emb _) = _
  obtain ⟨h0, h1⟩ := where6 t
  refine (congrArg (V m c main_v8) (eq_of_coords2 _ _ _ (win0_6.rect_emb_val_of_index_zero t 0 h0 _) (win0_6.rect_emb_val_of_index_zero t 1 h1 _))).trans
    ((staged_gainK m c _).trans (congrArg (gainOf (gainK m c)) (Fin.ext ?_)))
  show (64 * u + d.val) % 64 = d.val
  omega
theorem sink_row (r : Fin 512) : (iblk m c 7 t : Vec Ideal S4x512x1 .f32) (ix3 h r (0 : Fin 1)) = sinkOf (sinks m c) h r := by
  show V m c main_v2 ((win0_7.rect t).emb _) = _
  obtain ⟨h0, h1, h2⟩ := where7 t
  exact (congrArg (V m c main_v2) (eq_of_coords _ _ _ _ (win0_7.rect_emb_val_of_index_zero t 0 h0 _) (win0_7.rect_emb_val_of_index_zero t 1 h1 _)
    (win0_7.rect_emb_val_of_index_zero t 2 h2 _))).trans (staged_sinks m c h r)
theorem bias_row (r : Fin 512) (j : Fin 256) : (iblk m c 8 t : Vec Ideal S4x512x256 .f32) (ix3 h r j) = bias m c (ix3 h r j) := by
  show V m c main_arg4 ((win0_8.rect t).emb _) = _
  rw [V_main_arg4]
  obtain ⟨h0, h1, h2⟩ := where8 t
  exact congrArg (bias m c) (eq_of_coords _ _ _ _ (win0_8.rect_emb_val_of_index_zero t 0 h0 _) (win0_8.rect_emb_val_of_index_zero t 1 h1 _)
    (win0_8.rect_emb_val_of_index_zero t 2 h2 _))

include hn in
theorem tile_scores (i : ℕ) (hi : i = t.val) (r : Fin 512) :
    tileScore i (X0_0 m c t) (iblk m c 1 t) (iblk m c 2 t) (iblk m c 5 t) (iblk m c 6 t) (iblk m c 8 t) b h r
      = scoreOf (proj m c) (gainQ m c) (gainK m c) (bias m c) n h r := by
  funext j
  unfold tileScore scoreOf
  rw [query_rows m c t b h n hn, key_rows m c t b h n hn, gainQ_row, gainK_row, bias_row, hi, hn]

end Blocks

/-- The three results as functions of the whole arrays. -/
def probOf (n : Fin 32) (h : Fin 4) (t : Fin 512) (j : Fin 256) : EReal :=
  prob (scoreOf (proj m c) (gainQ m c) (gainK m c) (bias m c) n h t) (sinkOf (sinks m c) h t) j
def sinkProbOf (n : Fin 32) (h : Fin 4) (t : Fin 512) : EReal :=
  sinkProb (scoreOf (proj m c) (gainQ m c) (gainK m c) (bias m c) n h t) (sinkOf (sinks m c) h t)
def outOf (n : Fin 32) (h : Fin 4) (t : Fin 512) (d : Fin 64) : EReal := ∑ j, probOf m c n h t j * valuesOf (proj m c) n h j d

theorem out_final (T : Fin 4096) (C : Fin 1024) (v : EReal)
    (hv : ∀ (n : Fin 32) (h g : Fin 4) (i : Fin 128) (d : Fin 64), T.val = 128 * n.val + i.val → C.val = 256 * h.val + (64 * g.val + d.val) →
      outOf m c n h ⟨128 * g.val + i.val, by omega⟩ d = v) :
    (dats m 0 c).arrAt 9 cfg0.N (ix2 T C) = v := by
  have hN : cfg0.N = 8 := N_0
  have hT := T.isLt
  obtain ⟨t, ht⟩ : ∃ t : Fin cfg0.N, t.val = T.val / 512 := ⟨⟨T.val / 512, by omega⟩, rfl⟩
  obtain ⟨h0, h1⟩ := where9 t
  have e : (win0_9.blk t).view.emb (ix2 (⟨T.val % 512, by omega⟩ : Fin 512) C) = ix2 T C :=
    eq_of_coords2 _ _ _ ((win0_9.rect_emb_val t _ 0).trans (by
      rw [h0, ht]
      show T.val / 512 * 512 + T.val % 512 = T.val
      omega)) (win0_9.rect_emb_val_of_index_zero t 1 h1 _)
  rw [← e]
  refine ((dats m 0 c).arrAt_emb_eq_flushed 9 Value.disjoint9 t (flush9 t) _).trans ?_
  show (dats m 0 c).flushed 9 t _ = _
  rw [Value.flushed9_A m c t]
  refine out_entry _ _ _ _ _ _ _ _ _ _ _ (by rw [point_val]; omega) _ _ _ _ _ _ _ _ _ _ _ _ _ _ _ _ _ _ _ _ _ _ _ _ _ v ?_
  intro b h i a hr hc
  have hn : (⟨4 * t.val + b.val, by omega⟩ : Fin 32).val = 4 * t.val + b.val := rfl
  rw [tile_scores m c t b h _ hn _ (point_val t), value_rows m c t b h _ hn, sink_row]
  refine Eq.trans ?_ (hv ⟨4 * t.val + b.val, by omega⟩ h ⟨a.val / 64, by omega⟩ i ⟨a.val % 64, by omega⟩ (by
    have hr : T.val % 512 = 128 * b.val + i.val := hr
    dsimp only; omega) (by
    have hc : C.val = 256 * h.val + a.val := hc
    dsimp only; omega))
  exact congrArg (fun r => outOf m c _ h r _) (Fin.ext (by dsimp only; omega))

theorem probs_final (n : Fin 32) (h : Fin 4) (r : Fin 512) (j : Fin 256) : (dats m 0 c).arrAt 10 cfg0.N (ix4 n h r j) = probOf m c n h r j := by
  have hN : cfg0.N = 8 := N_0
  have hT := n.isLt
  obtain ⟨t, ht⟩ : ∃ t : Fin cfg0.N, t.val = n.val / 4 := ⟨⟨n.val / 4, by omega⟩, rfl⟩
  obtain ⟨h0, h1, h2, h3⟩ := where10 t
  have e : (win0_10.blk t).view.emb (ix4 (⟨n.val % 4, by omega⟩ : Fin 4) h r j) = ix4 n h r j :=
    eq_of_coords4 _ _ _ _ _ ((win0_10.rect_emb_val t _ 0).trans (by
      rw [h0, ht]
      show n.val / 4 * 4 + n.val % 4 = n.val
      omega)) (win0_10.rect_emb_val_of_index_zero t 1 h1 _) (win0_10.rect_emb_val_of_index_zero t 2 h2 _)
      (win0_10.rect_emb_val_of_index_zero t 3 h3 _)
  rw [← e]
  refine ((dats m 0 c).arrAt_emb_eq_flushed 10 Value.disjoint10 t (flush10 t) _).trans ?_
  show (dats m 0 c).flushed 10 t _ = _
  rw [Value.flushed10_A m c t]
  refine (probs_entry _ _ _ _ _ _ _ _ _ _ _ (by rw [point_val]; omega) _ _ _ _ _ _ _ _ _ _ _ _ _ _ _ _ _ _ _ _ _ _ _ _ _).trans ?_
  unfold probOf
  refine congrArg₂ (fun f z => prob f z j) (tile_scores m c t (⟨n.val % 4, by omega⟩ : Fin 4) h n ?_ _ (point_val t) r) (sink_row m c t h r)
  dsimp only
  omega

theorem sinks_final (n : Fin 32) (h : Fin 4) (r : Fin 512) : (dats m 0 c).arrAt 11 cfg0.N (ix4 n h r (0 : Fin 1)) = sinkProbOf m c n h r := by
  have hN : cfg0.N = 8 := N_0
  have hT := n.isLt
  obtain ⟨t, ht⟩ : ∃ t : Fin cfg0.N, t.val = n.val / 4 := ⟨⟨n.val / 4, by omega⟩, rfl⟩
  obtain ⟨h0, h1, h2, h3⟩ := where11 t
  have e : (win0_11.blk t).view.emb (ix4 (⟨n.val % 4, by omega⟩ : Fin 4) h r (0 : Fin 1)) = ix4 n h r (0 : Fin 1) :=
    eq_of_coords4 _ _ _ _ _ ((win0_11.rect_emb_val t _ 0).trans (by
      rw [h0, ht]
      show n.val / 4 * 4 + n.val % 4 = n.val
      omega)) (win0_11.rect_emb_val_of_index_zero t 1 h1 _) (win0_11.rect_emb_val_of_index_zero t 2 h2 _)
      (win0_11.rect_emb_val_of_index_zero t 3 h3 _)
  rw [← e]
  refine ((dats m 0 c).arrAt_emb_eq_flushed 11 Value.disjoint11 t (flush11 t) _).trans ?_
  show (dats m 0 c).flushed 11 t _ = _
  rw [Value.flushed11_A m c t]
  refine (sinks_entry _ _ _ _ _ _ _ _ _ _ _ (by rw [point_val]; omega) _ _ _ _ _ _ _ _ _ _ _ _ _ _ _ _ _ _ _ _ _ _ _ _ _).trans ?_
  unfold sinkProbOf
  refine congrArg₂ (fun f z => sinkProb f z) (tile_scores m c t (⟨n.val % 4, by omega⟩ : Fin 4) h n ?_ _ (point_val t) r) (sink_row m c t h r)
  dsimp only
  omega

end Whole
end Cert.AttnFwd

end
-- ==== Proof.AttnFwd.Plain.lean ====
/-
  The plain forward computation, stage by stage, entry by entry.
-/
module

public import proofs.«01_k».proof.Proof.AttnFwd.Whole
public import proofs.«01_k».proof.Proof.Gen.Reference20Ideal.Run

@[expose] public section

set_option maxRecDepth 16384

noncomputable section

open Idealize.ShloMosaic Idealize.ShloMosaic.TcCoe Idealize.SL.Sem Idealize.ShloMosaic.Tactic
open Cert.Coords Cert.Attn

namespace Cert.AttnFwd.Plain

open Cert.Reference20Ideal Cert.Reference20Ideal.Gen
open Cert.AttnFwd.Parts (peak total bottom)

section Inputs

variable (P : FVec Ideal S4096x5632 .bf16)

/-- The queries', keys' and values' columns. -/
def columns : FVec Ideal S4096x1536 .f32 :=
  extractStridedSlice S4096x1536 ![0, 2048] (extf .f32 P bitsLt_bf16_f32) slices_S4096x5632_S4096x1536_0_2048
def queryCols : FVec Ideal S32x128x4x4x64 .f32 :=
  shapeCast S32x128x4x4x64 (extractStridedSlice S4096x1024 ![0, 0] (columns P) slices_S4096x1536_S4096x1024_0_0) shapeCasts_S4096x1024_S32x128x4x4x64
def keyCols : FVec Ideal S4096x4x64 .f32 :=
  shapeCast S4096x4x64 (extractStridedSlice S4096x256 ![0, 1024] (columns P) slices_S4096x1536_S4096x256_0_1024) shapeCasts_S4096x256_S4096x4x64
/-- Each block's rows after those of the block before, and zeros before the first block. -/
def windows (x : FVec Ideal S4096x256 .f32) : FVec Ideal S32x256x4x64 .f32 :=
  concatenate S32x256x4x64 1 [⟨S32x128x4x64, concatenate S32x128x4x64 0
      [⟨S1x128x4x64, broadcastInDim S1x128x4x64 ![] bcast_S_S1x128x4x64 (constant S_ .f32 0x00000000#32)⟩,
       ⟨S31x128x4x64, extractStridedSlice S31x128x4x64 ![0, 0, 0, 0] (shapeCast S32x128x4x64 x shapeCasts_S4096x256_S32x128x4x64) slices_S32x128x4x64_S31x128x4x64_0_0_0_0⟩]
      concatenates_S1x128x4x64_S31x128x4x64_S32x128x4x64_d0⟩,
    ⟨S32x128x4x64, shapeCast S32x128x4x64 x shapeCasts_S4096x256_S32x128x4x64⟩] concatenates_S32x128x4x64_S32x128x4x64_S32x256x4x64_d1
def valueCols : FVec Ideal S32x256x4x64 .f32 :=
  windows (extractStridedSlice S4096x256 ![0, 1280] (columns P) slices_S4096x1536_S4096x256_0_1280)

theorem queryCols_entry (n : Fin 32) (i : Fin 128) (h g : Fin 4) (d : Fin 64) :
    queryCols P (ix5 n i h g d) = queriesOf P n h ⟨128 * g.val + i.val, by omega⟩ d := by
  unfold queriesOf
  pointwise [queryCols, columns]
  exact congrArg₂ (fun a b => P (ix2 a b)) (Fin.ext (by dsimp only; omega)) (Fin.ext (by dsimp only; omega))
theorem keyCols_entry (T : Fin 4096) (h : Fin 4) (d : Fin 64) :
    keyCols P (ix3 T h d) = P (ix2 T (⟨3072 + (64 * h.val + d.val), by omega⟩ : Fin 5632)) := by
  pointwise [keyCols, columns]
  exact congrArg (fun b => P (ix2 T b)) (Fin.ext (by dsimp only; omega))
theorem windows_entry (x : FVec Ideal S4096x256 .f32) (n : Fin 32) (j : Fin 256) (h : Fin 4) (d : Fin 64) :
    windows x (ix4 n j h d) = if n.val = 0 ∧ j.val < 128 then 0
      else x (ix2 (⟨place n.val j.val, place_lt n j⟩ : Fin 4096) (⟨64 * h.val + d.val, by omega⟩ : Fin 256)) := by
  pointwise [windows]
  by_cases hz : n.val = 0 ∧ j.val < 128
  · rw [if_pos hz]
    split_ifs <;> first
    | rfl
    | omega
  · rw [if_neg hz]
    split_ifs <;> first
    | omega
    | exact congrArg₂ (fun a b => x (ix2 a b)) (Fin.ext (by dsimp only [place]; split <;> omega)) (Fin.ext (by dsimp only; omega))
theorem valueCols_entry (n : Fin 32) (j : Fin 256) (h : Fin 4) (d : Fin 64) :
    valueCols P (ix4 n j h d) = if n.val = 0 ∧ j.val < 128 then 0 else valuesOf P n h j d := by
  unfold valueCols valuesOf
  rw [windows_entry]
  pointwise [columns]
  exact congrArg (fun b => if n.val = 0 ∧ j.val < 128 then 0 else P (ix2 _ b)) (Fin.ext (by dsimp only; omega))

end Inputs

section Norms

variable (q : FVec Ideal S32x128x4x4x64 .f32) (k : FVec Ideal S4096x4x64 .f32) (g : FVec Ideal S1x64 .f32)

/-- The mean squares, the normalised and scaled rows, and the windows of the keys so made. -/
def meansQ : FVec Ideal S32x128x4x4x1 .f32 :=
  addf (Host.divf (broadcastInDim S32x128x4x4x1 ![0, 1, 2, 3] bcast_S32x128x4x4_S32x128x4x4x1_0_1_2_3
      (Host.reduceAdd (mulf q q) (constant S_ .f32 0x00000000#32) reducesTo_S32x128x4x4x64_S32x128x4x4_d4 h_S_))
    (broadcastInDim S32x128x4x4x1 ![] bcast_S_S32x128x4x4x1 (constant S_ .f32 0x42800000#32)))
    (broadcastInDim S32x128x4x4x1 ![] bcast_S_S32x128x4x4x1 (constant S_ .f32 0x358637BD#32))
def meansK : FVec Ideal S4096x4x1 .f32 :=
  addf (Host.divf (broadcastInDim S4096x4x1 ![0, 1] bcast_S4096x4_S4096x4x1_0_1
      (Host.reduceAdd (mulf k k) (constant S_ .f32 0x00000000#32) reducesTo_S4096x4x64_S4096x4_d2 h_S_))
    (broadcastInDim S4096x4x1 ![] bcast_S_S4096x4x1 (constant S_ .f32 0x42800000#32)))
    (broadcastInDim S4096x4x1 ![] bcast_S_S4096x4x1 (constant S_ .f32 0x358637BD#32))
def normsQ : FVec Ideal S32x128x4x4x64 .f32 :=
  mulf (mulf q (broadcastInDim S32x128x4x4x64 ![0, 1, 2, 3, 4] bcast_S32x128x4x4x1_S32x128x4x4x64_0_1_2_3_4 (Host.rsqrt (meansQ q))))
    (broadcastInDim S32x128x4x4x64 ![0, 1, 2, 3, 4] bcast_S1x1x1x1x64_S32x128x4x4x64_0_1_2_3_4 (broadcastInDim S1x1x1x1x64 ![3, 4] bcast_S1x64_S1x1x1x1x64_3_4 g))
def normsK : FVec Ideal S4096x4x64 .f32 :=
  mulf (mulf k (broadcastInDim S4096x4x64 ![0, 1, 2] bcast_S4096x4x1_S4096x4x64_0_1_2 (Host.rsqrt (meansK k))))
    (broadcastInDim S4096x4x64 ![0, 1, 2] bcast_S1x1x64_S4096x4x64_0_1_2 (broadcastInDim S1x1x64 ![1, 2] bcast_S1x64_S1x1x64_1_2 g))
def keyWindows : FVec Ideal S32x256x4x64 .f32 := windows (shapeCast S4096x256 (normsK k g) shapeCasts_S4096x4x64_S4096x256)

theorem meansQ_entry (n : Fin 32) (i : Fin 128) (h u : Fin 4) (z : Fin 1) :
    meansQ q (ix5 n i h u z) = meanSquare fun d => q (ix5 n i h u d) := by
  unfold meanSquare width
  pointwise [meansQ]
theorem meansK_entry (T : Fin 4096) (h : Fin 4) (z : Fin 1) :
    meansK k (ix3 T h z) = meanSquare fun d => k (ix3 T h d) := by
  unfold meanSquare width
  pointwise [meansK]
theorem normsQ_entry (n : Fin 32) (i : Fin 128) (h u : Fin 4) (d : Fin 64) :
    normsQ q g (ix5 n i h u d) = normed (fun d => q (ix5 n i h u d)) (gainOf g) d := by
  unfold normed factor gainOf
  pointwise [normsQ]
  rw [meansQ_entry]
theorem normsK_entry (T : Fin 4096) (h : Fin 4) (d : Fin 64) :
    normsK k g (ix3 T h d) = normed (fun d => k (ix3 T h d)) (gainOf g) d := by
  unfold normed factor gainOf
  pointwise [normsK]
  rw [meansK_entry]
theorem keyWindows_entry (n : Fin 32) (j : Fin 256) (h : Fin 4) (d : Fin 64) (hz : ¬(n.val = 0 ∧ j.val < 128)) :
    keyWindows k g (ix4 n j h d) = normed (fun d => k (ix3 (⟨place n.val j.val, place_lt n j⟩ : Fin 4096) h d)) (gainOf g) d := by
  unfold keyWindows
  rw [windows_entry, if_neg hz, ← normsK_entry]
  pointwise []

end Norms

section Scores

variable (k : FVec Ideal S32x256x4x64 .f32) (q : FVec Ideal S32x128x4x4x64 .f32) (B : FVec Ideal S4x512x256 .f32)

/-- What lies before the first block. -/
def mask : IVec S32x256 1 :=
  andi (broadcastInDim S32x256 ![0, 1] bcast_S32x1_S32x256_0_1 (cmpi .eq (broadcastInDim S32x1 ![0] bcast_S32_S32x1_0 (iotaInDim S32 32 0))
      (broadcastInDim S32x1 ![] bcast_S_S32x1 (constantI S_ 32 0#32))))
    (broadcastInDim S32x256 ![0, 1] bcast_S1x256_S32x256_0_1 (cmpi .slt (broadcastInDim S1x256 ![1] bcast_S256_S1x256_1 (iotaInDim S256 32 0))
      (broadcastInDim S1x256 ![] bcast_S_S1x256 (constantI S_ 32 128#32))))
/-- The scores, without the mask and with it. -/
def plainScores : FVec Ideal S32x4x4x128x256 .f32 :=
  addf (mulf (transpose S32x4x4x128x256 [0, 1, 4, 3, 2] (Host.dotGeneral dot_S32x256x4x64_S32x128x4x4x64_S32x4x256x128x4_3_4_1_13_02_02 none k q)
        transposes_S32x4x256x128x4_S32x4x4x128x256_0_1_4_3_2)
      (broadcastInDim S32x4x4x128x256 ![] bcast_S_S32x4x4x128x256 (constant S_ .f32 0x3E000000#32)))
    (broadcastInDim S32x4x4x128x256 ![0, 1, 2, 3, 4] bcast_S1x4x4x128x256_S32x4x4x128x256_0_1_2_3_4
      (broadcastInDim S1x4x4x128x256 ![1, 2, 3, 4] bcast_S4x4x128x256_S1x4x4x128x256_1_2_3_4 (shapeCast S4x4x128x256 B shapeCasts_S4x512x256_S4x4x128x256)))
def maskedScores : FVec Ideal S32x4x4x128x256 .f32 :=
  select (broadcastInDim S32x4x4x128x256 ![0, 1, 2, 3, 4] bcast_S32x1x1x1x256_S32x4x4x128x256_0_1_2_3_4 (broadcastInDim S32x1x1x1x256 ![0, 4] bcast_S32x256_S32x1x1x1x256_0_4 mask))
    (broadcastInDim S32x4x4x128x256 ![] bcast_S_S32x4x4x128x256 (id (constant S_ .f32 0xFF800000#32))) (plainScores k q B)

theorem first_bit : ∀ n : Fin 32, IntOp.cmpi .eq (BitVec.ofNat 32 n.val) 0#32 = BitVec.ofBool (decide (n.val = 0)) := by decide +kernel
theorem before_bit : ∀ j : Fin 256, IntOp.cmpi .slt (BitVec.ofNat 32 j.val) 128#32 = BitVec.ofBool (decide (j.val < 128)) := by decide +kernel
theorem mask_entry (n : Fin 32) (j : Fin 256) : mask (ix2 n j) = BitVec.ofBool (decide (j.val < 128 ∧ n.val = 0)) := by
  pointwise [mask]
  rw [first_bit, before_bit]
  by_cases h : n.val = 0 <;> by_cases h' : j.val < 128 <;> simp [h, h', IntOp.andi]
theorem plainScores_entry (n : Fin 32) (h g : Fin 4) (i : Fin 128) (j : Fin 256) :
    plainScores k q B (ix5 n h g i j) = (∑ d : Fin 64, k (ix4 n j h d) * q (ix5 n i h g d)) * eighth
      + B (ix3 h (⟨128 * g.val + i.val, by omega⟩ : Fin 512) j) := by
  unfold eighth
  pointwise [plainScores]
  exact congrArg (fun b => _ + B (ix3 h b j)) (Fin.ext (by dsimp only; omega))
theorem maskedScores_entry (n : Fin 32) (h g : Fin 4) (i : Fin 128) (j : Fin 256) :
    maskedScores k q B (ix5 n h g i j) = if j.val < 128 ∧ n.val = 0 then ⊥ else plainScores k q B (ix5 n h g i j) := by
  pointwise [maskedScores]
  rw [mask_entry]
  by_cases hz : j.val < 128 ∧ n.val = 0
  · rw [if_pos hz, decide_eq_true hz]
    exact bottom
  · rw [if_neg hz, decide_eq_false hz]
    rfl

end Scores

end Cert.AttnFwd.Plain

end
-- ==== Proof.AttnFwd.Shares.lean ====
/-
  The plain forward computation's probabilities and output, from its scores, entry by entry.
-/
module

public import proofs.«01_k».proof.Proof.AttnFwd.Plain

@[expose] public section

set_option maxRecDepth 16384

noncomputable section

open Idealize.ShloMosaic Idealize.ShloMosaic.TcCoe Idealize.SL.Sem Idealize.ShloMosaic.Tactic
open Cert.Coords Cert.Attn

namespace Cert.AttnFwd.Plain

open Cert.Reference20Ideal Cert.Reference20Ideal.Gen
open Cert.AttnFwd.Parts (peak total bottom)

/-- A maximum over the last of five axes, from a first value. -/
theorem row_max {n0 n1 n2 n3 n4 : ℕ} (x : FVec Ideal ⟨5, ![n0, n1, n2, n3, n4]⟩ .f32) (c : FVec Ideal ⟨0, ![]⟩ .f32)
    (hr : (⟨5, ![n0, n1, n2, n3, n4]⟩ : Shape).ReducesTo [4] ⟨4, ![n0, n1, n2, n3]⟩) (hu : 0 < (⟨0, ![]⟩ : Shape).numel)
    (i0 : Fin n0) (i1 : Fin n1) (i2 : Fin n2) (i3 : Fin n3) :
    Host.reduce FloatOps.maximumf x c hr hu (ix4 i0 i1 i2 i3) = Finset.fold max (c (Shape.Idx.first hu)) (fun k => x (ix5 i0 i1 i2 i3 k)) Finset.univ := by
  simp only [pointwise]

section Softmax

variable (f : FVec Ideal S32x4x4x128x256 .f32) (s : FVec Ideal S4x4 .f32) (v : FVec Ideal S32x256x4x64 .f32)

/-- The sinks' logits for each row, the largest of each row's logits, the weights, their sums, and the probabilities. -/
def sinkLogits : FVec Ideal S32x4x4x128x1 .f32 :=
  broadcastInDim S32x4x4x128x1 ![0, 1, 2, 3, 4] bcast_S1x4x4x1x1_S32x4x4x128x1_0_1_2_3_4 (broadcastInDim S1x4x4x1x1 ![1, 2] bcast_S4x4_S1x4x4x1x1_1_2 s)
def rowMax : FVec Ideal S32x4x4x128 .f32 :=
  Host.reduce FloatOps.maximumf f (constant S_ .f32 0xFF800000#32) reducesTo_S32x4x4x128x256_S32x4x4x128_d4 h_S_
def peaks : FVec Ideal S32x4x4x128x1 .f32 :=
  maximumf (broadcastInDim S32x4x4x128x1 ![0, 1, 2, 3] bcast_S32x4x4x128_S32x4x4x128x1_0_1_2_3 (rowMax f)) (sinkLogits s)
def exps : FVec Ideal S32x4x4x128x256 .f32 :=
  Host.exp (subf f (broadcastInDim S32x4x4x128x256 ![0, 1, 2, 3, 4] bcast_S32x4x4x128x1_S32x4x4x128x256_0_1_2_3_4 (peaks f s)))
def sinkExps : FVec Ideal S32x4x4x128x1 .f32 := Host.exp (subf (sinkLogits s) (peaks f s))
def totals : FVec Ideal S32x4x4x128x1 .f32 :=
  addf (broadcastInDim S32x4x4x128x1 ![0, 1, 2, 3] bcast_S32x4x4x128_S32x4x4x128x1_0_1_2_3
    (Host.reduceAdd (exps f s) (constant S_ .f32 0x00000000#32) reducesTo_S32x4x4x128x256_S32x4x4x128_d4 h_S_)) (sinkExps f s)
def probs : FVec Ideal S32x4x4x128x256 .f32 :=
  Host.divf (exps f s) (broadcastInDim S32x4x4x128x256 ![0, 1, 2, 3, 4] bcast_S32x4x4x128x1_S32x4x4x128x256_0_1_2_3_4 (totals f s))
/-- The three results, from the scores. -/
def probsOut : FVec Ideal S32x4x512x256 .bf16 :=
  truncf .bf16 (shapeCast S32x4x512x256 (probs f s) shapeCasts_S32x4x4x128x256_S32x4x512x256) bitsLt_bf16_f32
def sinksOut : FVec Ideal S32x4x512x1 .f32 :=
  shapeCast S32x4x512x1 (Host.divf (sinkExps f s) (totals f s)) shapeCasts_S32x4x4x128x1_S32x4x512x1
def out : FVec Ideal S4096x1024 .bf16 :=
  truncf .bf16 (shapeCast S4096x1024 (transpose S32x128x4x4x64 [0, 4, 1, 3, 2]
    (Host.dotGeneral dot_S32x256x4x64_S32x4x4x128x256_S32x4x64x4x128_1_4_3_23_02_01 none v (probs f s)) transposes_S32x4x64x4x128_S32x128x4x4x64_0_4_1_3_2)
    shapeCasts_S32x128x4x4x64_S4096x1024) bitsLt_bf16_f32

/-- A key's probability, and the sink's, as a quotient. -/
def share (f : Fin 256 → EReal) (z : EReal) (j : Fin 256) : EReal := Ideal.div (Ideal.exp (f j - peak f z)) (total f z)
def sinkShare (f : Fin 256 → EReal) (z : EReal) : EReal := Ideal.div (Ideal.exp (z - peak f z)) (total f z)

variable (n : Fin 32) (h g : Fin 4) (i : Fin 128)

theorem rowMax_entry : rowMax f (ix4 n h g i) = Finset.fold max ⊥ (fun j => f (ix5 n h g i j)) Finset.univ := by
  rw [← bottom]
  unfold rowMax
  rw [row_max]
  rfl
theorem sinkLogits_entry : sinkLogits s (ix5 n h g i (0 : Fin 1)) = s (ix2 h g) := by
  pointwise [sinkLogits]
theorem spread_entry (r : FVec Ideal S32x4x4x128 .f32) :
    broadcastInDim S32x4x4x128x1 ![0, 1, 2, 3] bcast_S32x4x4x128_S32x4x4x128x1_0_1_2_3 r (ix5 n h g i (0 : Fin 1)) = r (ix4 n h g i) := by
  pointwise []
theorem spread_max (x : FVec Ideal S32x4x4x128 .f32) (y : FVec Ideal S32x4x4x128x1 .f32) :
    maximumf (broadcastInDim S32x4x4x128x1 ![0, 1, 2, 3] bcast_S32x4x4x128_S32x4x4x128x1_0_1_2_3 x) y (ix5 n h g i (0 : Fin 1)) = max (x (ix4 n h g i)) (y (ix5 n h g i (0 : Fin 1))) := by
  rw [← spread_entry n h g i x]
  rfl
theorem exp_at (p : FVec Ideal S32x4x4x128x1 .f32) (j : Fin 256) :
    Host.exp (subf f (broadcastInDim S32x4x4x128x256 ![0, 1, 2, 3, 4] bcast_S32x4x4x128x1_S32x4x4x128x256_0_1_2_3_4 p)) (ix5 n h g i j) = Ideal.exp (f (ix5 n h g i j) - p (ix5 n h g i (0 : Fin 1))) := by
  pointwise []
theorem sinkExp_at (x y : FVec Ideal S32x4x4x128x1 .f32) (j : S32x4x4x128x1.Idx) : Host.exp (subf x y) j = Ideal.exp (x j - y j) := rfl
theorem total_at (e : FVec Ideal S32x4x4x128x256 .f32) (z : FVec Ideal S32x4x4x128x1 .f32) :
    addf (broadcastInDim S32x4x4x128x1 ![0, 1, 2, 3] bcast_S32x4x4x128_S32x4x4x128x1_0_1_2_3
      (Host.reduceAdd e (constant S_ .f32 0x00000000#32) reducesTo_S32x4x4x128x256_S32x4x4x128_d4 h_S_)) z (ix5 n h g i (0 : Fin 1))
      = (∑ j, e (ix5 n h g i j)) + z (ix5 n h g i (0 : Fin 1)) := by
  pointwise []
theorem div_at (e : FVec Ideal S32x4x4x128x256 .f32) (t : FVec Ideal S32x4x4x128x1 .f32) (j : Fin 256) :
    Host.divf e (broadcastInDim S32x4x4x128x256 ![0, 1, 2, 3, 4] bcast_S32x4x4x128x1_S32x4x4x128x256_0_1_2_3_4 t) (ix5 n h g i j) = Ideal.div (e (ix5 n h g i j)) (t (ix5 n h g i (0 : Fin 1))) := by
  pointwise []
theorem probsOut_at (w : FVec Ideal S32x4x4x128x256 .f32) (t : Fin 512) (j : Fin 256) :
    truncf .bf16 (shapeCast S32x4x512x256 w shapeCasts_S32x4x4x128x256_S32x4x512x256) bitsLt_bf16_f32 (ix4 n h t j)
      = w (ix5 n h (⟨t.val / 128, by omega⟩ : Fin 4) (⟨t.val % 128, by omega⟩ : Fin 128) j) := by
  pointwise []
theorem sinksOut_at (a b : FVec Ideal S32x4x4x128x1 .f32) (t : Fin 512) :
    shapeCast S32x4x512x1 (Host.divf a b) shapeCasts_S32x4x4x128x1_S32x4x512x1 (ix4 n h t (0 : Fin 1))
      = Ideal.div (a (ix5 n h (⟨t.val / 128, by omega⟩ : Fin 4) (⟨t.val % 128, by omega⟩ : Fin 128) (0 : Fin 1)))
        (b (ix5 n h (⟨t.val / 128, by omega⟩ : Fin 4) (⟨t.val % 128, by omega⟩ : Fin 128) (0 : Fin 1))) := by
  pointwise []
theorem out_at (w : FVec Ideal S32x4x4x128x256 .f32) (d : Fin 64) :
    truncf .bf16 (shapeCast S4096x1024 (transpose S32x128x4x4x64 [0, 4, 1, 3, 2]
      (Host.dotGeneral dot_S32x256x4x64_S32x4x4x128x256_S32x4x64x4x128_1_4_3_23_02_01 none v w) transposes_S32x4x64x4x128_S32x128x4x4x64_0_4_1_3_2)
      shapeCasts_S32x128x4x4x64_S4096x1024) bitsLt_bf16_f32
        (ix2 (⟨128 * n.val + i.val, by omega⟩ : Fin 4096) (⟨256 * h.val + (64 * g.val + d.val), by omega⟩ : Fin 1024))
      = ∑ j, v (ix4 n j h d) * w (ix5 n h g i j) := by
  pointwise []

theorem peaks_entry : peaks f s (ix5 n h g i (0 : Fin 1)) = peak (fun j => f (ix5 n h g i j)) (s (ix2 h g)) := by
  refine (spread_max n h g i (rowMax f) (sinkLogits s)).trans ?_
  rw [rowMax_entry, sinkLogits_entry, peak]
theorem exps_entry (j : Fin 256) : exps f s (ix5 n h g i j) = Ideal.exp (f (ix5 n h g i j) - peak (fun j => f (ix5 n h g i j)) (s (ix2 h g))) := by
  refine (exp_at f n h g i (peaks f s) j).trans ?_
  rw [peaks_entry]
theorem sinkExps_entry : sinkExps f s (ix5 n h g i (0 : Fin 1)) = Ideal.exp (s (ix2 h g) - peak (fun j => f (ix5 n h g i j)) (s (ix2 h g))) := by
  refine (sinkExp_at (sinkLogits s) (peaks f s) _).trans ?_
  rw [peaks_entry, sinkLogits_entry]
theorem totals_entry : totals f s (ix5 n h g i (0 : Fin 1)) = total (fun j => f (ix5 n h g i j)) (s (ix2 h g)) := by
  refine (total_at n h g i (exps f s) (sinkExps f s)).trans ?_
  simp only [exps_entry, sinkExps_entry, total]
theorem probs_entry (j : Fin 256) : probs f s (ix5 n h g i j) = share (fun j => f (ix5 n h g i j)) (s (ix2 h g)) j := by
  refine (div_at n h g i (exps f s) (totals f s) j).trans ?_
  rw [exps_entry, totals_entry, share]
theorem probsOut_entry (t : Fin 512) (j : Fin 256) : probsOut f s (ix4 n h t j)
    = share (fun j => f (ix5 n h (⟨t.val / 128, by omega⟩ : Fin 4) (⟨t.val % 128, by omega⟩ : Fin 128) j)) (s (ix2 h (⟨t.val / 128, by omega⟩ : Fin 4))) j := by
  refine (probsOut_at n h (probs f s) t j).trans ?_
  rw [probs_entry]
theorem sinksOut_entry (t : Fin 512) : sinksOut f s (ix4 n h t (0 : Fin 1))
    = sinkShare (fun j => f (ix5 n h (⟨t.val / 128, by omega⟩ : Fin 4) (⟨t.val % 128, by omega⟩ : Fin 128) j)) (s (ix2 h (⟨t.val / 128, by omega⟩ : Fin 4))) := by
  refine (sinksOut_at n h (sinkExps f s) (totals f s) t).trans ?_
  rw [totals_entry, sinkExps_entry, sinkShare]
theorem out_entry (d : Fin 64) :
    out f s v (ix2 (⟨128 * n.val + i.val, by omega⟩ : Fin 4096) (⟨256 * h.val + (64 * g.val + d.val), by omega⟩ : Fin 1024))
      = ∑ j, v (ix4 n j h d) * share (fun j => f (ix5 n h g i j)) (s (ix2 h g)) j := by
  refine (out_at v n h g i (probs f s) d).trans ?_
  simp only [probs_entry]

end Softmax

end Cert.AttnFwd.Plain

end
-- ==== Proof.AttnFwd.Finite.lean ====
/-
  With finite scores a row's weights do not sum to zero, so that a quotient by their sum is a product with its reciprocal;
  and finite arguments give finite scores.
-/
module

public import proofs.«01_k».proof.Proof.AttnFwd.Shares

@[expose] public section

noncomputable section

open Idealize.ShloMosaic
open Cert.Attn
open Cert.Ffn (IsReal)
open Cert.AttnFwd.Parts (peak total)

namespace Cert.AttnFwd

theorem real_ne_top {x : EReal} (h : IsReal x) : x ≠ ⊤ := by
  obtain ⟨r, rfl⟩ := h
  exact EReal.coe_ne_top r

theorem exp_nonneg (x : EReal) : 0 ≤ Ideal.exp x := by
  induction x with
  | bot => exact le_refl _
  | top => exact le_top
  | coe r =>
    rw [Ideal.exp_coe]
    exact_mod_cast (Real.exp_pos r).le

variable {f : Fin 256 → EReal} {z : EReal} (hz : IsReal z) (hf : ∀ j, f j ≠ ⊤)

include hz hf in
theorem peak_real : IsReal (peak f z) := by
  have ht : peak f z < ⊤ := by
    unfold peak
    refine max_lt ((Finset.fold_max_lt ⊤).2 ⟨bot_lt_top, fun j _ => lt_top_iff_ne_top.2 (hf j)⟩) (lt_top_iff_ne_top.2 (real_ne_top hz))
  have hb : ⊥ < peak f z := by
    obtain ⟨r, hr⟩ := hz
    refine lt_of_lt_of_le ?_ (le_max_right _ _)
    rw [hr]
    exact EReal.bot_lt_coe r
  generalize peak f z = p at ht hb
  induction p with
  | bot => exact absurd hb (lt_irrefl _)
  | top => exact absurd ht (lt_irrefl _)
  | coe r => exact ⟨r, rfl⟩

include hz hf in
theorem total_ne_zero : total f z ≠ 0 := by
  obtain ⟨p, hp⟩ := peak_real hz hf
  obtain ⟨r, hr⟩ := hz
  have h0 : 0 < Ideal.exp (z - peak f z) := by
    rw [hp, hr, ← EReal.coe_sub, Ideal.exp_coe]
    exact_mod_cast Real.exp_pos _
  exact (lt_of_lt_of_le h0 (le_add_of_nonneg_left (Finset.sum_nonneg fun j _ => exp_nonneg _))).ne'

theorem quotient {t : EReal} (h : t ≠ 0) (x : EReal) : Ideal.div x t = x * Ideal.div 1 t := by
  unfold Ideal.div
  rw [if_neg h, if_neg h, one_mul]

include hz hf in
theorem share_eq (j : Fin 256) : Plain.share f z j = prob f z j := quotient (total_ne_zero hz hf) _
include hz hf in
theorem sinkShare_eq : Plain.sinkShare f z = sinkProb f z := quotient (total_ne_zero hz hf) _
include hz hf in
theorem prob_hidden {j : Fin 256} (h : f j = ⊥) : prob f z j = 0 := by
  unfold prob
  rw [h, EReal.bot_sub, Ideal.exp_bot, zero_mul]

theorem eighth_real : IsReal eighth := ⟨1 / 8, by
  simp [Ideal.ofBits, Ideal.ieee, -EReal.coe_mul]
  norm_num⟩

theorem normed_real {x g : Fin 64 → EReal} (hx : ∀ d, IsReal (x d)) (hg : ∀ d, IsReal (g d)) (d : Fin 64) : IsReal (normed x g d) := by
  obtain ⟨v, hv, e⟩ := meanSquare_pos hx
  refine ((hx d).mul ⟨(Real.sqrt v)⁻¹, ?_⟩).mul (hg d)
  unfold factor
  rw [e, Ideal.rsqrt_coe, if_neg hv.not_gt, if_neg hv.ne']

theorem score_ne_top (hidden : Prop) [Decidable hidden] {q k gq gk : Fin 64 → EReal} {b : EReal} (hq : ∀ d, IsReal (q d)) (hk : ∀ d, IsReal (k d))
    (hgq : ∀ d, IsReal (gq d)) (hgk : ∀ d, IsReal (gk d)) (hb : IsReal b) : score hidden q k gq gk b ≠ ⊤ := by
  unfold score
  split
  · exact bot_ne_top
  · exact real_ne_top (((Cert.Ffn.IsReal.sum _ _ fun d _ => (normed_real hq hgq d).mul (normed_real hk hgk d)).mul eighth_real).add hb)

end Cert.AttnFwd

end
-- ==== Proof.AttnFwd.Ref.lean ====
/-
  The forward kernel leaves what the plain computation leaves, in all three results, of finite arguments.
-/
module

public import proofs.«01_k».proof.Proof.AttnFwd.Finite
public import proofs.«01_k».proof.Proof.Gen.Pre_attention_args_finite
public import Idealize.ShloMosaic.Lib.ReduceAll

@[expose] public section

set_option maxRecDepth 16384

noncomputable section

open Idealize.ShloMosaic Idealize.ShloMosaic.TcCoe Idealize.SL.Sem Idealize.ShloMosaic.Tactic
open Cert.Coords Cert.Attn
open Cert.Ffn (IsReal real_of_all)

namespace Cert.AttnFwd.Ref

open Cert.Reference20Ideal Cert.Reference20Ideal.Gen Cert.AttnFwd.Plain

section Results

variable (P : FVec Ideal S4096x5632 .bf16) (gq gk : FVec Ideal S1x64 .f32) (s : FVec Ideal S4x4 .f32) (B : FVec Ideal S4x512x256 .f32)

/-- The scores. -/
def scores : FVec Ideal S32x4x4x128x256 .f32 := maskedScores (keyWindows (keyCols P) gk) (normsQ (queryCols P) gq) B

theorem scores_entry (n : Fin 32) (h g : Fin 4) (i : Fin 128) (j : Fin 256) :
    scores P gq gk B (ix5 n h g i j) = scoreOf P gq gk B n h ⟨128 * g.val + i.val, by omega⟩ j := by
  unfold scores scoreOf score
  rw [maskedScores_entry]
  by_cases hz : j.val < 128 ∧ n.val = 0
  · rw [if_pos hz, if_pos hz]
  · rw [if_neg hz, if_neg hz, plainScores_entry]
    have hz' : ¬(n.val = 0 ∧ j.val < 128) := fun e => hz ⟨e.2, e.1⟩
    refine congrArg (fun x => x * eighth + _) (Finset.sum_congr rfl fun d _ => ?_)
    rw [keyWindows_entry _ _ _ _ _ _ hz', normsQ_entry, mul_comm]
    simp only [queryCols_entry, keyCols_entry]
    rfl

end Results

variable (m : (ℓ : Loc nD τ sig) → Buf (Elt Ideal) ℓ) (c : Dev nD)

/-- The printed results, in these words. -/
theorem first_result : Value.res_main_v86 m c = out (scores (m ((c.tc : Thread nD τ).loc main_arg0)) (m ((c.tc : Thread nD τ).loc main_arg1))
    (m ((c.tc : Thread nD τ).loc main_arg2)) (m ((c.tc : Thread nD τ).loc main_arg4))) (m ((c.tc : Thread nD τ).loc main_arg3))
    (valueCols (m ((c.tc : Thread nD τ).loc main_arg0))) := by
  unfold Value.res_main_v86
  rfl
theorem second_result : Value.res_main_v88 m c = probsOut (scores (m ((c.tc : Thread nD τ).loc main_arg0)) (m ((c.tc : Thread nD τ).loc main_arg1))
    (m ((c.tc : Thread nD τ).loc main_arg2)) (m ((c.tc : Thread nD τ).loc main_arg4))) (m ((c.tc : Thread nD τ).loc main_arg3)) := by
  unfold Value.res_main_v88
  rfl
theorem third_result : Value.res_main_v93 m c = sinksOut (scores (m ((c.tc : Thread nD τ).loc main_arg0)) (m ((c.tc : Thread nD τ).loc main_arg1))
    (m ((c.tc : Thread nD τ).loc main_arg2)) (m ((c.tc : Thread nD τ).loc main_arg4))) (m ((c.tc : Thread nD τ).loc main_arg3)) := by
  unfold Value.res_main_v93
  rfl

section Kernel

open Cert.AttnFwd.Whole (proj gainQ gainK sinks bias probOf sinkProbOf outOf)

/-- Arguments meeting the condition are real numbers throughout. -/
theorem real_args (m) (hpre : Cert.Pre_Kernel20Ideal_attention_args_finite m) (c) :
    (∀ i, IsReal (proj m c i)) ∧ (∀ i, IsReal (gainQ m c i)) ∧ (∀ i, IsReal (gainK m c i)) ∧ (∀ i, IsReal (sinks m c i)) ∧ (∀ i, IsReal (bias m c i)) := by
  have h := congrFun (hpre c) (fun a => a.elim0)
  unfold Cert.Pre_attention_args_finite.fn Cert.Pre_attention_args_finite.fn_part1 at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all _ _ _ _ _ _ h0, real_of_all _ _ _ _ _ _ h1, real_of_all _ _ _ _ _ _ h2, real_of_all _ _ _ _ _ _ h3, real_of_all _ _ _ _ _ _ h4⟩

theorem scores_below (m) (hpre : Cert.Pre_Kernel20Ideal_attention_args_finite m) (c) (n : Fin 32) (h : Fin 4) (t : Fin 512) (j : Fin 256) :
    scoreOf (proj m c) (gainQ m c) (gainK m c) (bias m c) n h t j ≠ ⊤ := by
  obtain ⟨h0, h1, h2, h3, h4⟩ := real_args m hpre c
  exact score_ne_top _ (fun d => h0 _) (fun d => h0 _) (fun d => h1 _) (fun d => h2 _) (h4 _)
theorem sink_finite (m) (hpre : Cert.Pre_Kernel20Ideal_attention_args_finite m) (c) (i) : IsReal (sinks m c i) := (real_args m hpre c).2.2.2.1 i

theorem probs_eq (m) (hpre : Cert.Pre_Kernel20Ideal_attention_args_finite m) (c) (n : Fin 32) (h : Fin 4) (t : Fin 512) (j : Fin 256) :
    probsOut (scores (proj m c) (gainQ m c) (gainK m c) (bias m c)) (sinks m c) (ix4 n h t j) = probOf m c n h t j := by
  rw [probsOut_entry]
  simp only [scores_entry]
  have ht : (⟨128 * (t.val / 128) + t.val % 128, by omega⟩ : Fin 512) = t := Fin.ext (by dsimp only; omega)
  rw [ht]
  exact share_eq (sink_finite m hpre c _) (scores_below m hpre c n h t) j
theorem sinks_eq (m) (hpre : Cert.Pre_Kernel20Ideal_attention_args_finite m) (c) (n : Fin 32) (h : Fin 4) (t : Fin 512) :
    sinksOut (scores (proj m c) (gainQ m c) (gainK m c) (bias m c)) (sinks m c) (ix4 n h t (0 : Fin 1)) = sinkProbOf m c n h t := by
  rw [sinksOut_entry]
  simp only [scores_entry]
  have ht : (⟨128 * (t.val / 128) + t.val % 128, by omega⟩ : Fin 512) = t := Fin.ext (by dsimp only; omega)
  rw [ht]
  exact sinkShare_eq (sink_finite m hpre c _) (scores_below m hpre c n h t)
theorem out_eq (m) (hpre : Cert.Pre_Kernel20Ideal_attention_args_finite m) (c) (n : Fin 32) (h g : Fin 4) (i : Fin 128) (d : Fin 64) :
    out (scores (proj m c) (gainQ m c) (gainK m c) (bias m c)) (sinks m c) (valueCols (proj m c))
        (ix2 (⟨128 * n.val + i.val, by omega⟩ : Fin 4096) (⟨256 * h.val + (64 * g.val + d.val), by omega⟩ : Fin 1024))
      = outOf m c n h ⟨128 * g.val + i.val, by omega⟩ d := by
  rw [Plain.out_entry]
  unfold outOf
  refine Finset.sum_congr rfl fun j _ => ?_
  simp only [scores_entry]
  have hg : (⟨(128 * g.val + i.val) / 128, by omega⟩ : Fin 4) = g := Fin.ext (by dsimp only; omega)
  have hs : sinkOf (sinks m c) h ⟨128 * g.val + i.val, by omega⟩ = sinks m c (ix2 h g) := congrArg (fun u => sinks m c (ix2 h u)) hg
  have hp := scores_below m hpre c n h ⟨128 * g.val + i.val, by omega⟩
  refine (congrArg (fun x => _ * x) (share_eq (sink_finite m hpre c (ix2 h g)) hp j)).trans ?_
  unfold probOf
  rw [hs, valueCols_entry, mul_comm]
  by_cases hz : n.val = 0 ∧ j.val < 128
  · have e : scoreOf (proj m c) (gainQ m c) (gainK m c) (bias m c) n h ⟨128 * g.val + i.val, by omega⟩ j = ⊥ := by
      unfold scoreOf score
      rw [if_pos ⟨hz.2, hz.1⟩]
    rw [prob_hidden (sink_finite m hpre c (ix2 h g)) hp e, zero_mul, zero_mul]
  · rw [if_neg hz]

end Kernel

theorem unit_last (i : S32x4x512x1.Idx) : ∃ (n : Fin 32) (h : Fin 4) (t : Fin 512), i = ix4 n h t (0 : Fin 1) :=
  ⟨i 0, i 1, i 2, (eq_ix4 i).trans (congrArg (ix4 (i 0) (i 1) (i 2)) (Subsingleton.elim (α := Fin 1) _ _))⟩

/-- The kernel leaves what the plain computation leaves, in all three results. -/
theorem algebraic : Cert.algebraic_Kernel20Ideal_Reference20Ideal_pre_attention_args_finite := by
  intro m ρ m' ρ' hpre hagree
  refine ⟨fun c => (Cert.Kernel20Ideal.Gen.dats m 0 c).arrAt 9 Cert.Kernel20Ideal.cfg0.N,
    fun c => (Cert.Kernel20Ideal.Gen.dats m 0 c).arrAt 10 Cert.Kernel20Ideal.cfg0.N,
    fun c => (Cert.Kernel20Ideal.Gen.dats m 0 c).arrAt 11 Cert.Kernel20Ideal.cfg0.N,
    Cert.Kernel20Ideal.Value.run_blocks m ρ, ?_⟩
  refine (θ_run Cert.Reference20Ideal.defs _ _).mono (fun _ h c => ⟨(h c).1.trans ?_, (h c).2.1.trans ?_, (h c).2.2.1.trans ?_, (h c).2.2.2⟩)
    (Cert.Reference20Ideal.Value.run (F := Ideal) m' ρ')
  all_goals clear h
  all_goals obtain ⟨e0, e1, e2, e3, e4⟩ := hagree c
  · rw [first_result, e0, e1, e2, e3, e4]
    funext i
    rw [eq_ix2 i]
    refine (Cert.AttnFwd.Whole.out_final m c _ _ _ fun n h g i d hT hC => ?_).symm
    exact (out_eq m hpre c n h g i d).symm.trans (congrArg₂ (fun a b => out _ _ _ (ix2 a b)) (Fin.ext hT.symm) (Fin.ext hC.symm))
  · rw [second_result, e0, e1, e2, e3, e4]
    funext i
    rw [eq_ix4 i]
    exact (probs_eq m hpre c _ _ _ _).trans (Cert.AttnFwd.Whole.probs_final m c _ _ _ _).symm
  · rw [third_result, e0, e1, e2, e3, e4]
    funext i
    obtain ⟨n, h, t, rfl⟩ := unit_last i
    exact (sinks_eq m hpre c n h t).trans (Cert.AttnFwd.Whole.sinks_final m c n h t).symm

end Cert.AttnFwd.Ref

end
-- ==== Proof.lean ====
/-
  The certificate: every program runs to the end and leaves its arguments unchanged, the idealized programs are the
  printed ones, and each stated call's results are its reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Conv.Ref
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_gate_args_finite
public import proofs.«01_k».proof.Proof.Ffn.Gate
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Ffn.DwOut
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Ffn.DwIn
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Ffn.Dn
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Mix.Dn
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Mix.DwIn
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Mix.MergeBwd
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Mix.DwProj
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Mix.DwOut
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Mix.Dz
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Fwd.MixIn
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Fwd.FfnIn
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Fwd.FfnOut
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Fwd.MixOut
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Fwd.Loss
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Fwd.Merge
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Pre_masked_before_first
public import proofs.«01_k».proof.Proof.Attn.Ref
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Fwd.Norm
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Pre_attention_args_finite
public import proofs.«01_k».proof.Proof.AttnFwd.Ref
public import Idealize.ShloMosaic.Adequacy
public import Idealize.ShloMosaic.Init

@[expose] public section

noncomputable section

namespace Cert.Proof

open Idealize.ShloMosaic Idealize.SL.Sem

theorem reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem reference2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem reference4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem reference5 : Cert.quiescent_Reference5Ideal := fun m ρ _ =>
  (θ_run Cert.Reference5Ideal.defs _ _).mono
    (fun r h => ⟨fun c => (h c).2.2, Idealize.ShloMosaic.sem_eq_zero_of_no_sems (by decide) r.2⟩)
    (Cert.Reference5Ideal.Value.run (F := Ideal) m ρ)

theorem reference6 : Cert.quiescent_Reference6Ideal := fun m ρ _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m ρ)

theorem reference7 : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

theorem reference8 : Cert.quiescent_Reference8Ideal := fun m ρ _ =>
  (θ_run Cert.Reference8Ideal.defs _ _).mono
    (fun r h => ⟨fun c => (h c).2.2.2, Idealize.ShloMosaic.sem_eq_zero_of_no_sems (by decide) r.2⟩)
    (Cert.Reference8Ideal.Value.run (F := Ideal) m ρ)

theorem reference9 : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

theorem reference10 : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

theorem reference11 : Cert.quiescent_Reference11Ideal := fun m ρ _ =>
  (θ_run Cert.Reference11Ideal.defs _ _).mono
    (fun r h => ⟨fun c => (h c).2, Idealize.ShloMosaic.sem_eq_zero_of_no_sems (by decide) r.2⟩)
    (Cert.Reference11Ideal.Value.run (F := Ideal) m ρ)

theorem reference12 : Cert.quiescent_Reference12Ideal := fun m ρ _ =>
  (θ_run Cert.Reference12Ideal.defs _ _).mono
    (fun r h => ⟨fun c => (h c).2, Idealize.ShloMosaic.sem_eq_zero_of_no_sems (by decide) r.2⟩)
    (Cert.Reference12Ideal.Value.run (F := Ideal) m ρ)

theorem reference13 : Cert.quiescent_Reference13Ideal := fun m ρ _ =>
  (θ_run Cert.Reference13Ideal.defs _ _).mono
    (fun r h => ⟨fun c => (h c).2.2, Idealize.ShloMosaic.sem_eq_zero_of_no_sems (by decide) r.2⟩)
    (Cert.Reference13Ideal.Value.run (F := Ideal) m ρ)

theorem reference14 : Cert.quiescent_Reference14Ideal := fun m ρ _ =>
  (θ_run Cert.Reference14Ideal.defs _ _).mono
    (fun r h => ⟨fun c => (h c).2.2, Idealize.ShloMosaic.sem_eq_zero_of_no_sems (by decide) r.2⟩)
    (Cert.Reference14Ideal.Value.run (F := Ideal) m ρ)

theorem reference15 : Cert.quiescent_Reference15Ideal := fun m ρ _ =>
  (θ_run Cert.Reference15Ideal.defs _ _).mono
    (fun r h => ⟨fun c => (h c).2.2, Idealize.ShloMosaic.sem_eq_zero_of_no_sems (by decide) r.2⟩)
    (Cert.Reference15Ideal.Value.run (F := Ideal) m ρ)

theorem reference16 : Cert.quiescent_Reference16Ideal := fun m ρ _ =>
  (θ_run Cert.Reference16Ideal.defs _ _).mono
    (fun r h => ⟨fun c => (h c).2.2, Idealize.ShloMosaic.sem_eq_zero_of_no_sems (by decide) r.2⟩)
    (Cert.Reference16Ideal.Value.run (F := Ideal) m ρ)

theorem reference17 : Cert.quiescent_Reference17Ideal := fun m ρ _ =>
  (θ_run Cert.Reference17Ideal.defs _ _).mono
    (fun r h => ⟨fun c => (h c).2.2.2, Idealize.ShloMosaic.sem_eq_zero_of_no_sems (by decide) r.2⟩)
    (Cert.Reference17Ideal.Value.run (F := Ideal) m ρ)

theorem reference18 : Cert.quiescent_Reference18Ideal := fun m ρ _ =>
  (θ_run Cert.Reference18Ideal.defs _ _).mono
    (fun r h => ⟨fun c => (h c).2.2, Idealize.ShloMosaic.sem_eq_zero_of_no_sems (by decide) r.2⟩)
    (Cert.Reference18Ideal.Value.run (F := Ideal) m ρ)

theorem reference19 : Cert.quiescent_Reference19Ideal := fun m ρ _ =>
  (θ_run Cert.Reference19Ideal.defs _ _).mono
    (fun r h => ⟨fun c => (h c).2, Idealize.ShloMosaic.sem_eq_zero_of_no_sems (by decide) r.2⟩)
    (Cert.Reference19Ideal.Value.run (F := Ideal) m ρ)

theorem reference20 : Cert.quiescent_Reference20Ideal := fun m ρ _ =>
  (θ_run Cert.Reference20Ideal.defs _ _).mono
    (fun r h => ⟨fun c => (h c).2.2.2, Idealize.ShloMosaic.sem_eq_zero_of_no_sems (by decide) r.2⟩)
    (Cert.Reference20Ideal.Value.run (F := Ideal) m ρ)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts,
    Cert.Kernel10Ideal.Gen.facts, Cert.Reference10Ideal.Gen.facts, Cert.Kernel11.Gen.facts,
    Cert.Kernel11Ideal.Gen.facts, Cert.Reference11Ideal.Gen.facts, Cert.Kernel12.Gen.facts,
    Cert.Kernel12Ideal.Gen.facts, Cert.Reference12Ideal.Gen.facts, Cert.Kernel13.Gen.facts,
    Cert.Kernel13Ideal.Gen.facts, Cert.Reference13Ideal.Gen.facts, Cert.Kernel14.Gen.facts,
    Cert.Kernel14Ideal.Gen.facts, Cert.Reference14Ideal.Gen.facts, Cert.Kernel15.Gen.facts,
    Cert.Kernel15Ideal.Gen.facts, Cert.Reference15Ideal.Gen.facts, Cert.Kernel16.Gen.facts,
    Cert.Kernel16Ideal.Gen.facts, Cert.Reference16Ideal.Gen.facts, Cert.Kernel17.Gen.facts,
    Cert.Kernel17Ideal.Gen.facts, Cert.Reference17Ideal.Gen.facts, Cert.Kernel18.Gen.facts,
    Cert.Kernel18Ideal.Gen.facts, Cert.Reference18Ideal.Gen.facts, Cert.Kernel19.Gen.facts,
    Cert.Kernel19Ideal.Gen.facts, Cert.Reference19Ideal.Gen.facts, Cert.Kernel20.Gen.facts,
    Cert.Kernel20Ideal.Gen.facts, Cert.Reference20Ideal.Gen.facts, Cert.Pre_gate_args_finite.Gen.facts,
    Cert.Pre_masked_before_first.Gen.facts, Cert.Pre_attention_args_finite.Gen.facts,
    fun m ρ _ => Cert.Kernel.Gen.frame m ρ, fun m ρ _ => Cert.KernelIdeal.Gen.frame m ρ, reference,
    fun m ρ _ => Cert.Kernel2.Gen.frame m ρ, fun m ρ _ => Cert.Kernel2Ideal.Gen.frame m ρ,
    fun m ρ _ => Cert.Kernel2Ideal.Gen.frame m ρ, reference2, fun m ρ _ => reference2 m ρ trivial,
    fun m ρ _ => Cert.Kernel3.Gen.frame m ρ, fun m ρ _ => Cert.Kernel3Ideal.Gen.frame m ρ, reference3,
    fun m ρ _ => Cert.Kernel4.Gen.frame m ρ, fun m ρ _ => Cert.Kernel4Ideal.Gen.frame m ρ, reference4,
    fun m ρ _ => Cert.Kernel5.Gen.frame m ρ, fun m ρ _ => Cert.Kernel5Ideal.Gen.frame m ρ, reference5,
    fun m ρ _ => Cert.Kernel6.Gen.frame m ρ, fun m ρ _ => Cert.Kernel6Ideal.Gen.frame m ρ, reference6,
    fun m ρ _ => Cert.Kernel7.Gen.frame m ρ, fun m ρ _ => Cert.Kernel7Ideal.Gen.frame m ρ, reference7,
    fun m ρ _ => Cert.Kernel8.Gen.frame m ρ, fun m ρ _ => Cert.Kernel8Ideal.Gen.frame m ρ, reference8,
    fun m ρ _ => Cert.Kernel9.Gen.frame m ρ, fun m ρ _ => Cert.Kernel9Ideal.Gen.frame m ρ, reference9,
    fun m ρ _ => Cert.Kernel10.Gen.frame m ρ, fun m ρ _ => Cert.Kernel10Ideal.Gen.frame m ρ, reference10,
    fun m ρ _ => Cert.Kernel11.Gen.frame m ρ, fun m ρ _ => Cert.Kernel11Ideal.Gen.frame m ρ, reference11,
    fun m ρ _ => Cert.Kernel12.Gen.frame m ρ, fun m ρ _ => Cert.Kernel12Ideal.Gen.frame m ρ, reference12,
    fun m ρ _ => Cert.Kernel13.Gen.frame m ρ, fun m ρ _ => Cert.Kernel13Ideal.Gen.frame m ρ, reference13,
    fun m ρ _ => Cert.Kernel14.Gen.frame m ρ, fun m ρ _ => Cert.Kernel14Ideal.Gen.frame m ρ, reference14,
    fun m ρ _ => Cert.Kernel15.Gen.frame m ρ, fun m ρ _ => Cert.Kernel15Ideal.Gen.frame m ρ, reference15,
    fun m ρ _ => Cert.Kernel16.Gen.frame m ρ, fun m ρ _ => Cert.Kernel16Ideal.Gen.frame m ρ, reference16,
    fun m ρ _ => Cert.Kernel17.Gen.frame m ρ, fun m ρ _ => Cert.Kernel17Ideal.Gen.frame m ρ, reference17,
    fun m ρ _ => Cert.Kernel18.Gen.frame m ρ, fun m ρ _ => Cert.Kernel18Ideal.Gen.frame m ρ,
    fun m ρ _ => Cert.Kernel18Ideal.Gen.frame m ρ, reference18, fun m ρ _ => reference18 m ρ trivial,
    fun m ρ _ => Cert.Kernel19.Gen.frame m ρ, fun m ρ _ => Cert.Kernel19Ideal.Gen.frame m ρ, reference19,
    fun m ρ _ => Cert.Kernel20.Gen.frame m ρ, fun m ρ _ => Cert.Kernel20Ideal.Gen.frame m ρ,
    fun m ρ _ => Cert.Kernel20Ideal.Gen.frame m ρ, reference20, fun m ρ _ => reference20 m ρ trivial, trivial,
    Cert.Conv.Ref.algebraic, trivial, Cert.Ffn.Gate.algebraic, trivial, Cert.Ffn.DwOut.algebraic, trivial,
    Cert.Ffn.DwIn.algebraic, trivial, Cert.Ffn.Dn.algebraic, trivial, Cert.Mix.Dn.algebraic, trivial,
    Cert.Mix.DwIn.algebraic, trivial, Cert.Mix.MergeBwd.algebraic, trivial, Cert.Mix.DwProj.algebraic, trivial,
    Cert.Mix.DwOut.algebraic, trivial, Cert.Mix.Dz.algebraic, trivial, Cert.Fwd.MixIn.algebraic, trivial,
    Cert.Fwd.FfnIn.algebraic, trivial, Cert.Fwd.FfnOut.algebraic, trivial, Cert.Fwd.MixOut.algebraic, trivial,
    Cert.Fwd.Loss.algebraic, trivial, Cert.Fwd.Merge.algebraic, trivial, Cert.Attn.Ref.algebraic, trivial,
    Cert.Fwd.Norm.algebraic, trivial, Cert.AttnFwd.Ref.algebraic⟩

end Cert.Proof

end
